-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.bf16_pack.Statement Cert.KernelIdeal.S32x128

def algebraic_KernelIdeal_ReferenceIdeal_on_packs [hKernelIdeal : Cert.KernelIdeal.Facts] [hReferenceIdeal : Cert.ReferenceIdeal.Facts] [hOn_packs : Cert.On_packs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v4)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 256, 5632]⟩ : Shape).Idx, (Cert.On_packs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v2) i = v0 c i)
          ∧ (∀ i : (⟨2, ![2048, 1408]⟩ : Shape).Idx, (Cert.On_packs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v1_1) i = v1 c i)
          ∧ (∀ i : (⟨0, ![]⟩ : Shape).Idx, (Cert.On_packs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.KernelIdeal.nD Cert.KernelIdeal.τ).loc Cert.KernelIdeal.main_v3) i = v2 c i)
          ∧ (∀ i : (⟨3, ![2, 256, 2048]⟩ : Shape).Idx, (Cert.On_packs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 i = 1#1 → r.2.mem ((c.tc : Thread Cert.KernelIdeal.nD Cert.KernelIdeal.τ).loc Cert.KernelIdeal.main_v4) i = v3 c i)
          ∧ (∀ i : (⟨2, ![2, 256]⟩ : Shape).Idx, (Cert.On_packs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2 i = 1#1 → r.2.mem ((c.tc : Thread Cert.KernelIdeal.nD Cert.KernelIdeal.τ).loc Cert.KernelIdeal.main_v1_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 256, 5632]⟩ : Shape).Idx, (Cert.On_packs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v28) i = v0 c i)
          ∧ (∀ i : (⟨2, ![2048, 1408]⟩ : Shape).Idx, (Cert.On_packs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_v21_3) i = v1 c i)
          ∧ (∀ i : (⟨0, ![]⟩ : Shape).Idx, (Cert.On_packs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.ReferenceIdeal.nD Cert.ReferenceIdeal.τ).loc Cert.ReferenceIdeal.main_v3) i = v2 c i)
          ∧ (∀ i : (⟨3, ![2, 256, 2048]⟩ : Shape).Idx, (Cert.On_packs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 i = 1#1 → r.2.mem ((c.tc : Thread Cert.ReferenceIdeal.nD Cert.ReferenceIdeal.τ).loc Cert.ReferenceIdeal.main_v21_0) i = v3 c i)
          ∧ (∀ i : (⟨2, ![2, 256]⟩ : Shape).Idx, (Cert.On_packs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2 i = 1#1 → r.2.mem ((c.tc : Thread Cert.ReferenceIdeal.nD Cert.ReferenceIdeal.τ).loc Cert.ReferenceIdeal.main_v15) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_packs : Cert.On_packs.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_packs (hKernelIdeal := hKernelIdeal) (hReferenceIdeal := hReferenceIdeal) (hOn_packs := hOn_packs)
-- ==== On_packs.lean ====
abbrev S2x256x2048 : Shape := ⟨3, ![2, 256, 2048]⟩
abbrev S2048x5632 : Shape := ⟨2, ![2048, 5632]⟩
abbrev S_ : Shape := ⟨0, ![]⟩
abbrev S2x256x5632 : Shape := ⟨3, ![2, 256, 5632]⟩
abbrev S2048x1408 : Shape := ⟨2, ![2048, 1408]⟩
abbrev S2x256 : Shape := ⟨2, ![2, 256]⟩

class Facts : Prop where
  bitsLt_bf16_f32 : FTy.bits .bf16 < FTy.bits .f32
  reducesTo_S2048x5632_S_d0_1 : S2048x5632.ReducesTo [0, 1] S_
  h_S_ : 0 < S_.numel
  bcast_S_S2x256x5632 : S_.BroadcastsInDim S2x256x5632 (![] : Fin 0 → Fin S2x256x5632.rank)
  bcast_S_S2048x1408 : S_.BroadcastsInDim S2048x1408 (![] : Fin 0 → Fin S2048x1408.rank)
  bcast_S_S2x256x2048 : S_.BroadcastsInDim S2x256x2048 (![] : Fin 0 → Fin S2x256x2048.rank)
  bcast_S_S2x256 : S_.BroadcastsInDim S2x256 (![] : Fin 0 → Fin S2x256.rank)

variable [Facts]

def fn {F : FTy → Type} [FloatOps F] (main_arg0 : FVec F S2x256x2048 .bf16) (main_arg1 : FVec F S2048x5632 .bf16) : IVec S2x256x5632 1 × IVec S2048x1408 1 × IVec S_ 1 × IVec S2x256x2048 1 × IVec S2x256 1 :=
  let main_v0 : FVec F S2048x5632 .f32 := (extf .f32 · bitsLt_bf16_f32) main_arg1
  let main_v1 : FVec F S2048x5632 .f32 := Host.absf main_v0
  let main_cst : FVec F S_ .f32 := constant S_ .f32 0x00000000#32
  let main_v2 : FVec F S_ .f32 := (fun x v => Host.reduceAdd x v reducesTo_S2048x5632_S_d0_1 h_S_) main_v1 main_cst
  let main_cst_0 : FVec F S_ .f32 := constant S_ .f32 0x00000000#32
  let main_v3 : IVec S_ 1 := cmpf .ogt main_v2 main_cst_0
  let main_c : IVec S_ 1 := constantI S_ 1 1#1
  let main_v4 : IVec S2x256x5632 1 := broadcastInDim S2x256x5632 ![] bcast_S_S2x256x5632 main_c
  let main_v5 : IVec S2048x1408 1 := broadcastInDim S2048x1408 ![] bcast_S_S2048x1408 main_v3
  let main_c_1 : IVec S_ 1 := constantI S_ 1 1#1
  let main_v6 : IVec S2x256x2048 1 := broadcastInDim S2x256x2048 ![] bcast_S_S2x256x2048 main_c_1
  let main_c_2 : IVec S_ 1 := constantI S_ 1 1#1
  let main_v7 : IVec S2x256 1 := broadcastInDim S2x256 ![] bcast_S_S2x256 main_c_2
  let main_c_3 : IVec S_ 1 := constantI S_ 1 1#1
  (main_v4, main_v5, main_c_3, main_v6, main_v7)
-- ==== Kernel.lean ====
abbrev S2x256x2048 : Shape := ⟨3, ![2, 256, 2048]⟩
abbrev S2048x5632 : Shape := ⟨2, ![2048, 5632]⟩
abbrev S512x2048 : Shape := ⟨2, ![512, 2048]⟩
abbrev S512x5632 : Shape := ⟨2, ![512, 5632]⟩
abbrev S2048x1408 : Shape := ⟨2, ![2048, 1408]⟩
abbrev S1x1 : Shape := ⟨2, ![1, 1]⟩
abbrev S2x256 : Shape := ⟨2, ![2, 256]⟩
abbrev S11x2048x512 : Shape := ⟨3, ![11, 2048, 512]⟩
abbrev S512x128 : Shape := ⟨2, ![512, 128]⟩
abbrev S2x2048x512 : Shape := ⟨3, ![2, 2048, 512]⟩
abbrev S2x512x512 : Shape := ⟨3, ![2, 512, 512]⟩
abbrev S2x2048x128 : Shape := ⟨3, ![2, 2048, 128]⟩
abbrev S_ : Shape := ⟨0, ![]⟩
abbrev S11 : Shape := ⟨1, ![11]⟩
abbrev S2 : Shape := ⟨1, ![2]⟩
abbrev S1 : Shape := ⟨1, ![1]⟩
abbrev S1x2048x512 : Shape := ⟨3, ![1, 2048, 512]⟩
abbrev S2048x512 : Shape := ⟨2, ![2048, 512]⟩
abbrev S32x2048 : Shape := ⟨2, ![32, 2048]⟩
abbrev S32 : Shape := ⟨1, ![32]⟩
abbrev S32x1 : Shape := ⟨2, ![32, 1]⟩
abbrev S32x128 : Shape := ⟨2, ![32, 128]⟩
abbrev S128x128 : Shape := ⟨2, ![128, 128]⟩
abbrev S128 : Shape := ⟨1, ![128]⟩
abbrev S1x128 : Shape := ⟨2, ![1, 128]⟩
abbrev S32x512 : Shape := ⟨2, ![32, 512]⟩
abbrev S1x32x512 : Shape := ⟨3, ![1, 32, 512]⟩
abbrev S1x1x1 : Shape := ⟨3, ![1, 1, 1]⟩
abbrev S8x128 : Shape := ⟨2, ![8, 128]⟩
abbrev S1x32x128 : Shape := ⟨3, ![1, 32, 128]⟩
abbrev S8x128x1 : Shape := ⟨3, ![8, 128, 1]⟩
abbrev S1x2048x128 : Shape := ⟨3, ![1, 2048, 128]⟩
abbrev S2048x128 : Shape := ⟨2, ![2048, 128]⟩
abbrev S512x512 : Shape := ⟨2, ![512, 512]⟩
abbrev S512x1 : Shape := ⟨2, ![512, 1]⟩
abbrev S1x512x512 : Shape := ⟨3, ![1, 512, 512]⟩
abbrev S2x256x5632 : Shape := ⟨3, ![2, 256, 5632]⟩

abbrev nBuf : Space → Nat
  | .hbm => 11
  | .vmem => 9
  | .smem => 1
  | _ => 0

abbrev bufTy : (tb : Table) → Fin (tcTables nBuf tb) → BufTy
  | .hbm, ⟨0, _⟩ => ⟨S2x256x2048, .bf16⟩
  | .hbm, ⟨1, _⟩ => ⟨S2048x5632, .bf16⟩
  | .hbm, ⟨2, _⟩ => ⟨S512x2048, .bf16⟩
  | .hbm, ⟨3, _⟩ => ⟨S512x5632, .bf16⟩
  | .hbm, ⟨4, _⟩ => ⟨S2048x1408, .i8⟩
  | .hbm, ⟨5, _⟩ => ⟨S1x1, .f32⟩
  | .hbm, ⟨6, _⟩ => ⟨S512x2048, .i8⟩
  | .hbm, ⟨7, _⟩ => ⟨S2x256, .f32⟩
  | .hbm, ⟨8, _⟩ => ⟨S2x256x5632, .bf16⟩
  | .hbm, ⟨9, _⟩ => ⟨S_, .f32⟩
  | .hbm, ⟨10, _⟩ => ⟨S2x256x2048, .i8⟩
  | .local _ .vmem, ⟨0, _⟩ => ⟨S2x256, .f32⟩
  | .local _ .vmem, ⟨1, _⟩ => ⟨S512x2048, .bf16⟩
  | .local _ .vmem, ⟨2, _⟩ => ⟨S11x2048x512, .bf16⟩
  | .local _ .vmem, ⟨3, _⟩ => ⟨S512x2048, .bf16⟩
  | .local _ .vmem, ⟨4, _⟩ => ⟨S512x2048, .i8⟩
  | .local _ .vmem, ⟨5, _⟩ => ⟨S512x128, .f32⟩
  | .local _ .vmem, ⟨6, _⟩ => ⟨S2x2048x512, .bf16⟩
  | .local _ .vmem, ⟨7, _⟩ => ⟨S2x512x512, .bf16⟩
  | .local _ .vmem, ⟨8, _⟩ => ⟨S2x2048x128, .i8⟩
  | .local _ .smem, ⟨0, _⟩ => ⟨S1x1, .f32⟩
  | _, _ => ⟨S2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_stg0_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [BitOps F]

abbrev grid0 : Pipeline.Grid := .none

@[reducible] def k0_t1_loop : Scf.Loop 32 :=
  let c0_i32_45 : BitVec 32 := 0#32
  let c16_i32 : BitVec 32 := 16#32
  let v55 : BitVec 32 := Scalar.addi c0_i32_45 c16_i32
  let c1_i32_46 : BitVec 32 := 1#32
  ⟨c0_i32_45, v55, c1_i32_46⟩
def k0_mult1 (k0_t1 : Fin k0_t1_loop.trips) : BitVec 32 :=
  let c0_i32_603 : BitVec 32 := 0#32
  let c0_i32_45 : BitVec 32 := 0#32
  let c1_i32_46 : BitVec 32 := 1#32
  let arg20 : BitVec 32 := Scf.iv c0_i32_45 c1_i32_46 k0_t1
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  v550
def k0_off1 (k0_t1 : Fin k0_t1_loop.trips) : Fin 2 → Nat :=
  let c0_i32_603 : BitVec 32 := 0#32
  let c0_i32_45 : BitVec 32 := 0#32
  let c1_i32_46 : BitVec 32 := 1#32
  let arg20 : BitVec 32 := Scf.iv c0_i32_45 c1_i32_46 k0_t1
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v552 : Index := Scalar.indexCast v551
  let c0_604 : Index := 0#32
  ![v552.toNat, 0]
def k0_off2 (k0_t1 : Fin k0_t1_loop.trips) : Fin 2 → Nat :=
  let c0_i32_603 : BitVec 32 := 0#32
  let c0_i32_45 : BitVec 32 := 0#32
  let c1_i32_46 : BitVec 32 := 1#32
  let arg20 : BitVec 32 := Scf.iv c0_i32_45 c1_i32_46 k0_t1
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v585 : Index := Scalar.indexCast v551
  let c0_611 : Index := 0#32
  ![v585.toNat, 0]
@[reducible] def k0_t2_loop : Scf.Loop 32 :=
  let c0_i32_73 : BitVec 32 := 0#32
  let c64_i32 : BitVec 32 := 64#32
  let v89 : BitVec 32 := Scalar.addi c0_i32_73 c64_i32
  let c1_i32_74 : BitVec 32 := 1#32
  ⟨c0_i32_73, v89, c1_i32_74⟩
def k0_mult2 (k0_t2 : Fin k0_t2_loop.trips) : BitVec 32 :=
  let c0_i32_73 : BitVec 32 := 0#32
  let c1_i32_74 : BitVec 32 := 1#32
  let arg20 : BitVec 32 := Scf.iv c0_i32_73 c1_i32_74 k0_t2
  let c32_i32 : BitVec 32 := 32#32
  let v548 : BitVec 32 := Scalar.muli arg20 c32_i32
  v548
def k0_off3 (k0_t2 : Fin k0_t2_loop.trips) : Fin 3 → Nat :=
  let c0_602 : Index := 0#32
  let c0_i32_73 : BitVec 32 := 0#32
  let c1_i32_74 : BitVec 32 := 1#32
  let arg20 : BitVec 32 := Scf.iv c0_i32_73 c1_i32_74 k0_t2
  let c32_i32 : BitVec 32 := 32#32
  let v548 : BitVec 32 := Scalar.muli arg20 c32_i32
  let v549 : BitVec 32 := v548
  let v550 : Index := Scalar.indexCast v549
  let c0_603 : Index := 0#32
  ![0, v550.toNat, 0]
@[reducible] def k0_t3_loop : Scf.Loop 32 :=
  let c0_i32_82 : BitVec 32 := 0#32
  let c64_i32_83 : BitVec 32 := 64#32
  let v96 : BitVec 32 := Scalar.addi c0_i32_82 c64_i32_83
  let c1_i32_84 : BitVec 32 := 1#32
  ⟨c0_i32_82, v96, c1_i32_84⟩
def k0_mult3 (k0_t3 : Fin k0_t3_loop.trips) : BitVec 32 :=
  let c0_i32_82 : BitVec 32 := 0#32
  let c1_i32_84 : BitVec 32 := 1#32
  let arg20 : BitVec 32 := Scf.iv c0_i32_82 c1_i32_84 k0_t3
  let c32_i32 : BitVec 32 := 32#32
  let v548 : BitVec 32 := Scalar.muli arg20 c32_i32
  v548
def k0_off4 (k0_t3 : Fin k0_t3_loop.trips) : Fin 3 → Nat :=
  let c1_602 : Index := 1#32
  let c0_i32_82 : BitVec 32 := 0#32
  let c1_i32_84 : BitVec 32 := 1#32
  let arg20 : BitVec 32 := Scf.iv c0_i32_82 c1_i32_84 k0_t3
  let c32_i32 : BitVec 32 := 32#32
  let v548 : BitVec 32 := Scalar.muli arg20 c32_i32
  let v549 : BitVec 32 := v548
  let v550 : Index := Scalar.indexCast v549
  let c0_603 : Index := 0#32
  ![1, v550.toNat, 0]
@[reducible] def k0_t4_loop : Scf.Loop 32 :=
  let c0_i32_92 : BitVec 32 := 0#32
  let c64_i32_93 : BitVec 32 := 64#32
  let v103 : BitVec 32 := Scalar.addi c0_i32_92 c64_i32_93
  let c1_i32_94 : BitVec 32 := 1#32
  ⟨c0_i32_92, v103, c1_i32_94⟩
def k0_mult4 (k0_t4 : Fin k0_t4_loop.trips) : BitVec 32 :=
  let c0_i32_92 : BitVec 32 := 0#32
  let c1_i32_94 : BitVec 32 := 1#32
  let arg20 : BitVec 32 := Scf.iv c0_i32_92 c1_i32_94 k0_t4
  let c32_i32 : BitVec 32 := 32#32
  let v548 : BitVec 32 := Scalar.muli arg20 c32_i32
  v548
def k0_off5 (k0_t4 : Fin k0_t4_loop.trips) : Fin 3 → Nat :=
  let c2 : Index := 2#32
  let c0_i32_92 : BitVec 32 := 0#32
  let c1_i32_94 : BitVec 32 := 1#32
  let arg20 : BitVec 32 := Scf.iv c0_i32_92 c1_i32_94 k0_t4
  let c32_i32 : BitVec 32 := 32#32
  let v548 : BitVec 32 := Scalar.muli arg20 c32_i32
  let v549 : BitVec 32 := v548
  let v550 : Index := Scalar.indexCast v549
  let c0_602 : Index := 0#32
  ![2, v550.toNat, 0]
@[reducible] def k0_t5_loop : Scf.Loop 32 :=
  let c0_i32_102 : BitVec 32 := 0#32
  let c64_i32_103 : BitVec 32 := 64#32
  let v110 : BitVec 32 := Scalar.addi c0_i32_102 c64_i32_103
  let c1_i32_104 : BitVec 32 := 1#32
  ⟨c0_i32_102, v110, c1_i32_104⟩
def k0_mult5 (k0_t5 : Fin k0_t5_loop.trips) : BitVec 32 :=
  let c0_i32_102 : BitVec 32 := 0#32
  let c1_i32_104 : BitVec 32 := 1#32
  let arg20 : BitVec 32 := Scf.iv c0_i32_102 c1_i32_104 k0_t5
  let c32_i32 : BitVec 32 := 32#32
  let v548 : BitVec 32 := Scalar.muli arg20 c32_i32
  v548
def k0_off6 (k0_t5 : Fin k0_t5_loop.trips) : Fin 3 → Nat :=
  let c3 : Index := 3#32
  let c0_i32_102 : BitVec 32 := 0#32
  let c1_i32_104 : BitVec 32 := 1#32
  let arg20 : BitVec 32 := Scf.iv c0_i32_102 c1_i32_104 k0_t5
  let c32_i32 : BitVec 32 := 32#32
  let v548 : BitVec 32 := Scalar.muli arg20 c32_i32
  let v549 : BitVec 32 := v548
  let v550 : Index := Scalar.indexCast v549
  let c0_602 : Index := 0#32
  ![3, v550.toNat, 0]
@[reducible] def k0_t6_loop : Scf.Loop 32 :=
  let c0_i32_112 : BitVec 32 := 0#32
  let c64_i32_113 : BitVec 32 := 64#32
  let v117 : BitVec 32 := Scalar.addi c0_i32_112 c64_i32_113
  let c1_i32_114 : BitVec 32 := 1#32
  ⟨c0_i32_112, v117, c1_i32_114⟩
def k0_mult6 (k0_t6 : Fin k0_t6_loop.trips) : BitVec 32 :=
  let c0_i32_112 : BitVec 32 := 0#32
  let c1_i32_114 : BitVec 32 := 1#32
  let arg20 : BitVec 32 := Scf.iv c0_i32_112 c1_i32_114 k0_t6
  let c32_i32 : BitVec 32 := 32#32
  let v548 : BitVec 32 := Scalar.muli arg20 c32_i32
  v548
def k0_off7 (k0_t6 : Fin k0_t6_loop.trips) : Fin 3 → Nat :=
  let c4 : Index := 4#32
  let c0_i32_112 : BitVec 32 := 0#32
  let c1_i32_114 : BitVec 32 := 1#32
  let arg20 : BitVec 32 := Scf.iv c0_i32_112 c1_i32_114 k0_t6
  let c32_i32 : BitVec 32 := 32#32
  let v548 : BitVec 32 := Scalar.muli arg20 c32_i32
  let v549 : BitVec 32 := v548
  let v550 : Index := Scalar.indexCast v549
  let c0_602 : Index := 0#32
  ![4, v550.toNat, 0]
@[reducible] def k0_t7_loop : Scf.Loop 32 :=
  let c0_i32_122 : BitVec 32 := 0#32
  let c64_i32_123 : BitVec 32 := 64#32
  let v124 : BitVec 32 := Scalar.addi c0_i32_122 c64_i32_123
  let c1_i32_124 : BitVec 32 := 1#32
  ⟨c0_i32_122, v124, c1_i32_124⟩
def k0_mult7 (k0_t7 : Fin k0_t7_loop.trips) : BitVec 32 :=
  let c0_i32_122 : BitVec 32 := 0#32
  let c1_i32_124 : BitVec 32 := 1#32
  let arg20 : BitVec 32 := Scf.iv c0_i32_122 c1_i32_124 k0_t7
  let c32_i32 : BitVec 32 := 32#32
  let v548 : BitVec 32 := Scalar.muli arg20 c32_i32
  v548
def k0_off8 (k0_t7 : Fin k0_t7_loop.trips) : Fin 3 → Nat :=
  let c5 : Index := 5#32
  let c0_i32_122 : BitVec 32 := 0#32
  let c1_i32_124 : BitVec 32 := 1#32
  let arg20 : BitVec 32 := Scf.iv c0_i32_122 c1_i32_124 k0_t7
  let c32_i32 : BitVec 32 := 32#32
  let v548 : BitVec 32 := Scalar.muli arg20 c32_i32
  let v549 : BitVec 32 := v548
  let v550 : Index := Scalar.indexCast v549
  let c0_602 : Index := 0#32
  ![5, v550.toNat, 0]
@[reducible] def k0_t8_loop : Scf.Loop 32 :=
  let c0_i32_132 : BitVec 32 := 0#32
  let c64_i32_133 : BitVec 32 := 64#32
  let v131 : BitVec 32 := Scalar.addi c0_i32_132 c64_i32_133
  let c1_i32_134 : BitVec 32 := 1#32
  ⟨c0_i32_132, v131, c1_i32_134⟩
def k0_mult8 (k0_t8 : Fin k0_t8_loop.trips) : BitVec 32 :=
  let c0_i32_132 : BitVec 32 := 0#32
  let c1_i32_134 : BitVec 32 := 1#32
  let arg20 : BitVec 32 := Scf.iv c0_i32_132 c1_i32_134 k0_t8
  let c32_i32 : BitVec 32 := 32#32
  let v548 : BitVec 32 := Scalar.muli arg20 c32_i32
  v548
def k0_off9 (k0_t8 : Fin k0_t8_loop.trips) : Fin 3 → Nat :=
  let c6 : Index := 6#32
  let c0_i32_132 : BitVec 32 := 0#32
  let c1_i32_134 : BitVec 32 := 1#32
  let arg20 : BitVec 32 := Scf.iv c0_i32_132 c1_i32_134 k0_t8
  let c32_i32 : BitVec 32 := 32#32
  let v548 : BitVec 32 := Scalar.muli arg20 c32_i32
  let v549 : BitVec 32 := v548
  let v550 : Index := Scalar.indexCast v549
  let c0_602 : Index := 0#32
  ![6, v550.toNat, 0]
@[reducible] def k0_t9_loop : Scf.Loop 32 :=
  let c0_i32_142 : BitVec 32 := 0#32
  let c64_i32_143 : BitVec 32 := 64#32
  let v138 : BitVec 32 := Scalar.addi c0_i32_142 c64_i32_143
  let c1_i32_144 : BitVec 32 := 1#32
  ⟨c0_i32_142, v138, c1_i32_144⟩
def k0_mult9 (k0_t9 : Fin k0_t9_loop.trips) : BitVec 32 :=
  let c0_i32_142 : BitVec 32 := 0#32
  let c1_i32_144 : BitVec 32 := 1#32
  let arg20 : BitVec 32 := Scf.iv c0_i32_142 c1_i32_144 k0_t9
  let c32_i32 : BitVec 32 := 32#32
  let v548 : BitVec 32 := Scalar.muli arg20 c32_i32
  v548
def k0_off10 (k0_t9 : Fin k0_t9_loop.trips) : Fin 3 → Nat :=
  let c7 : Index := 7#32
  let c0_i32_142 : BitVec 32 := 0#32
  let c1_i32_144 : BitVec 32 := 1#32
  let arg20 : BitVec 32 := Scf.iv c0_i32_142 c1_i32_144 k0_t9
  let c32_i32 : BitVec 32 := 32#32
  let v548 : BitVec 32 := Scalar.muli arg20 c32_i32
  let v549 : BitVec 32 := v548
  let v550 : Index := Scalar.indexCast v549
  let c0_602 : Index := 0#32
  ![7, v550.toNat, 0]
@[reducible] def k0_t10_loop : Scf.Loop 32 :=
  let c0_i32_152 : BitVec 32 := 0#32
  let c64_i32_153 : BitVec 32 := 64#32
  let v145 : BitVec 32 := Scalar.addi c0_i32_152 c64_i32_153
  let c1_i32_154 : BitVec 32 := 1#32
  ⟨c0_i32_152, v145, c1_i32_154⟩
def k0_mult10 (k0_t10 : Fin k0_t10_loop.trips) : BitVec 32 :=
  let c0_i32_152 : BitVec 32 := 0#32
  let c1_i32_154 : BitVec 32 := 1#32
  let arg20 : BitVec 32 := Scf.iv c0_i32_152 c1_i32_154 k0_t10
  let c32_i32 : BitVec 32 := 32#32
  let v548 : BitVec 32 := Scalar.muli arg20 c32_i32
  v548
def k0_off11 (k0_t10 : Fin k0_t10_loop.trips) : Fin 3 → Nat :=
  let c8 : Index := 8#32
  let c0_i32_152 : BitVec 32 := 0#32
  let c1_i32_154 : BitVec 32 := 1#32
  let arg20 : BitVec 32 := Scf.iv c0_i32_152 c1_i32_154 k0_t10
  let c32_i32 : BitVec 32 := 32#32
  let v548 : BitVec 32 := Scalar.muli arg20 c32_i32
  let v549 : BitVec 32 := v548
  let v550 : Index := Scalar.indexCast v549
  let c0_602 : Index := 0#32
  ![8, v550.toNat, 0]
@[reducible] def k0_t11_loop : Scf.Loop 32 :=
  let c0_i32_162 : BitVec 32 := 0#32
  let c64_i32_163 : BitVec 32 := 64#32
  let v152 : BitVec 32 := Scalar.addi c0_i32_162 c64_i32_163
  let c1_i32_164 : BitVec 32 := 1#32
  ⟨c0_i32_162, v152, c1_i32_164⟩
def k0_mult11 (k0_t11 : Fin k0_t11_loop.trips) : BitVec 32 :=
  let c0_i32_162 : BitVec 32 := 0#32
  let c1_i32_164 : BitVec 32 := 1#32
  let arg20 : BitVec 32 := Scf.iv c0_i32_162 c1_i32_164 k0_t11
  let c32_i32 : BitVec 32 := 32#32
  let v548 : BitVec 32 := Scalar.muli arg20 c32_i32
  v548
def k0_off12 (k0_t11 : Fin k0_t11_loop.trips) : Fin 3 → Nat :=
  let c9 : Index := 9#32
  let c0_i32_162 : BitVec 32 := 0#32
  let c1_i32_164 : BitVec 32 := 1#32
  let arg20 : BitVec 32 := Scf.iv c0_i32_162 c1_i32_164 k0_t11
  let c32_i32 : BitVec 32 := 32#32
  let v548 : BitVec 32 := Scalar.muli arg20 c32_i32
  let v549 : BitVec 32 := v548
  let v550 : Index := Scalar.indexCast v549
  let c0_602 : Index := 0#32
  ![9, v550.toNat, 0]
@[reducible] def k0_t12_loop : Scf.Loop 32 :=
  let c0_i32_172 : BitVec 32 := 0#32
  let c64_i32_173 : BitVec 32 := 64#32
  let v159 : BitVec 32 := Scalar.addi c0_i32_172 c64_i32_173
  let c1_i32_174 : BitVec 32 := 1#32
  ⟨c0_i32_172, v159, c1_i32_174⟩
def k0_mult12 (k0_t12 : Fin k0_t12_loop.trips) : BitVec 32 :=
  let c0_i32_172 : BitVec 32 := 0#32
  let c1_i32_174 : BitVec 32 := 1#32
  let arg20 : BitVec 32 := Scf.iv c0_i32_172 c1_i32_174 k0_t12
  let c32_i32 : BitVec 32 := 32#32
  let v548 : BitVec 32 := Scalar.muli arg20 c32_i32
  v548
def k0_off13 (k0_t12 : Fin k0_t12_loop.trips) : Fin 3 → Nat :=
  let c10 : Index := 10#32
  let c0_i32_172 : BitVec 32 := 0#32
  let c1_i32_174 : BitVec 32 := 1#32
  let arg20 : BitVec 32 := Scf.iv c0_i32_172 c1_i32_174 k0_t12
  let c32_i32 : BitVec 32 := 32#32
  let v548 : BitVec 32 := Scalar.muli arg20 c32_i32
  let v549 : BitVec 32 := v548
  let v550 : Index := Scalar.indexCast v549
  let c0_602 : Index := 0#32
  ![10, v550.toNat, 0]
@[reducible] def k0_t13_loop : Scf.Loop 32 :=
  let c0_i32_181 : BitVec 32 := 0#32
  let c64_i32_182 : BitVec 32 := 64#32
  let v174 : BitVec 32 := Scalar.addi c0_i32_181 c64_i32_182
  let c1_i32_183 : BitVec 32 := 1#32
  ⟨c0_i32_181, v174, c1_i32_183⟩
def k0_mult13 (k0_t13 : Fin k0_t13_loop.trips) : BitVec 32 :=
  let c0_i32_603 : BitVec 32 := 0#32
  let c0_i32_181 : BitVec 32 := 0#32
  let c1_i32_183 : BitVec 32 := 1#32
  let arg20 : BitVec 32 := Scf.iv c0_i32_181 c1_i32_183 k0_t13
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  v550
def k0_off14 (k0_t13 : Fin k0_t13_loop.trips) : Fin 2 → Nat :=
  let c0_i32_603 : BitVec 32 := 0#32
  let c0_i32_181 : BitVec 32 := 0#32
  let c1_i32_183 : BitVec 32 := 1#32
  let arg20 : BitVec 32 := Scf.iv c0_i32_181 c1_i32_183 k0_t13
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v565 : Index := Scalar.indexCast v551
  let c0_610 : Index := 0#32
  ![v565.toNat, 0]
def k0_off15 (k0_t13 : Fin k0_t13_loop.trips) : Fin 3 → Nat :=
  let c0_i32_615 : BitVec 32 := 0#32
  let c0_i32_603 : BitVec 32 := 0#32
  let c0_i32_181 : BitVec 32 := 0#32
  let c1_i32_183 : BitVec 32 := 1#32
  let arg20 : BitVec 32 := Scf.iv c0_i32_181 c1_i32_183 k0_t13
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v580 : Index := Scalar.indexCast v551
  let c0_i32_617 : BitVec 32 := 0#32
  ![0, v580.toNat, 0]
def k0_off16 (k0_t13 : Fin k0_t13_loop.trips) : Fin 2 → Nat :=
  let c0_i32_603 : BitVec 32 := 0#32
  let c0_i32_181 : BitVec 32 := 0#32
  let c1_i32_183 : BitVec 32 := 1#32
  let arg20 : BitVec 32 := Scf.iv c0_i32_181 c1_i32_183 k0_t13
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v590 : Index := Scalar.indexCast v551
  let c128_622 : Index := 128#32
  ![v590.toNat, 128]
def k0_off17 (k0_t13 : Fin k0_t13_loop.trips) : Fin 3 → Nat :=
  let c0_i32_627 : BitVec 32 := 0#32
  let c0_i32_603 : BitVec 32 := 0#32
  let c0_i32_181 : BitVec 32 := 0#32
  let c1_i32_183 : BitVec 32 := 1#32
  let arg20 : BitVec 32 := Scf.iv c0_i32_181 c1_i32_183 k0_t13
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v605 : Index := Scalar.indexCast v551
  ![0, v605.toNat, 128]
def k0_off18 (k0_t13 : Fin k0_t13_loop.trips) : Fin 2 → Nat :=
  let c0_i32_603 : BitVec 32 := 0#32
  let c0_i32_181 : BitVec 32 := 0#32
  let c1_i32_183 : BitVec 32 := 1#32
  let arg20 : BitVec 32 := Scf.iv c0_i32_181 c1_i32_183 k0_t13
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v615 : Index := Scalar.indexCast v551
  let c256_634 : Index := 256#32
  ![v615.toNat, 256]
def k0_off19 (k0_t13 : Fin k0_t13_loop.trips) : Fin 3 → Nat :=
  let c0_i32_639 : BitVec 32 := 0#32
  let c0_i32_603 : BitVec 32 := 0#32
  let c0_i32_181 : BitVec 32 := 0#32
  let c1_i32_183 : BitVec 32 := 1#32
  let arg20 : BitVec 32 := Scf.iv c0_i32_181 c1_i32_183 k0_t13
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v630 : Index := Scalar.indexCast v551
  ![0, v630.toNat, 256]
def k0_off20 (k0_t13 : Fin k0_t13_loop.trips) : Fin 2 → Nat :=
  let c0_i32_603 : BitVec 32 := 0#32
  let c0_i32_181 : BitVec 32 := 0#32
  let c1_i32_183 : BitVec 32 := 1#32
  let arg20 : BitVec 32 := Scf.iv c0_i32_181 c1_i32_183 k0_t13
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v640 : Index := Scalar.indexCast v551
  let c384_646 : Index := 384#32
  ![v640.toNat, 384]
def k0_off21 (k0_t13 : Fin k0_t13_loop.trips) : Fin 3 → Nat :=
  let c0_i32_651 : BitVec 32 := 0#32
  let c0_i32_603 : BitVec 32 := 0#32
  let c0_i32_181 : BitVec 32 := 0#32
  let c1_i32_183 : BitVec 32 := 1#32
  let arg20 : BitVec 32 := Scf.iv c0_i32_181 c1_i32_183 k0_t13
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v655 : Index := Scalar.indexCast v551
  ![0, v655.toNat, 384]
def k0_off22 (k0_t13 : Fin k0_t13_loop.trips) : Fin 2 → Nat :=
  let c0_i32_603 : BitVec 32 := 0#32
  let c0_i32_181 : BitVec 32 := 0#32
  let c1_i32_183 : BitVec 32 := 1#32
  let arg20 : BitVec 32 := Scf.iv c0_i32_181 c1_i32_183 k0_t13
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v732 : Index := Scalar.indexCast v551
  let c0_677 : Index := 0#32
  ![v732.toNat, 0]
def k0_off23 (k0_t13 : Fin k0_t13_loop.trips) : Fin 3 → Nat :=
  let c0_i32_674 : BitVec 32 := 0#32
  let c0_i32_603 : BitVec 32 := 0#32
  let c0_i32_181 : BitVec 32 := 0#32
  let c1_i32_183 : BitVec 32 := 1#32
  let arg20 : BitVec 32 := Scf.iv c0_i32_181 c1_i32_183 k0_t13
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v732 : Index := Scalar.indexCast v551
  let c0_i32_676 : BitVec 32 := 0#32
  ![0, v732.toNat, 0]
@[reducible] def k0_t14_loop : Scf.Loop 32 :=
  let c0_i32_208 : BitVec 32 := 0#32
  let c64_i32_209 : BitVec 32 := 64#32
  let v198 : BitVec 32 := Scalar.addi c0_i32_208 c64_i32_209
  let c1_i32_210 : BitVec 32 := 1#32
  ⟨c0_i32_208, v198, c1_i32_210⟩
def k0_mult14 (k0_t14 : Fin k0_t14_loop.trips) : BitVec 32 :=
  let c0_i32_603 : BitVec 32 := 0#32
  let c0_i32_208 : BitVec 32 := 0#32
  let c1_i32_210 : BitVec 32 := 1#32
  let arg20 : BitVec 32 := Scf.iv c0_i32_208 c1_i32_210 k0_t14
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  v550
def k0_off24 (k0_t14 : Fin k0_t14_loop.trips) : Fin 2 → Nat :=
  let c0_i32_603 : BitVec 32 := 0#32
  let c0_i32_208 : BitVec 32 := 0#32
  let c1_i32_210 : BitVec 32 := 1#32
  let arg20 : BitVec 32 := Scf.iv c0_i32_208 c1_i32_210 k0_t14
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v565 : Index := Scalar.indexCast v551
  let c0_610 : Index := 0#32
  ![v565.toNat, 0]
def k0_off25 (k0_t14 : Fin k0_t14_loop.trips) : Fin 3 → Nat :=
  let c1_i32_615 : BitVec 32 := 1#32
  let c0_i32_603 : BitVec 32 := 0#32
  let c0_i32_208 : BitVec 32 := 0#32
  let c1_i32_210 : BitVec 32 := 1#32
  let arg20 : BitVec 32 := Scf.iv c0_i32_208 c1_i32_210 k0_t14
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v580 : Index := Scalar.indexCast v551
  let c0_i32_617 : BitVec 32 := 0#32
  ![1, v580.toNat, 0]
def k0_off26 (k0_t14 : Fin k0_t14_loop.trips) : Fin 2 → Nat :=
  let c0_i32_603 : BitVec 32 := 0#32
  let c0_i32_208 : BitVec 32 := 0#32
  let c1_i32_210 : BitVec 32 := 1#32
  let arg20 : BitVec 32 := Scf.iv c0_i32_208 c1_i32_210 k0_t14
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v590 : Index := Scalar.indexCast v551
  let c128_622 : Index := 128#32
  ![v590.toNat, 128]
def k0_off27 (k0_t14 : Fin k0_t14_loop.trips) : Fin 3 → Nat :=
  let c1_i32_627 : BitVec 32 := 1#32
  let c0_i32_603 : BitVec 32 := 0#32
  let c0_i32_208 : BitVec 32 := 0#32
  let c1_i32_210 : BitVec 32 := 1#32
  let arg20 : BitVec 32 := Scf.iv c0_i32_208 c1_i32_210 k0_t14
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v605 : Index := Scalar.indexCast v551
  ![1, v605.toNat, 128]
def k0_off28 (k0_t14 : Fin k0_t14_loop.trips) : Fin 2 → Nat :=
  let c0_i32_603 : BitVec 32 := 0#32
  let c0_i32_208 : BitVec 32 := 0#32
  let c1_i32_210 : BitVec 32 := 1#32
  let arg20 : BitVec 32 := Scf.iv c0_i32_208 c1_i32_210 k0_t14
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v615 : Index := Scalar.indexCast v551
  let c256_634 : Index := 256#32
  ![v615.toNat, 256]
def k0_off29 (k0_t14 : Fin k0_t14_loop.trips) : Fin 3 → Nat :=
  let c1_i32_639 : BitVec 32 := 1#32
  let c0_i32_603 : BitVec 32 := 0#32
  let c0_i32_208 : BitVec 32 := 0#32
  let c1_i32_210 : BitVec 32 := 1#32
  let arg20 : BitVec 32 := Scf.iv c0_i32_208 c1_i32_210 k0_t14
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v630 : Index := Scalar.indexCast v551
  ![1, v630.toNat, 256]
def k0_off30 (k0_t14 : Fin k0_t14_loop.trips) : Fin 2 → Nat :=
  let c0_i32_603 : BitVec 32 := 0#32
  let c0_i32_208 : BitVec 32 := 0#32
  let c1_i32_210 : BitVec 32 := 1#32
  let arg20 : BitVec 32 := Scf.iv c0_i32_208 c1_i32_210 k0_t14
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v640 : Index := Scalar.indexCast v551
  let c384_646 : Index := 384#32
  ![v640.toNat, 384]
def k0_off31 (k0_t14 : Fin k0_t14_loop.trips) : Fin 3 → Nat :=
  let c1_i32_651 : BitVec 32 := 1#32
  let c0_i32_603 : BitVec 32 := 0#32
  let c0_i32_208 : BitVec 32 := 0#32
  let c1_i32_210 : BitVec 32 := 1#32
  let arg20 : BitVec 32 := Scf.iv c0_i32_208 c1_i32_210 k0_t14
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v655 : Index := Scalar.indexCast v551
  ![1, v655.toNat, 384]
def k0_off32 (k0_t14 : Fin k0_t14_loop.trips) : Fin 2 → Nat :=
  let c0_i32_603 : BitVec 32 := 0#32
  let c0_i32_208 : BitVec 32 := 0#32
  let c1_i32_210 : BitVec 32 := 1#32
  let arg20 : BitVec 32 := Scf.iv c0_i32_208 c1_i32_210 k0_t14
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v732 : Index := Scalar.indexCast v551
  let c0_677 : Index := 0#32
  ![v732.toNat, 0]
def k0_off33 (k0_t14 : Fin k0_t14_loop.trips) : Fin 3 → Nat :=
  let c1_i32_674 : BitVec 32 := 1#32
  let c0_i32_603 : BitVec 32 := 0#32
  let c0_i32_208 : BitVec 32 := 0#32
  let c1_i32_210 : BitVec 32 := 1#32
  let arg20 : BitVec 32 := Scf.iv c0_i32_208 c1_i32_210 k0_t14
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v732 : Index := Scalar.indexCast v551
  let c0_i32_676 : BitVec 32 := 0#32
  ![1, v732.toNat, 0]
@[reducible] def k0_t15_loop : Scf.Loop 32 :=
  let c0_i32_246 : BitVec 32 := 0#32
  let c64_i32_247 : BitVec 32 := 64#32
  let v232 : BitVec 32 := Scalar.addi c0_i32_246 c64_i32_247
  let c1_i32_248 : BitVec 32 := 1#32
  ⟨c0_i32_246, v232, c1_i32_248⟩
def k0_mult15 (k0_t15 : Fin k0_t15_loop.trips) : BitVec 32 :=
  let c0_i32_603 : BitVec 32 := 0#32
  let c0_i32_246 : BitVec 32 := 0#32
  let c1_i32_248 : BitVec 32 := 1#32
  let arg20 : BitVec 32 := Scf.iv c0_i32_246 c1_i32_248 k0_t15
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  v550
def k0_off34 (k0_t15 : Fin k0_t15_loop.trips) : Fin 2 → Nat :=
  let c0_i32_603 : BitVec 32 := 0#32
  let c0_i32_246 : BitVec 32 := 0#32
  let c1_i32_248 : BitVec 32 := 1#32
  let arg20 : BitVec 32 := Scf.iv c0_i32_246 c1_i32_248 k0_t15
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v565 : Index := Scalar.indexCast v551
  let c0_610 : Index := 0#32
  ![v565.toNat, 0]
def k0_off35 (k0_t15 : Fin k0_t15_loop.trips) : Fin 3 → Nat :=
  let c0_i32_615 : BitVec 32 := 0#32
  let c0_i32_603 : BitVec 32 := 0#32
  let c0_i32_246 : BitVec 32 := 0#32
  let c1_i32_248 : BitVec 32 := 1#32
  let arg20 : BitVec 32 := Scf.iv c0_i32_246 c1_i32_248 k0_t15
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v580 : Index := Scalar.indexCast v551
  let c0_i32_617 : BitVec 32 := 0#32
  ![0, v580.toNat, 0]
def k0_off36 (k0_t15 : Fin k0_t15_loop.trips) : Fin 2 → Nat :=
  let c0_i32_603 : BitVec 32 := 0#32
  let c0_i32_246 : BitVec 32 := 0#32
  let c1_i32_248 : BitVec 32 := 1#32
  let arg20 : BitVec 32 := Scf.iv c0_i32_246 c1_i32_248 k0_t15
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v590 : Index := Scalar.indexCast v551
  let c128_622 : Index := 128#32
  ![v590.toNat, 128]
def k0_off37 (k0_t15 : Fin k0_t15_loop.trips) : Fin 3 → Nat :=
  let c0_i32_627 : BitVec 32 := 0#32
  let c0_i32_603 : BitVec 32 := 0#32
  let c0_i32_246 : BitVec 32 := 0#32
  let c1_i32_248 : BitVec 32 := 1#32
  let arg20 : BitVec 32 := Scf.iv c0_i32_246 c1_i32_248 k0_t15
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v605 : Index := Scalar.indexCast v551
  ![0, v605.toNat, 128]
def k0_off38 (k0_t15 : Fin k0_t15_loop.trips) : Fin 2 → Nat :=
  let c0_i32_603 : BitVec 32 := 0#32
  let c0_i32_246 : BitVec 32 := 0#32
  let c1_i32_248 : BitVec 32 := 1#32
  let arg20 : BitVec 32 := Scf.iv c0_i32_246 c1_i32_248 k0_t15
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v615 : Index := Scalar.indexCast v551
  let c256_634 : Index := 256#32
  ![v615.toNat, 256]
def k0_off39 (k0_t15 : Fin k0_t15_loop.trips) : Fin 3 → Nat :=
  let c0_i32_639 : BitVec 32 := 0#32
  let c0_i32_603 : BitVec 32 := 0#32
  let c0_i32_246 : BitVec 32 := 0#32
  let c1_i32_248 : BitVec 32 := 1#32
  let arg20 : BitVec 32 := Scf.iv c0_i32_246 c1_i32_248 k0_t15
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v630 : Index := Scalar.indexCast v551
  ![0, v630.toNat, 256]
def k0_off40 (k0_t15 : Fin k0_t15_loop.trips) : Fin 2 → Nat :=
  let c0_i32_603 : BitVec 32 := 0#32
  let c0_i32_246 : BitVec 32 := 0#32
  let c1_i32_248 : BitVec 32 := 1#32
  let arg20 : BitVec 32 := Scf.iv c0_i32_246 c1_i32_248 k0_t15
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v640 : Index := Scalar.indexCast v551
  let c384_646 : Index := 384#32
  ![v640.toNat, 384]
def k0_off41 (k0_t15 : Fin k0_t15_loop.trips) : Fin 3 → Nat :=
  let c0_i32_651 : BitVec 32 := 0#32
  let c0_i32_603 : BitVec 32 := 0#32
  let c0_i32_246 : BitVec 32 := 0#32
  let c1_i32_248 : BitVec 32 := 1#32
  let arg20 : BitVec 32 := Scf.iv c0_i32_246 c1_i32_248 k0_t15
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v655 : Index := Scalar.indexCast v551
  ![0, v655.toNat, 384]
def k0_off42 (k0_t15 : Fin k0_t15_loop.trips) : Fin 2 → Nat :=
  let c0_i32_603 : BitVec 32 := 0#32
  let c0_i32_246 : BitVec 32 := 0#32
  let c1_i32_248 : BitVec 32 := 1#32
  let arg20 : BitVec 32 := Scf.iv c0_i32_246 c1_i32_248 k0_t15
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v732 : Index := Scalar.indexCast v551
  let c0_677 : Index := 0#32
  ![v732.toNat, 0]
def k0_off43 (k0_t15 : Fin k0_t15_loop.trips) : Fin 3 → Nat :=
  let c0_i32_674 : BitVec 32 := 0#32
  let c0_i32_603 : BitVec 32 := 0#32
  let c0_i32_246 : BitVec 32 := 0#32
  let c1_i32_248 : BitVec 32 := 1#32
  let arg20 : BitVec 32 := Scf.iv c0_i32_246 c1_i32_248 k0_t15
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v732 : Index := Scalar.indexCast v551
  let c0_i32_676 : BitVec 32 := 0#32
  ![0, v732.toNat, 0]
@[reducible] def k0_t16_loop : Scf.Loop 32 :=
  let c0_i32_284 : BitVec 32 := 0#32
  let c64_i32_285 : BitVec 32 := 64#32
  let v266 : BitVec 32 := Scalar.addi c0_i32_284 c64_i32_285
  let c1_i32_286 : BitVec 32 := 1#32
  ⟨c0_i32_284, v266, c1_i32_286⟩
def k0_mult16 (k0_t16 : Fin k0_t16_loop.trips) : BitVec 32 :=
  let c0_i32_603 : BitVec 32 := 0#32
  let c0_i32_284 : BitVec 32 := 0#32
  let c1_i32_286 : BitVec 32 := 1#32
  let arg20 : BitVec 32 := Scf.iv c0_i32_284 c1_i32_286 k0_t16
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  v550
def k0_off44 (k0_t16 : Fin k0_t16_loop.trips) : Fin 2 → Nat :=
  let c0_i32_603 : BitVec 32 := 0#32
  let c0_i32_284 : BitVec 32 := 0#32
  let c1_i32_286 : BitVec 32 := 1#32
  let arg20 : BitVec 32 := Scf.iv c0_i32_284 c1_i32_286 k0_t16
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v565 : Index := Scalar.indexCast v551
  let c0_610 : Index := 0#32
  ![v565.toNat, 0]
def k0_off45 (k0_t16 : Fin k0_t16_loop.trips) : Fin 3 → Nat :=
  let c1_i32_615 : BitVec 32 := 1#32
  let c0_i32_603 : BitVec 32 := 0#32
  let c0_i32_284 : BitVec 32 := 0#32
  let c1_i32_286 : BitVec 32 := 1#32
  let arg20 : BitVec 32 := Scf.iv c0_i32_284 c1_i32_286 k0_t16
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v580 : Index := Scalar.indexCast v551
  let c0_i32_617 : BitVec 32 := 0#32
  ![1, v580.toNat, 0]
def k0_off46 (k0_t16 : Fin k0_t16_loop.trips) : Fin 2 → Nat :=
  let c0_i32_603 : BitVec 32 := 0#32
  let c0_i32_284 : BitVec 32 := 0#32
  let c1_i32_286 : BitVec 32 := 1#32
  let arg20 : BitVec 32 := Scf.iv c0_i32_284 c1_i32_286 k0_t16
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v590 : Index := Scalar.indexCast v551
  let c128_622 : Index := 128#32
  ![v590.toNat, 128]
def k0_off47 (k0_t16 : Fin k0_t16_loop.trips) : Fin 3 → Nat :=
  let c1_i32_627 : BitVec 32 := 1#32
  let c0_i32_603 : BitVec 32 := 0#32
  let c0_i32_284 : BitVec 32 := 0#32
  let c1_i32_286 : BitVec 32 := 1#32
  let arg20 : BitVec 32 := Scf.iv c0_i32_284 c1_i32_286 k0_t16
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v605 : Index := Scalar.indexCast v551
  ![1, v605.toNat, 128]
def k0_off48 (k0_t16 : Fin k0_t16_loop.trips) : Fin 2 → Nat :=
  let c0_i32_603 : BitVec 32 := 0#32
  let c0_i32_284 : BitVec 32 := 0#32
  let c1_i32_286 : BitVec 32 := 1#32
  let arg20 : BitVec 32 := Scf.iv c0_i32_284 c1_i32_286 k0_t16
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v615 : Index := Scalar.indexCast v551
  let c256_634 : Index := 256#32
  ![v615.toNat, 256]
def k0_off49 (k0_t16 : Fin k0_t16_loop.trips) : Fin 3 → Nat :=
  let c1_i32_639 : BitVec 32 := 1#32
  let c0_i32_603 : BitVec 32 := 0#32
  let c0_i32_284 : BitVec 32 := 0#32
  let c1_i32_286 : BitVec 32 := 1#32
  let arg20 : BitVec 32 := Scf.iv c0_i32_284 c1_i32_286 k0_t16
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v630 : Index := Scalar.indexCast v551
  ![1, v630.toNat, 256]
def k0_off50 (k0_t16 : Fin k0_t16_loop.trips) : Fin 2 → Nat :=
  let c0_i32_603 : BitVec 32 := 0#32
  let c0_i32_284 : BitVec 32 := 0#32
  let c1_i32_286 : BitVec 32 := 1#32
  let arg20 : BitVec 32 := Scf.iv c0_i32_284 c1_i32_286 k0_t16
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v640 : Index := Scalar.indexCast v551
  let c384_646 : Index := 384#32
  ![v640.toNat, 384]
def k0_off51 (k0_t16 : Fin k0_t16_loop.trips) : Fin 3 → Nat :=
  let c1_i32_651 : BitVec 32 := 1#32
  let c0_i32_603 : BitVec 32 := 0#32
  let c0_i32_284 : BitVec 32 := 0#32
  let c1_i32_286 : BitVec 32 := 1#32
  let arg20 : BitVec 32 := Scf.iv c0_i32_284 c1_i32_286 k0_t16
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v655 : Index := Scalar.indexCast v551
  ![1, v655.toNat, 384]
def k0_off52 (k0_t16 : Fin k0_t16_loop.trips) : Fin 2 → Nat :=
  let c0_i32_603 : BitVec 32 := 0#32
  let c0_i32_284 : BitVec 32 := 0#32
  let c1_i32_286 : BitVec 32 := 1#32
  let arg20 : BitVec 32 := Scf.iv c0_i32_284 c1_i32_286 k0_t16
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v732 : Index := Scalar.indexCast v551
  let c0_677 : Index := 0#32
  ![v732.toNat, 0]
def k0_off53 (k0_t16 : Fin k0_t16_loop.trips) : Fin 3 → Nat :=
  let c1_i32_674 : BitVec 32 := 1#32
  let c0_i32_603 : BitVec 32 := 0#32
  let c0_i32_284 : BitVec 32 := 0#32
  let c1_i32_286 : BitVec 32 := 1#32
  let arg20 : BitVec 32 := Scf.iv c0_i32_284 c1_i32_286 k0_t16
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v732 : Index := Scalar.indexCast v551
  let c0_i32_676 : BitVec 32 := 0#32
  ![1, v732.toNat, 0]
@[reducible] def k0_t17_loop : Scf.Loop 32 :=
  let c0_i32_322 : BitVec 32 := 0#32
  let c64_i32_323 : BitVec 32 := 64#32
  let v300 : BitVec 32 := Scalar.addi c0_i32_322 c64_i32_323
  let c1_i32_324 : BitVec 32 := 1#32
  ⟨c0_i32_322, v300, c1_i32_324⟩
def k0_mult17 (k0_t17 : Fin k0_t17_loop.trips) : BitVec 32 :=
  let c0_i32_603 : BitVec 32 := 0#32
  let c0_i32_322 : BitVec 32 := 0#32
  let c1_i32_324 : BitVec 32 := 1#32
  let arg20 : BitVec 32 := Scf.iv c0_i32_322 c1_i32_324 k0_t17
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  v550
def k0_off54 (k0_t17 : Fin k0_t17_loop.trips) : Fin 2 → Nat :=
  let c0_i32_603 : BitVec 32 := 0#32
  let c0_i32_322 : BitVec 32 := 0#32
  let c1_i32_324 : BitVec 32 := 1#32
  let arg20 : BitVec 32 := Scf.iv c0_i32_322 c1_i32_324 k0_t17
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v565 : Index := Scalar.indexCast v551
  let c0_610 : Index := 0#32
  ![v565.toNat, 0]
def k0_off55 (k0_t17 : Fin k0_t17_loop.trips) : Fin 3 → Nat :=
  let c0_i32_615 : BitVec 32 := 0#32
  let c0_i32_603 : BitVec 32 := 0#32
  let c0_i32_322 : BitVec 32 := 0#32
  let c1_i32_324 : BitVec 32 := 1#32
  let arg20 : BitVec 32 := Scf.iv c0_i32_322 c1_i32_324 k0_t17
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v580 : Index := Scalar.indexCast v551
  let c0_i32_617 : BitVec 32 := 0#32
  ![0, v580.toNat, 0]
def k0_off56 (k0_t17 : Fin k0_t17_loop.trips) : Fin 2 → Nat :=
  let c0_i32_603 : BitVec 32 := 0#32
  let c0_i32_322 : BitVec 32 := 0#32
  let c1_i32_324 : BitVec 32 := 1#32
  let arg20 : BitVec 32 := Scf.iv c0_i32_322 c1_i32_324 k0_t17
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v590 : Index := Scalar.indexCast v551
  let c128_622 : Index := 128#32
  ![v590.toNat, 128]
def k0_off57 (k0_t17 : Fin k0_t17_loop.trips) : Fin 3 → Nat :=
  let c0_i32_627 : BitVec 32 := 0#32
  let c0_i32_603 : BitVec 32 := 0#32
  let c0_i32_322 : BitVec 32 := 0#32
  let c1_i32_324 : BitVec 32 := 1#32
  let arg20 : BitVec 32 := Scf.iv c0_i32_322 c1_i32_324 k0_t17
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v605 : Index := Scalar.indexCast v551
  ![0, v605.toNat, 128]
def k0_off58 (k0_t17 : Fin k0_t17_loop.trips) : Fin 2 → Nat :=
  let c0_i32_603 : BitVec 32 := 0#32
  let c0_i32_322 : BitVec 32 := 0#32
  let c1_i32_324 : BitVec 32 := 1#32
  let arg20 : BitVec 32 := Scf.iv c0_i32_322 c1_i32_324 k0_t17
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v615 : Index := Scalar.indexCast v551
  let c256_634 : Index := 256#32
  ![v615.toNat, 256]
def k0_off59 (k0_t17 : Fin k0_t17_loop.trips) : Fin 3 → Nat :=
  let c0_i32_639 : BitVec 32 := 0#32
  let c0_i32_603 : BitVec 32 := 0#32
  let c0_i32_322 : BitVec 32 := 0#32
  let c1_i32_324 : BitVec 32 := 1#32
  let arg20 : BitVec 32 := Scf.iv c0_i32_322 c1_i32_324 k0_t17
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v630 : Index := Scalar.indexCast v551
  ![0, v630.toNat, 256]
def k0_off60 (k0_t17 : Fin k0_t17_loop.trips) : Fin 2 → Nat :=
  let c0_i32_603 : BitVec 32 := 0#32
  let c0_i32_322 : BitVec 32 := 0#32
  let c1_i32_324 : BitVec 32 := 1#32
  let arg20 : BitVec 32 := Scf.iv c0_i32_322 c1_i32_324 k0_t17
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v640 : Index := Scalar.indexCast v551
  let c384_646 : Index := 384#32
  ![v640.toNat, 384]
def k0_off61 (k0_t17 : Fin k0_t17_loop.trips) : Fin 3 → Nat :=
  let c0_i32_651 : BitVec 32 := 0#32
  let c0_i32_603 : BitVec 32 := 0#32
  let c0_i32_322 : BitVec 32 := 0#32
  let c1_i32_324 : BitVec 32 := 1#32
  let arg20 : BitVec 32 := Scf.iv c0_i32_322 c1_i32_324 k0_t17
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v655 : Index := Scalar.indexCast v551
  ![0, v655.toNat, 384]
def k0_off62 (k0_t17 : Fin k0_t17_loop.trips) : Fin 2 → Nat :=
  let c0_i32_603 : BitVec 32 := 0#32
  let c0_i32_322 : BitVec 32 := 0#32
  let c1_i32_324 : BitVec 32 := 1#32
  let arg20 : BitVec 32 := Scf.iv c0_i32_322 c1_i32_324 k0_t17
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v732 : Index := Scalar.indexCast v551
  let c0_677 : Index := 0#32
  ![v732.toNat, 0]
def k0_off63 (k0_t17 : Fin k0_t17_loop.trips) : Fin 3 → Nat :=
  let c0_i32_674 : BitVec 32 := 0#32
  let c0_i32_603 : BitVec 32 := 0#32
  let c0_i32_322 : BitVec 32 := 0#32
  let c1_i32_324 : BitVec 32 := 1#32
  let arg20 : BitVec 32 := Scf.iv c0_i32_322 c1_i32_324 k0_t17
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v732 : Index := Scalar.indexCast v551
  let c0_i32_676 : BitVec 32 := 0#32
  ![0, v732.toNat, 0]
@[reducible] def k0_t18_loop : Scf.Loop 32 :=
  let c0_i32_361 : BitVec 32 := 0#32
  let c64_i32_362 : BitVec 32 := 64#32
  let v334 : BitVec 32 := Scalar.addi c0_i32_361 c64_i32_362
  let c1_i32_363 : BitVec 32 := 1#32
  ⟨c0_i32_361, v334, c1_i32_363⟩
def k0_mult18 (k0_t18 : Fin k0_t18_loop.trips) : BitVec 32 :=
  let c0_i32_603 : BitVec 32 := 0#32
  let c0_i32_361 : BitVec 32 := 0#32
  let c1_i32_363 : BitVec 32 := 1#32
  let arg20 : BitVec 32 := Scf.iv c0_i32_361 c1_i32_363 k0_t18
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  v550
def k0_off64 (k0_t18 : Fin k0_t18_loop.trips) : Fin 2 → Nat :=
  let c0_i32_603 : BitVec 32 := 0#32
  let c0_i32_361 : BitVec 32 := 0#32
  let c1_i32_363 : BitVec 32 := 1#32
  let arg20 : BitVec 32 := Scf.iv c0_i32_361 c1_i32_363 k0_t18
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v565 : Index := Scalar.indexCast v551
  let c0_610 : Index := 0#32
  ![v565.toNat, 0]
def k0_off65 (k0_t18 : Fin k0_t18_loop.trips) : Fin 3 → Nat :=
  let c1_i32_615 : BitVec 32 := 1#32
  let c0_i32_603 : BitVec 32 := 0#32
  let c0_i32_361 : BitVec 32 := 0#32
  let c1_i32_363 : BitVec 32 := 1#32
  let arg20 : BitVec 32 := Scf.iv c0_i32_361 c1_i32_363 k0_t18
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v580 : Index := Scalar.indexCast v551
  let c0_i32_617 : BitVec 32 := 0#32
  ![1, v580.toNat, 0]
def k0_off66 (k0_t18 : Fin k0_t18_loop.trips) : Fin 2 → Nat :=
  let c0_i32_603 : BitVec 32 := 0#32
  let c0_i32_361 : BitVec 32 := 0#32
  let c1_i32_363 : BitVec 32 := 1#32
  let arg20 : BitVec 32 := Scf.iv c0_i32_361 c1_i32_363 k0_t18
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v590 : Index := Scalar.indexCast v551
  let c128_622 : Index := 128#32
  ![v590.toNat, 128]
def k0_off67 (k0_t18 : Fin k0_t18_loop.trips) : Fin 3 → Nat :=
  let c1_i32_627 : BitVec 32 := 1#32
  let c0_i32_603 : BitVec 32 := 0#32
  let c0_i32_361 : BitVec 32 := 0#32
  let c1_i32_363 : BitVec 32 := 1#32
  let arg20 : BitVec 32 := Scf.iv c0_i32_361 c1_i32_363 k0_t18
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v605 : Index := Scalar.indexCast v551
  ![1, v605.toNat, 128]
def k0_off68 (k0_t18 : Fin k0_t18_loop.trips) : Fin 2 → Nat :=
  let c0_i32_603 : BitVec 32 := 0#32
  let c0_i32_361 : BitVec 32 := 0#32
  let c1_i32_363 : BitVec 32 := 1#32
  let arg20 : BitVec 32 := Scf.iv c0_i32_361 c1_i32_363 k0_t18
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v615 : Index := Scalar.indexCast v551
  let c256_634 : Index := 256#32
  ![v615.toNat, 256]
def k0_off69 (k0_t18 : Fin k0_t18_loop.trips) : Fin 3 → Nat :=
  let c1_i32_639 : BitVec 32 := 1#32
  let c0_i32_603 : BitVec 32 := 0#32
  let c0_i32_361 : BitVec 32 := 0#32
  let c1_i32_363 : BitVec 32 := 1#32
  let arg20 : BitVec 32 := Scf.iv c0_i32_361 c1_i32_363 k0_t18
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v630 : Index := Scalar.indexCast v551
  ![1, v630.toNat, 256]
def k0_off70 (k0_t18 : Fin k0_t18_loop.trips) : Fin 2 → Nat :=
  let c0_i32_603 : BitVec 32 := 0#32
  let c0_i32_361 : BitVec 32 := 0#32
  let c1_i32_363 : BitVec 32 := 1#32
  let arg20 : BitVec 32 := Scf.iv c0_i32_361 c1_i32_363 k0_t18
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v640 : Index := Scalar.indexCast v551
  let c384_646 : Index := 384#32
  ![v640.toNat, 384]
def k0_off71 (k0_t18 : Fin k0_t18_loop.trips) : Fin 3 → Nat :=
  let c1_i32_651 : BitVec 32 := 1#32
  let c0_i32_603 : BitVec 32 := 0#32
  let c0_i32_361 : BitVec 32 := 0#32
  let c1_i32_363 : BitVec 32 := 1#32
  let arg20 : BitVec 32 := Scf.iv c0_i32_361 c1_i32_363 k0_t18
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v655 : Index := Scalar.indexCast v551
  ![1, v655.toNat, 384]
def k0_off72 (k0_t18 : Fin k0_t18_loop.trips) : Fin 2 → Nat :=
  let c0_i32_603 : BitVec 32 := 0#32
  let c0_i32_361 : BitVec 32 := 0#32
  let c1_i32_363 : BitVec 32 := 1#32
  let arg20 : BitVec 32 := Scf.iv c0_i32_361 c1_i32_363 k0_t18
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v732 : Index := Scalar.indexCast v551
  let c0_677 : Index := 0#32
  ![v732.toNat, 0]
def k0_off73 (k0_t18 : Fin k0_t18_loop.trips) : Fin 3 → Nat :=
  let c1_i32_674 : BitVec 32 := 1#32
  let c0_i32_603 : BitVec 32 := 0#32
  let c0_i32_361 : BitVec 32 := 0#32
  let c1_i32_363 : BitVec 32 := 1#32
  let arg20 : BitVec 32 := Scf.iv c0_i32_361 c1_i32_363 k0_t18
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v732 : Index := Scalar.indexCast v551
  let c0_i32_676 : BitVec 32 := 0#32
  ![1, v732.toNat, 0]
@[reducible] def k0_t19_loop : Scf.Loop 32 :=
  let c0_i32_399 : BitVec 32 := 0#32
  let c64_i32_400 : BitVec 32 := 64#32
  let v368 : BitVec 32 := Scalar.addi c0_i32_399 c64_i32_400
  let c1_i32_401 : BitVec 32 := 1#32
  ⟨c0_i32_399, v368, c1_i32_401⟩
def k0_mult19 (k0_t19 : Fin k0_t19_loop.trips) : BitVec 32 :=
  let c0_i32_603 : BitVec 32 := 0#32
  let c0_i32_399 : BitVec 32 := 0#32
  let c1_i32_401 : BitVec 32 := 1#32
  let arg20 : BitVec 32 := Scf.iv c0_i32_399 c1_i32_401 k0_t19
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  v550
def k0_off74 (k0_t19 : Fin k0_t19_loop.trips) : Fin 2 → Nat :=
  let c0_i32_603 : BitVec 32 := 0#32
  let c0_i32_399 : BitVec 32 := 0#32
  let c1_i32_401 : BitVec 32 := 1#32
  let arg20 : BitVec 32 := Scf.iv c0_i32_399 c1_i32_401 k0_t19
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v565 : Index := Scalar.indexCast v551
  let c0_610 : Index := 0#32
  ![v565.toNat, 0]
def k0_off75 (k0_t19 : Fin k0_t19_loop.trips) : Fin 3 → Nat :=
  let c0_i32_615 : BitVec 32 := 0#32
  let c0_i32_603 : BitVec 32 := 0#32
  let c0_i32_399 : BitVec 32 := 0#32
  let c1_i32_401 : BitVec 32 := 1#32
  let arg20 : BitVec 32 := Scf.iv c0_i32_399 c1_i32_401 k0_t19
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v580 : Index := Scalar.indexCast v551
  let c0_i32_617 : BitVec 32 := 0#32
  ![0, v580.toNat, 0]
def k0_off76 (k0_t19 : Fin k0_t19_loop.trips) : Fin 2 → Nat :=
  let c0_i32_603 : BitVec 32 := 0#32
  let c0_i32_399 : BitVec 32 := 0#32
  let c1_i32_401 : BitVec 32 := 1#32
  let arg20 : BitVec 32 := Scf.iv c0_i32_399 c1_i32_401 k0_t19
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v590 : Index := Scalar.indexCast v551
  let c128_622 : Index := 128#32
  ![v590.toNat, 128]
def k0_off77 (k0_t19 : Fin k0_t19_loop.trips) : Fin 3 → Nat :=
  let c0_i32_627 : BitVec 32 := 0#32
  let c0_i32_603 : BitVec 32 := 0#32
  let c0_i32_399 : BitVec 32 := 0#32
  let c1_i32_401 : BitVec 32 := 1#32
  let arg20 : BitVec 32 := Scf.iv c0_i32_399 c1_i32_401 k0_t19
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v605 : Index := Scalar.indexCast v551
  ![0, v605.toNat, 128]
def k0_off78 (k0_t19 : Fin k0_t19_loop.trips) : Fin 2 → Nat :=
  let c0_i32_603 : BitVec 32 := 0#32
  let c0_i32_399 : BitVec 32 := 0#32
  let c1_i32_401 : BitVec 32 := 1#32
  let arg20 : BitVec 32 := Scf.iv c0_i32_399 c1_i32_401 k0_t19
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v615 : Index := Scalar.indexCast v551
  let c256_634 : Index := 256#32
  ![v615.toNat, 256]
def k0_off79 (k0_t19 : Fin k0_t19_loop.trips) : Fin 3 → Nat :=
  let c0_i32_639 : BitVec 32 := 0#32
  let c0_i32_603 : BitVec 32 := 0#32
  let c0_i32_399 : BitVec 32 := 0#32
  let c1_i32_401 : BitVec 32 := 1#32
  let arg20 : BitVec 32 := Scf.iv c0_i32_399 c1_i32_401 k0_t19
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v630 : Index := Scalar.indexCast v551
  ![0, v630.toNat, 256]
def k0_off80 (k0_t19 : Fin k0_t19_loop.trips) : Fin 2 → Nat :=
  let c0_i32_603 : BitVec 32 := 0#32
  let c0_i32_399 : BitVec 32 := 0#32
  let c1_i32_401 : BitVec 32 := 1#32
  let arg20 : BitVec 32 := Scf.iv c0_i32_399 c1_i32_401 k0_t19
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v640 : Index := Scalar.indexCast v551
  let c384_646 : Index := 384#32
  ![v640.toNat, 384]
def k0_off81 (k0_t19 : Fin k0_t19_loop.trips) : Fin 3 → Nat :=
  let c0_i32_651 : BitVec 32 := 0#32
  let c0_i32_603 : BitVec 32 := 0#32
  let c0_i32_399 : BitVec 32 := 0#32
  let c1_i32_401 : BitVec 32 := 1#32
  let arg20 : BitVec 32 := Scf.iv c0_i32_399 c1_i32_401 k0_t19
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v655 : Index := Scalar.indexCast v551
  ![0, v655.toNat, 384]
def k0_off82 (k0_t19 : Fin k0_t19_loop.trips) : Fin 2 → Nat :=
  let c0_i32_603 : BitVec 32 := 0#32
  let c0_i32_399 : BitVec 32 := 0#32
  let c1_i32_401 : BitVec 32 := 1#32
  let arg20 : BitVec 32 := Scf.iv c0_i32_399 c1_i32_401 k0_t19
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v732 : Index := Scalar.indexCast v551
  let c0_677 : Index := 0#32
  ![v732.toNat, 0]
def k0_off83 (k0_t19 : Fin k0_t19_loop.trips) : Fin 3 → Nat :=
  let c0_i32_674 : BitVec 32 := 0#32
  let c0_i32_603 : BitVec 32 := 0#32
  let c0_i32_399 : BitVec 32 := 0#32
  let c1_i32_401 : BitVec 32 := 1#32
  let arg20 : BitVec 32 := Scf.iv c0_i32_399 c1_i32_401 k0_t19
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v732 : Index := Scalar.indexCast v551
  let c0_i32_676 : BitVec 32 := 0#32
  ![0, v732.toNat, 0]
@[reducible] def k0_t20_loop : Scf.Loop 32 :=
  let c0_i32_437 : BitVec 32 := 0#32
  let c64_i32_438 : BitVec 32 := 64#32
  let v402 : BitVec 32 := Scalar.addi c0_i32_437 c64_i32_438
  let c1_i32_439 : BitVec 32 := 1#32
  ⟨c0_i32_437, v402, c1_i32_439⟩
def k0_mult20 (k0_t20 : Fin k0_t20_loop.trips) : BitVec 32 :=
  let c0_i32_603 : BitVec 32 := 0#32
  let c0_i32_437 : BitVec 32 := 0#32
  let c1_i32_439 : BitVec 32 := 1#32
  let arg20 : BitVec 32 := Scf.iv c0_i32_437 c1_i32_439 k0_t20
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  v550
def k0_off84 (k0_t20 : Fin k0_t20_loop.trips) : Fin 2 → Nat :=
  let c0_i32_603 : BitVec 32 := 0#32
  let c0_i32_437 : BitVec 32 := 0#32
  let c1_i32_439 : BitVec 32 := 1#32
  let arg20 : BitVec 32 := Scf.iv c0_i32_437 c1_i32_439 k0_t20
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v565 : Index := Scalar.indexCast v551
  let c0_610 : Index := 0#32
  ![v565.toNat, 0]
def k0_off85 (k0_t20 : Fin k0_t20_loop.trips) : Fin 3 → Nat :=
  let c1_i32_615 : BitVec 32 := 1#32
  let c0_i32_603 : BitVec 32 := 0#32
  let c0_i32_437 : BitVec 32 := 0#32
  let c1_i32_439 : BitVec 32 := 1#32
  let arg20 : BitVec 32 := Scf.iv c0_i32_437 c1_i32_439 k0_t20
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v580 : Index := Scalar.indexCast v551
  let c0_i32_617 : BitVec 32 := 0#32
  ![1, v580.toNat, 0]
def k0_off86 (k0_t20 : Fin k0_t20_loop.trips) : Fin 2 → Nat :=
  let c0_i32_603 : BitVec 32 := 0#32
  let c0_i32_437 : BitVec 32 := 0#32
  let c1_i32_439 : BitVec 32 := 1#32
  let arg20 : BitVec 32 := Scf.iv c0_i32_437 c1_i32_439 k0_t20
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v590 : Index := Scalar.indexCast v551
  let c128_622 : Index := 128#32
  ![v590.toNat, 128]
def k0_off87 (k0_t20 : Fin k0_t20_loop.trips) : Fin 3 → Nat :=
  let c1_i32_627 : BitVec 32 := 1#32
  let c0_i32_603 : BitVec 32 := 0#32
  let c0_i32_437 : BitVec 32 := 0#32
  let c1_i32_439 : BitVec 32 := 1#32
  let arg20 : BitVec 32 := Scf.iv c0_i32_437 c1_i32_439 k0_t20
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v605 : Index := Scalar.indexCast v551
  ![1, v605.toNat, 128]
def k0_off88 (k0_t20 : Fin k0_t20_loop.trips) : Fin 2 → Nat :=
  let c0_i32_603 : BitVec 32 := 0#32
  let c0_i32_437 : BitVec 32 := 0#32
  let c1_i32_439 : BitVec 32 := 1#32
  let arg20 : BitVec 32 := Scf.iv c0_i32_437 c1_i32_439 k0_t20
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v615 : Index := Scalar.indexCast v551
  let c256_634 : Index := 256#32
  ![v615.toNat, 256]
def k0_off89 (k0_t20 : Fin k0_t20_loop.trips) : Fin 3 → Nat :=
  let c1_i32_639 : BitVec 32 := 1#32
  let c0_i32_603 : BitVec 32 := 0#32
  let c0_i32_437 : BitVec 32 := 0#32
  let c1_i32_439 : BitVec 32 := 1#32
  let arg20 : BitVec 32 := Scf.iv c0_i32_437 c1_i32_439 k0_t20
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v630 : Index := Scalar.indexCast v551
  ![1, v630.toNat, 256]
def k0_off90 (k0_t20 : Fin k0_t20_loop.trips) : Fin 2 → Nat :=
  let c0_i32_603 : BitVec 32 := 0#32
  let c0_i32_437 : BitVec 32 := 0#32
  let c1_i32_439 : BitVec 32 := 1#32
  let arg20 : BitVec 32 := Scf.iv c0_i32_437 c1_i32_439 k0_t20
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v640 : Index := Scalar.indexCast v551
  let c384_646 : Index := 384#32
  ![v640.toNat, 384]
def k0_off91 (k0_t20 : Fin k0_t20_loop.trips) : Fin 3 → Nat :=
  let c1_i32_651 : BitVec 32 := 1#32
  let c0_i32_603 : BitVec 32 := 0#32
  let c0_i32_437 : BitVec 32 := 0#32
  let c1_i32_439 : BitVec 32 := 1#32
  let arg20 : BitVec 32 := Scf.iv c0_i32_437 c1_i32_439 k0_t20
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v655 : Index := Scalar.indexCast v551
  ![1, v655.toNat, 384]
def k0_off92 (k0_t20 : Fin k0_t20_loop.trips) : Fin 2 → Nat :=
  let c0_i32_603 : BitVec 32 := 0#32
  let c0_i32_437 : BitVec 32 := 0#32
  let c1_i32_439 : BitVec 32 := 1#32
  let arg20 : BitVec 32 := Scf.iv c0_i32_437 c1_i32_439 k0_t20
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v732 : Index := Scalar.indexCast v551
  let c0_677 : Index := 0#32
  ![v732.toNat, 0]
def k0_off93 (k0_t20 : Fin k0_t20_loop.trips) : Fin 3 → Nat :=
  let c1_i32_674 : BitVec 32 := 1#32
  let c0_i32_603 : BitVec 32 := 0#32
  let c0_i32_437 : BitVec 32 := 0#32
  let c1_i32_439 : BitVec 32 := 1#32
  let arg20 : BitVec 32 := Scf.iv c0_i32_437 c1_i32_439 k0_t20
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v732 : Index := Scalar.indexCast v551
  let c0_i32_676 : BitVec 32 := 0#32
  ![1, v732.toNat, 0]
@[reducible] def k0_t21_loop : Scf.Loop 32 :=
  let c0_i32_475 : BitVec 32 := 0#32
  let c64_i32_476 : BitVec 32 := 64#32
  let v436 : BitVec 32 := Scalar.addi c0_i32_475 c64_i32_476
  let c1_i32_477 : BitVec 32 := 1#32
  ⟨c0_i32_475, v436, c1_i32_477⟩
def k0_mult21 (k0_t21 : Fin k0_t21_loop.trips) : BitVec 32 :=
  let c0_i32_603 : BitVec 32 := 0#32
  let c0_i32_475 : BitVec 32 := 0#32
  let c1_i32_477 : BitVec 32 := 1#32
  let arg20 : BitVec 32 := Scf.iv c0_i32_475 c1_i32_477 k0_t21
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  v550
def k0_off94 (k0_t21 : Fin k0_t21_loop.trips) : Fin 2 → Nat :=
  let c0_i32_603 : BitVec 32 := 0#32
  let c0_i32_475 : BitVec 32 := 0#32
  let c1_i32_477 : BitVec 32 := 1#32
  let arg20 : BitVec 32 := Scf.iv c0_i32_475 c1_i32_477 k0_t21
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v565 : Index := Scalar.indexCast v551
  let c0_610 : Index := 0#32
  ![v565.toNat, 0]
def k0_off95 (k0_t21 : Fin k0_t21_loop.trips) : Fin 3 → Nat :=
  let c0_i32_615 : BitVec 32 := 0#32
  let c0_i32_603 : BitVec 32 := 0#32
  let c0_i32_475 : BitVec 32 := 0#32
  let c1_i32_477 : BitVec 32 := 1#32
  let arg20 : BitVec 32 := Scf.iv c0_i32_475 c1_i32_477 k0_t21
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v580 : Index := Scalar.indexCast v551
  let c0_i32_617 : BitVec 32 := 0#32
  ![0, v580.toNat, 0]
def k0_off96 (k0_t21 : Fin k0_t21_loop.trips) : Fin 2 → Nat :=
  let c0_i32_603 : BitVec 32 := 0#32
  let c0_i32_475 : BitVec 32 := 0#32
  let c1_i32_477 : BitVec 32 := 1#32
  let arg20 : BitVec 32 := Scf.iv c0_i32_475 c1_i32_477 k0_t21
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v590 : Index := Scalar.indexCast v551
  let c128_622 : Index := 128#32
  ![v590.toNat, 128]
def k0_off97 (k0_t21 : Fin k0_t21_loop.trips) : Fin 3 → Nat :=
  let c0_i32_627 : BitVec 32 := 0#32
  let c0_i32_603 : BitVec 32 := 0#32
  let c0_i32_475 : BitVec 32 := 0#32
  let c1_i32_477 : BitVec 32 := 1#32
  let arg20 : BitVec 32 := Scf.iv c0_i32_475 c1_i32_477 k0_t21
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v605 : Index := Scalar.indexCast v551
  ![0, v605.toNat, 128]
def k0_off98 (k0_t21 : Fin k0_t21_loop.trips) : Fin 2 → Nat :=
  let c0_i32_603 : BitVec 32 := 0#32
  let c0_i32_475 : BitVec 32 := 0#32
  let c1_i32_477 : BitVec 32 := 1#32
  let arg20 : BitVec 32 := Scf.iv c0_i32_475 c1_i32_477 k0_t21
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v615 : Index := Scalar.indexCast v551
  let c256_634 : Index := 256#32
  ![v615.toNat, 256]
def k0_off99 (k0_t21 : Fin k0_t21_loop.trips) : Fin 3 → Nat :=
  let c0_i32_639 : BitVec 32 := 0#32
  let c0_i32_603 : BitVec 32 := 0#32
  let c0_i32_475 : BitVec 32 := 0#32
  let c1_i32_477 : BitVec 32 := 1#32
  let arg20 : BitVec 32 := Scf.iv c0_i32_475 c1_i32_477 k0_t21
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v630 : Index := Scalar.indexCast v551
  ![0, v630.toNat, 256]
def k0_off100 (k0_t21 : Fin k0_t21_loop.trips) : Fin 2 → Nat :=
  let c0_i32_603 : BitVec 32 := 0#32
  let c0_i32_475 : BitVec 32 := 0#32
  let c1_i32_477 : BitVec 32 := 1#32
  let arg20 : BitVec 32 := Scf.iv c0_i32_475 c1_i32_477 k0_t21
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v640 : Index := Scalar.indexCast v551
  let c384_646 : Index := 384#32
  ![v640.toNat, 384]
def k0_off101 (k0_t21 : Fin k0_t21_loop.trips) : Fin 3 → Nat :=
  let c0_i32_651 : BitVec 32 := 0#32
  let c0_i32_603 : BitVec 32 := 0#32
  let c0_i32_475 : BitVec 32 := 0#32
  let c1_i32_477 : BitVec 32 := 1#32
  let arg20 : BitVec 32 := Scf.iv c0_i32_475 c1_i32_477 k0_t21
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v655 : Index := Scalar.indexCast v551
  ![0, v655.toNat, 384]
def k0_off102 (k0_t21 : Fin k0_t21_loop.trips) : Fin 2 → Nat :=
  let c0_i32_603 : BitVec 32 := 0#32
  let c0_i32_475 : BitVec 32 := 0#32
  let c1_i32_477 : BitVec 32 := 1#32
  let arg20 : BitVec 32 := Scf.iv c0_i32_475 c1_i32_477 k0_t21
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v732 : Index := Scalar.indexCast v551
  let c0_677 : Index := 0#32
  ![v732.toNat, 0]
def k0_off103 (k0_t21 : Fin k0_t21_loop.trips) : Fin 3 → Nat :=
  let c0_i32_674 : BitVec 32 := 0#32
  let c0_i32_603 : BitVec 32 := 0#32
  let c0_i32_475 : BitVec 32 := 0#32
  let c1_i32_477 : BitVec 32 := 1#32
  let arg20 : BitVec 32 := Scf.iv c0_i32_475 c1_i32_477 k0_t21
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v732 : Index := Scalar.indexCast v551
  let c0_i32_676 : BitVec 32 := 0#32
  ![0, v732.toNat, 0]
@[reducible] def k0_t22_loop : Scf.Loop 32 :=
  let c0_i32_514 : BitVec 32 := 0#32
  let c64_i32_515 : BitVec 32 := 64#32
  let v470 : BitVec 32 := Scalar.addi c0_i32_514 c64_i32_515
  let c1_i32_516 : BitVec 32 := 1#32
  ⟨c0_i32_514, v470, c1_i32_516⟩
def k0_mult22 (k0_t22 : Fin k0_t22_loop.trips) : BitVec 32 :=
  let c0_i32_603 : BitVec 32 := 0#32
  let c0_i32_514 : BitVec 32 := 0#32
  let c1_i32_516 : BitVec 32 := 1#32
  let arg20 : BitVec 32 := Scf.iv c0_i32_514 c1_i32_516 k0_t22
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  v550
def k0_off104 (k0_t22 : Fin k0_t22_loop.trips) : Fin 2 → Nat :=
  let c0_i32_603 : BitVec 32 := 0#32
  let c0_i32_514 : BitVec 32 := 0#32
  let c1_i32_516 : BitVec 32 := 1#32
  let arg20 : BitVec 32 := Scf.iv c0_i32_514 c1_i32_516 k0_t22
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v565 : Index := Scalar.indexCast v551
  let c0_610 : Index := 0#32
  ![v565.toNat, 0]
def k0_off105 (k0_t22 : Fin k0_t22_loop.trips) : Fin 3 → Nat :=
  let c1_i32_615 : BitVec 32 := 1#32
  let c0_i32_603 : BitVec 32 := 0#32
  let c0_i32_514 : BitVec 32 := 0#32
  let c1_i32_516 : BitVec 32 := 1#32
  let arg20 : BitVec 32 := Scf.iv c0_i32_514 c1_i32_516 k0_t22
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v580 : Index := Scalar.indexCast v551
  let c0_i32_617 : BitVec 32 := 0#32
  ![1, v580.toNat, 0]
def k0_off106 (k0_t22 : Fin k0_t22_loop.trips) : Fin 2 → Nat :=
  let c0_i32_603 : BitVec 32 := 0#32
  let c0_i32_514 : BitVec 32 := 0#32
  let c1_i32_516 : BitVec 32 := 1#32
  let arg20 : BitVec 32 := Scf.iv c0_i32_514 c1_i32_516 k0_t22
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v590 : Index := Scalar.indexCast v551
  let c128_622 : Index := 128#32
  ![v590.toNat, 128]
def k0_off107 (k0_t22 : Fin k0_t22_loop.trips) : Fin 3 → Nat :=
  let c1_i32_627 : BitVec 32 := 1#32
  let c0_i32_603 : BitVec 32 := 0#32
  let c0_i32_514 : BitVec 32 := 0#32
  let c1_i32_516 : BitVec 32 := 1#32
  let arg20 : BitVec 32 := Scf.iv c0_i32_514 c1_i32_516 k0_t22
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v605 : Index := Scalar.indexCast v551
  ![1, v605.toNat, 128]
def k0_off108 (k0_t22 : Fin k0_t22_loop.trips) : Fin 2 → Nat :=
  let c0_i32_603 : BitVec 32 := 0#32
  let c0_i32_514 : BitVec 32 := 0#32
  let c1_i32_516 : BitVec 32 := 1#32
  let arg20 : BitVec 32 := Scf.iv c0_i32_514 c1_i32_516 k0_t22
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v615 : Index := Scalar.indexCast v551
  let c256_634 : Index := 256#32
  ![v615.toNat, 256]
def k0_off109 (k0_t22 : Fin k0_t22_loop.trips) : Fin 3 → Nat :=
  let c1_i32_639 : BitVec 32 := 1#32
  let c0_i32_603 : BitVec 32 := 0#32
  let c0_i32_514 : BitVec 32 := 0#32
  let c1_i32_516 : BitVec 32 := 1#32
  let arg20 : BitVec 32 := Scf.iv c0_i32_514 c1_i32_516 k0_t22
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v630 : Index := Scalar.indexCast v551
  ![1, v630.toNat, 256]
def k0_off110 (k0_t22 : Fin k0_t22_loop.trips) : Fin 2 → Nat :=
  let c0_i32_603 : BitVec 32 := 0#32
  let c0_i32_514 : BitVec 32 := 0#32
  let c1_i32_516 : BitVec 32 := 1#32
  let arg20 : BitVec 32 := Scf.iv c0_i32_514 c1_i32_516 k0_t22
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v640 : Index := Scalar.indexCast v551
  let c384_646 : Index := 384#32
  ![v640.toNat, 384]
def k0_off111 (k0_t22 : Fin k0_t22_loop.trips) : Fin 3 → Nat :=
  let c1_i32_651 : BitVec 32 := 1#32
  let c0_i32_603 : BitVec 32 := 0#32
  let c0_i32_514 : BitVec 32 := 0#32
  let c1_i32_516 : BitVec 32 := 1#32
  let arg20 : BitVec 32 := Scf.iv c0_i32_514 c1_i32_516 k0_t22
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v655 : Index := Scalar.indexCast v551
  ![1, v655.toNat, 384]
def k0_off112 (k0_t22 : Fin k0_t22_loop.trips) : Fin 2 → Nat :=
  let c0_i32_603 : BitVec 32 := 0#32
  let c0_i32_514 : BitVec 32 := 0#32
  let c1_i32_516 : BitVec 32 := 1#32
  let arg20 : BitVec 32 := Scf.iv c0_i32_514 c1_i32_516 k0_t22
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v732 : Index := Scalar.indexCast v551
  let c0_677 : Index := 0#32
  ![v732.toNat, 0]
def k0_off113 (k0_t22 : Fin k0_t22_loop.trips) : Fin 3 → Nat :=
  let c1_i32_674 : BitVec 32 := 1#32
  let c0_i32_603 : BitVec 32 := 0#32
  let c0_i32_514 : BitVec 32 := 0#32
  let c1_i32_516 : BitVec 32 := 1#32
  let arg20 : BitVec 32 := Scf.iv c0_i32_514 c1_i32_516 k0_t22
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v732 : Index := Scalar.indexCast v551
  let c0_i32_676 : BitVec 32 := 0#32
  ![1, v732.toNat, 0]
@[reducible] def k0_t23_loop : Scf.Loop 32 :=
  let c0_i32_552 : BitVec 32 := 0#32
  let c64_i32_553 : BitVec 32 := 64#32
  let v504 : BitVec 32 := Scalar.addi c0_i32_552 c64_i32_553
  let c1_i32_554 : BitVec 32 := 1#32
  ⟨c0_i32_552, v504, c1_i32_554⟩
def k0_mult23 (k0_t23 : Fin k0_t23_loop.trips) : BitVec 32 :=
  let c0_i32_603 : BitVec 32 := 0#32
  let c0_i32_552 : BitVec 32 := 0#32
  let c1_i32_554 : BitVec 32 := 1#32
  let arg20 : BitVec 32 := Scf.iv c0_i32_552 c1_i32_554 k0_t23
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  v550
def k0_off114 (k0_t23 : Fin k0_t23_loop.trips) : Fin 2 → Nat :=
  let c0_i32_603 : BitVec 32 := 0#32
  let c0_i32_552 : BitVec 32 := 0#32
  let c1_i32_554 : BitVec 32 := 1#32
  let arg20 : BitVec 32 := Scf.iv c0_i32_552 c1_i32_554 k0_t23
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v565 : Index := Scalar.indexCast v551
  let c0_610 : Index := 0#32
  ![v565.toNat, 0]
def k0_off115 (k0_t23 : Fin k0_t23_loop.trips) : Fin 3 → Nat :=
  let c0_i32_615 : BitVec 32 := 0#32
  let c0_i32_603 : BitVec 32 := 0#32
  let c0_i32_552 : BitVec 32 := 0#32
  let c1_i32_554 : BitVec 32 := 1#32
  let arg20 : BitVec 32 := Scf.iv c0_i32_552 c1_i32_554 k0_t23
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v580 : Index := Scalar.indexCast v551
  let c0_i32_617 : BitVec 32 := 0#32
  ![0, v580.toNat, 0]
def k0_off116 (k0_t23 : Fin k0_t23_loop.trips) : Fin 2 → Nat :=
  let c0_i32_603 : BitVec 32 := 0#32
  let c0_i32_552 : BitVec 32 := 0#32
  let c1_i32_554 : BitVec 32 := 1#32
  let arg20 : BitVec 32 := Scf.iv c0_i32_552 c1_i32_554 k0_t23
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v590 : Index := Scalar.indexCast v551
  let c128_622 : Index := 128#32
  ![v590.toNat, 128]
def k0_off117 (k0_t23 : Fin k0_t23_loop.trips) : Fin 3 → Nat :=
  let c0_i32_627 : BitVec 32 := 0#32
  let c0_i32_603 : BitVec 32 := 0#32
  let c0_i32_552 : BitVec 32 := 0#32
  let c1_i32_554 : BitVec 32 := 1#32
  let arg20 : BitVec 32 := Scf.iv c0_i32_552 c1_i32_554 k0_t23
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v605 : Index := Scalar.indexCast v551
  ![0, v605.toNat, 128]
def k0_off118 (k0_t23 : Fin k0_t23_loop.trips) : Fin 2 → Nat :=
  let c0_i32_603 : BitVec 32 := 0#32
  let c0_i32_552 : BitVec 32 := 0#32
  let c1_i32_554 : BitVec 32 := 1#32
  let arg20 : BitVec 32 := Scf.iv c0_i32_552 c1_i32_554 k0_t23
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v615 : Index := Scalar.indexCast v551
  let c256_634 : Index := 256#32
  ![v615.toNat, 256]
def k0_off119 (k0_t23 : Fin k0_t23_loop.trips) : Fin 3 → Nat :=
  let c0_i32_639 : BitVec 32 := 0#32
  let c0_i32_603 : BitVec 32 := 0#32
  let c0_i32_552 : BitVec 32 := 0#32
  let c1_i32_554 : BitVec 32 := 1#32
  let arg20 : BitVec 32 := Scf.iv c0_i32_552 c1_i32_554 k0_t23
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v630 : Index := Scalar.indexCast v551
  ![0, v630.toNat, 256]
def k0_off120 (k0_t23 : Fin k0_t23_loop.trips) : Fin 2 → Nat :=
  let c0_i32_603 : BitVec 32 := 0#32
  let c0_i32_552 : BitVec 32 := 0#32
  let c1_i32_554 : BitVec 32 := 1#32
  let arg20 : BitVec 32 := Scf.iv c0_i32_552 c1_i32_554 k0_t23
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v640 : Index := Scalar.indexCast v551
  let c384_646 : Index := 384#32
  ![v640.toNat, 384]
def k0_off121 (k0_t23 : Fin k0_t23_loop.trips) : Fin 3 → Nat :=
  let c0_i32_651 : BitVec 32 := 0#32
  let c0_i32_603 : BitVec 32 := 0#32
  let c0_i32_552 : BitVec 32 := 0#32
  let c1_i32_554 : BitVec 32 := 1#32
  let arg20 : BitVec 32 := Scf.iv c0_i32_552 c1_i32_554 k0_t23
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v655 : Index := Scalar.indexCast v551
  ![0, v655.toNat, 384]
def k0_off122 (k0_t23 : Fin k0_t23_loop.trips) : Fin 2 → Nat :=
  let c0_i32_603 : BitVec 32 := 0#32
  let c0_i32_552 : BitVec 32 := 0#32
  let c1_i32_554 : BitVec 32 := 1#32
  let arg20 : BitVec 32 := Scf.iv c0_i32_552 c1_i32_554 k0_t23
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v732 : Index := Scalar.indexCast v551
  let c0_677 : Index := 0#32
  ![v732.toNat, 0]
def k0_off123 (k0_t23 : Fin k0_t23_loop.trips) : Fin 3 → Nat :=
  let c0_i32_674 : BitVec 32 := 0#32
  let c0_i32_603 : BitVec 32 := 0#32
  let c0_i32_552 : BitVec 32 := 0#32
  let c1_i32_554 : BitVec 32 := 1#32
  let arg20 : BitVec 32 := Scf.iv c0_i32_552 c1_i32_554 k0_t23
  let c1_i32_602 : BitVec 32 := 1#32
  let v548 : BitVec 32 := Scalar.muli arg20 c1_i32_602
  let v549 : BitVec 32 := Scalar.addi c0_i32_603 v548
  let c32_i32 : BitVec 32 := 32#32
  let v550 : BitVec 32 := Scalar.muli v549 c32_i32
  let v551 : BitVec 32 := v550
  let v732 : Index := Scalar.indexCast v551
  let c0_i32_676 : BitVec 32 := 0#32
  ![0, v732.toNat, 0]
abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F]
-- ==== ReferenceIdeal.lean ====
abbrev S2x256x2048 : Shape := ⟨3, ![2, 256, 2048]⟩
abbrev S2048x5632 : Shape := ⟨2, ![2048, 5632]⟩
abbrev S_ : Shape := ⟨0, ![]⟩
abbrev S2x256 : Shape := ⟨2, ![2, 256]⟩
abbrev S2x256x1 : Shape := ⟨3, ![2, 256, 1]⟩
abbrev S2048x1408 : Shape := ⟨2, ![2048, 1408]⟩
abbrev S2048x1408x4 : Shape := ⟨3, ![2048, 1408, 4]⟩
abbrev S2048x1408x1 : Shape := ⟨3, ![2048, 1408, 1]⟩
abbrev S2x256x5632 : Shape := ⟨3, ![2, 256, 5632]⟩

abbrev nBuf : Space → Nat
  | .hbm => 56
  | .vmem => 6
  | .smem => 0
  | _ => 0

abbrev bufTy : (tb : Table) → Fin (tcTables nBuf tb) → BufTy
  | .hbm, ⟨0, _⟩ => ⟨S2x256x2048, .bf16⟩
  | .hbm, ⟨1, _⟩ => ⟨S2048x5632, .bf16⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S2048x5632, .f32⟩
  | .hbm, ⟨11, _⟩ => ⟨S_, .i32⟩
  | .hbm, ⟨12, _⟩ => ⟨S_, .i32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S2x256x2048, .f32⟩
  | .hbm, ⟨20, _⟩ => ⟨S2x256x2048, .f32⟩
  | .hbm, ⟨21, _⟩ => ⟨S_, .f32⟩
  | .hbm, ⟨22, _⟩ => ⟨S2x256, .f32⟩
  | .hbm, ⟨23, _⟩ => ⟨S_, .f32⟩
  | .hbm, ⟨24, _⟩ => ⟨S2x256, .f32⟩
  | .hbm, ⟨25, _⟩ => ⟨S2x256, .i1⟩
  | .hbm, ⟨26, _⟩ => ⟨S_, .f32⟩
  | .hbm, ⟨27, _⟩ => ⟨S2x256, .f32⟩
  | .hbm, ⟨28, _⟩ => ⟨S2x256, .f32⟩
  | .hbm, ⟨29, _⟩ => ⟨S_, .f32⟩
  | .hbm, ⟨30, _⟩ => ⟨S_, .f32⟩
  | .hbm, ⟨31, _⟩ => ⟨S2x256, .f32⟩
  | .hbm, ⟨32, _⟩ => ⟨S2x256, .f32⟩
  | .hbm, ⟨33, _⟩ => ⟨S2x256x1, .f32⟩
  | .hbm, ⟨34, _⟩ => ⟨S2x256x2048, .f32⟩
  | .hbm, ⟨35, _⟩ => ⟨S2x256x2048, .f32⟩
  | .hbm, ⟨36, _⟩ => ⟨S2x256x2048, .f32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S2x256x2048, .f32⟩
  | .hbm, ⟨41, _⟩ => ⟨S2x256x2048, .f32⟩
  | .hbm, ⟨42, _⟩ => ⟨S_, .f32⟩
  | .hbm, ⟨43, _⟩ => ⟨S2x256x2048, .f32⟩
  | .hbm, ⟨44, _⟩ => ⟨S2x256x2048, .f32⟩
  | .hbm, ⟨45, _⟩ => ⟨S2x256x2048, .i8⟩
  | .hbm, ⟨46, _⟩ => ⟨S2x256x2048, .bf16⟩
  | .hbm, ⟨47, _⟩ => ⟨S2048x5632, .bf16⟩
  | .hbm, ⟨48, _⟩ => ⟨S2048x1408, .i8⟩
  | .hbm, ⟨49, _⟩ => ⟨S2x256x5632, .f32⟩
  | .hbm, ⟨50, _⟩ => ⟨S2x256x1, .f32⟩
  | .hbm, ⟨51, _⟩ => ⟨S2x256x5632, .f32⟩
  | .hbm, ⟨52, _⟩ => ⟨S2x256x5632, .f32⟩
  | .hbm, ⟨53, _⟩ => ⟨S2x256x5632, .f32⟩
  | .hbm, ⟨54, _⟩ => ⟨S2x256x5632, .f32⟩
  | .hbm, ⟨55, _⟩ => ⟨S2x256x5632, .bf16⟩
  | .local _ .vmem, ⟨0, _⟩ => ⟨S2x256x2048, .f32⟩
  | .local _ .vmem, ⟨1, _⟩ => ⟨S2048x5632, .f32⟩
  | .local _ .vmem, ⟨2, _⟩ => ⟨S2x256x2048, .i8⟩
  | .local _ .vmem, ⟨3, _⟩ => ⟨S2x256x2048, .bf16⟩
  | .local _ .vmem, ⟨4, _⟩ => ⟨S2048x5632, .bf16⟩
  | .local _ .vmem, ⟨5, _⟩ => ⟨S2048x1408, .i8⟩
  | _, _ => ⟨S2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_1 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_call2_v0 : Ref sig .tc := ⟨.hbm, 30, rfl⟩
abbrev main_call2_v1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_6 : Ref sig .tc := ⟨.hbm, 37, rfl⟩
abbrev main_c_7 : Ref sig .tc := ⟨.hbm, 38, rfl⟩
abbrev main_call4_v0 : Ref sig .tc := ⟨.hbm, 39, rfl⟩
abbrev main_call4_v1 : Ref sig .tc := ⟨.hbm, 40, rfl⟩
abbrev main_call4_v2 : Ref sig .tc := ⟨.hbm, 41, rfl⟩
abbrev main_call4_v3 : Ref sig .tc := ⟨.hbm, 42, rfl⟩
abbrev main_call4_v4 : Ref sig .tc := ⟨.hbm, 43, rfl⟩
abbrev main_v20 : Ref sig .tc := ⟨.hbm, 44, rfl⟩
abbrev main_v21_0 : Ref sig .tc := ⟨.hbm, 45, rfl⟩
abbrev main_v21_1 : Ref sig .tc := ⟨.hbm, 46, rfl⟩
abbrev main_v21_2 : Ref sig .tc := ⟨.hbm, 47, rfl⟩
abbrev main_v21_3 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1408 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Flat.lean ====
module

public import proofs.«01_k».proof.Proof.Gen.Kernel.Skeleton
public import Idealize.ShloMosaic.Lib.Tactic.OpenCalls

@[expose] public section

noncomputable section

namespace Cert.Kernel.Body

open Idealize.ShloMosaic Idealize.SL.Sem Cert.Kernel

variable {F : FTy → Type} [BitOps F]

set_option maxHeartbeats 4000000
set_option maxRecDepth 16384
set_option open_calls.check false

open_calls flat := cc0_bitlinear [k0_part45, k0_part46, k0_part47, k0_part48, k0_part49, k0_part50, k0_part51, k0_part52,
  k0_part53, k0_part54, k0_part55, k0_part56, k0_part57, k0_part58, k0_part59, k0_part60, k0_part61, k0_part62, k0_part63,
  k0_part64, k0_part65]

end Cert.Kernel.Body

end
-- ==== Proof.Kernel.Prog.lean ====
/- The body of the kernel written once more, block by block: the steps that the printed program repeats for every
   column block (start a copy of a weight block, sum a block, quantise a block, multiply a block, write a block out)
   are stated once, at the block's index, and the body is their sequence (`prog`). `Flat.lean`'s flattened body IS this
   sequence, by unfolding (`flat_eq`). -/
module

public import proofs.«01_k».proof.Proof.Kernel.Flat
public import proofs.«01_k».proof.Proof.Gen.Kernel.Points

@[expose] public section

noncomputable section

namespace Cert.Kernel.Body

open Idealize.ShloMosaic Idealize.ShloMosaic.TcCoe Idealize.SL.Sem Cert.Kernel Cert.Kernel.Gen

variable {F : FTy → Type} [BitOps F]

/-- Programs of the body, ending in nothing. -/
abbrev PU (F : FTy → Type) [BitOps F] := Prog (TpuEff nD τ sig (Elt F) Λ₀ .tc) PUnit

/-! ## Buffers -/

abbrev xH : Memref sig .tc .hbm S512x2048 .bf16 := Memref.whole main_v0
abbrev wH : Memref sig .tc .hbm S2048x5632 .bf16 := Memref.whole main_arg1
abbrev yH : Memref sig .tc .hbm S512x5632 .bf16 := Memref.whole main_v1_0
abbrev pH : Memref sig .tc .hbm S2048x1408 .i8 := Memref.whole main_v1_1
abbrev cH : Memref sig .tc .hbm S512x2048 .i8 := Memref.whole main_v1_3
abbrev gS : Memref sig .tc .smem S1x1 .f32 := Memref.whole cc0_stg0_0
abbrev sV : Memref sig .tc .vmem S2x256 .f32 := Memref.whole cc0_stg1_0
abbrev xV : Memref sig .tc .vmem S512x2048 .bf16 := Memref.whole cc0_scratch0
abbrev wV : Memref sig .tc .vmem S11x2048x512 .bf16 := Memref.whole cc0_scratch1
abbrev cbV : Memref sig .tc .vmem S512x2048 .bf16 := Memref.whole cc0_scratch2
abbrev ciV : Memref sig .tc .vmem S512x2048 .i8 := Memref.whole cc0_scratch3
abbrev srV : Memref sig .tc .vmem S512x128 .f32 := Memref.whole cc0_scratch4
abbrev tV : Memref sig .tc .vmem S2x2048x512 .bf16 := Memref.whole cc0_scratch5
abbrev yV : Memref sig .tc .vmem S2x512x512 .bf16 := Memref.whole cc0_scratch6
abbrev pV : Memref sig .tc .vmem S2x2048x128 .i8 := Memref.whole cc0_scratch7

theorem wCol_inb : ∀ j : Fin 11, ∀ a, (![0, 512 * j.val] : Fin 2 → Nat) a + S2048x512.size a ≤ S2048x5632.size a := by decide
theorem wSlot_inb : ∀ j : Fin 11, ∀ a, (![j.val, 0, 0] : Fin 3 → Nat) a + S1x2048x512.size a ≤ S11x2048x512.size a := by decide
theorem wSem_inb : ∀ j : Fin 11, ∀ a, (![j.val] : Fin 1 → Nat) a + S1.size a ≤ S11.size a := by decide
theorem yCol_inb : ∀ j : Fin 11, ∀ a, (![0, 512 * j.val] : Fin 2 → Nat) a + S512x512.size a ≤ S512x5632.size a := by decide
theorem pCol_inb : ∀ j : Fin 11, ∀ a, (![0, 128 * j.val] : Fin 2 → Nat) a + S2048x128.size a ≤ S2048x1408.size a := by decide
theorem tSlot_inb : ∀ b : Fin 2, ∀ a, (![b.val, 0, 0] : Fin 3 → Nat) a + S1x2048x512.size a ≤ S2x2048x512.size a := by decide
theorem ySlot_inb : ∀ b : Fin 2, ∀ a, (![b.val, 0, 0] : Fin 3 → Nat) a + S1x512x512.size a ≤ S2x512x512.size a := by decide
theorem pSlot_inb : ∀ b : Fin 2, ∀ a, (![b.val, 0, 0] : Fin 3 → Nat) a + S1x2048x128.size a ≤ S2x2048x128.size a := by decide
theorem sem2_inb : ∀ b : Fin 2, ∀ a, (![b.val] : Fin 1 → Nat) a + S1.size a ≤ S2.size a := by decide

/-- Column block `j` of the weights, and the slot of the staging buffer it is copied to. -/
abbrev wCol (j : Fin 11) : Memref sig .tc .hbm S2048x512 .bf16 :=
  wH.slice (Rect.unit (s := S2048x5632) ![0, 512 * j.val] S2048x512.size (wCol_inb j)) (fun _ => rfl)
abbrev wSlot (j : Fin 11) : Memref sig .tc .vmem S2048x512 .bf16 :=
  (wV.slice (Rect.unit (s := S11x2048x512) ![j.val, 0, 0] S1x2048x512.size (wSlot_inb j)) (fun _ => rfl)).squeeze S2048x512 squeezes_S1x2048x512_S2048x512
abbrev wSem (j : Fin 11) : DmaSem sig := ((cc0_scratch9.slice (Rect.unit (s := S11) ![j.val] S1.size (wSem_inb j))).squeeze S_ squeezes_S1_S_).sem
/-- Column block `j` of the product and of the packed weights, and the slots they leave from. -/
abbrev yCol (j : Fin 11) : Memref sig .tc .hbm S512x512 .bf16 :=
  yH.slice (Rect.unit (s := S512x5632) ![0, 512 * j.val] S512x512.size (yCol_inb j)) (fun _ => rfl)
abbrev pCol (j : Fin 11) : Memref sig .tc .hbm S2048x128 .i8 :=
  pH.slice (Rect.unit (s := S2048x1408) ![0, 128 * j.val] S2048x128.size (pCol_inb j)) (fun _ => rfl)
abbrev tSlot (b : Fin 2) : Memref sig .tc .vmem S2048x512 .bf16 :=
  (tV.slice (Rect.unit (s := S2x2048x512) ![b.val, 0, 0] S1x2048x512.size (tSlot_inb b)) (fun _ => rfl)).squeeze S2048x512 squeezes_S1x2048x512_S2048x512
abbrev ySlot (b : Fin 2) : Memref sig .tc .vmem S512x512 .bf16 :=
  (yV.slice (Rect.unit (s := S2x512x512) ![b.val, 0, 0] S1x512x512.size (ySlot_inb b)) (fun _ => rfl)).squeeze S512x512 squeezes_S1x512x512_S512x512
abbrev pSlot (b : Fin 2) : Memref sig .tc .vmem S2048x128 .i8 :=
  (pV.slice (Rect.unit (s := S2x2048x128) ![b.val, 0, 0] S1x2048x128.size (pSlot_inb b)) (fun _ => rfl)).squeeze S2048x128 squeezes_S1x2048x128_S2048x128
abbrev ySem (b : Fin 2) : DmaSem sig := ((cc0_scratch11.slice (Rect.unit (s := S2) ![b.val] S1.size (sem2_inb b))).squeeze S_ squeezes_S1_S_).sem
abbrev pSem (b : Fin 2) : DmaSem sig := ((cc0_scratch12.slice (Rect.unit (s := S2) ![b.val] S1.size (sem2_inb b))).squeeze S_ squeezes_S1_S_).sem

theorem wCol_words : ∀ j : Fin 11, (Rect.unit (s := S2048x5632) ![0, 512 * j.val] S2048x512.size (wCol_inb j)).WholeWords (EltTy.packing .bf16) := by decide
theorem wSlot_words : ∀ j : Fin 11, (Rect.unit (s := S11x2048x512) ![j.val, 0, 0] S1x2048x512.size (wSlot_inb j)).WholeWords (EltTy.packing .bf16) := by decide
theorem yCol_words : ∀ j : Fin 11, (Rect.unit (s := S512x5632) ![0, 512 * j.val] S512x512.size (yCol_inb j)).WholeWords (EltTy.packing .bf16) := by decide
theorem pCol_words : ∀ j : Fin 11, (Rect.unit (s := S2048x1408) ![0, 128 * j.val] S2048x128.size (pCol_inb j)).WholeWords (EltTy.packing .i8) := by decide
theorem ySlot_words : ∀ b : Fin 2, (Rect.unit (s := S2x512x512) ![b.val, 0, 0] S1x512x512.size (ySlot_inb b)).WholeWords (EltTy.packing .bf16) := by decide
theorem pSlot_words : ∀ b : Fin 2, (Rect.unit (s := S2x2048x128) ![b.val, 0, 0] S1x2048x128.size (pSlot_inb b)).WholeWords (EltTy.packing .i8) := by decide
theorem ySlot_packed : ∀ b : Fin 2, (Rect.unit (s := S2x512x512) ![b.val, 0, 0] S1x512x512.size (ySlot_inb b)).PackedRows (EltTy.packing .bf16) := by decide

theorem wCol_exact (j : Fin 11) : (wCol j).view.WordExact := (Memref.isWhole_whole main_arg1).wordExact_slice rfl _ (wCol_words j)
theorem wSlot_exact (j : Fin 11) : (wSlot j).view.WordExact := ((Memref.isWhole_whole cc0_scratch1).wordExact_slice rfl _ (wSlot_words j)).reshape _ _
theorem yCol_exact (j : Fin 11) : (yCol j).view.WordExact := (Memref.isWhole_whole main_v1_0).wordExact_slice rfl _ (yCol_words j)
theorem pCol_exact (j : Fin 11) : (pCol j).view.WordExact := (Memref.isWhole_whole main_v1_1).wordExact_slice rfl _ (pCol_words j)
theorem ySlot_exact (b : Fin 2) : (ySlot b).view.WordExact := ((Memref.isWhole_whole cc0_scratch6).wordExact_slice rfl _ (ySlot_words b)).reshape _ _
theorem pSlot_exact (b : Fin 2) : (pSlot b).view.WordExact := ((Memref.isWhole_whole cc0_scratch7).wordExact_slice rfl _ (pSlot_words b)).reshape _ _

/-! ## Values -/

/-- The threshold of the ternary rounding, from the mean: half of it, in `bf16`, in every lane. -/
def thetaOf (g : F .f32) : FVec F S32x128 .bf16 :=
  truncf .bf16 (bitcastToFloat .f32 (andi (bitcastToInt (broadcast S32x128 (Scalar.mulf (Scalar.ofBits .f32 0x3F000000#32) g) : FVec F S32x128 .f32)) (broadcast S32x128 4294901760#32) : IVec S32x128 32) : FVec F S32x128 .f32) bitsLt_bf16_f32

/-- The mean, from the sum over the 11 blocks kept as 32 x 512 partial sums. -/
def gammaOf (a : FVec F S32x512 .f32) : F .f32 :=
  Scalar.divf (extractAt ![0, 0, 0] (shapeCast S1x1x1 (multiReduction .add [1, 2] S1 (shapeCast S1x32x512 a shapeCasts_S32x512_S1x32x512)
    0x00000000#32 reduces_S1x32x512_S1 (.inl rfl) rfl : FVec F S1 .f32) shapeCasts_S1_S1x1x1) inpos_S1x1x1_p0_0_0) (Scalar.ofBits .f32 0x4B300000#32)

/-- One step of the sum: 32 rows of a block. -/
def absAcc (a : FVec F S32x512 .f32) (v : Vec F S1x32x512 .bf16) : FVec F S32x512 .f32 :=
  addf a (absf (extf .f32 (shapeCast S32x512 v shapeCasts_S1x32x512_S32x512 : FVec F S32x512 .bf16) bitsLt_bf16_f32))

def acc0 : FVec F S32x512 .f32 := broadcast S32x512 (Scalar.ofBits .f32 0x00000000#32)

/-- The scales of 32 rows, as a column. -/
def qScale (v : Vec F S32x2048 .bf16) : FVec F S32x1 .f32 :=
  let v557 : FVec F S32x1 .f32 := shapeCast S32x1 (multiReduction .maximumf [1] S32 (absf (extf .f32 v bitsLt_bf16_f32)) 0xFF800000#32 reduces_S32x2048_S32 (.inl rfl) rfl : FVec F S32 .f32) shapeCasts_S32_S32x1
  select (cmpf .oeq v557 (broadcast S32x1 (Scalar.ofBits .f32 0x00000000#32))) (broadcast S32x1 (Scalar.ofBits .f32 0x3F800000#32))
    (divf v557 (broadcast S32x1 (Scalar.ofBits .f32 0x42FE0000#32)))

/-- The codes of 32 rows, as floats. -/
def qCode (v : Vec F S32x2048 .bf16) : FVec F S32x2048 .f32 :=
  minimumf (broadcast S32x2048 (Scalar.sitofp .f32 127#32))
    (maximumf (broadcast S32x2048 (Scalar.sitofp .f32 (-127#32 : BitVec 32)))
      (roundeven (divf (extf .f32 v bitsLt_bf16_f32) (broadcastTo S32x2048 (qScale v) broadcasts_S32x1_S32x2048))))
def qCodeB (v : Vec F S32x2048 .bf16) : FVec F S32x2048 .bf16 :=
  shapeCast S32x2048 (truncf .bf16 (qCode v) bitsLt_bf16_f32 : FVec F S32x2048 .bf16) shapeCasts_S32x2048_S32x2048
def qCodeI (v : Vec F S32x2048 .bf16) : IVec S32x2048 8 := shapeCast S32x2048 (fptosi 8 (qCode v) : IVec S32x2048 8) shapeCasts_S32x2048_S32x2048
def qScaleB (v : Vec F S32x2048 .bf16) : FVec F S32x128 .f32 :=
  shapeCast S32x128 (broadcastTo S32x128 (shapeCast S32x1 (qScale v) shapeCasts_S32x1_S32x1 : FVec F S32x1 .f32) broadcasts_S32x1_S32x128) shapeCasts_S32x128_S32x128

/-- 128 scales kept one per row, turned into a row: the diagonal's column sums. -/
def diagRow (v : Vec F S128x128 .f32) : FVec F S1x128 .f32 :=
  shapeCast S1x128 (multiReduction .add [0] S128 (select (cmpi .eq (iota .tc S128x128 32 [0] iota_S128x128_d0_w32) (iota .tc S128x128 32 [1] iota_S128x128_d1_w32)) v
    (broadcast S128x128 (Scalar.ofBits .f32 0x00000000#32)) : FVec F S128x128 .f32) 0x00000000#32 reduces_S128x128_S128 (.inl rfl) rfl : FVec F S128 .f32) shapeCasts_S128_S1x128

/-- The two comparisons of the ternary rounding. -/
def isPos (θ w : FVec F S32x128 .bf16) : IVec S32x128 1 := cmpf .ogt w θ
def isNeg (θ w : FVec F S32x128 .bf16) : IVec S32x128 1 := cmpf .olt w (subf (broadcast S32x128 (Scalar.ofBits .bf16 0x0000#16)) θ)
/-- The ternary value of 32 x 128 weights. -/
def tern (θ w : FVec F S32x128 .bf16) : FVec F S32x128 .bf16 :=
  select (isPos θ w) (broadcast S32x128 (Scalar.truncf .bf16 bitsLt_bf16_f32 (Scalar.ofBits .f32 0x3F800000#32)))
    (truncf .bf16 (select (isNeg θ w) (broadcast S32x128 (Scalar.ofBits .f32 0xBF800000#32)) (broadcast S32x128 (Scalar.ofBits .f32 0x00000000#32)) : FVec F S32x128 .f32) bitsLt_bf16_f32)
def ternS (θ w : FVec F S32x128 .bf16) : Vec F S1x32x128 .bf16 :=
  shapeCast S1x32x128 (shapeCast S32x128 (tern θ w) shapeCasts_S32x128_S32x128 : FVec F S32x128 .bf16) shapeCasts_S32x128_S1x32x128
/-- One in each lane's two-bit field of its byte. -/
def oneBit : IVec S32x128 16 :=
  trunci 16 (shli (broadcast S32x128 1#32) (muli (broadcast S32x128 2#32) (andi (iota .tc S32x128 32 [1] iota_S32x128_d1_w32) (broadcast S32x128 3#32)))) natLt_16_32
/-- The ternary digit plus one of 32 x 128 weights, each in its lane's two-bit field, four rows to a word. -/
def fieldOf (θ w : FVec F S32x128 .bf16) : IVec S8x128 32 :=
  bitcast S8x128 32 (trunci 8 (select (isPos θ w) (addi oneBit oneBit) (select (isNeg θ w) (broadcast S32x128 0#16) oneBit)) natLt_8_16 : IVec S32x128 8) bitcasts_S32x128_w8_S8x128_w32
/-- The lane numbers. -/
def laneI : IVec S8x128 32 := iota .tc S8x128 32 [1] iota_S8x128_d1_w32
/-- The lanes moved by the index vector `ix`. -/
def gatherBy (v ix : IVec S8x128 32) : IVec S8x128 32 :=
  dynamicGather 1 v (shapeCast S8x128 (shapeCast S8x128x1 (select (cmpi .slt ix (broadcast S8x128 0#32)) (addi ix (broadcast S8x128 128#32)) ix)
    shapeCasts_S8x128_S8x128x1 : IVec S8x128x1 32) shapeCasts_S8x128x1_S8x128)
/-- One step of the merge of two fields whose lanes differ in the bit `d`. -/
def merge (d : BitVec 32) (a b : IVec S8x128 32) : IVec S8x128 32 :=
  let e : IVec S8x128 1 := cmpi .eq (andi laneI (broadcast S8x128 d)) (broadcast S8x128 0#32)
  ori (select e a b) (gatherBy (select e b a) (xori laneI (broadcast S8x128 d)))
/-- The packed bytes of 32 rows. -/
def packOf (f0 f1 f2 f3 : IVec S8x128 32) : IVec S32x128 8 :=
  bitcast S32x128 8 (gatherBy (merge 2#32 (merge 1#32 f0 f1) (merge 1#32 f2 f3))
    (ori (shli (andi laneI (broadcast S8x128 31#32)) (broadcast S8x128 2#32)) (shrsi laneI (broadcast S8x128 5#32)))) bitcasts_S8x128_w32_S32x128_w8
def packS (θ w0 w1 w2 w3 : FVec F S32x128 .bf16) : Vec F S1x32x128 .i8 :=
  shapeCast S1x32x128 (shapeCast S32x128 (packOf (fieldOf θ w0) (fieldOf θ w1) (fieldOf θ w2) (fieldOf θ w3)) shapeCasts_S32x128_S32x128 : IVec S32x128 8) shapeCasts_S32x128_S1x32x128

/-- The product of a block: codes times ternary weights, scaled. -/
def yOf (g : F .f32) (cb : Vec F S512x2048 .bf16) (tb : Vec F S1x2048x512 .bf16) (s : Vec F S512x1 .f32) : FVec F S512x512 .bf16 :=
  truncf .bf16 (mulf (mulf (matmul dot_S512x2048_S2048x512_S512x512_1_0_0_1_n_n none cb (shapeCast S2048x512 tb shapeCasts_S1x2048x512_S2048x512 : FVec F S2048x512 .bf16) (constant S512x512 .f32 0x00000000#32))
    (broadcastTo S512x512 s broadcasts_S512x1_S512x512)) (broadcast S512x512 g) : FVec F S512x512 .f32) bitsLt_bf16_f32
def yS (g : F .f32) (cb : Vec F S512x2048 .bf16) (tb : Vec F S1x2048x512 .bf16) (s : Vec F S512x1 .f32) : Vec F S1x512x512 .bf16 :=
  shapeCast S1x512x512 (yOf g cb tb s) shapeCasts_S512x512_S1x512x512

/-! ## Steps -/

def startX (κ : PU F) : PU F :=
  Prog.lift (.enqueueDma xH (.here xV) (.dma cc0_scratch8.sem) (Memref.isWhole_whole _).wordExact (Memref.isWhole_whole _).wordExact ⟨Or.inl rfl, trivial⟩) >>= fun _ => κ
def waitX (κ : PU F) : PU F :=
  Prog.lift (.waitDma2 cc0_scratch8.sem xH xV (Memref.isWhole_whole _).wordExact (Memref.isWhole_whole _).wordExact) >>= fun _ => κ
def startC (κ : PU F) : PU F :=
  Prog.lift (.enqueueDma ciV (.here cH) (.dma cc0_scratch10.sem) (Memref.isWhole_whole _).wordExact (Memref.isWhole_whole _).wordExact ⟨Or.inl rfl, trivial⟩) >>= fun _ => κ
def waitC (κ : PU F) : PU F :=
  Prog.lift (.waitDma2 cc0_scratch10.sem ciV cH (Memref.isWhole_whole _).wordExact (Memref.isWhole_whole _).wordExact) >>= fun _ => κ
def startW (j : Fin 11) (κ : PU F) : PU F :=
  Prog.lift (.enqueueDma (wCol j) (.here (wSlot j)) (.dma (wSem j)) (wCol_exact j) (wSlot_exact j) ⟨Or.inl rfl, trivial⟩) >>= fun _ => κ
def waitW (j : Fin 11) (κ : PU F) : PU F :=
  Prog.lift (.waitDma2 (wSem j) (wCol j) (wSlot j) (wCol_exact j) (wSlot_exact j)) >>= fun _ => κ
def startP (j : Fin 11) (b : Fin 2) (κ : PU F) : PU F :=
  Prog.lift (.enqueueDma (pSlot b) (.here (pCol j)) (.dma (pSem b)) (pSlot_exact b) (pCol_exact j) ⟨Or.inl rfl, trivial⟩) >>= fun _ => κ
def waitP (j : Fin 11) (b : Fin 2) (κ : PU F) : PU F :=
  Prog.lift (.waitDma2 (pSem b) (pSlot b) (pCol j) (pSlot_exact b) (pCol_exact j)) >>= fun _ => κ
def startY (j : Fin 11) (b : Fin 2) (κ : PU F) : PU F :=
  Prog.lift (.enqueueDma (ySlot b) (.here (yCol j)) (.dma (ySem b)) (ySlot_exact b) (yCol_exact j) ⟨Or.inl rfl, trivial⟩) >>= fun _ => κ
def waitY (j : Fin 11) (b : Fin 2) (κ : PU F) : PU F :=
  Prog.lift (.waitDma2 (ySem b) (ySlot b) (yCol j) (ySlot_exact b) (yCol_exact j)) >>= fun _ => κ

/-- The rows of trip `t` of the quantising loop. -/
theorem q_inb : ∀ t : Fin k0_t1_loop.trips, ∀ a, (![32 * t.val, 0] : Fin 2 → Nat) a + S32x2048.size a ≤ S512x2048.size a := by decide +kernel

/-- One trip of the quantising loop. -/
def quantTrip (t : Fin k0_t1_loop.trips) : PU F :=
  Prog.lift (.load xV (Rect.unit (s := S512x2048) (k0_off1 t) S32x2048.size (k0_off1_inb t)).toLoadRect (View.loadsAt_vmem h_S32x2048)) >>= fun v =>
  Prog.lift (.load cbV (Rect.unit (s := S512x2048) (k0_off1 t) S32x2048.size (k0_off1_inb t)).toLoadRect (View.loadsAt_vmem h_S32x2048)) >>= fun _ =>
  Prog.lift (.store cbV (Rect.unit (s := S512x2048) (k0_off1 t) S32x2048.size (k0_off1_inb t)) (qCodeB v) Finset.univ (View.stores_vmem h_S32x2048 ((Memref.isWhole_whole _).storeExact_slice rfl _ (k0_off1_packedbf16 t)) (fun _ => rfl)) (.inl rfl)) >>= fun _ =>
  Prog.lift (.load ciV (Rect.unit (s := S512x2048) (k0_off1 t) S32x2048.size (k0_off1_inb t)).toLoadRect (View.loadsAt_vmem h_S32x2048)) >>= fun _ =>
  Prog.lift (.store ciV (Rect.unit (s := S512x2048) (k0_off1 t) S32x2048.size (k0_off1_inb t)) (qCodeI v) Finset.univ (View.stores_vmem h_S32x2048 ((Memref.isWhole_whole _).storeExact_slice rfl _ (k0_off1_packedi8 t)) (fun _ => rfl)) (.inl rfl)) >>= fun _ =>
  Prog.lift (.load srV (Rect.unit (s := S512x128) (k0_off2 t) S32x128.size (k0_off2_inb t)).toLoadRect (View.loadsAt_vmem h_S32x128)) >>= fun _ =>
  Prog.lift (.store srV (Rect.unit (s := S512x128) (k0_off2 t) S32x128.size (k0_off2_inb t)) (qScaleB v) Finset.univ (View.stores_vmem_bits_univ h_S32x128 rfl) (.inl rfl)) >>= fun _ =>
  pure ⟨⟩

theorem sr_inb : ∀ k : Fin 4, ∀ a, (![128 * k.val, 0] : Fin 2 → Nat) a + S128x128.size a ≤ S512x128.size a := by decide
theorem s_inb : ∀ k : Fin 4, ∀ a, (![k.val / 2, 128 * (k.val % 2)] : Fin 2 → Nat) a + S1x128.size a ≤ S2x256.size a := by decide
/-- 128 of the scales written out as a row. -/
def scaleStep (k : Fin 4) (κ : PU F) : PU F :=
  Prog.lift (.load srV (Rect.unit (s := S512x128) ![128 * k.val, 0] S128x128.size (sr_inb k)).toLoadRect (View.loadsAt_vmem h_S128x128)) >>= fun v =>
  Prog.lift (.load sV (Rect.unit (s := S2x256) ![k.val / 2, 128 * (k.val % 2)] S1x128.size (s_inb k)).toLoadRect (View.loadsAt_vmem h_S1x128)) >>= fun _ =>
  Prog.lift (.store sV (Rect.unit (s := S2x256) ![k.val / 2, 128 * (k.val % 2)] S1x128.size (s_inb k)) (diagRow v) Finset.univ (View.stores_vmem_bits_univ h_S1x128 rfl) (.inl rfl)) >>= fun _ => κ

/-- The row a trip of a 64-trip loop of 32 rows starts at, as the program computes it. -/
abbrev sRow (t : Fin k0_t2_loop.trips) : Nat := (Scalar.indexCast (Scalar.muli (Scf.iv 0#32 1#32 t : BitVec 32) 32#32)).toNat
abbrev qRow (t : Fin k0_t13_loop.trips) : Nat :=
  (Scalar.indexCast (Scalar.muli (Scalar.addi 0#32 (Scalar.muli (Scf.iv 0#32 1#32 t : BitVec 32) 1#32)) 32#32)).toNat
theorem sRow_eq : ∀ t : Fin k0_t2_loop.trips, sRow t = 32 * t.val := by decide +kernel
theorem qRow_eq : ∀ t : Fin k0_t13_loop.trips, qRow t = 32 * t.val := by decide +kernel
theorem trips2 : k0_t2_loop.trips = 64 := by decide +kernel
theorem trips13 : k0_t13_loop.trips = 64 := by decide +kernel

theorem sum_inb (j : Fin 11) (t : Fin k0_t2_loop.trips) : ∀ a, (![j.val, sRow t, 0] : Fin 3 → Nat) a + S1x32x512.size a ≤ S11x2048x512.size a := by
  have h := sRow_eq t
  have := t.isLt
  have := trips2
  have := j.isLt
  intro a
  match a with
  | 0 => show j.val + 1 ≤ 11; omega
  | 1 => show sRow t + 32 ≤ 2048; omega
  | 2 => show 0 + 512 ≤ 512; omega

/-- One trip of the sum over block `j`. -/
def sumTrip (j : Fin 11) (t : Fin k0_t2_loop.trips) (a : FVec F S32x512 .f32) : Prog (TpuEff nD τ sig (Elt F) Λ₀ .tc) (FVec F S32x512 .f32) :=
  Prog.lift (.load wV (Rect.unit (s := S11x2048x512) ![j.val, sRow t, 0] S1x32x512.size (sum_inb j t)).toLoadRect (View.loadsAt_vmem h_S1x32x512)) >>= fun v =>
  pure (absAcc a v)
/-- The sum over block `j`, once its copy has landed. -/
def sumBlock (j : Fin 11) (a : FVec F S32x512 .f32) (κ : FVec F S32x512 .f32 → PU F) : PU F :=
  waitW j (Scf.Loop.for k0_t2_loop k0_t2_ok a (sumTrip j) >>= κ)

/-- The mean stored. -/
def gammaStep (g : F .f32) (κ : PU F) : PU F :=
  smemLoad gS (Rect.unit (s := S1x1) ![0, 0] S1x1.size inb_S1x1_S1x1_0_0) numel1_S1x1 rfl >>= fun _ =>
  Prog.lift (.store gS (Rect.unit (s := S1x1) ![0, 0] S1x1.size inb_S1x1_S1x1_0_0) (fun _ => g) Finset.univ (View.stores_smem_one rfl numel1_S1x1) (.inl rfl)) >>= fun _ => κ

theorem tw_inb (c : Fin 4) (t : Fin k0_t13_loop.trips) : ∀ a, (![qRow t, 128 * c.val] : Fin 2 → Nat) a + S32x128.size a ≤ S2048x512.size a := by
  have h := qRow_eq t
  have := t.isLt
  have := trips13
  have := c.isLt
  intro a
  match a with
  | 0 => show qRow t + 32 ≤ 2048; omega
  | 1 => show 128 * c.val + 128 ≤ 512; omega
theorem tb_inb (b : Fin 2) (c : Fin 4) (t : Fin k0_t13_loop.trips) : ∀ a, (![b.val, qRow t, 128 * c.val] : Fin 3 → Nat) a + S1x32x128.size a ≤ S2x2048x512.size a := by
  have h := qRow_eq t
  have := t.isLt
  have := trips13
  have := c.isLt
  have := b.isLt
  intro a
  match a with
  | 0 => show b.val + 1 ≤ 2; omega
  | 1 => show qRow t + 32 ≤ 2048; omega
  | 2 => show 128 * c.val + 128 ≤ 512; omega
theorem tp_inb (t : Fin k0_t13_loop.trips) : ∀ a, (![qRow t, 0] : Fin 2 → Nat) a + S32x128.size a ≤ S2048x128.size a := by
  have h := qRow_eq t
  have := t.isLt
  have := trips13
  intro a
  match a with
  | 0 => show qRow t + 32 ≤ 2048; omega
  | 1 => show 0 + 128 ≤ 128; omega
theorem pb_inb (b : Fin 2) (t : Fin k0_t13_loop.trips) : ∀ a, (![b.val, qRow t, 0] : Fin 3 → Nat) a + S1x32x128.size a ≤ S2x2048x128.size a := by
  have h := qRow_eq t
  have := t.isLt
  have := trips13
  have := b.isLt
  intro a
  match a with
  | 0 => show b.val + 1 ≤ 2; omega
  | 1 => show qRow t + 32 ≤ 2048; omega
  | 2 => show 0 + 128 ≤ 128; omega
theorem tb_packed : ∀ (b : Fin 2) (c : Fin 4) (t : Fin k0_t13_loop.trips), (Rect.unit (s := S2x2048x512) ![b.val, qRow t, 128 * c.val] S1x32x128.size (tb_inb b c t)).PackedRows (EltTy.packing .bf16) := by decide +kernel
theorem pb_packed : ∀ (b : Fin 2) (t : Fin k0_t13_loop.trips), (Rect.unit (s := S2x2048x128) ![b.val, qRow t, 0] S1x32x128.size (pb_inb b t)).PackedRows (EltTy.packing .i8) := by decide +kernel

/-- 32 x 128 weights of block `j` rounded into slot `b`. -/
def ternStep (j : Fin 11) (b : Fin 2) (θ : FVec F S32x128 .bf16) (t : Fin k0_t13_loop.trips) (c : Fin 4) (κ : Vec F S32x128 .bf16 → PU F) : PU F :=
  Prog.lift (.load (wSlot j) (Rect.unit (s := S2048x512) ![qRow t, 128 * c.val] S32x128.size (tw_inb c t)).toLoadRect (View.loadsAt_vmem h_S32x128)) >>= fun w =>
  Prog.lift (.load (tSlot b) (Rect.unit (s := S2048x512) ![qRow t, 128 * c.val] S32x128.size (tw_inb c t)).toLoadRect (View.loadsAt_vmem h_S32x128)) >>= fun _ =>
  Prog.lift (.store tV (Rect.unit (s := S2x2048x512) ![b.val, qRow t, 128 * c.val] S1x32x128.size (tb_inb b c t)) (ternS θ w) Finset.univ (View.stores_vmem h_S1x32x128 ((Memref.isWhole_whole _).storeExact_slice rfl _ (tb_packed b c t)) (fun _ => rfl)) (.inl rfl)) >>= fun _ =>
  κ w
/-- One trip of the rounding of block `j`: 32 rows rounded, and packed. -/
def ternTrip (j : Fin 11) (b : Fin 2) (θ : FVec F S32x128 .bf16) (t : Fin k0_t13_loop.trips) : PU F :=
  ternStep j b θ t 0 fun w0 => ternStep j b θ t 1 fun w1 => ternStep j b θ t 2 fun w2 => ternStep j b θ t 3 fun w3 =>
  Prog.lift (.load (pSlot b) (Rect.unit (s := S2048x128) ![qRow t, 0] S32x128.size (tp_inb t)).toLoadRect (View.loadsAt_vmem h_S32x128)) >>= fun _ =>
  Prog.lift (.store pV (Rect.unit (s := S2x2048x128) ![b.val, qRow t, 0] S1x32x128.size (pb_inb b t)) (packS θ w0 w1 w2 w3) Finset.univ (View.stores_vmem h_S1x32x128 ((Memref.isWhole_whole _).storeExact_slice rfl _ (pb_packed b t)) (fun _ => rfl)) (.inl rfl)) >>= fun _ =>
  pure ⟨⟩
def ternLoop (j : Fin 11) (b : Fin 2) (θ : FVec F S32x128 .bf16) : PU F :=
  Scf.Loop.for k0_t13_loop k0_t13_ok ⟨⟩ fun t _ => ternTrip j b θ t

/-- The product of a block into slot `b`. -/
def mulStep (b : Fin 2) (g : F .f32) (κ : PU F) : PU F :=
  Prog.lift (.load cbV (Rect.unit (s := S512x2048) ![0, 0] S512x2048.size inb_S512x2048_S512x2048_0_0).toLoadRect (View.loadsAt_vmem h_S512x2048)) >>= fun cb =>
  Prog.lift (.load tV (Rect.unit (s := S2x2048x512) ![b.val, 0, 0] S1x2048x512.size (tSlot_inb b)).toLoadRect (View.loadsAt_vmem h_S1x2048x512)) >>= fun tb =>
  Prog.lift (.load srV (Rect.unit (s := S512x128) ![0, 0] S512x1.size inb_S512x128_S512x1_0_0).toLoadRect (View.loadsAt_vmem h_S512x1)) >>= fun s =>
  Prog.lift (.load yV (Rect.unit (s := S2x512x512) ![b.val, 0, 0] S1x512x512.size (ySlot_inb b)).toLoadRect (View.loadsAt_vmem h_S1x512x512)) >>= fun _ =>
  Prog.lift (.store yV (Rect.unit (s := S2x512x512) ![b.val, 0, 0] S1x512x512.size (ySlot_inb b)) (yS g cb tb s) Finset.univ (View.stores_vmem h_S1x512x512 ((Memref.isWhole_whole _).storeExact_slice rfl _ (ySlot_packed b)) (fun _ => rfl)) (.inl rfl)) >>= fun _ => κ

/-- One column block: round, start the packed copy, multiply, start the product's copy. -/
def outBlock (j : Fin 11) (b : Fin 2) (g : F .f32) (κ : PU F) : PU F :=
  ternLoop j b (thetaOf g) >>= fun _ => startP j b <| mulStep b g <| startY j b κ

/-- The body. -/
def prog : PU F :=
  startX <| startW 0 <| startW 1 <| startW 2 <| startW 3 <| startW 4 <| startW 5 <| startW 6 <| startW 7 <| startW 8 <| startW 9 <| startW 10 <|
  waitX <| (Scf.Loop.for k0_t1_loop k0_t1_ok ⟨⟩ fun t _ => quantTrip t) >>= fun _ => startC <|
  scaleStep 0 <| scaleStep 1 <| scaleStep 2 <| scaleStep 3 <|
  sumBlock 0 acc0 fun a0 => sumBlock 1 a0 fun a1 => sumBlock 2 a1 fun a2 => sumBlock 3 a2 fun a3 => sumBlock 4 a3 fun a4 => sumBlock 5 a4 fun a5 =>
  sumBlock 6 a5 fun a6 => sumBlock 7 a6 fun a7 => sumBlock 8 a7 fun a8 => sumBlock 9 a8 fun a9 => sumBlock 10 a9 fun a10 =>
  gammaStep (gammaOf a10) <|
  outBlock 0 0 (gammaOf a10) <|
  outBlock 1 1 (gammaOf a10) <| waitY 0 0 <| waitP 0 0 <|
  outBlock 2 0 (gammaOf a10) <| waitY 1 1 <| waitP 1 1 <|
  outBlock 3 1 (gammaOf a10) <| waitY 2 0 <| waitP 2 0 <|
  outBlock 4 0 (gammaOf a10) <| waitY 3 1 <| waitP 3 1 <|
  outBlock 5 1 (gammaOf a10) <| waitY 4 0 <| waitP 4 0 <|
  outBlock 6 0 (gammaOf a10) <| waitY 5 1 <| waitP 5 1 <|
  outBlock 7 1 (gammaOf a10) <| waitY 6 0 <| waitP 6 0 <|
  outBlock 8 0 (gammaOf a10) <| waitY 7 1 <| waitP 7 1 <|
  outBlock 9 1 (gammaOf a10) <| waitY 8 0 <| waitP 8 0 <|
  outBlock 10 0 (gammaOf a10) <| waitY 9 1 <| waitP 9 1 <|
  waitY 10 0 <| waitP 10 0 <| waitC <| pure ⟨⟩

end Cert.Kernel.Body

end
-- ==== Proof.Kernel.Vals.lean ====
/- What every buffer of the kernel holds, as functions of the two arguments: the staged weights, the codes and scales,
   the sum of the magnitudes, the ternary blocks, the packed bytes and the product. -/
module

public import proofs.«01_k».proof.Proof.Kernel.Prog
public import Idealize.ShloMosaic.Lib.ValueLayout

@[expose] public section

noncomputable section

namespace Cert.Kernel.Body

open Idealize.ShloMosaic Idealize.ShloMosaic.TcCoe Idealize.ShloMosaic.ValueIdx Idealize.SL.Sem Cert.Kernel Cert.Kernel.Gen

variable {F : FTy → Type} [BitOps F]

/-- The two arguments' types: the activations as 512 rows, and the weights. -/
abbrev XT (F : FTy → Type) [BitOps F] := S512x2048.Idx → F .bf16
abbrev WT (F : FTy → Type) [BitOps F] := S2048x5632.Idx → F .bf16

/-! ## The quantised activations -/

/-- Rows `32 t …` of the activations. -/
def xRows (X : XT F) (t : Fin 16) : Vec F S32x2048 .bf16 := fun i =>
  X (ix2 ⟨32 * t.val + (i 0).val, by have h : (i 0).val < 32 := (i 0).isLt; omega⟩ ⟨(i 1).val, (i 1).isLt⟩)
/-- A row's block of 32, and its place there. -/
def rb (i : Fin 512) : Fin 16 := ⟨i.val / 32, by omega⟩
def ri (i : Fin 512) : Fin 32 := ⟨i.val % 32, by omega⟩
/-- The codes, as floats and as integers, and the scales (each in 128 lanes). -/
def cbF (X : XT F) : S512x2048.Idx → F .bf16 := fun i => qCodeB (xRows X (rb (i 0))) (ix2 (ri (i 0)) (i 1))
def ciF (X : XT F) : S512x2048.Idx → BitVec 8 := fun i => qCodeI (xRows X (rb (i 0))) (ix2 (ri (i 0)) (i 1))
def srF (X : XT F) : S512x128.Idx → F .f32 := fun i => qScaleB (xRows X (rb (i 0))) (ix2 (ri (i 0)) (i 1))
/-- 128 rows of the scales; the scales, one a place. -/
def srBlk (X : XT F) (k : Fin 4) : Vec F S128x128 .f32 := fun i =>
  srF X (ix2 ⟨128 * k.val + (i 0).val, by have h : (i 0).val < 128 := (i 0).isLt; omega⟩ ⟨(i 1).val, (i 1).isLt⟩)
def scF (X : XT F) : S2x256.Idx → F .f32 := fun i =>
  diagRow (srBlk X ⟨2 * (i 0).val + (i 1).val / 128, by have h : (i 0).val < 2 := (i 0).isLt; have h' : (i 1).val < 256 := (i 1).isLt; omega⟩)
    (ix2 (0 : Fin 1) ⟨(i 1).val % 128, by omega⟩)
/-- The scales' column the product reads. -/
def sCol (X : XT F) : Vec F S512x1 .f32 := fun i => srF X (ix2 (i 0) ⟨0, by decide⟩)

/-! ## The mean -/

/-- What the staging buffer of the weights holds once every block has landed. -/
def wvF (W : WT F) : S11x2048x512.Idx → F .bf16 := fun i =>
  W (ix2 ⟨(i 1).val, (i 1).isLt⟩ ⟨512 * (i 0).val + (i 2).val, by have h : (i 0).val < 11 := (i 0).isLt; have h' : (i 2).val < 512 := (i 2).isLt; omega⟩)
/-- 32 rows of block `j`. -/
def wRows (W : WT F) (j : Fin 11) (t : Fin 64) : Vec F S1x32x512 .bf16 := fun i =>
  W (ix2 ⟨32 * t.val + (i 1).val, by have h : (i 1).val < 32 := (i 1).isLt; omega⟩
    ⟨512 * j.val + (i 2).val, by have h' : (i 2).val < 512 := (i 2).isLt; omega⟩)
/-- The sum after `n` steps over block `j`. -/
def accN (W : WT F) (j : Fin 11) (a : FVec F S32x512 .f32) : Nat → FVec F S32x512 .f32
  | 0 => a
  | n + 1 => if h : n < 64 then absAcc (accN W j a n) (wRows W j ⟨n, h⟩) else accN W j a n
/-- The sum after the first blocks. -/
def accB (W : WT F) : Nat → FVec F S32x512 .f32
  | 0 => acc0
  | n + 1 => if h : n < 11 then accN W ⟨n, h⟩ (accB W n) 64 else accB W n
/-- The mean. -/
def gF (W : WT F) : F .f32 := gammaOf (accB W 11)

/-! ## The ternary blocks, the packed bytes, the product -/

/-- 32 x 128 weights of block `j`. -/
def wChunk (W : WT F) (j : Fin 11) (t : Fin 64) (c : Fin 4) : Vec F S32x128 .bf16 := fun i =>
  W (ix2 ⟨32 * t.val + (i 0).val, by have h : (i 0).val < 32 := (i 0).isLt; omega⟩
    ⟨512 * j.val + 128 * c.val + (i 1).val, by have h' : (i 1).val < 128 := (i 1).isLt; omega⟩)
/-- The ternary values of block `j`. -/
def tbBlk (W : WT F) (j : Fin 11) : Vec F S1x2048x512 .bf16 := fun i =>
  tern (thetaOf (gF W)) (wChunk W j ⟨(i 1).val / 32, by have h : (i 1).val < 2048 := (i 1).isLt; omega⟩ ⟨(i 2).val / 128, by have h : (i 2).val < 512 := (i 2).isLt; omega⟩)
    (ix2 ⟨(i 1).val % 32, by omega⟩ ⟨(i 2).val % 128, by omega⟩)
def tbF (W : WT F) (j : Fin 11) : S2x2048x512.Idx → F .bf16 := fun i => tbBlk W j (ix3 (0 : Fin 1) (i 1) (i 2))
/-- The packed bytes of 32 rows of block `j`, and of the block. -/
def pkRows (W : WT F) (j : Fin 11) (t : Fin 64) : IVec S32x128 8 :=
  packOf (fieldOf (thetaOf (gF W)) (wChunk W j t 0)) (fieldOf (thetaOf (gF W)) (wChunk W j t 1)) (fieldOf (thetaOf (gF W)) (wChunk W j t 2)) (fieldOf (thetaOf (gF W)) (wChunk W j t 3))
def pkBlk (W : WT F) (j : Fin 11) : S2048x128.Idx → BitVec 8 := fun i =>
  pkRows W j ⟨(i 0).val / 32, by have h : (i 0).val < 2048 := (i 0).isLt; omega⟩ (ix2 ⟨(i 0).val % 32, by omega⟩ (i 1))
def pbF (W : WT F) (j : Fin 11) : S2x2048x128.Idx → BitVec 8 := fun i => pkBlk W j (ix2 (i 1) (i 2))
/-- The product of block `j`. -/
def yBlk (X : XT F) (W : WT F) (j : Fin 11) : FVec F S512x512 .bf16 := yOf (gF W) (cbF X) (tbBlk W j) (sCol X)
def ybF (X : XT F) (W : WT F) (j : Fin 11) : S2x512x512.Idx → F .bf16 := fun i => yBlk X W j (ix2 (i 1) (i 2))

/-- The results left in HBM. -/
def yF (X : XT F) (W : WT F) : S512x5632.Idx → F .bf16 := fun i =>
  yBlk X W ⟨(i 1).val / 512, by have h : (i 1).val < 5632 := (i 1).isLt; omega⟩ (ix2 (i 0) ⟨(i 1).val % 512, by omega⟩)
def pF (W : WT F) : S2048x1408.Idx → BitVec 8 := fun i =>
  pkBlk W ⟨(i 1).val / 128, by have h : (i 1).val < 1408 := (i 1).isLt; omega⟩ (ix2 (i 0) ⟨(i 1).val % 128, by omega⟩)

/-! ## The views' elements -/

/-- An index from its coordinates' values. -/
theorem ix2_ext {a b : Nat} {i i' : (⟨2, ![a, b]⟩ : Shape).Idx} (h0 : (i 0).val = (i' 0).val) (h1 : (i 1).val = (i' 1).val) : i = i' := by
  funext k; match k with
  | 0 => exact Fin.ext h0
  | 1 => exact Fin.ext h1
theorem ix3_ext {a b d : Nat} {i i' : (⟨3, ![a, b, d]⟩ : Shape).Idx} (h0 : (i 0).val = (i' 0).val) (h1 : (i 1).val = (i' 1).val) (h2 : (i 2).val = (i' 2).val) : i = i' := by
  funext k; match k with
  | 0 => exact Fin.ext h0
  | 1 => exact Fin.ext h1
  | 2 => exact Fin.ext h2

theorem wSlot_emb (j : Fin 11) (y : S2048x512.Idx) : (wSlot j).view.emb y = (ix3 j (y 0) (y 1) : S11x2048x512.Idx) := by
  have hy : y = ix2 (y 0) (y 1) := ix2_ext rfl rfl
  rw [hy]
  show (Rect.unit (s := S11x2048x512) ![j.val, 0, 0] S1x2048x512.size (wSlot_inb j)).emb (Shape.reshapeEquiv _ (ix2 (y 0) (y 1))) = _
  erw [reshapeEquiv_ix2_1ab]
  refine ix3_ext ?_ ?_ ?_
  · show j.val + 1 * 0 = j.val; omega
  · show 0 + 1 * (y 0).val = (y 0).val; omega
  · show 0 + 1 * (y 1).val = (y 1).val; omega
theorem pSlot_emb (b : Fin 2) (y : S2048x128.Idx) : (pSlot b).view.emb y = (ix3 b (y 0) (y 1) : S2x2048x128.Idx) := by
  have hy : y = ix2 (y 0) (y 1) := ix2_ext rfl rfl
  rw [hy]
  show (Rect.unit (s := S2x2048x128) ![b.val, 0, 0] S1x2048x128.size (pSlot_inb b)).emb (Shape.reshapeEquiv _ (ix2 (y 0) (y 1))) = _
  erw [reshapeEquiv_ix2_1ab]
  refine ix3_ext ?_ ?_ ?_
  · show b.val + 1 * 0 = b.val; omega
  · show 0 + 1 * (y 0).val = (y 0).val; omega
  · show 0 + 1 * (y 1).val = (y 1).val; omega
theorem ySlot_emb (b : Fin 2) (y : S512x512.Idx) : (ySlot b).view.emb y = (ix3 b (y 0) (y 1) : S2x512x512.Idx) := by
  have hy : y = ix2 (y 0) (y 1) := ix2_ext rfl rfl
  rw [hy]
  show (Rect.unit (s := S2x512x512) ![b.val, 0, 0] S1x512x512.size (ySlot_inb b)).emb (Shape.reshapeEquiv _ (ix2 (y 0) (y 1))) = _
  erw [reshapeEquiv_ix2_1ab]
  refine ix3_ext ?_ ?_ ?_
  · show b.val + 1 * 0 = b.val; omega
  · show 0 + 1 * (y 0).val = (y 0).val; omega
  · show 0 + 1 * (y 1).val = (y 1).val; omega
theorem wCol_emb (j : Fin 11) (y : S2048x512.Idx) : (wCol j).view.emb y = (ix2 (y 0) ⟨512 * j.val + (y 1).val, by have h : (y 1).val < 512 := (y 1).isLt; omega⟩ : S2048x5632.Idx) :=
  ix2_ext (by show 0 + 1 * (y 0).val = (y 0).val; omega) (by show 512 * j.val + 1 * (y 1).val = 512 * j.val + (y 1).val; omega)
theorem yCol_emb (j : Fin 11) (y : S512x512.Idx) : (yCol j).view.emb y = (ix2 (y 0) ⟨512 * j.val + (y 1).val, by have h : (y 1).val < 512 := (y 1).isLt; omega⟩ : S512x5632.Idx) :=
  ix2_ext (by show 0 + 1 * (y 0).val = (y 0).val; omega) (by show 512 * j.val + 1 * (y 1).val = 512 * j.val + (y 1).val; omega)
theorem pCol_emb (j : Fin 11) (y : S2048x128.Idx) : (pCol j).view.emb y = (ix2 (y 0) ⟨128 * j.val + (y 1).val, by have h : (y 1).val < 128 := (y 1).isLt; omega⟩ : S2048x1408.Idx) :=
  ix2_ext (by show 0 + 1 * (y 0).val = (y 0).val; omega) (by show 128 * j.val + 1 * (y 1).val = 128 * j.val + (y 1).val; omega)

theorem mem_wSlot (j : Fin 11) (i : S11x2048x512.Idx) : i ∈ (wSlot j).view.set ↔ (i 0).val = j.val := by
  constructor
  · intro h
    obtain ⟨y, -, rfl⟩ := Finset.mem_map.mp h
    exact congrArg (fun i : S11x2048x512.Idx => (i 0).val) (wSlot_emb j y)
  · intro h
    refine Finset.mem_map.mpr ⟨ix2 (i 1) (i 2), Finset.mem_univ _, ?_⟩
    refine (wSlot_emb j _).trans (ix3_ext h.symm rfl rfl)
theorem mem_pSlot (b : Fin 2) (i : S2x2048x128.Idx) : i ∈ (pSlot b).view.set ↔ (i 0).val = b.val := by
  constructor
  · intro h
    obtain ⟨y, -, rfl⟩ := Finset.mem_map.mp h
    exact congrArg (fun i : S2x2048x128.Idx => (i 0).val) (pSlot_emb b y)
  · intro h
    refine Finset.mem_map.mpr ⟨ix2 (i 1) (i 2), Finset.mem_univ _, ?_⟩
    refine (pSlot_emb b _).trans (ix3_ext h.symm rfl rfl)
theorem mem_ySlot (b : Fin 2) (i : S2x512x512.Idx) : i ∈ (ySlot b).view.set ↔ (i 0).val = b.val := by
  constructor
  · intro h
    obtain ⟨y, -, rfl⟩ := Finset.mem_map.mp h
    exact congrArg (fun i : S2x512x512.Idx => (i 0).val) (ySlot_emb b y)
  · intro h
    refine Finset.mem_map.mpr ⟨ix2 (i 1) (i 2), Finset.mem_univ _, ?_⟩
    refine (ySlot_emb b _).trans (ix3_ext h.symm rfl rfl)
theorem mem_wCol (j : Fin 11) (i : S2048x5632.Idx) : i ∈ (wCol j).view.set ↔ (i 1).val / 512 = j.val := by
  constructor
  · intro h
    obtain ⟨y, -, rfl⟩ := Finset.mem_map.mp h
    have e : (((wCol j).view.emb y : S2048x5632.Idx) 1).val = 512 * j.val + (y 1).val := congrArg (fun i : S2048x5632.Idx => (i 1).val) (wCol_emb j y)
    have h : (y 1).val < 512 := (y 1).isLt
    rw [e]; omega
  · intro h
    refine Finset.mem_map.mpr ⟨ix2 (i 0) ⟨(i 1).val % 512, by omega⟩, Finset.mem_univ _, ?_⟩
    refine (wCol_emb j _).trans (ix2_ext rfl ?_)
    show 512 * j.val + (i 1).val % 512 = (i 1).val; omega
theorem mem_yCol (j : Fin 11) (i : S512x5632.Idx) : i ∈ (yCol j).view.set ↔ (i 1).val / 512 = j.val := by
  constructor
  · intro h
    obtain ⟨y, -, rfl⟩ := Finset.mem_map.mp h
    have e : (((yCol j).view.emb y : S512x5632.Idx) 1).val = 512 * j.val + (y 1).val := congrArg (fun i : S512x5632.Idx => (i 1).val) (yCol_emb j y)
    have h : (y 1).val < 512 := (y 1).isLt
    rw [e]; omega
  · intro h
    refine Finset.mem_map.mpr ⟨ix2 (i 0) ⟨(i 1).val % 512, by omega⟩, Finset.mem_univ _, ?_⟩
    refine (yCol_emb j _).trans (ix2_ext rfl ?_)
    show 512 * j.val + (i 1).val % 512 = (i 1).val; omega
theorem mem_pCol (j : Fin 11) (i : S2048x1408.Idx) : i ∈ (pCol j).view.set ↔ (i 1).val / 128 = j.val := by
  constructor
  · intro h
    obtain ⟨y, -, rfl⟩ := Finset.mem_map.mp h
    have e : (((pCol j).view.emb y : S2048x1408.Idx) 1).val = 128 * j.val + (y 1).val := congrArg (fun i : S2048x1408.Idx => (i 1).val) (pCol_emb j y)
    have h : (y 1).val < 128 := (y 1).isLt
    rw [e]; omega
  · intro h
    refine Finset.mem_map.mpr ⟨ix2 (i 0) ⟨(i 1).val % 128, by omega⟩, Finset.mem_univ _, ?_⟩
    refine (pCol_emb j _).trans (ix2_ext rfl ?_)
    show 128 * j.val + (i 1).val % 128 = (i 1).val; omega

/-- A store of the values `g` has there, into contents that agree with `g` where `P` says: they agree where either says. -/
theorem agree_store (b : Ref sig .tc) (r : Rect b.ty.shape) (f g : b.ty.Contents (Elt F)) (w : r.shape.Idx → Elt F b.ty.elt)
    (hw : ∀ x, w x = g (r.emb x)) {P P' : b.ty.shape.Idx → Prop} (hf : ∀ i, P i → f i = g i) (hP : ∀ i, P' i → P i ∨ i ∈ r.set) :
    ∀ i, P' i → ((Memref.whole b).access r).write (Elt F) f w Finset.univ i = g i := by
  intro i hi
  by_cases hm : i ∈ r.set
  · rw [← Rect.map_emb_univ] at hm
    obtain ⟨x, -, rfl⟩ := Finset.mem_map.mp hm
    exact (View.write_emb_of_mem (v := (Memref.whole b).access r) f w (Finset.mem_univ x)).trans (hw x)
  · have h2 : i ∉ ((Memref.whole b).access r).setOn Finset.univ := by
      rw [View.setOn_univ]; rw [← View.set_slice_whole] at hm; exact hm
    rw [View.write_of_not_mem _ _ _ h2]
    exact hf i ((hP i hi).resolve_right hm)

/-- A copy into a view, read by a target function: where the source agrees with the target under the view. -/
theorem agree_copy {sp : Space} {s : Shape} {e : EltTy} (v : View sig .tc sp s e) (fd g : v.ty.Contents (Elt F)) (w : s.Idx → Elt F e)
    (hw : ∀ x, cast (congrArg (Elt F) v.elt_eq.symm) (w x) = g (v.emb x)) : ∀ i ∈ v.set, v.write (Elt F) fd w Finset.univ i = g i := by
  intro i hi
  obtain ⟨x, -, rfl⟩ := Finset.mem_map.mp hi
  rw [View.write_emb_of_mem _ _ (Finset.mem_univ x)]
  exact hw x

end Cert.Kernel.Body

end
-- ==== Proof.Kernel.Rules.lean ====
/- Any copy, load and store of the body, over whatever memref it names: what the core holds before and after. -/
module

public import proofs.«01_k».proof.Proof.Kernel.Vals
public import Idealize.ShloMosaic.Lib.Transfers
public import Idealize.ShloMosaic.Lib.Scf
public import Idealize.ShloMosaic.Lib.Pipeline.FrameSuffixV
public import Idealize.ShloMosaic.Lib.Ring
public import Idealize.ShloMosaic.Lib.Tactic

@[expose] public section

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- The transfers' counters in the proof's algebra. -/
abbrev EC : UEmb Counters (MT nD τ sig Unit (Elt F) ℕ (Pipeline.UD sig nD τ) ℕ) := countersEmb (U := Pipeline.UD sig nD τ)

/-- The body's programs, run on core `c`. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

variable (c : Dev nD)

/-- Elements `S` of a buffer, at contents `f`; the same at some contents. -/
abbrev At (b : Ref sig .tc) (S : Finset b.ty.Idx) (f : b.ty.Contents (Elt F)) : sProp 𝕄 :=
  pointsTo ((c : Thread nD τ).loc b) S fullShare f
abbrev Ex (b : Ref sig .tc) (S : Finset b.ty.Idx) : sProp 𝕄 := iprop(∃ f : b.ty.Contents (Elt F), At c b S f)
/-- The same at contents that agree with `g` where `P` says. -/
abbrev Agr (b : Ref sig .tc) (S : Finset b.ty.Idx) (g : b.ty.Contents (Elt F)) (P : b.ty.Idx → Prop) : sProp 𝕄 :=
  iprop(∃ f : b.ty.Contents (Elt F), ⌜∀ i, P i → f i = g i⌝ ∗ At c b S f)

/-- The core's record of its waits. -/
abbrev Ow : sProp 𝕄 := iprop(∃ V : Waits sig Unit, owes (c : Thread nD τ) 0 V)
/-- A cell at zero. -/
abbrev Z (s : DmaSem sig) : sProp 𝕄 := semVal ((c : Thread nD τ), SemLoc.dma s) 0
/-- A copy in flight. -/
abbrev Fl (s : DmaSem sig) (N : ℕ) (D : sProp 𝕄) : sProp 𝕄 := Transfers.Flight (EC (F := F)) (c : Thread nD τ) (SemLoc.dma s) () N D

/-! ## Any copy, load and store -/

theorem start_wp {sp sp' : Space} {s : Shape} {e : EltTy} (src : Memref sig .tc sp s e) (dst : Memref sig .tc sp' s e) (sem : DmaSem sig)
    (hsrc : src.view.WordExact) (hdst : dst.view.WordExact) (hsem : DmaTarget.Typed (nD := nD) (τ := τ) (p := .tc) sp (SemLoc.dma sem) (.here dst))
    (hpos : 0 < s.numel) (fs : src.view.ty.Contents (Elt F)) (g : dst.view.ty.Contents (Elt F))
    (hg : ∀ fd : dst.view.ty.Contents (Elt F), ∀ i ∈ dst.view.set, dst.view.write (Elt F) fd (src.view.read (Elt F) fs) Finset.univ i = g i) (κ : PU F) (Q : PUnit → sProp 𝕄) :
    iprop(At c src.view.ref src.view.set fs ∗ Ex c dst.view.ref dst.view.set ∗ Z c sem)
      ⊢ iprop((Fl c sem dst.view.dmaCredit iprop(At c dst.view.ref dst.view.set g ∗ At c src.view.ref src.view.set fs) -∗ WP c κ Q)
        -∗ WP c (Prog.lift (.enqueueDma src (.here dst) (.dma sem) hsrc hdst hsem) >>= fun _ => κ) Q) := by
  iintro ⟨Hs, ⟨%fd, Hd⟩, Hz⟩ Hk
  iapply (Transfers.wp_dmaLocal (EC (F := F)) Variants.none (c : Thread nD τ) none (src := src) (dst := dst) (via := .same)
    (sm := .dma sem) (hsrc := hsrc) (hdst := hdst) (hsem := hsem) (k := fun _ => κ) (Q := Q) (q := fullShare) (fs := fs)
    (Sd := dst.view.set) (fd := fd) () dst.view.dmaCredit rfl (View.dmaCredit_pos _ hpos) (Finset.Subset.refl _)) $$ [Hs Hd Hz]
  · isplitl [Hs]; · iexact Hs
    isplitl [Hd]; · iexact Hd
    iexact Hz
  iintro HF
  iapply Hk
  iapply (Transfers.Flight_mono (EC (F := F)) (c : Thread nD τ) (D' := iprop(At c dst.view.ref dst.view.set g ∗ At c src.view.ref src.view.set fs)) ?_)
  · exact sep_mono (Entails.of_eq (pointsTo_congr (hg fd))) .rfl
  · iexact HF

/-- The same, the elements named. -/
theorem start_wp' {sp sp' : Space} {s : Shape} {e : EltTy} (src : Memref sig .tc sp s e) (dst : Memref sig .tc sp' s e) (sem : DmaSem sig)
    (hsrc : src.view.WordExact) (hdst : dst.view.WordExact) (hsem : DmaTarget.Typed (nD := nD) (τ := τ) (p := .tc) sp (SemLoc.dma sem) (.here dst))
    (hpos : 0 < s.numel) (Ss : Finset src.view.ref.ty.Idx) (hs : src.view.set = Ss) (Sd : Finset dst.view.ref.ty.Idx) (hd : dst.view.set = Sd)
    (fs : src.view.ty.Contents (Elt F)) (g : dst.view.ty.Contents (Elt F))
    (hg : ∀ fd : dst.view.ty.Contents (Elt F), ∀ i ∈ dst.view.set, dst.view.write (Elt F) fd (src.view.read (Elt F) fs) Finset.univ i = g i) (κ : PU F) (Q : PUnit → sProp 𝕄) :
    iprop(At c src.view.ref Ss fs ∗ Ex c dst.view.ref Sd ∗ Z c sem)
      ⊢ iprop((Fl c sem dst.view.dmaCredit iprop(At c dst.view.ref Sd g ∗ At c src.view.ref Ss fs) -∗ WP c κ Q)
        -∗ WP c (Prog.lift (.enqueueDma src (.here dst) (.dma sem) hsrc hdst hsem) >>= fun _ => κ) Q) := by
  subst hs
  subst hd
  exact start_wp c src dst sem hsrc hdst hsem hpos fs g hg κ Q

theorem wait_wp {sp sp' : Space} {s : Shape} {e : EltTy} (src : Memref sig .tc sp s e) (dst : Memref sig .tc sp' s e) (sem : DmaSem sig)
    (hsrc : src.view.WordExact) (hdst : dst.view.WordExact) (D : sProp 𝕄) (κ : PU F) (Q : PUnit → sProp 𝕄) :
    iprop(Fl c sem dst.view.dmaCredit D ∗ Ow c)
      ⊢ iprop((iprop(D ∗ Z c sem ∗ Ow c) -∗ WP c κ Q) -∗ WP c (Prog.lift (.waitDma2 sem src dst hsrc hdst) >>= fun _ => κ) Q) := by
  iintro ⟨HF, ⟨%V, HV⟩⟩ Hk
  iapply (Transfers.wp_waitLocal (EC (F := F)) Variants.none (c : Thread nD τ) none (srcw := src) (dstw := dst) (hsrc := hsrc) (hdst := hdst)
    (k := fun _ => κ) (Q := Q) (W := V) () rfl) $$ [HF HV]
  · isplitl [HF] <;> iassumption
  iintro ⟨HD, HZ, HV⟩
  iapply Hk
  isplitl [HD]; · iexact HD
  isplitl [HZ]; · iexact HZ
  iexists _; iexact HV

/-- A load whose value is known. -/
theorem load_wp {α : Type} {cs : CoreSpace} {s : Shape} {e : EltTy} (m : Memref sig .tc cs s e) (r : Rect s) (hl : m.view.LoadsAt r) (S : Finset m.view.ref.ty.Idx)
    (f : m.view.ref.ty.Contents (Elt F)) (v : r.shape.Idx → Elt F e) (hS : (m.access r).set ⊆ S) (hv : (m.access r).read (Elt F) f = v)
    (κ : (r.shape.Idx → Elt F e) → Prog (TpuEff nD τ sig (Elt F) Λ₀ .tc) α) (Q : α → sProp 𝕄) :
    At c m.view.ref S f ⊢ iprop((At c m.view.ref S f -∗ WP c (κ v) Q) -∗ WP c (Prog.lift (.load m r.toLoadRect hl) >>= κ) Q) := by
  subst hv
  exact wp_load_rect (defs := defs₀ (F := F)) Variants.none (c : Thread nD τ) none Set.univ (m := m) (r := r) (hl := hl) (k := κ) (S := S) (q := fullShare) (f := f) (Q := Q) hS

/-- A load whose value is dropped. -/
theorem drop_wp {cs : CoreSpace} {s : Shape} {e : EltTy} (m : Memref sig .tc cs s e) (r : Rect s) (hl : m.view.LoadsAt r) (S : Finset m.view.ref.ty.Idx)
    (g : m.view.ref.ty.Contents (Elt F)) (P : m.view.ref.ty.Idx → Prop) (hS : (m.access r).set ⊆ S) (κ : PU F) (Q : PUnit → sProp 𝕄) :
    Agr c m.view.ref S g P ⊢ iprop((Agr c m.view.ref S g P -∗ WP c κ Q) -∗ WP c (Prog.lift (.load m r.toLoadRect hl) >>= fun _ => κ) Q) := by
  iintro ⟨%f, %hf, H⟩ Hk
  iapply (load_wp c m r hl S f _ hS rfl (fun _ => κ) Q) $$ H
  iintro H
  iapply Hk
  iexists f
  isplitr; · ipureintro; exact hf
  iexact H

/-- A store of the target's values. -/
theorem store_wp {cs : CoreSpace} {s : Shape} {e : EltTy} (m : Memref sig .tc cs s e) (r : Rect s) (w : r.shape.Idx → Elt F e)
    (hx : (m.access r).Stores Finset.univ) (hm : Finset.univ = (Finset.univ : Finset r.shape.Idx) ∨ ∀ a, r.stride a = 1) (S : Finset m.view.ref.ty.Idx)
    (g : m.view.ref.ty.Contents (Elt F)) (P P' : m.view.ref.ty.Idx → Prop) (hS : (m.access r).set ⊆ S)
    (hw : ∀ f : m.view.ref.ty.Contents (Elt F), (∀ i, P i → f i = g i) → ∀ i, P' i → (m.access r).write (Elt F) f w Finset.univ i = g i)
    (κ : PU F) (Q : PUnit → sProp 𝕄) :
    Agr c m.view.ref S g P ⊢ iprop((Agr c m.view.ref S g P' -∗ WP c κ Q) -∗ WP c (Prog.lift (.store m r w Finset.univ hx hm) >>= fun _ => κ) Q) := by
  iintro ⟨%f, %hf, H⟩ Hk
  iapply (wp_store (defs := defs₀ (F := F)) Variants.none (c : Thread nD τ) none Set.univ (m := m) (r := r) (w := w) (Mk := Finset.univ) (hx := hx) (hm := hm)
    (k := fun _ => κ) (S := S) (f := f) (Q := Q) (by rw [View.setOn_univ]; exact hS)) $$ H
  iintro H
  iapply Hk
  iexists ((m.access r).write (Elt F) f w Finset.univ)
  isplitr; · ipureintro; exact hw f hf
  iexact H

/-- A load of one scalar, dropped. -/
theorem smemDrop_wp {s : Shape} {e : EltTy} (m : Memref sig .tc .smem s e) (r : Rect s) (h1 : r.shape.numel = 1) (hp : e.packing = 1) (S : Finset m.view.ref.ty.Idx)
    (g : m.view.ref.ty.Contents (Elt F)) (P : m.view.ref.ty.Idx → Prop) (hS : (m.access r).set ⊆ S) (κ : PU F) (Q : PUnit → sProp 𝕄) :
    Agr c m.view.ref S g P ⊢ iprop((Agr c m.view.ref S g P -∗ WP c κ Q) -∗ WP c (smemLoad m r h1 hp >>= fun _ => κ) Q) := by
  iintro ⟨%f, %hf, H⟩ Hk
  iapply (wp_load_rect (defs := defs₀ (F := F)) Variants.none (c : Thread nD τ) none Set.univ (m := m) (r := r) (k := fun _ => κ) (S := S) (q := fullShare) (f := f) (Q := Q) hS) $$ H
  iintro H
  iapply Hk
  iexists f
  isplitr; · ipureintro; exact hf
  iexact H

/-- A loop at the head of a program, by an invariant. -/
theorem loop_wp {σ β : Type} (L : Scf.Loop 32) (hok : L.OK) (init : σ) (body : Fin L.trips → σ → Prog (TpuEff nD τ sig (Elt F) Λ₀ .tc) σ) (I : Nat → σ → sProp 𝕄)
    (hbody : ∀ (k : Fin L.trips) (a : σ), I k.val a ⊢ WP c (body k a) (I (k.val + 1)))
    (κ : σ → Prog (TpuEff nD τ sig (Elt F) Λ₀ .tc) β) (Q : β → sProp 𝕄) :
    I 0 init ⊢ iprop((∀ a, I L.trips a -∗ WP c (κ a) Q) -∗ WP c (Scf.Loop.for L hok init body >>= κ) Q) :=
  Scf.wp_for_bind frame (wpE (defs₀ (F := F)) Variants.none (c : Thread nD τ) none) Set.univ L.lb L.ub L.st hok init body I hbody
theorem pure_wp {β : Type} (b : β) (Q : β → sProp 𝕄) : Q b ⊢ WP c (pure b) Q :=
  le_wp_ret _ _ _ _ _

/-- Contents that agree everywhere held are the target's. -/
theorem agr_at (b : Ref sig .tc) (S : Finset b.ty.Idx) (g : b.ty.Contents (Elt F)) (P : b.ty.Idx → Prop) (h : ∀ i ∈ S, P i) : Agr c b S g P ⊢ At c b S g := by
  iintro ⟨%f, %hf, H⟩
  iapply (Entails.of_eq (pointsTo_congr (f := f) (g := g) fun i hi => hf i (h i hi)))
  iexact H
theorem at_agr (b : Ref sig .tc) (S : Finset b.ty.Idx) (g : b.ty.Contents (Elt F)) (P : b.ty.Idx → Prop) : At c b S g ⊢ Agr c b S g P := by
  iintro H
  iexists g
  isplitr; · ipureintro; exact fun _ _ => rfl
  iexact H
/-- Any contents agree nowhere. -/
theorem ex_agr (b : Ref sig .tc) (S : Finset b.ty.Idx) (g : b.ty.Contents (Elt F)) (P : b.ty.Idx → Prop) (h : ∀ i, ¬ P i) : Ex c b S ⊢ Agr c b S g P := by
  iintro ⟨%f, H⟩
  iexists f
  isplitr; · ipureintro; exact fun i hi => absurd hi (h i)
  iexact H
theorem agr_ex (b : Ref sig .tc) (S : Finset b.ty.Idx) (g : b.ty.Contents (Elt F)) (P : b.ty.Idx → Prop) : Agr c b S g P ⊢ Ex c b S := by
  iintro ⟨%f, -, H⟩
  iexists f
  iexact H
theorem at_ex (b : Ref sig .tc) (S : Finset b.ty.Idx) (g : b.ty.Contents (Elt F)) : At c b S g ⊢ Ex c b S := by
  iintro H
  iexists g
  iexact H

end Cert.Kernel.Body

end
-- ==== Proof.Kernel.Copies.lean ====
/- What each step of the body does to what the core holds: a copy started, a copy waited for.
   Each is stated once, at the block's index and the slot's. -/
module

public import proofs.«01_k».proof.Proof.Kernel.Rules

@[expose] public section

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (c : Dev nD) (X : XT F) (W : WT F)

theorem pos_S512x2048 : 0 < S512x2048.numel := Shape.numel_pos (by decide)
theorem pos_S2048x512 : 0 < S2048x512.numel := Shape.numel_pos (by decide)
theorem pos_S2048x128 : 0 < S2048x128.numel := Shape.numel_pos (by decide)
theorem pos_S512x512 : 0 < S512x512.numel := Shape.numel_pos (by decide)

/-- The results at a block's columns. -/
theorem pF_at (j : Fin 11) (x : S2048x128.Idx) (h : 128 * j.val + (x 1).val < 1408) : pF W (ix2 (x 0) ⟨128 * j.val + (x 1).val, h⟩) = pkBlk W j (ix2 (x 0) (x 1)) := by
  have hx : (x 1).val < 128 := (x 1).isLt
  have e1 : (⟨(128 * j.val + (x 1).val) / 128, by omega⟩ : Fin 11) = j := Fin.ext (by show (128 * j.val + (x 1).val) / 128 = j.val; omega)
  have e2 : (⟨(128 * j.val + (x 1).val) % 128, by omega⟩ : Fin 128) = x 1 := Fin.ext (by show (128 * j.val + (x 1).val) % 128 = (x 1).val; omega)
  show pkBlk W ⟨(128 * j.val + (x 1).val) / 128, _⟩ (ix2 (x 0) ⟨(128 * j.val + (x 1).val) % 128, _⟩) = _
  rw [e1, e2]
theorem yF_at (j : Fin 11) (x : S512x512.Idx) (h : 512 * j.val + (x 1).val < 5632) : yF X W (ix2 (x 0) ⟨512 * j.val + (x 1).val, h⟩) = yBlk X W j (ix2 (x 0) (x 1)) := by
  have hx : (x 1).val < 512 := (x 1).isLt
  have e1 : (⟨(512 * j.val + (x 1).val) / 512, by omega⟩ : Fin 11) = j := Fin.ext (by show (512 * j.val + (x 1).val) / 512 = j.val; omega)
  have e2 : (⟨(512 * j.val + (x 1).val) % 512, by omega⟩ : Fin 512) = x 1 := Fin.ext (by show (512 * j.val + (x 1).val) % 512 = (x 1).val; omega)
  show yBlk X W ⟨(512 * j.val + (x 1).val) / 512, _⟩ (ix2 (x 0) ⟨(512 * j.val + (x 1).val) % 512, _⟩) = _
  rw [e1, e2]

/-! ## The copies -/

/-- What each copy delivers: its target written, its source as it was. -/
abbrev dX : sProp 𝕄 := iprop(At c cc0_scratch0 Finset.univ X ∗ At c main_v0 Finset.univ X)
abbrev dC : sProp 𝕄 := iprop(At c main_v1_3 Finset.univ (ciF X) ∗ At c cc0_scratch3 Finset.univ (ciF X))
abbrev dW (j : Fin 11) : sProp 𝕄 := iprop(At c cc0_scratch1 (wSlot j).view.set (wvF W) ∗ At c main_arg1 (wCol j).view.set W)
abbrev dP (j : Fin 11) (b : Fin 2) : sProp 𝕄 := iprop(At c main_v1_1 (pCol j).view.set (pF W) ∗ At c cc0_scratch7 (pSlot b).view.set (pbF W j))
abbrev dY (j : Fin 11) (b : Fin 2) : sProp 𝕄 := iprop(At c main_v1_0 (yCol j).view.set (yF X W) ∗ At c cc0_scratch6 (ySlot b).view.set (ybF X W j))
/-- The copies in flight. -/
abbrev fX : sProp 𝕄 := Fl c cc0_scratch8.sem xV.view.dmaCredit (dX c X)
abbrev fC : sProp 𝕄 := Fl c cc0_scratch10.sem cH.view.dmaCredit (dC c X)
abbrev fW (j : Fin 11) : sProp 𝕄 := Fl c (wSem j) (wSlot j).view.dmaCredit (dW c W j)
abbrev fP (j : Fin 11) (b : Fin 2) : sProp 𝕄 := Fl c (pSem b) (pCol j).view.dmaCredit (dP c W j b)
abbrev fY (j : Fin 11) (b : Fin 2) : sProp 𝕄 := Fl c (ySem b) (yCol j).view.dmaCredit (dY c X W j b)

theorem write_all (b : Ref sig .tc) (fd g : b.ty.Contents (Elt F)) : ∀ i ∈ (Memref.whole b).view.set, (Memref.whole b).view.write (Elt F) fd g Finset.univ i = g i :=
  agree_copy (Memref.whole b).view fd g g fun _ => rfl

theorem startX_wp (κ : PU F) (Q : PUnit → sProp 𝕄) : iprop(At c main_v0 Finset.univ X ∗ Ex c cc0_scratch0 Finset.univ ∗ Z c cc0_scratch8.sem)
    ⊢ iprop((fX c X -∗ WP c κ Q) -∗ WP c (startX κ) Q) :=
  start_wp' c xH xV cc0_scratch8.sem (Memref.isWhole_whole _).wordExact (Memref.isWhole_whole _).wordExact ⟨Or.inl rfl, trivial⟩ pos_S512x2048 Finset.univ (View.set_whole main_v0) Finset.univ (View.set_whole cc0_scratch0) X X
    (fun fd => write_all (F := F) cc0_scratch0 fd X) κ Q
theorem waitX_wp (κ : PU F) (Q : PUnit → sProp 𝕄) : iprop(fX c X ∗ Ow c) ⊢ iprop((iprop(dX c X ∗ Z c cc0_scratch8.sem ∗ Ow c) -∗ WP c κ Q) -∗ WP c (waitX κ) Q) :=
  wait_wp c xH xV cc0_scratch8.sem (Memref.isWhole_whole _).wordExact (Memref.isWhole_whole _).wordExact (dX c X) κ Q
theorem startC_wp (κ : PU F) (Q : PUnit → sProp 𝕄) : iprop(At c cc0_scratch3 Finset.univ (ciF X) ∗ Ex c main_v1_3 Finset.univ ∗ Z c cc0_scratch10.sem)
    ⊢ iprop((fC c X -∗ WP c κ Q) -∗ WP c (startC κ) Q) :=
  start_wp' c ciV cH cc0_scratch10.sem (Memref.isWhole_whole _).wordExact (Memref.isWhole_whole _).wordExact ⟨Or.inl rfl, trivial⟩ pos_S512x2048 Finset.univ (View.set_whole cc0_scratch3) Finset.univ (View.set_whole main_v1_3) (ciF X) (ciF X)
    (fun fd => write_all (F := F) main_v1_3 fd (ciF X)) κ Q
theorem waitC_wp (κ : PU F) (Q : PUnit → sProp 𝕄) : iprop(fC c X ∗ Ow c) ⊢ iprop((iprop(dC c X ∗ Z c cc0_scratch10.sem ∗ Ow c) -∗ WP c κ Q) -∗ WP c (waitC κ) Q) :=
  wait_wp c ciV cH cc0_scratch10.sem (Memref.isWhole_whole _).wordExact (Memref.isWhole_whole _).wordExact (dC c X) κ Q
theorem startW_wp (j : Fin 11) (κ : PU F) (Q : PUnit → sProp 𝕄) : iprop(At c main_arg1 (wCol j).view.set W ∗ Ex c cc0_scratch1 (wSlot j).view.set ∗ Z c (wSem j))
    ⊢ iprop((fW c W j -∗ WP c κ Q) -∗ WP c (startW j κ) Q) :=
  start_wp c (wCol j) (wSlot j) (wSem j) (wCol_exact j) (wSlot_exact j) ⟨Or.inl rfl, trivial⟩ pos_S2048x512 W (wvF W)
    (fun fd => agree_copy (wSlot j).view fd (wvF W) ((wCol j).view.read (Elt F) W) fun x => by
      have e1 : wvF W ((wSlot j).view.emb x) = wvF W (ix3 j (x 0) (x 1)) := congrArg (wvF W) (wSlot_emb j x)
      refine Eq.trans ?_ e1.symm
      show W ((wCol j).view.emb x) = _
      exact congrArg W (wCol_emb j x)) κ Q
theorem waitW_wp (j : Fin 11) (κ : PU F) (Q : PUnit → sProp 𝕄) : iprop(fW c W j ∗ Ow c) ⊢ iprop((iprop(dW c W j ∗ Z c (wSem j) ∗ Ow c) -∗ WP c κ Q) -∗ WP c (waitW j κ) Q) :=
  wait_wp c (wCol j) (wSlot j) (wSem j) (wCol_exact j) (wSlot_exact j) (dW c W j) κ Q
theorem startP_wp (j : Fin 11) (b : Fin 2) (κ : PU F) (Q : PUnit → sProp 𝕄) : iprop(At c cc0_scratch7 (pSlot b).view.set (pbF W j) ∗ Ex c main_v1_1 (pCol j).view.set ∗ Z c (pSem b))
    ⊢ iprop((fP c W j b -∗ WP c κ Q) -∗ WP c (startP j b κ) Q) :=
  start_wp c (pSlot b) (pCol j) (pSem b) (pSlot_exact b) (pCol_exact j) ⟨Or.inl rfl, trivial⟩ pos_S2048x128 (pbF W j) (pF W)
    (fun fd => agree_copy (pCol j).view fd (pF W) ((pSlot b).view.read (Elt F) (pbF W j)) fun x => by
      refine (cast_eq _ _).trans ((View.read_apply _ _).trans ((cast_eq _ _).trans ?_))
      exact (congrArg (pbF W j) (pSlot_emb b x)).trans ((pF_at W j x _).symm.trans (congrArg (pF W) (pCol_emb j x)).symm)) κ Q
theorem waitP_wp (j : Fin 11) (b : Fin 2) (κ : PU F) (Q : PUnit → sProp 𝕄) : iprop(fP c W j b ∗ Ow c) ⊢ iprop((iprop(dP c W j b ∗ Z c (pSem b) ∗ Ow c) -∗ WP c κ Q) -∗ WP c (waitP j b κ) Q) :=
  wait_wp c (pSlot b) (pCol j) (pSem b) (pSlot_exact b) (pCol_exact j) (dP c W j b) κ Q
theorem startY_wp (j : Fin 11) (b : Fin 2) (κ : PU F) (Q : PUnit → sProp 𝕄) : iprop(At c cc0_scratch6 (ySlot b).view.set (ybF X W j) ∗ Ex c main_v1_0 (yCol j).view.set ∗ Z c (ySem b))
    ⊢ iprop((fY c X W j b -∗ WP c κ Q) -∗ WP c (startY j b κ) Q) :=
  start_wp c (ySlot b) (yCol j) (ySem b) (ySlot_exact b) (yCol_exact j) ⟨Or.inl rfl, trivial⟩ pos_S512x512 (ybF X W j) (yF X W)
    (fun fd => agree_copy (yCol j).view fd (yF X W) ((ySlot b).view.read (Elt F) (ybF X W j)) fun x => by
      show ybF X W j ((ySlot b).view.emb x) = yF X W ((yCol j).view.emb x)
      exact (congrArg (ybF X W j) (ySlot_emb b x)).trans ((yF_at X W j x _).symm.trans (congrArg (yF X W) (yCol_emb j x)).symm)) κ Q
theorem waitY_wp (j : Fin 11) (b : Fin 2) (κ : PU F) (Q : PUnit → sProp 𝕄) : iprop(fY c X W j b ∗ Ow c) ⊢ iprop((iprop(dY c X W j b ∗ Z c (ySem b) ∗ Ow c) -∗ WP c κ Q) -∗ WP c (waitY j b κ) Q) :=
  wait_wp c (ySlot b) (yCol j) (ySem b) (ySlot_exact b) (yCol_exact j) (dY c X W j b) κ Q

end Cert.Kernel.Body

end
-- ==== Proof.Kernel.Quant.lean ====
/- What each step of the body does to what the core holds: a copy started, a copy waited for, a loop run, a block
   multiplied. Each is stated once, at the block's index and the slot's. -/
module

public import proofs.«01_k».proof.Proof.Kernel.Copies

@[expose] public section

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (c : Dev nD) (X : XT F) (W : WT F)

/-- The element a rectangle's index names, an axis at a time. -/
theorem unit_emb_val {s : Shape} (off size : Fin s.rank → Nat) (h : ∀ a, off a + size a ≤ s.size a) (x : (Rect.unit (s := s) off size h).shape.Idx) (a : Fin s.rank) :
    ((Rect.unit (s := s) off size h).emb x a).val = off a + 1 * (x a).val := rfl
theorem access_set {cs : CoreSpace} {s : Shape} {e : EltTy} (m : Memref sig .tc cs s e) (r : Rect s) : (m.access r).set ⊆ m.view.set := View.set_slice_subset _ _

/-! ## The quantising loop -/

theorem trips1 : k0_t1_loop.trips = 16 := by decide +kernel
theorem off1_eq : ∀ t : Fin k0_t1_loop.trips, k0_off1 t = ![32 * t.val, 0] := by decide +kernel
theorem off2_eq : ∀ t : Fin k0_t1_loop.trips, k0_off2 t = ![32 * t.val, 0] := by decide +kernel
theorem rb_at (t : Fin 16) (p : Fin 32) (i : Fin 512) (h : i.val = 32 * t.val + p.val) : rb i = t ∧ ri i = p :=
  ⟨Fin.ext (by show i.val / 32 = t.val; omega), Fin.ext (by show i.val % 32 = p.val; omega)⟩
theorem cbF_at (t : Fin 16) (x : S32x2048.Idx) (i : S512x2048.Idx) (h0 : (i 0).val = 32 * t.val + (x 0).val) (h1 : (i 1).val = (x 1).val) : qCodeB (xRows X t) x = cbF X i := by
  obtain ⟨e1, e2⟩ := rb_at t (x 0) (i 0) h0
  have e3 : x = ix2 (ri (i 0)) (i 1) := ix2_ext (congrArg Fin.val e2.symm) h1.symm
  exact congr (congrArg (fun t => qCodeB (xRows X t)) e1.symm) e3
theorem ciF_at (t : Fin 16) (x : S32x2048.Idx) (i : S512x2048.Idx) (h0 : (i 0).val = 32 * t.val + (x 0).val) (h1 : (i 1).val = (x 1).val) : qCodeI (xRows X t) x = ciF X i := by
  obtain ⟨e1, e2⟩ := rb_at t (x 0) (i 0) h0
  have e3 : x = ix2 (ri (i 0)) (i 1) := ix2_ext (congrArg Fin.val e2.symm) h1.symm
  exact congr (congrArg (fun t => qCodeI (xRows X t)) e1.symm) e3
theorem srF_at (t : Fin 16) (x : S32x128.Idx) (i : S512x128.Idx) (h0 : (i 0).val = 32 * t.val + (x 0).val) (h1 : (i 1).val = (x 1).val) : qScaleB (xRows X t) x = srF X i := by
  obtain ⟨e1, e2⟩ := rb_at t (x 0) (i 0) h0
  have e3 : x = ix2 (ri (i 0)) (i 1) := ix2_ext (congrArg Fin.val e2.symm) h1.symm
  exact congr (congrArg (fun t => qScaleB (xRows X t)) e1.symm) e3

/-- What the loop holds before trip `n`: the rows below `32 n` done. -/
abbrev qInv (n : Nat) : sProp 𝕄 :=
  iprop(At c cc0_scratch0 Finset.univ X ∗ Agr c cc0_scratch2 Finset.univ (cbF X) (fun i => (i 0).val < 32 * n)
    ∗ Agr c cc0_scratch3 Finset.univ (ciF X) (fun i => (i 0).val < 32 * n) ∗ Agr c cc0_scratch4 Finset.univ (srF X) (fun i => (i 0).val < 32 * n))

theorem rows_cover (t : Fin k0_t1_loop.trips) (i : S512x2048.Idx) (h : (i 0).val < 32 * (t.val + 1)) :
    (i 0).val < 32 * t.val ∨ i ∈ (Rect.unit (s := S512x2048) (k0_off1 t) S32x2048.size (k0_off1_inb t)).set := by
  by_cases h' : (i 0).val < 32 * t.val
  · exact .inl h'
  · refine .inr (Rect.mem_set_unit.mpr fun a => ?_)
    rw [off1_eq]
    match a with
    | 0 => exact ⟨by show 32 * t.val ≤ (i 0).val; omega, by show (i 0).val < 32 * t.val + 32; omega⟩
    | 1 => exact ⟨by show 0 ≤ (i 1).val; omega, by have h : (i 1).val < 2048 := (i 1).isLt; show (i 1).val < 0 + 2048; omega⟩
theorem srows_cover (t : Fin k0_t1_loop.trips) (i : S512x128.Idx) (h : (i 0).val < 32 * (t.val + 1)) :
    (i 0).val < 32 * t.val ∨ i ∈ (Rect.unit (s := S512x128) (k0_off2 t) S32x128.size (k0_off2_inb t)).set := by
  by_cases h' : (i 0).val < 32 * t.val
  · exact .inl h'
  · refine .inr (Rect.mem_set_unit.mpr fun a => ?_)
    rw [off2_eq]
    match a with
    | 0 => exact ⟨by show 32 * t.val ≤ (i 0).val; omega, by show (i 0).val < 32 * t.val + 32; omega⟩
    | 1 => exact ⟨by show 0 ≤ (i 1).val; omega, by have h : (i 1).val < 128 := (i 1).isLt; show (i 1).val < 0 + 128; omega⟩
theorem emb1 (t : Fin k0_t1_loop.trips) (x : S32x2048.Idx) :
    ((Rect.unit (s := S512x2048) (k0_off1 t) S32x2048.size (k0_off1_inb t)).emb x 0).val = 32 * t.val + (x 0).val
      ∧ ((Rect.unit (s := S512x2048) (k0_off1 t) S32x2048.size (k0_off1_inb t)).emb x 1).val = (x 1).val := by
  have h0 : k0_off1 t 0 = 32 * t.val := congrFun (off1_eq t) 0
  have h1 : k0_off1 t 1 = 0 := congrFun (off1_eq t) 1
  exact ⟨by show k0_off1 t 0 + 1 * (x 0).val = _; rw [h0, Nat.one_mul], by show k0_off1 t 1 + 1 * (x 1).val = _; rw [h1, Nat.one_mul, Nat.zero_add]⟩
theorem emb2 (t : Fin k0_t1_loop.trips) (x : S32x128.Idx) :
    ((Rect.unit (s := S512x128) (k0_off2 t) S32x128.size (k0_off2_inb t)).emb x 0).val = 32 * t.val + (x 0).val
      ∧ ((Rect.unit (s := S512x128) (k0_off2 t) S32x128.size (k0_off2_inb t)).emb x 1).val = (x 1).val := by
  have h0 : k0_off2 t 0 = 32 * t.val := congrFun (off2_eq t) 0
  have h1 : k0_off2 t 1 = 0 := congrFun (off2_eq t) 1
  exact ⟨by show k0_off2 t 0 + 1 * (x 0).val = _; rw [h0, Nat.one_mul], by show k0_off2 t 1 + 1 * (x 1).val = _; rw [h1, Nat.one_mul, Nat.zero_add]⟩

theorem xRows_at (t : Fin k0_t1_loop.trips) (ht : t.val < 16) :
    (xV.access (Rect.unit (s := S512x2048) (k0_off1 t) S32x2048.size (k0_off1_inb t))).read (Elt F) X = xRows X ⟨t.val, ht⟩ := by
  funext x
  refine (View.read_apply _ _).trans ((cast_eq _ _).trans ?_)
  show X ((Rect.unit (s := S512x2048) (k0_off1 t) S32x2048.size (k0_off1_inb t)).emb x) = X _
  exact congrArg X (ix2_ext (emb1 t x).1 (emb1 t x).2)

theorem qLoadX (t : Fin k0_t1_loop.trips) (ht : t.val < 16) (κ : Vec F S32x2048 .bf16 → PU F) (Q : PUnit → sProp 𝕄) :
    At c cc0_scratch0 Finset.univ X ⊢ iprop((At c cc0_scratch0 Finset.univ X -∗ WP c (κ (xRows X ⟨t.val, ht⟩)) Q) -∗
      WP c (Prog.lift (.load xV (Rect.unit (s := S512x2048) (k0_off1 t) S32x2048.size (k0_off1_inb t)).toLoadRect (View.loadsAt_vmem h_S32x2048)) >>= κ) Q) :=
  load_wp c xV (Rect.unit (s := S512x2048) (k0_off1 t) S32x2048.size (k0_off1_inb t)) (View.loadsAt_vmem h_S32x2048) Finset.univ X (xRows X ⟨t.val, ht⟩) (Finset.subset_univ _) (xRows_at X t ht) κ Q
theorem qDropCb (t : Fin k0_t1_loop.trips) (P : cc0_scratch2.ty.Idx → Prop) (κ : PU F) (Q : PUnit → sProp 𝕄) :
    Agr c cc0_scratch2 Finset.univ (cbF X) P ⊢ iprop((Agr c cc0_scratch2 Finset.univ (cbF X) P -∗ WP c κ Q) -∗
      WP c (Prog.lift (.load cbV (Rect.unit (s := S512x2048) (k0_off1 t) S32x2048.size (k0_off1_inb t)).toLoadRect (View.loadsAt_vmem h_S32x2048)) >>= fun _ => κ) Q) :=
  drop_wp c cbV (Rect.unit (s := S512x2048) (k0_off1 t) S32x2048.size (k0_off1_inb t)) (View.loadsAt_vmem h_S32x2048) Finset.univ (cbF X) P (Finset.subset_univ _) κ Q
theorem qStoreCb (t : Fin k0_t1_loop.trips) (ht : t.val < 16) (κ : PU F) (Q : PUnit → sProp 𝕄) :
    Agr c cc0_scratch2 Finset.univ (cbF X) (fun i => (i 0).val < 32 * t.val) ⊢ iprop((Agr c cc0_scratch2 Finset.univ (cbF X) (fun i => (i 0).val < 32 * (t.val + 1)) -∗ WP c κ Q) -∗
      WP c (Prog.lift (.store cbV (Rect.unit (s := S512x2048) (k0_off1 t) S32x2048.size (k0_off1_inb t)) (qCodeB (xRows X ⟨t.val, ht⟩)) Finset.univ (View.stores_vmem h_S32x2048 ((Memref.isWhole_whole _).storeExact_slice rfl _ (k0_off1_packedbf16 t)) (fun _ => rfl)) (.inl rfl)) >>= fun _ => κ) Q) :=
  store_wp c cbV (Rect.unit (s := S512x2048) (k0_off1 t) S32x2048.size (k0_off1_inb t)) (qCodeB (xRows X ⟨t.val, ht⟩)) (View.stores_vmem h_S32x2048 ((Memref.isWhole_whole _).storeExact_slice rfl _ (k0_off1_packedbf16 t)) (fun _ => rfl)) (.inl rfl) Finset.univ (cbF X) (fun i => (i 0).val < 32 * t.val) (fun i => (i 0).val < 32 * (t.val + 1)) (Finset.subset_univ _)
    (fun f hf => agree_store (F := F) cc0_scratch2 (Rect.unit (s := S512x2048) (k0_off1 t) S32x2048.size (k0_off1_inb t)) f (cbF X) (qCodeB (xRows X ⟨t.val, ht⟩)) (fun x => cbF_at X ⟨t.val, ht⟩ x _ (emb1 t x).1 (emb1 t x).2) hf (rows_cover t)) κ Q
theorem qDropCi (t : Fin k0_t1_loop.trips) (P : cc0_scratch3.ty.Idx → Prop) (κ : PU F) (Q : PUnit → sProp 𝕄) :
    Agr c cc0_scratch3 Finset.univ (ciF X) P ⊢ iprop((Agr c cc0_scratch3 Finset.univ (ciF X) P -∗ WP c κ Q) -∗
      WP c (Prog.lift (.load ciV (Rect.unit (s := S512x2048) (k0_off1 t) S32x2048.size (k0_off1_inb t)).toLoadRect (View.loadsAt_vmem h_S32x2048)) >>= fun _ => κ) Q) :=
  drop_wp c ciV (Rect.unit (s := S512x2048) (k0_off1 t) S32x2048.size (k0_off1_inb t)) (View.loadsAt_vmem h_S32x2048) Finset.univ (ciF X) P (Finset.subset_univ _) κ Q
theorem qStoreCi (t : Fin k0_t1_loop.trips) (ht : t.val < 16) (κ : PU F) (Q : PUnit → sProp 𝕄) :
    Agr c cc0_scratch3 Finset.univ (ciF X) (fun i => (i 0).val < 32 * t.val) ⊢ iprop((Agr c cc0_scratch3 Finset.univ (ciF X) (fun i => (i 0).val < 32 * (t.val + 1)) -∗ WP c κ Q) -∗
      WP c (Prog.lift (.store ciV (Rect.unit (s := S512x2048) (k0_off1 t) S32x2048.size (k0_off1_inb t)) (qCodeI (xRows X ⟨t.val, ht⟩)) Finset.univ (View.stores_vmem h_S32x2048 ((Memref.isWhole_whole _).storeExact_slice rfl _ (k0_off1_packedi8 t)) (fun _ => rfl)) (.inl rfl)) >>= fun _ => κ) Q) :=
  store_wp c ciV (Rect.unit (s := S512x2048) (k0_off1 t) S32x2048.size (k0_off1_inb t)) (qCodeI (xRows X ⟨t.val, ht⟩)) (View.stores_vmem h_S32x2048 ((Memref.isWhole_whole _).storeExact_slice rfl _ (k0_off1_packedi8 t)) (fun _ => rfl)) (.inl rfl) Finset.univ (ciF X) (fun i => (i 0).val < 32 * t.val) (fun i => (i 0).val < 32 * (t.val + 1)) (Finset.subset_univ _)
    (fun f hf => agree_store (F := F) cc0_scratch3 (Rect.unit (s := S512x2048) (k0_off1 t) S32x2048.size (k0_off1_inb t)) f (ciF X) (qCodeI (xRows X ⟨t.val, ht⟩)) (fun x => ciF_at X ⟨t.val, ht⟩ x _ (emb1 t x).1 (emb1 t x).2) hf (rows_cover t)) κ Q
theorem qDropSr (t : Fin k0_t1_loop.trips) (P : cc0_scratch4.ty.Idx → Prop) (κ : PU F) (Q : PUnit → sProp 𝕄) :
    Agr c cc0_scratch4 Finset.univ (srF X) P ⊢ iprop((Agr c cc0_scratch4 Finset.univ (srF X) P -∗ WP c κ Q) -∗
      WP c (Prog.lift (.load srV (Rect.unit (s := S512x128) (k0_off2 t) S32x128.size (k0_off2_inb t)).toLoadRect (View.loadsAt_vmem h_S32x128)) >>= fun _ => κ) Q) :=
  drop_wp c srV (Rect.unit (s := S512x128) (k0_off2 t) S32x128.size (k0_off2_inb t)) (View.loadsAt_vmem h_S32x128) Finset.univ (srF X) P (Finset.subset_univ _) κ Q
theorem qStoreSr (t : Fin k0_t1_loop.trips) (ht : t.val < 16) (κ : PU F) (Q : PUnit → sProp 𝕄) :
    Agr c cc0_scratch4 Finset.univ (srF X) (fun i => (i 0).val < 32 * t.val) ⊢ iprop((Agr c cc0_scratch4 Finset.univ (srF X) (fun i => (i 0).val < 32 * (t.val + 1)) -∗ WP c κ Q) -∗
      WP c (Prog.lift (.store srV (Rect.unit (s := S512x128) (k0_off2 t) S32x128.size (k0_off2_inb t)) (qScaleB (xRows X ⟨t.val, ht⟩)) Finset.univ (View.stores_vmem_bits_univ h_S32x128 rfl) (.inl rfl)) >>= fun _ => κ) Q) :=
  store_wp c srV (Rect.unit (s := S512x128) (k0_off2 t) S32x128.size (k0_off2_inb t)) (qScaleB (xRows X ⟨t.val, ht⟩)) (View.stores_vmem_bits_univ h_S32x128 rfl) (.inl rfl) Finset.univ (srF X) (fun i => (i 0).val < 32 * t.val) (fun i => (i 0).val < 32 * (t.val + 1)) (Finset.subset_univ _)
    (fun f hf => agree_store (F := F) cc0_scratch4 (Rect.unit (s := S512x128) (k0_off2 t) S32x128.size (k0_off2_inb t)) f (srF X) (qScaleB (xRows X ⟨t.val, ht⟩)) (fun x => srF_at X ⟨t.val, ht⟩ x _ (emb2 t x).1 (emb2 t x).2) hf (srows_cover t)) κ Q

theorem quantTrip_wp (t : Fin k0_t1_loop.trips) : qInv c X t.val ⊢ WP c (quantTrip t) (fun _ => qInv c X (t.val + 1)) := by
  have ht : t.val < 16 := lt_of_lt_of_eq t.isLt trips1
  unfold quantTrip
  iintro ⟨Hx, Hcb, Hci, Hsr⟩
  iapply (qLoadX c X t ht _ _) $$ Hx
  iintro Hx
  iapply (qDropCb c X t _ _ _) $$ Hcb
  iintro Hcb
  iapply (qStoreCb c X t ht _ _) $$ Hcb
  iintro Hcb
  iapply (qDropCi c X t _ _ _) $$ Hci
  iintro Hci
  iapply (qStoreCi c X t ht _ _) $$ Hci
  iintro Hci
  iapply (qDropSr c X t _ _ _) $$ Hsr
  iintro Hsr
  iapply (qStoreSr c X t ht _ _) $$ Hsr
  iintro Hsr
  iapply (pure_wp c PUnit.unit _)
  isplitl [Hx]; · iexact Hx
  isplitl [Hcb]; · iexact Hcb
  isplitl [Hci]; · iexact Hci
  iexact Hsr

/-- The loop: the codes and the scales of every row. -/
theorem quant_wp (κ : PU F) (Q : PUnit → sProp 𝕄) :
    iprop(At c cc0_scratch0 Finset.univ X ∗ Ex c cc0_scratch2 Finset.univ ∗ Ex c cc0_scratch3 Finset.univ ∗ Ex c cc0_scratch4 Finset.univ)
      ⊢ iprop((iprop(At c cc0_scratch0 Finset.univ X ∗ At c cc0_scratch2 Finset.univ (cbF X) ∗ At c cc0_scratch3 Finset.univ (ciF X) ∗ At c cc0_scratch4 Finset.univ (srF X)) -∗ WP c κ Q)
        -∗ WP c ((Scf.Loop.for k0_t1_loop k0_t1_ok ⟨⟩ fun t _ => quantTrip t) >>= fun _ => κ) Q) := by
  iintro ⟨Hx, Hcb, Hci, Hsr⟩ Hk
  iapply (loop_wp c k0_t1_loop k0_t1_ok PUnit.unit (fun t _ => quantTrip t) (fun n _ => qInv c X n) (fun t _ => quantTrip_wp c X t) (fun _ => κ) Q) $$ [Hx Hcb Hci Hsr]
  · isplitl [Hx]; · iexact Hx
    isplitl [Hcb]; · iapply (ex_agr c cc0_scratch2 Finset.univ (cbF X) (fun i => (i 0).val < 32 * 0) (fun i => Nat.not_lt_zero _)); iexact Hcb
    isplitl [Hci]; · iapply (ex_agr c cc0_scratch3 Finset.univ (ciF X) (fun i => (i 0).val < 32 * 0) (fun i => Nat.not_lt_zero _)); iexact Hci
    iapply (ex_agr c cc0_scratch4 Finset.univ (srF X) (fun i => (i 0).val < 32 * 0) (fun i => Nat.not_lt_zero _)); iexact Hsr
  iintro %a ⟨Hx, Hcb, Hci, Hsr⟩
  iapply Hk
  have h1 : ∀ i : S512x2048.Idx, (i 0).val < 32 * k0_t1_loop.trips := fun i => by rw [trips1]; exact (i 0).isLt
  have h2 : ∀ i : S512x128.Idx, (i 0).val < 32 * k0_t1_loop.trips := fun i => by rw [trips1]; exact (i 0).isLt
  isplitl [Hx]; · iexact Hx
  isplitl [Hcb]; · iapply (agr_at c cc0_scratch2 Finset.univ (cbF X) _ (fun i _ => h1 i)); iexact Hcb
  isplitl [Hci]; · iapply (agr_at c cc0_scratch3 Finset.univ (ciF X) _ (fun i _ => h1 i)); iexact Hci
  iapply (agr_at c cc0_scratch4 Finset.univ (srF X) _ (fun i _ => h2 i)); iexact Hsr

end Cert.Kernel.Body

end
-- ==== Proof.Kernel.Sums.lean ====
/- What each step of the body does to what the core holds: a copy started, a copy waited for, a loop run, a block
   multiplied. Each is stated once, at the block's index and the slot's. -/
module

public import proofs.«01_k».proof.Proof.Kernel.Quant

@[expose] public section

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (c : Dev nD) (X : XT F) (W : WT F)

/-! ## The scales written out -/

theorem srBlk_read (k : Fin 4) : (srV.access (Rect.unit (s := S512x128) ![128 * k.val, 0] S128x128.size (sr_inb k))).read (Elt F) (srF X) = srBlk X k := by
  funext x
  refine (View.read_apply _ _).trans ((cast_eq _ _).trans ?_)
  show srF X ((Rect.unit (s := S512x128) ![128 * k.val, 0] S128x128.size (sr_inb k)).emb x) = srF X _
  exact congrArg (srF X) (ix2_ext (by rw [unit_emb_val]; show 128 * k.val + 1 * (x 0).val = 128 * k.val + (x 0).val; omega)
    (by rw [unit_emb_val]; show 0 + 1 * (x 1).val = (x 1).val; omega))
theorem scF_at (k : Fin 4) (x : S1x128.Idx) (i : S2x256.Idx) (h0 : (i 0).val = k.val / 2) (h1 : (i 1).val = 128 * (k.val % 2) + (x 1).val) :
    diagRow (srBlk X k) x = scF X i := by
  have hx : (x 1).val < 128 := (x 1).isLt
  have hx0 : (x 0).val < 1 := (x 0).isLt
  have hk := k.isLt
  have hi : (i 1).val < 256 := (i 1).isLt
  have hi0 : (i 0).val < 2 := (i 0).isLt
  have e1 : k = ⟨2 * (i 0).val + (i 1).val / 128, by omega⟩ := Fin.ext (by show k.val = 2 * (i 0).val + (i 1).val / 128; omega)
  have e2 : x = ix2 (0 : Fin 1) ⟨(i 1).val % 128, by omega⟩ := ix2_ext (by show (x 0).val = 0; omega) (by show (x 1).val = (i 1).val % 128; omega)
  exact congr (congrArg (fun k => diagRow (srBlk X k)) e1) e2
/-- The places of the first `k` blocks of 128. -/
abbrev sP (k : Nat) (i : S2x256.Idx) : Prop := 2 * (i 0).val + (i 1).val / 128 < k
theorem s_cover (k : Fin 4) (i : S2x256.Idx) (h : sP (k.val + 1) i) : sP k.val i ∨ i ∈ (Rect.unit (s := S2x256) ![k.val / 2, 128 * (k.val % 2)] S1x128.size (s_inb k)).set := by
  by_cases h' : sP k.val i
  · exact .inl h'
  · have hi : (i 1).val < 256 := (i 1).isLt
    have hi0 : (i 0).val < 2 := (i 0).isLt
    refine .inr (Rect.mem_set_unit.mpr fun a => ?_)
    match a with
    | 0 => exact ⟨by show k.val / 2 ≤ (i 0).val; omega, by show (i 0).val < k.val / 2 + 1; omega⟩
    | 1 => exact ⟨by show 128 * (k.val % 2) ≤ (i 1).val; omega, by show (i 1).val < 128 * (k.val % 2) + 128; omega⟩
theorem sLoad (k : Fin 4) (κ : Vec F S128x128 .f32 → PU F) (Q : PUnit → sProp 𝕄) :
    At c cc0_scratch4 Finset.univ (srF X) ⊢ iprop((At c cc0_scratch4 Finset.univ (srF X) -∗ WP c (κ (srBlk X k)) Q) -∗
      WP c (Prog.lift (.load srV (Rect.unit (s := S512x128) ![128 * k.val, 0] S128x128.size (sr_inb k)).toLoadRect (View.loadsAt_vmem h_S128x128)) >>= κ) Q) :=
  load_wp c srV (Rect.unit (s := S512x128) ![128 * k.val, 0] S128x128.size (sr_inb k)) (View.loadsAt_vmem h_S128x128) Finset.univ (srF X) (srBlk X k) (Finset.subset_univ _) (srBlk_read X k) κ Q
theorem sDrop (k : Fin 4) (P : S2x256.Idx → Prop) (κ : PU F) (Q : PUnit → sProp 𝕄) :
    Agr c cc0_stg1_0 Finset.univ (scF X) P ⊢ iprop((Agr c cc0_stg1_0 Finset.univ (scF X) P -∗ WP c κ Q) -∗
      WP c (Prog.lift (.load sV (Rect.unit (s := S2x256) ![k.val / 2, 128 * (k.val % 2)] S1x128.size (s_inb k)).toLoadRect (View.loadsAt_vmem h_S1x128)) >>= fun _ => κ) Q) :=
  drop_wp c sV (Rect.unit (s := S2x256) ![k.val / 2, 128 * (k.val % 2)] S1x128.size (s_inb k)) (View.loadsAt_vmem h_S1x128) Finset.univ (scF X) P (Finset.subset_univ _) κ Q
theorem sStore (k : Fin 4) (κ : PU F) (Q : PUnit → sProp 𝕄) :
    Agr c cc0_stg1_0 Finset.univ (scF X) (sP k.val) ⊢ iprop((Agr c cc0_stg1_0 Finset.univ (scF X) (sP (k.val + 1)) -∗ WP c κ Q) -∗
      WP c (Prog.lift (.store sV (Rect.unit (s := S2x256) ![k.val / 2, 128 * (k.val % 2)] S1x128.size (s_inb k)) (diagRow (srBlk X k)) Finset.univ (View.stores_vmem_bits_univ h_S1x128 rfl) (.inl rfl)) >>= fun _ => κ) Q) :=
  store_wp c sV (Rect.unit (s := S2x256) ![k.val / 2, 128 * (k.val % 2)] S1x128.size (s_inb k)) (diagRow (srBlk X k)) (View.stores_vmem_bits_univ h_S1x128 rfl) (.inl rfl) Finset.univ (scF X) (sP k.val) (sP (k.val + 1)) (Finset.subset_univ _)
    (fun f hf => agree_store (F := F) cc0_stg1_0 (Rect.unit (s := S2x256) ![k.val / 2, 128 * (k.val % 2)] S1x128.size (s_inb k)) f (scF X) (diagRow (srBlk X k)) (fun x => scF_at X k x _
      (by have h : (x 0).val < 1 := (x 0).isLt
          rw [unit_emb_val]; show k.val / 2 + 1 * (x 0).val = k.val / 2; omega)
      (by rw [unit_emb_val]; show 128 * (k.val % 2) + 1 * (x 1).val = 128 * (k.val % 2) + (x 1).val; omega)) hf (s_cover k)) κ Q
theorem scaleStep_wp (k : Fin 4) (κ : PU F) (Q : PUnit → sProp 𝕄) :
    iprop(At c cc0_scratch4 Finset.univ (srF X) ∗ Agr c cc0_stg1_0 Finset.univ (scF X) (sP k.val))
      ⊢ iprop((iprop(At c cc0_scratch4 Finset.univ (srF X) ∗ Agr c cc0_stg1_0 Finset.univ (scF X) (sP (k.val + 1))) -∗ WP c κ Q) -∗ WP c (scaleStep k κ) Q) := by
  unfold scaleStep
  iintro ⟨Hr, Hs⟩ Hk
  iapply (sLoad c X k _ _) $$ Hr
  iintro Hr
  iapply (sDrop c X k _ _ _) $$ Hs
  iintro Hs
  iapply (sStore c X k _ _) $$ Hs
  iintro Hs
  iapply Hk
  isplitl [Hr] <;> iassumption

/-! ## The sum -/

theorem access_sub_slot (j : Fin 11) (t : Fin k0_t2_loop.trips) : (wV.access (Rect.unit (s := S11x2048x512) ![j.val, sRow t, 0] S1x32x512.size (sum_inb j t))).set ⊆ (wSlot j).view.set := by
  intro i hi
  rw [show (wV.access (Rect.unit (s := S11x2048x512) ![j.val, sRow t, 0] S1x32x512.size (sum_inb j t))).set = (Rect.unit (s := S11x2048x512) ![j.val, sRow t, 0] S1x32x512.size (sum_inb j t)).set from View.set_slice_whole cc0_scratch1 _] at hi
  refine (mem_wSlot j i).mpr ?_
  have h := Rect.mem_set_unit.mp hi 0
  have h1 : j.val ≤ (i 0).val := h.1
  have h2 : (i 0).val < j.val + 1 := h.2
  omega
theorem wRows_read (j : Fin 11) (t : Fin k0_t2_loop.trips) (ht : t.val < 64) : (wV.access (Rect.unit (s := S11x2048x512) ![j.val, sRow t, 0] S1x32x512.size (sum_inb j t))).read (Elt F) (wvF W) = wRows W j ⟨t.val, ht⟩ := by
  have hr := sRow_eq t
  funext x
  have hx : (x 0).val < 1 := (x 0).isLt
  refine (View.read_apply _ _).trans ((cast_eq _ _).trans ?_)
  show W (ix2 ⟨((Rect.unit (s := S11x2048x512) ![j.val, sRow t, 0] S1x32x512.size (sum_inb j t)).emb x 1).val, _⟩ ⟨512 * ((Rect.unit (s := S11x2048x512) ![j.val, sRow t, 0] S1x32x512.size (sum_inb j t)).emb x 0).val + ((Rect.unit (s := S11x2048x512) ![j.val, sRow t, 0] S1x32x512.size (sum_inb j t)).emb x 2).val, _⟩) = W _
  refine congrArg W (ix2_ext ?_ ?_)
  · show sRow t + 1 * (x 1).val = 32 * t.val + (x 1).val; omega
  · show 512 * (j.val + 1 * (x 0).val) + (0 + 1 * (x 2).val) = 512 * j.val + (x 2).val; omega
theorem sumLoad {α : Type} (j : Fin 11) (t : Fin k0_t2_loop.trips) (ht : t.val < 64) (κ : Vec F S1x32x512 .bf16 → Prog (TpuEff nD τ sig (Elt F) Λ₀ .tc) α) (Q : α → sProp 𝕄) :
    At c cc0_scratch1 (wSlot j).view.set (wvF W) ⊢ iprop((At c cc0_scratch1 (wSlot j).view.set (wvF W) -∗ WP c (κ (wRows W j ⟨t.val, ht⟩)) Q) -∗
      WP c (Prog.lift (.load wV (Rect.unit (s := S11x2048x512) ![j.val, sRow t, 0] S1x32x512.size (sum_inb j t)).toLoadRect (View.loadsAt_vmem h_S1x32x512)) >>= κ) Q) :=
  load_wp c wV (Rect.unit (s := S11x2048x512) ![j.val, sRow t, 0] S1x32x512.size (sum_inb j t)) (View.loadsAt_vmem h_S1x32x512) (wSlot j).view.set (wvF W) (wRows W j ⟨t.val, ht⟩) (access_sub_slot j t) (wRows_read W j t ht) κ Q
theorem accN_succ (j : Fin 11) (a : FVec F S32x512 .f32) (n : Nat) (h : n < 64) : accN W j a (n + 1) = absAcc (accN W j a n) (wRows W j ⟨n, h⟩) := by
  show (if h : n < 64 then _ else _) = _
  rw [dif_pos h]
/-- What the loop holds before trip `n`: the sum so far. -/
abbrev sInv (j : Fin 11) (a : FVec F S32x512 .f32) (n : Nat) (b : FVec F S32x512 .f32) : sProp 𝕄 :=
  iprop(⌜b = accN W j a n⌝ ∗ At c cc0_scratch1 (wSlot j).view.set (wvF W))
theorem sumTrip_wp (j : Fin 11) (a : FVec F S32x512 .f32) (t : Fin k0_t2_loop.trips) (b : FVec F S32x512 .f32) :
    sInv c W j a t.val b ⊢ WP c (sumTrip j t b) (sInv c W j a (t.val + 1)) := by
  have ht : t.val < 64 := lt_of_lt_of_eq t.isLt trips2
  unfold sumTrip
  iintro ⟨%hb, Hw⟩
  iapply (sumLoad c W j t ht _ _) $$ Hw
  iintro Hw
  iapply (pure_wp c (absAcc b (wRows W j ⟨t.val, ht⟩)) _)
  isplitr
  · ipureintro; rw [accN_succ W j a t.val ht, hb]
  iexact Hw
theorem sumBlock_wp (j : Fin 11) (a : FVec F S32x512 .f32) (κ : FVec F S32x512 .f32 → PU F) (Q : PUnit → sProp 𝕄) :
    iprop(fW c W j ∗ Ow c) ⊢ iprop((iprop(dW c W j ∗ Z c (wSem j) ∗ Ow c) -∗ WP c (κ (accN W j a 64)) Q) -∗ WP c (sumBlock j a κ) Q) := by
  unfold sumBlock
  iintro ⟨Hf, Ho⟩ Hk
  iapply (waitW_wp c W j _ _) $$ [Hf Ho]
  · isplitl [Hf] <;> iassumption
  iintro ⟨⟨Hw, Hh⟩, Hz, Ho⟩
  iapply (loop_wp c k0_t2_loop k0_t2_ok a (sumTrip j) (sInv c W j a) (fun t b => sumTrip_wp c W j a t b) κ Q) $$ [Hw]
  · isplitr; · ipureintro; rfl
    iexact Hw
  iintro %b ⟨%hb, Hw⟩
  rw [hb, trips2]
  iapply Hk
  isplitl [Hw Hh]
  · isplitl [Hw] <;> iassumption
  isplitl [Hz] <;> iassumption

/-! ## The mean stored -/

theorem gDrop (P : S1x1.Idx → Prop) (κ : PU F) (Q : PUnit → sProp 𝕄) (g : S1x1.Idx → F .f32) :
    Agr c cc0_stg0_0 Finset.univ g P ⊢ iprop((Agr c cc0_stg0_0 Finset.univ g P -∗ WP c κ Q) -∗ WP c (smemLoad gS (Rect.unit (s := S1x1) ![0, 0] S1x1.size inb_S1x1_S1x1_0_0) numel1_S1x1 rfl >>= fun _ => κ) Q) :=
  smemDrop_wp c gS (Rect.unit (s := S1x1) ![0, 0] S1x1.size inb_S1x1_S1x1_0_0) numel1_S1x1 rfl Finset.univ g P (Finset.subset_univ _) κ Q
theorem g_cover (i : S1x1.Idx) : i ∈ (Rect.unit (s := S1x1) ![0, 0] S1x1.size inb_S1x1_S1x1_0_0).set :=
  Rect.mem_set_unit.mpr fun a => by
    match a with
    | 0 => exact ⟨Nat.zero_le _, by have h : (i 0).val < 1 := (i 0).isLt; show (i 0).val < 0 + 1; omega⟩
    | 1 => exact ⟨Nat.zero_le _, by have h : (i 1).val < 1 := (i 1).isLt; show (i 1).val < 0 + 1; omega⟩
theorem gStore (g : F .f32) (P : S1x1.Idx → Prop) (κ : PU F) (Q : PUnit → sProp 𝕄) :
    Agr c cc0_stg0_0 Finset.univ (fun _ => g) P ⊢ iprop((Agr c cc0_stg0_0 Finset.univ (fun _ => g) (fun _ => True) -∗ WP c κ Q) -∗
      WP c (Prog.lift (.store gS (Rect.unit (s := S1x1) ![0, 0] S1x1.size inb_S1x1_S1x1_0_0) (fun _ => g) Finset.univ (View.stores_smem_one rfl numel1_S1x1) (.inl rfl)) >>= fun _ => κ) Q) :=
  store_wp c gS (Rect.unit (s := S1x1) ![0, 0] S1x1.size inb_S1x1_S1x1_0_0) (fun _ => g) (View.stores_smem_one rfl numel1_S1x1) (.inl rfl) Finset.univ (fun _ => g) P (fun _ => True) (Finset.subset_univ _)
    (fun f hf => agree_store (F := F) cc0_stg0_0 (Rect.unit (s := S1x1) ![0, 0] S1x1.size inb_S1x1_S1x1_0_0) f (fun _ => g) (fun _ => g) (fun _ => rfl) hf (fun i _ => .inr (g_cover i))) κ Q
theorem gammaStep_wp (g : F .f32) (κ : PU F) (Q : PUnit → sProp 𝕄) :
    Ex c cc0_stg0_0 Finset.univ ⊢ iprop((At c cc0_stg0_0 Finset.univ (fun _ => g) -∗ WP c κ Q) -∗ WP c (gammaStep g κ) Q) := by
  unfold gammaStep
  iintro H Hk
  ihave H := (ex_agr c cc0_stg0_0 Finset.univ (fun _ => g) (fun _ => False) (fun _ h => h)) $$ H
  iapply (gDrop c _ _ _ _) $$ H
  iintro H
  iapply (gStore c g _ _ _) $$ H
  iintro H
  iapply Hk
  iapply (agr_at c cc0_stg0_0 Finset.univ (fun _ => g) (fun _ => True) (fun _ _ => trivial)); iexact H

end Cert.Kernel.Body

end
-- ==== Proof.Kernel.Blocks.lean ====
/- What each step of the body does to what the core holds: a copy started, a copy waited for, a loop run, a block
   multiplied. Each is stated once, at the block's index and the slot's. -/
module

public import proofs.«01_k».proof.Proof.Kernel.Sums

@[expose] public section

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (c : Dev nD) (X : XT F) (W : WT F)

/-- The threshold. -/
abbrev θF : FVec F S32x128 .bf16 := thetaOf (gF W)

/-! ## The rounding loop -/

theorem wChunk_read (j : Fin 11) (t : Fin k0_t13_loop.trips) (ht : t.val < 64) (e : Fin 4) :
    ((wSlot j).access (Rect.unit (s := S2048x512) ![qRow t, 128 * e.val] S32x128.size (tw_inb e t))).read (Elt F) (wvF W) = wChunk W j ⟨t.val, ht⟩ e := by
  have hr := qRow_eq t
  funext x
  refine (View.read_apply _ _).trans ((cast_eq _ _).trans ?_)
  show wvF W ((wSlot j).view.emb ((Rect.unit (s := S2048x512) ![qRow t, 128 * e.val] S32x128.size (tw_inb e t)).emb x)) = _
  refine (congrArg (wvF W) (wSlot_emb j _)).trans ?_
  show W (ix2 ⟨((Rect.unit (s := S2048x512) ![qRow t, 128 * e.val] S32x128.size (tw_inb e t)).emb x 0).val, _⟩ ⟨512 * j.val + ((Rect.unit (s := S2048x512) ![qRow t, 128 * e.val] S32x128.size (tw_inb e t)).emb x 1).val, _⟩) = W _
  refine congrArg W (ix2_ext ?_ ?_)
  · show qRow t + 1 * (x 0).val = 32 * t.val + (x 0).val; omega
  · show 512 * j.val + (128 * e.val + 1 * (x 1).val) = 512 * j.val + 128 * e.val + (x 1).val; omega

/-- The rounded places before chunk `n` of trip `t`. -/
abbrev tP (b : Fin 2) (t n : Nat) (i : S2x2048x512.Idx) : Prop := (i 0).val = b.val ∧ ((i 1).val < 32 * t ∨ ((i 1).val < 32 * (t + 1) ∧ (i 2).val < 128 * n))
theorem t_cover (b : Fin 2) (t : Fin k0_t13_loop.trips) (e : Fin 4) (i : S2x2048x512.Idx) (h : tP b t.val (e.val + 1) i) :
    tP b t.val e.val i ∨ i ∈ (Rect.unit (s := S2x2048x512) ![b.val, qRow t, 128 * e.val] S1x32x128.size (tb_inb b e t)).set := by
  have hr := qRow_eq t
  obtain ⟨h0, h1⟩ := h
  by_cases h' : tP b t.val e.val i
  · exact .inl h'
  · have h2 : ¬ ((i 1).val < 32 * t.val ∨ ((i 1).val < 32 * (t.val + 1) ∧ (i 2).val < 128 * e.val)) := fun h => h' ⟨h0, h⟩
    refine .inr (Rect.mem_set_unit.mpr fun a => ?_)
    match a with
    | 0 => exact ⟨by show b.val ≤ (i 0).val; omega, by show (i 0).val < b.val + 1; omega⟩
    | 1 => exact ⟨by show qRow t ≤ (i 1).val; omega, by show (i 1).val < qRow t + 32; omega⟩
    | 2 => exact ⟨by show 128 * e.val ≤ (i 2).val; omega, by show (i 2).val < 128 * e.val + 128; omega⟩
theorem tbBlk_at (j : Fin 11) (t : Fin 64) (e : Fin 4) (p : Fin 32) (l : Fin 128) (i : S1x2048x512.Idx) (h1 : (i 1).val = 32 * t.val + p.val) (h2 : (i 2).val = 128 * e.val + l.val) :
    tern (θF W) (wChunk W j t e) (ix2 p l) = tbBlk W j i := by
  have e1 : t = ⟨(i 1).val / 32, by have := t.isLt; omega⟩ := Fin.ext (by show t.val = (i 1).val / 32; omega)
  have e2 : e = ⟨(i 2).val / 128, by have := e.isLt; omega⟩ := Fin.ext (by show e.val = (i 2).val / 128; omega)
  have e3 : (ix2 p l : S32x128.Idx) = ix2 ⟨(i 1).val % 32, by omega⟩ ⟨(i 2).val % 128, by omega⟩ :=
    ix2_ext (by show p.val = (i 1).val % 32; omega) (by show l.val = (i 2).val % 128; omega)
  have e4 : wChunk W j t e = wChunk W j ⟨(i 1).val / 32, by have := t.isLt; omega⟩ ⟨(i 2).val / 128, by have := e.isLt; omega⟩ := congr (congrArg (fun t e => wChunk W j t e) e1) e2
  exact congr (congrArg (tern (θF W)) e4) e3
theorem ternS_at (j : Fin 11) (b : Fin 2) (t : Fin 64) (e : Fin 4) (x : S1x32x128.Idx) (i : S2x2048x512.Idx)
    (h1 : (i 1).val = 32 * t.val + (x 1).val) (h2 : (i 2).val = 128 * e.val + (x 2).val) : ternS (θF W) (wChunk W j t e) x = tbF W j i := by
  have hx : x = ix3 (0 : Fin 1) (x 1) (x 2) := ix3_ext (by have h : (x 0).val < 1 := (x 0).isLt; show (x 0).val = 0; omega) rfl rfl
  have e1 : ternS (θF W) (wChunk W j t e) (ix3 (0 : Fin 1) (x 1) (x 2)) = tern (θF W) (wChunk W j t e) (ix2 (x 1) (x 2)) := by
    unfold ternS
    rw [shapeCast_self]
    exact shapeCast_ab_1ab_apply _ _ _ _ _
  refine (congrArg _ hx).trans (e1.trans ?_)
  exact tbBlk_at W j t e (x 1) (x 2) (ix3 (0 : Fin 1) (i 1) (i 2)) h1 h2

theorem tLoad (j : Fin 11) (t : Fin k0_t13_loop.trips) (ht : t.val < 64) (e : Fin 4) (κ : Vec F S32x128 .bf16 → PU F) (Q : PUnit → sProp 𝕄) :
    At c cc0_scratch1 (wSlot j).view.set (wvF W) ⊢ iprop((At c cc0_scratch1 (wSlot j).view.set (wvF W) -∗ WP c (κ (wChunk W j ⟨t.val, ht⟩ e)) Q) -∗
      WP c (Prog.lift (.load (wSlot j) (Rect.unit (s := S2048x512) ![qRow t, 128 * e.val] S32x128.size (tw_inb e t)).toLoadRect (View.loadsAt_vmem h_S32x128)) >>= κ) Q) :=
  load_wp c (wSlot j) (Rect.unit (s := S2048x512) ![qRow t, 128 * e.val] S32x128.size (tw_inb e t)) (View.loadsAt_vmem h_S32x128) (wSlot j).view.set (wvF W) (wChunk W j ⟨t.val, ht⟩ e) (access_set _ _) (wChunk_read W j t ht e) κ Q
theorem tDrop (j : Fin 11) (b : Fin 2) (t : Fin k0_t13_loop.trips) (e : Fin 4) (P : S2x2048x512.Idx → Prop) (κ : PU F) (Q : PUnit → sProp 𝕄) :
    Agr c cc0_scratch5 Finset.univ (tbF W j) P ⊢ iprop((Agr c cc0_scratch5 Finset.univ (tbF W j) P -∗ WP c κ Q) -∗
      WP c (Prog.lift (.load (tSlot b) (Rect.unit (s := S2048x512) ![qRow t, 128 * e.val] S32x128.size (tw_inb e t)).toLoadRect (View.loadsAt_vmem h_S32x128)) >>= fun _ => κ) Q) :=
  drop_wp c (tSlot b) (Rect.unit (s := S2048x512) ![qRow t, 128 * e.val] S32x128.size (tw_inb e t)) (View.loadsAt_vmem h_S32x128) Finset.univ (tbF W j) P (Finset.subset_univ _) κ Q
theorem tStore (j : Fin 11) (b : Fin 2) (t : Fin k0_t13_loop.trips) (ht : t.val < 64) (e : Fin 4) (κ : PU F) (Q : PUnit → sProp 𝕄) :
    Agr c cc0_scratch5 Finset.univ (tbF W j) (tP b t.val e.val) ⊢ iprop((Agr c cc0_scratch5 Finset.univ (tbF W j) (tP b t.val (e.val + 1)) -∗ WP c κ Q) -∗
      WP c (Prog.lift (.store tV (Rect.unit (s := S2x2048x512) ![b.val, qRow t, 128 * e.val] S1x32x128.size (tb_inb b e t)) (ternS (θF W) (wChunk W j ⟨t.val, ht⟩ e)) Finset.univ (View.stores_vmem h_S1x32x128 ((Memref.isWhole_whole _).storeExact_slice rfl _ (tb_packed b e t)) (fun _ => rfl)) (.inl rfl)) >>= fun _ => κ) Q) :=
  store_wp c tV (Rect.unit (s := S2x2048x512) ![b.val, qRow t, 128 * e.val] S1x32x128.size (tb_inb b e t)) (ternS (θF W) (wChunk W j ⟨t.val, ht⟩ e)) (View.stores_vmem h_S1x32x128 ((Memref.isWhole_whole _).storeExact_slice rfl _ (tb_packed b e t)) (fun _ => rfl)) (.inl rfl) Finset.univ (tbF W j) (tP b t.val e.val) (tP b t.val (e.val + 1)) (Finset.subset_univ _)
    (fun f hf => agree_store (F := F) cc0_scratch5 (Rect.unit (s := S2x2048x512) ![b.val, qRow t, 128 * e.val] S1x32x128.size (tb_inb b e t)) f (tbF W j) (ternS (θF W) (wChunk W j ⟨t.val, ht⟩ e)) (fun x => ternS_at W j b ⟨t.val, ht⟩ e x _
      (by have hr := qRow_eq t
          rw [unit_emb_val]; show qRow t + 1 * (x 1).val = 32 * t.val + (x 1).val; omega)
      (by rw [unit_emb_val]; show 128 * e.val + 1 * (x 2).val = 128 * e.val + (x 2).val; omega)) hf (t_cover b t e)) κ Q
theorem ternStep_wp (j : Fin 11) (b : Fin 2) (t : Fin k0_t13_loop.trips) (ht : t.val < 64) (e : Fin 4) (κ : Vec F S32x128 .bf16 → PU F) (Q : PUnit → sProp 𝕄) :
    iprop(At c cc0_scratch1 (wSlot j).view.set (wvF W) ∗ Agr c cc0_scratch5 Finset.univ (tbF W j) (tP b t.val e.val))
      ⊢ iprop((iprop(At c cc0_scratch1 (wSlot j).view.set (wvF W) ∗ Agr c cc0_scratch5 Finset.univ (tbF W j) (tP b t.val (e.val + 1))) -∗ WP c (κ (wChunk W j ⟨t.val, ht⟩ e)) Q)
        -∗ WP c (ternStep j b (θF W) t e κ) Q) := by
  unfold ternStep
  iintro ⟨Hw, Ht⟩ Hk
  iapply (tLoad c W j t ht e _ _) $$ Hw
  iintro Hw
  iapply (tDrop c W j b t e _ _ _) $$ Ht
  iintro Ht
  iapply (tStore c W j b t ht e _ _) $$ Ht
  iintro Ht
  iapply Hk
  isplitl [Hw] <;> iassumption

/-- Agreement at fewer places. -/
theorem agr_mono (b : Ref sig .tc) (S : Finset b.ty.Idx) (g : b.ty.Contents (Elt F)) (P P' : b.ty.Idx → Prop) (h : ∀ i, P' i → P i) : Agr c b S g P ⊢ Agr c b S g P' := by
  iintro ⟨%f, %hf, H⟩
  iexists f
  isplitr; · ipureintro; exact fun i hi => hf i (h i hi)
  iexact H

/-- The packed rows before trip `t`. -/
abbrev pP (b : Fin 2) (t : Nat) (i : S2x2048x128.Idx) : Prop := (i 0).val = b.val ∧ (i 1).val < 32 * t
theorem p_cover (b : Fin 2) (t : Fin k0_t13_loop.trips) (i : S2x2048x128.Idx) (h : pP b (t.val + 1) i) : pP b t.val i ∨ i ∈ (Rect.unit (s := S2x2048x128) ![b.val, qRow t, 0] S1x32x128.size (pb_inb b t)).set := by
  have hr := qRow_eq t
  obtain ⟨h0, h1⟩ := h
  by_cases h' : (i 1).val < 32 * t.val
  · exact .inl ⟨h0, h'⟩
  · have hi : (i 2).val < 128 := (i 2).isLt
    refine .inr (Rect.mem_set_unit.mpr fun a => ?_)
    match a with
    | 0 => exact ⟨by show b.val ≤ (i 0).val; omega, by show (i 0).val < b.val + 1; omega⟩
    | 1 => exact ⟨by show qRow t ≤ (i 1).val; omega, by show (i 1).val < qRow t + 32; omega⟩
    | 2 => exact ⟨by show 0 ≤ (i 2).val; omega, by show (i 2).val < 0 + 128; omega⟩
theorem p_sub (b : Fin 2) (t : Fin k0_t13_loop.trips) : (pV.access (Rect.unit (s := S2x2048x128) ![b.val, qRow t, 0] S1x32x128.size (pb_inb b t))).set ⊆ (pSlot b).view.set := by
  intro i hi
  rw [show (pV.access (Rect.unit (s := S2x2048x128) ![b.val, qRow t, 0] S1x32x128.size (pb_inb b t))).set = (Rect.unit (s := S2x2048x128) ![b.val, qRow t, 0] S1x32x128.size (pb_inb b t)).set from View.set_slice_whole cc0_scratch7 _] at hi
  refine (mem_pSlot b i).mpr ?_
  have h := Rect.mem_set_unit.mp hi 0
  have h1 : b.val ≤ (i 0).val := h.1
  have h2 : (i 0).val < b.val + 1 := h.2
  omega
theorem pkBlk_at (j : Fin 11) (t : Fin 64) (p : Fin 32) (l : Fin 128) (i : S2048x128.Idx) (h1 : (i 0).val = 32 * t.val + p.val) (h2 : (i 1).val = l.val) :
    pkRows W j t (ix2 p l) = pkBlk W j i := by
  have e1 : t = ⟨(i 0).val / 32, by have := t.isLt; omega⟩ := Fin.ext (by show t.val = (i 0).val / 32; omega)
  have e3 : (ix2 p l : S32x128.Idx) = ix2 ⟨(i 0).val % 32, by omega⟩ (i 1) := ix2_ext (by show p.val = (i 0).val % 32; omega) h2.symm
  exact congr (congrArg (fun t => pkRows W j t) e1) e3
/-- The packed bytes of a trip, as the program stores them. -/
abbrev pkS (j : Fin 11) (t : Fin 64) : Vec F S1x32x128 .i8 := packS (θF W) (wChunk W j t 0) (wChunk W j t 1) (wChunk W j t 2) (wChunk W j t 3)
theorem packS_at (j : Fin 11) (t : Fin 64) (x : S1x32x128.Idx) (i : S2x2048x128.Idx)
    (h1 : (i 1).val = 32 * t.val + (x 1).val) (h2 : (i 2).val = (x 2).val) : (pkS W j t x : BitVec 8) = pbF W j i := by
  have hx : x = ix3 (0 : Fin 1) (x 1) (x 2) := ix3_ext (by have h : (x 0).val < 1 := (x 0).isLt; show (x 0).val = 0; omega) rfl rfl
  have e1 : (pkS W j t (ix3 (0 : Fin 1) (x 1) (x 2)) : BitVec 8) = pkRows W j t (ix2 (x 1) (x 2)) := by
    unfold pkS packS
    rw [shapeCast_self]
    exact shapeCast_ab_1ab_apply _ _ _ _ _
  refine (congrArg (fun x => (pkS W j t x : BitVec 8)) hx).trans (e1.trans ?_)
  exact pkBlk_at W j t (x 1) (x 2) (ix2 (i 1) (i 2)) h1 h2
theorem pDrop (j : Fin 11) (b : Fin 2) (t : Fin k0_t13_loop.trips) (P : S2x2048x128.Idx → Prop) (κ : PU F) (Q : PUnit → sProp 𝕄) :
    Agr c cc0_scratch7 (pSlot b).view.set (pbF W j) P ⊢ iprop((Agr c cc0_scratch7 (pSlot b).view.set (pbF W j) P -∗ WP c κ Q) -∗
      WP c (Prog.lift (.load (pSlot b) (Rect.unit (s := S2048x128) ![qRow t, 0] S32x128.size (tp_inb t)).toLoadRect (View.loadsAt_vmem h_S32x128)) >>= fun _ => κ) Q) :=
  drop_wp c (pSlot b) (Rect.unit (s := S2048x128) ![qRow t, 0] S32x128.size (tp_inb t)) (View.loadsAt_vmem h_S32x128) (pSlot b).view.set (pbF W j) P (access_set _ _) κ Q
theorem pStore (j : Fin 11) (b : Fin 2) (t : Fin k0_t13_loop.trips) (ht : t.val < 64) (κ : PU F) (Q : PUnit → sProp 𝕄) :
    Agr c cc0_scratch7 (pSlot b).view.set (pbF W j) (pP b t.val) ⊢ iprop((Agr c cc0_scratch7 (pSlot b).view.set (pbF W j) (pP b (t.val + 1)) -∗ WP c κ Q) -∗
      WP c (Prog.lift (.store pV (Rect.unit (s := S2x2048x128) ![b.val, qRow t, 0] S1x32x128.size (pb_inb b t)) (pkS W j ⟨t.val, ht⟩) Finset.univ (View.stores_vmem h_S1x32x128 ((Memref.isWhole_whole _).storeExact_slice rfl _ (pb_packed b t)) (fun _ => rfl)) (.inl rfl)) >>= fun _ => κ) Q) :=
  store_wp c pV (Rect.unit (s := S2x2048x128) ![b.val, qRow t, 0] S1x32x128.size (pb_inb b t)) (pkS W j ⟨t.val, ht⟩) (View.stores_vmem h_S1x32x128 ((Memref.isWhole_whole _).storeExact_slice rfl _ (pb_packed b t)) (fun _ => rfl)) (.inl rfl) (pSlot b).view.set (pbF W j) (pP b t.val) (pP b (t.val + 1)) (p_sub b t)
    (fun f hf => agree_store (F := F) cc0_scratch7 (Rect.unit (s := S2x2048x128) ![b.val, qRow t, 0] S1x32x128.size (pb_inb b t)) f (pbF W j) (pkS W j ⟨t.val, ht⟩) (fun x => packS_at W j ⟨t.val, ht⟩ x _
      (by have hr := qRow_eq t
          rw [unit_emb_val]; show qRow t + 1 * (x 1).val = 32 * t.val + (x 1).val; omega)
      (by rw [unit_emb_val]; show 0 + 1 * (x 2).val = (x 2).val; omega)) hf (p_cover b t)) κ Q

/-- What the loop holds before trip `n`. -/
abbrev tInv (j : Fin 11) (b : Fin 2) (n : Nat) : sProp 𝕄 :=
  iprop(At c cc0_scratch1 (wSlot j).view.set (wvF W) ∗ Agr c cc0_scratch5 Finset.univ (tbF W j) (tP b n 0)
    ∗ Agr c cc0_scratch7 (pSlot b).view.set (pbF W j) (pP b n))
theorem ternTrip_wp (j : Fin 11) (b : Fin 2) (t : Fin k0_t13_loop.trips) : tInv c W j b t.val ⊢ WP c (ternTrip j b (θF W) t) (fun _ => tInv c W j b (t.val + 1)) := by
  have ht : t.val < 64 := lt_of_lt_of_eq t.isLt trips13
  unfold ternTrip
  iintro ⟨Hw, Ht, Hp⟩
  iapply (ternStep_wp c W j b t ht 0 _ _) $$ [Hw Ht]
  · isplitl [Hw] <;> iassumption
  iintro ⟨Hw, Ht⟩
  iapply (ternStep_wp c W j b t ht 1 _ _) $$ [Hw Ht]
  · isplitl [Hw] <;> iassumption
  iintro ⟨Hw, Ht⟩
  iapply (ternStep_wp c W j b t ht 2 _ _) $$ [Hw Ht]
  · isplitl [Hw] <;> iassumption
  iintro ⟨Hw, Ht⟩
  iapply (ternStep_wp c W j b t ht 3 _ _) $$ [Hw Ht]
  · isplitl [Hw] <;> iassumption
  iintro ⟨Hw, Ht⟩
  iapply (pDrop c W j b t _ _ _) $$ Hp
  iintro Hp
  iapply (pStore c W j b t ht _ _) $$ Hp
  iintro Hp
  iapply (pure_wp c PUnit.unit _)
  isplitl [Hw]; · iexact Hw
  isplitl [Ht]
  · iapply (agr_mono c cc0_scratch5 Finset.univ (tbF W j) (tP b t.val 4) (tP b (t.val + 1) 0) (fun i h => by
      have hi : (i 2).val < 512 := (i 2).isLt
      obtain ⟨h0, h1⟩ := h
      exact ⟨h0, by omega⟩))
    iexact Ht
  iexact Hp
theorem ternLoop_wp (j : Fin 11) (b : Fin 2) (κ : PU F) (Q : PUnit → sProp 𝕄) :
    iprop(At c cc0_scratch1 (wSlot j).view.set (wvF W) ∗ Ex c cc0_scratch5 Finset.univ ∗ Ex c cc0_scratch7 (pSlot b).view.set)
      ⊢ iprop((iprop(At c cc0_scratch1 (wSlot j).view.set (wvF W) ∗ Agr c cc0_scratch5 Finset.univ (tbF W j) (fun i => (i 0).val = b.val)
          ∗ At c cc0_scratch7 (pSlot b).view.set (pbF W j)) -∗ WP c κ Q)
        -∗ WP c (ternLoop j b (θF W) >>= fun _ => κ) Q) := by
  unfold ternLoop
  iintro ⟨Hw, Ht, Hp⟩ Hk
  iapply (loop_wp c k0_t13_loop k0_t13_ok PUnit.unit (fun t _ => ternTrip j b (θF W) t) (fun n _ => tInv c W j b n) (fun t _ => ternTrip_wp c W j b t) (fun _ => κ) Q) $$ [Hw Ht Hp]
  · isplitl [Hw]; · iexact Hw
    isplitl [Ht]; · iapply (ex_agr c cc0_scratch5 Finset.univ (tbF W j) (tP b 0 0) (fun i h => by obtain ⟨h0, h1⟩ := h; omega)); iexact Ht
    iapply (ex_agr c cc0_scratch7 (pSlot b).view.set (pbF W j) (pP b 0) (fun i h => by obtain ⟨h0, h1⟩ := h; omega)); iexact Hp
  iintro %a ⟨Hw, Ht, Hp⟩
  iapply Hk
  have h1 : ∀ i : S2x2048x512.Idx, (i 0).val = b.val → tP b k0_t13_loop.trips 0 i := fun i h => by
    have hi : (i 1).val < 2048 := (i 1).isLt
    have := trips13
    exact ⟨h, .inl (by omega)⟩
  have h2 : ∀ i ∈ (pSlot b).view.set, pP b k0_t13_loop.trips i := fun i h => by
    have hi : (i 1).val < 2048 := (i 1).isLt
    have := trips13
    exact ⟨(mem_pSlot b i).mp h, by omega⟩
  isplitl [Hw]; · iexact Hw
  isplitl [Ht]; · iapply (agr_mono c cc0_scratch5 Finset.univ (tbF W j) _ (fun i => (i 0).val = b.val) h1); iexact Ht
  iapply (agr_at c cc0_scratch7 (pSlot b).view.set (pbF W j) _ h2); iexact Hp

/-! ## The product of a block -/

theorem cb_read (f : S512x2048.Idx → F .bf16) : (cbV.access (Rect.unit (s := S512x2048) ![0, 0] S512x2048.size inb_S512x2048_S512x2048_0_0)).read (Elt F) f = f :=
  Memref.read_access_unit_zero (Elt F) cc0_scratch2 (off := ![0, 0]) (by funext a; match a with | 0 => rfl | 1 => rfl) inb_S512x2048_S512x2048_0_0 f
theorem sCol_read : (srV.access (Rect.unit (s := S512x128) ![0, 0] S512x1.size inb_S512x128_S512x1_0_0)).read (Elt F) (srF X) = sCol X := by
  funext x
  have hx : (x 1).val < 1 := (x 1).isLt
  refine (View.read_apply _ _).trans ((cast_eq _ _).trans ?_)
  show srF X ((Rect.unit (s := S512x128) ![0, 0] S512x1.size inb_S512x128_S512x1_0_0).emb x) = srF X _
  exact congrArg (srF X) (ix2_ext (by rw [unit_emb_val]; show 0 + 1 * (x 0).val = (x 0).val; omega)
    (by rw [unit_emb_val]; show 0 + 1 * (x 1).val = 0; omega))
theorem tb_read (j : Fin 11) (b : Fin 2) (f : S2x2048x512.Idx → F .bf16) (hf : ∀ i, (i 0).val = b.val → f i = tbF W j i) : (tV.access (Rect.unit (s := S2x2048x512) ![b.val, 0, 0] S1x2048x512.size (tSlot_inb b))).read (Elt F) f = tbBlk W j := by
  funext x
  have hx : (x 0).val < 1 := (x 0).isLt
  refine (View.read_apply _ _).trans ((cast_eq _ _).trans ?_)
  show f ((Rect.unit (s := S2x2048x512) ![b.val, 0, 0] S1x2048x512.size (tSlot_inb b)).emb x) = tbBlk W j x
  refine (hf _ (by rw [unit_emb_val]; show b.val + 1 * (x 0).val = b.val; omega)).trans ?_
  show tbBlk W j (ix3 (0 : Fin 1) ((Rect.unit (s := S2x2048x512) ![b.val, 0, 0] S1x2048x512.size (tSlot_inb b)).emb x 1) ((Rect.unit (s := S2x2048x512) ![b.val, 0, 0] S1x2048x512.size (tSlot_inb b)).emb x 2)) = tbBlk W j x
  refine congrArg (tbBlk W j) (ix3_ext (by show 0 = (x 0).val; omega) ?_ ?_)
  · show 0 + 1 * (x 1).val = (x 1).val; omega
  · show 0 + 1 * (x 2).val = (x 2).val; omega
theorem mLoadC (κ : Vec F S512x2048 .bf16 → PU F) (Q : PUnit → sProp 𝕄) :
    At c cc0_scratch2 Finset.univ (cbF X) ⊢ iprop((At c cc0_scratch2 Finset.univ (cbF X) -∗ WP c (κ (cbF X)) Q) -∗
      WP c (Prog.lift (.load cbV (Rect.unit (s := S512x2048) ![0, 0] S512x2048.size inb_S512x2048_S512x2048_0_0).toLoadRect (View.loadsAt_vmem h_S512x2048)) >>= κ) Q) :=
  load_wp c cbV (Rect.unit (s := S512x2048) ![0, 0] S512x2048.size inb_S512x2048_S512x2048_0_0) (View.loadsAt_vmem h_S512x2048) Finset.univ (cbF X) (cbF X) (Finset.subset_univ _) (cb_read (cbF X)) κ Q
theorem mLoadS (κ : Vec F S512x1 .f32 → PU F) (Q : PUnit → sProp 𝕄) :
    At c cc0_scratch4 Finset.univ (srF X) ⊢ iprop((At c cc0_scratch4 Finset.univ (srF X) -∗ WP c (κ (sCol X)) Q) -∗
      WP c (Prog.lift (.load srV (Rect.unit (s := S512x128) ![0, 0] S512x1.size inb_S512x128_S512x1_0_0).toLoadRect (View.loadsAt_vmem h_S512x1)) >>= κ) Q) :=
  load_wp c srV (Rect.unit (s := S512x128) ![0, 0] S512x1.size inb_S512x128_S512x1_0_0) (View.loadsAt_vmem h_S512x1) Finset.univ (srF X) (sCol X) (Finset.subset_univ _) (sCol_read X) κ Q
theorem mLoadT (j : Fin 11) (b : Fin 2) (κ : Vec F S1x2048x512 .bf16 → PU F) (Q : PUnit → sProp 𝕄) :
    Agr c cc0_scratch5 Finset.univ (tbF W j) (fun i => (i 0).val = b.val) ⊢ iprop((Ex c cc0_scratch5 Finset.univ -∗ WP c (κ (tbBlk W j)) Q) -∗
      WP c (Prog.lift (.load tV (Rect.unit (s := S2x2048x512) ![b.val, 0, 0] S1x2048x512.size (tSlot_inb b)).toLoadRect (View.loadsAt_vmem h_S1x2048x512)) >>= κ) Q) := by
  iintro ⟨%f, %hf, H⟩ Hk
  iapply (load_wp c tV (Rect.unit (s := S2x2048x512) ![b.val, 0, 0] S1x2048x512.size (tSlot_inb b)) (View.loadsAt_vmem h_S1x2048x512) Finset.univ f (tbBlk W j) (Finset.subset_univ _) (tb_read W j b f hf) κ Q) $$ H
  iintro H
  iapply Hk
  iexists f
  iexact H
theorem y_sub (b : Fin 2) : (yV.access (Rect.unit (s := S2x512x512) ![b.val, 0, 0] S1x512x512.size (ySlot_inb b))).set ⊆ (ySlot b).view.set := by
  intro i hi
  rw [show (yV.access (Rect.unit (s := S2x512x512) ![b.val, 0, 0] S1x512x512.size (ySlot_inb b))).set = (Rect.unit (s := S2x512x512) ![b.val, 0, 0] S1x512x512.size (ySlot_inb b)).set from View.set_slice_whole cc0_scratch6 _] at hi
  refine (mem_ySlot b i).mpr ?_
  have h := Rect.mem_set_unit.mp hi 0
  have h1 : b.val ≤ (i 0).val := h.1
  have h2 : (i 0).val < b.val + 1 := h.2
  omega
theorem y_cover (b : Fin 2) (i : S2x512x512.Idx) (h : (i 0).val = b.val) : i ∈ (Rect.unit (s := S2x512x512) ![b.val, 0, 0] S1x512x512.size (ySlot_inb b)).set := by
  refine Rect.mem_set_unit.mpr fun a => ?_
  match a with
  | 0 => exact ⟨by show b.val ≤ (i 0).val; omega, by show (i 0).val < b.val + 1; omega⟩
  | 1 => exact ⟨Nat.zero_le _, by have h : (i 1).val < 512 := (i 1).isLt; show (i 1).val < 0 + 512; omega⟩
  | 2 => exact ⟨Nat.zero_le _, by have h : (i 2).val < 512 := (i 2).isLt; show (i 2).val < 0 + 512; omega⟩
/-- The product of a block, as the program stores it. -/
abbrev yBS (j : Fin 11) : Vec F S1x512x512 .bf16 := yS (gF W) (cbF X) (tbBlk W j) (sCol X)
theorem yS_at (j : Fin 11) (x : S1x512x512.Idx) (i : S2x512x512.Idx) (h1 : (i 1).val = (x 1).val) (h2 : (i 2).val = (x 2).val) : yBS X W j x = ybF X W j i := by
  have hx : x = ix3 (0 : Fin 1) (x 1) (x 2) := ix3_ext (by have h : (x 0).val < 1 := (x 0).isLt; show (x 0).val = 0; omega) rfl rfl
  have e1 : yBS X W j (ix3 (0 : Fin 1) (x 1) (x 2)) = yBlk X W j (ix2 (x 1) (x 2)) := shapeCast_ab_1ab_apply _ _ _ _ _
  refine (congrArg (yBS X W j) hx).trans (e1.trans ?_)
  exact congrArg (yBlk X W j) (ix2_ext h1.symm h2.symm)
theorem mDropY (j : Fin 11) (b : Fin 2) (P : S2x512x512.Idx → Prop) (κ : PU F) (Q : PUnit → sProp 𝕄) :
    Agr c cc0_scratch6 (ySlot b).view.set (ybF X W j) P ⊢ iprop((Agr c cc0_scratch6 (ySlot b).view.set (ybF X W j) P -∗ WP c κ Q) -∗
      WP c (Prog.lift (.load yV (Rect.unit (s := S2x512x512) ![b.val, 0, 0] S1x512x512.size (ySlot_inb b)).toLoadRect (View.loadsAt_vmem h_S1x512x512)) >>= fun _ => κ) Q) :=
  drop_wp c yV (Rect.unit (s := S2x512x512) ![b.val, 0, 0] S1x512x512.size (ySlot_inb b)) (View.loadsAt_vmem h_S1x512x512) (ySlot b).view.set (ybF X W j) P (y_sub b) κ Q
theorem mStoreY (j : Fin 11) (b : Fin 2) (P : S2x512x512.Idx → Prop) (κ : PU F) (Q : PUnit → sProp 𝕄) :
    Agr c cc0_scratch6 (ySlot b).view.set (ybF X W j) P ⊢ iprop((Agr c cc0_scratch6 (ySlot b).view.set (ybF X W j) (fun i => (i 0).val = b.val) -∗ WP c κ Q) -∗
      WP c (Prog.lift (.store yV (Rect.unit (s := S2x512x512) ![b.val, 0, 0] S1x512x512.size (ySlot_inb b)) (yBS X W j) Finset.univ (View.stores_vmem h_S1x512x512 ((Memref.isWhole_whole _).storeExact_slice rfl _ (ySlot_packed b)) (fun _ => rfl)) (.inl rfl)) >>= fun _ => κ) Q) :=
  store_wp c yV (Rect.unit (s := S2x512x512) ![b.val, 0, 0] S1x512x512.size (ySlot_inb b)) (yBS X W j) (View.stores_vmem h_S1x512x512 ((Memref.isWhole_whole _).storeExact_slice rfl _ (ySlot_packed b)) (fun _ => rfl)) (.inl rfl) (ySlot b).view.set (ybF X W j) P (fun i => (i 0).val = b.val) (y_sub b)
    (fun f hf => agree_store (F := F) cc0_scratch6 (Rect.unit (s := S2x512x512) ![b.val, 0, 0] S1x512x512.size (ySlot_inb b)) f (ybF X W j) (yBS X W j) (fun x => yS_at X W j x _
      (by rw [unit_emb_val]; show 0 + 1 * (x 1).val = (x 1).val; omega)
      (by rw [unit_emb_val]; show 0 + 1 * (x 2).val = (x 2).val; omega)) hf (fun i h => .inr (y_cover b i h))) κ Q
theorem mulStep_wp (j : Fin 11) (b : Fin 2) (κ : PU F) (Q : PUnit → sProp 𝕄) :
    iprop(At c cc0_scratch2 Finset.univ (cbF X) ∗ Agr c cc0_scratch5 Finset.univ (tbF W j) (fun i => (i 0).val = b.val) ∗ At c cc0_scratch4 Finset.univ (srF X)
        ∗ Ex c cc0_scratch6 (ySlot b).view.set)
      ⊢ iprop((iprop(At c cc0_scratch2 Finset.univ (cbF X) ∗ Ex c cc0_scratch5 Finset.univ ∗ At c cc0_scratch4 Finset.univ (srF X)
          ∗ At c cc0_scratch6 (ySlot b).view.set (ybF X W j)) -∗ WP c κ Q) -∗ WP c (mulStep b (gF W) κ) Q) := by
  unfold mulStep
  iintro ⟨Hc, Ht, Hs, Hy⟩ Hk
  iapply (mLoadC c X _ _) $$ Hc
  iintro Hc
  iapply (mLoadT c W j b _ _) $$ Ht
  iintro Ht
  iapply (mLoadS c X _ _) $$ Hs
  iintro Hs
  ihave Hy := (ex_agr c cc0_scratch6 (ySlot b).view.set (ybF X W j) (fun _ => False) (fun _ h => h)) $$ Hy
  iapply (mDropY c X W j b _ _ _) $$ Hy
  iintro Hy
  iapply (mStoreY c X W j b _ _ _) $$ Hy
  iintro Hy
  iapply Hk
  isplitl [Hc]; · iexact Hc
  isplitl [Ht]; · iexact Ht
  isplitl [Hs]; · iexact Hs
  iapply (agr_at c cc0_scratch6 (ySlot b).view.set (ybF X W j) _ (fun i h => (mem_ySlot b i).mp h)); iexact Hy

/-! ## A column block -/

/-- What a block's computation keeps from block to block. -/
abbrev Keep : sProp 𝕄 :=
  iprop(At c cc0_scratch2 Finset.univ (cbF X) ∗ Ex c cc0_scratch5 Finset.univ ∗ At c cc0_scratch4 Finset.univ (srF X))
/-- What it takes of slot `b`, and of the results. -/
abbrev Slot (b : Fin 2) : sProp 𝕄 :=
  iprop(Ex c cc0_scratch6 (ySlot b).view.set ∗ Ex c cc0_scratch7 (pSlot b).view.set ∗ Z c (ySem b) ∗ Z c (pSem b))
abbrev Dest (j : Fin 11) : sProp 𝕄 := iprop(Ex c main_v1_0 (yCol j).view.set ∗ Ex c main_v1_1 (pCol j).view.set)
abbrev Done (j : Fin 11) : sProp 𝕄 := iprop(At c main_v1_0 (yCol j).view.set (yF X W) ∗ At c main_v1_1 (pCol j).view.set (pF W))
abbrev Out (j : Fin 11) (b : Fin 2) : sProp 𝕄 := iprop(fY c X W j b ∗ fP c W j b)

theorem outBlock_wp (j : Fin 11) (b : Fin 2) (κ : PU F) (Q : PUnit → sProp 𝕄) :
    iprop(At c cc0_scratch1 (wSlot j).view.set (wvF W) ∗ Keep c X ∗ Slot (F := F) c b ∗ Dest (F := F) c j)
      ⊢ iprop((iprop(At c cc0_scratch1 (wSlot j).view.set (wvF W) ∗ Keep c X ∗ Out c X W j b) -∗ WP c κ Q) -∗ WP c (outBlock j b (gF W) κ) Q) := by
  unfold outBlock
  iintro ⟨Hw, ⟨Hc, Ht, Hs⟩, ⟨Hy, Hp, Hzy, Hzp⟩, ⟨Hdy, Hdp⟩⟩ Hk
  iapply (ternLoop_wp c W j b _ _) $$ [Hw Ht Hp]
  · isplitl [Hw]; · iexact Hw
    isplitl [Ht] <;> iassumption
  iintro ⟨Hw, Ht, Hp⟩
  iapply (startP_wp c W j b _ _) $$ [Hp Hdp Hzp]
  · isplitl [Hp]; · iexact Hp
    isplitl [Hdp] <;> iassumption
  iintro Hfp
  iapply (mulStep_wp c X W j b _ _) $$ [Hc Ht Hs Hy]
  · isplitl [Hc]; · iexact Hc
    isplitl [Ht]; · iexact Ht
    isplitl [Hs] <;> iassumption
  iintro ⟨Hc, Ht, Hs, Hy⟩
  iapply (startY_wp c X W j b _ _) $$ [Hy Hdy Hzy]
  · isplitl [Hy]; · iexact Hy
    isplitl [Hdy] <;> iassumption
  iintro Hfy
  iapply Hk
  isplitl [Hw]; · iexact Hw
  isplitl [Hc Ht Hs]
  · isplitl [Hc]; · iexact Hc
    isplitl [Ht] <;> iassumption
  isplitl [Hfy] <;> iassumption

/-- Both copies of block `j` waited for. -/
theorem waitOut_wp (j : Fin 11) (b : Fin 2) (κ : PU F) (Q : PUnit → sProp 𝕄) :
    iprop(Out c X W j b ∗ Ow c) ⊢ iprop((iprop(Done c X W j ∗ Slot (F := F) c b ∗ Ow c) -∗ WP c κ Q) -∗ WP c (waitY j b <| waitP j b κ) Q) := by
  iintro ⟨⟨Hy, Hp⟩, Ho⟩ Hk
  iapply (waitY_wp c X W j b _ _) $$ [Hy Ho]
  · isplitl [Hy] <;> iassumption
  iintro ⟨⟨Hdy, Hsy⟩, Hzy, Ho⟩
  iapply (waitP_wp c W j b _ _) $$ [Hp Ho]
  · isplitl [Hp] <;> iassumption
  iintro ⟨⟨Hdp, Hsp⟩, Hzp, Ho⟩
  iapply Hk
  isplitl [Hdy Hdp]
  · isplitl [Hdy] <;> iassumption
  isplitr [Ho]
  · isplitl [Hsy]; · iapply (at_ex c cc0_scratch6 (ySlot b).view.set (ybF X W j)); iexact Hsy
    isplitl [Hsp]; · iapply (at_ex c cc0_scratch7 (pSlot b).view.set (pbF W j)); iexact Hsp
    isplitl [Hzy] <;> iassumption
  iexact Ho

end Cert.Kernel.Body

end
-- ==== Proof.Kernel.Stages.lean ====
/- The whole body: from the buffers it is given to the buffers it leaves. -/
module

public import proofs.«01_k».proof.Proof.Kernel.Blocks

@[expose] public section

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (c : Dev nD) (X : XT F) (W : WT F)

/-! ## A buffer as its blocks -/

theorem fam (b : Ref sig .tc) {n : Nat} (K : Fin n → Finset b.ty.Idx) (k : b.ty.Idx → Nat) (hk : ∀ j i, i ∈ K j ↔ k i = j.val) (hlt : ∀ i, k i < n) (f : b.ty.Contents (Elt F)) :
    At c b Finset.univ f = bigSep Finset.univ (fun j => At c b (K j) f) := by
  classical
  refine Eq.trans ?_ (pointsTo_biUnion (ℓ := (c : Thread nD τ).loc b) Finset.univ K (fun t _ t' _ h => Finset.disjoint_left.mpr fun i h1 h2 => h (Fin.ext (((hk t i).mp h1).symm.trans ((hk t' i).mp h2)))))
  rw [show Finset.univ.biUnion K = Finset.univ from by
    ext i
    simp only [Finset.mem_univ, Finset.mem_biUnion, true_and, iff_true]
    exact ⟨⟨k i, hlt i⟩, (hk _ i).mpr rfl⟩]
/-- The eleven of a family, and the two. -/
abbrev C11 (Φ : Fin 11 → sProp 𝕄) : sProp 𝕄 := iprop(Φ 0 ∗ Φ 1 ∗ Φ 2 ∗ Φ 3 ∗ Φ 4 ∗ Φ 5 ∗ Φ 6 ∗ Φ 7 ∗ Φ 8 ∗ Φ 9 ∗ Φ 10)
abbrev C2 (Φ : Fin 2 → sProp 𝕄) : sProp 𝕄 := iprop(Φ 0 ∗ Φ 1)
theorem big11 (Φ : Fin 11 → sProp 𝕄) : bigSep Finset.univ Φ = C11 Φ :=
  bigSep_univ_eq_bigSepL [0, 1, 2, 3, 4, 5, 6, 7, 8, 9, 10] (by decide) (by decide) Φ
theorem big2 (Φ : Fin 2 → sProp 𝕄) : bigSep Finset.univ Φ = C2 Φ :=
  bigSep_univ_eq_bigSepL [0, 1] (by decide) (by decide) Φ

theorem wCols (f : WT F) : At c main_arg1 Finset.univ f = C11 fun j => At c main_arg1 (wCol j).view.set f :=
  (fam c main_arg1 (fun j => (wCol j).view.set) (fun i : S2048x5632.Idx => (i 1).val / 512) mem_wCol (fun i => by have h : (i 1).val < 5632 := (i 1).isLt; show (i 1).val / 512 < 11; omega) f).trans (big11 _)
theorem yCols (f : S512x5632.Idx → F .bf16) : At c main_v1_0 Finset.univ f = C11 fun j => At c main_v1_0 (yCol j).view.set f :=
  (fam c main_v1_0 (fun j => (yCol j).view.set) (fun i : S512x5632.Idx => (i 1).val / 512) mem_yCol (fun i => by have h : (i 1).val < 5632 := (i 1).isLt; show (i 1).val / 512 < 11; omega) f).trans (big11 _)
theorem pCols (f : S2048x1408.Idx → BitVec 8) : At (F := F) c main_v1_1 Finset.univ f = C11 fun j => At (F := F) c main_v1_1 (pCol j).view.set f :=
  (fam c main_v1_1 (fun j => (pCol j).view.set) (fun i : S2048x1408.Idx => (i 1).val / 128) mem_pCol (fun i => by have h : (i 1).val < 1408 := (i 1).isLt; show (i 1).val / 128 < 11; omega) f).trans (big11 _)
theorem wSlots (f : S11x2048x512.Idx → F .bf16) : At c cc0_scratch1 Finset.univ f = C11 fun j => At c cc0_scratch1 (wSlot j).view.set f :=
  (fam c cc0_scratch1 (fun j => (wSlot j).view.set) (fun i : S11x2048x512.Idx => (i 0).val) mem_wSlot (fun i => (i 0).isLt) f).trans (big11 _)
theorem ySlots (f : S2x512x512.Idx → F .bf16) : At c cc0_scratch6 Finset.univ f = C2 fun b => At c cc0_scratch6 (ySlot b).view.set f :=
  (fam c cc0_scratch6 (fun b => (ySlot b).view.set) (fun i : S2x512x512.Idx => (i 0).val) mem_ySlot (fun i => (i 0).isLt) f).trans (big2 _)
theorem pSlots (f : S2x2048x128.Idx → BitVec 8) : At (F := F) c cc0_scratch7 Finset.univ f = C2 fun b => At (F := F) c cc0_scratch7 (pSlot b).view.set f :=
  (fam c cc0_scratch7 (fun b => (pSlot b).view.set) (fun i : S2x2048x128.Idx => (i 0).val) mem_pSlot (fun i => (i 0).isLt) f).trans (big2 _)

theorem C11_mono {Φ Ψ : Fin 11 → sProp 𝕄} (h : ∀ j, Φ j ⊢ Ψ j) : C11 Φ ⊢ C11 Ψ :=
  BIClass.sep_mono (h 0) (BIClass.sep_mono (h 1) (BIClass.sep_mono (h 2) (BIClass.sep_mono (h 3) (BIClass.sep_mono (h 4) (BIClass.sep_mono (h 5) (BIClass.sep_mono (h 6) (BIClass.sep_mono (h 7) (BIClass.sep_mono (h 8) (BIClass.sep_mono (h 9) (h 10))))))))))
/-- A buffer at some contents, as its blocks each at some contents. -/
theorem yColsEx : Ex (F := F) c main_v1_0 Finset.univ ⊢ C11 fun j => Ex (F := F) c main_v1_0 (yCol j).view.set := by
  iintro ⟨%f, H⟩
  iapply (C11_mono (F := F) fun j => at_ex c main_v1_0 (yCol j).view.set f)
  iapply (Entails.of_eq (yCols c f)); iexact H
theorem pColsEx : Ex (F := F) c main_v1_1 Finset.univ ⊢ C11 fun j => Ex (F := F) c main_v1_1 (pCol j).view.set := by
  iintro ⟨%f, H⟩
  iapply (C11_mono (F := F) fun j => at_ex c main_v1_1 (pCol j).view.set f)
  iapply (Entails.of_eq (pCols c f)); iexact H
theorem wSlotsEx : Ex (F := F) c cc0_scratch1 Finset.univ ⊢ C11 fun j => Ex (F := F) c cc0_scratch1 (wSlot j).view.set := by
  iintro ⟨%f, H⟩
  iapply (C11_mono (F := F) fun j => at_ex c cc0_scratch1 (wSlot j).view.set f)
  iapply (Entails.of_eq (wSlots c f)); iexact H
theorem ySlotsEx : Ex (F := F) c cc0_scratch6 Finset.univ ⊢ C2 fun b => Ex (F := F) c cc0_scratch6 (ySlot b).view.set := by
  iintro ⟨%f, H⟩
  iapply (BIClass.sep_mono (at_ex c cc0_scratch6 (ySlot 0).view.set f) (at_ex c cc0_scratch6 (ySlot 1).view.set f))
  iapply (Entails.of_eq (ySlots c f)); iexact H
theorem pSlotsEx : Ex (F := F) c cc0_scratch7 Finset.univ ⊢ C2 fun b => Ex (F := F) c cc0_scratch7 (pSlot b).view.set := by
  iintro ⟨%f, H⟩
  iapply (BIClass.sep_mono (at_ex c cc0_scratch7 (pSlot 0).view.set f) (at_ex c cc0_scratch7 (pSlot 1).view.set f))
  iapply (Entails.of_eq (pSlots c f)); iexact H
/-- And back. -/
theorem joinEx (b : Ref sig .tc) (K : Fin 2 → Finset b.ty.Idx) (k : b.ty.Idx → Nat) (hk : ∀ j i, i ∈ K j ↔ k i = j.val) (hlt : ∀ i, k i < 2) :
    C2 (fun j => Ex (F := F) c b (K j)) ⊢ Ex (F := F) c b Finset.univ := by
  iintro ⟨⟨%f0, H0⟩, ⟨%f1, H1⟩⟩
  ihave H := (pointsTo_join (ℓ := (c : Thread nD τ).loc b) (I := K 0) (J := K 1) (f := f0) (g := f1) (Finset.disjoint_left.mpr fun i h1 h2 => by
    have e1 := (hk 0 i).mp h1
    have e2 := (hk 1 i).mp h2
    exact absurd (e1.symm.trans e2) (by decide))) $$ [H0 H1]
  · isplitl [H0] <;> iassumption
  have e : K 0 ∪ K 1 = Finset.univ := by
    ext i
    have h := hlt i
    simp only [Finset.mem_union, Finset.mem_univ, iff_true]
    rcases Nat.lt_or_ge (k i) 1 with h' | h'
    · exact .inl ((hk 0 i).mpr (by show k i = 0; omega))
    · exact .inr ((hk 1 i).mpr (by show k i = 1; omega))
  rw [e]
  iexists _
  iexact H

/-! ## Copies of all blocks -/

theorem startWs_wp (κ : PU F) (Q : PUnit → sProp 𝕄) :
    iprop((C11 fun j => At c main_arg1 (wCol j).view.set W) ∗ (C11 fun j => Ex (F := F) c cc0_scratch1 (wSlot j).view.set) ∗ C11 fun j => Z (F := F) c (wSem j))
      ⊢ iprop(((C11 fun j => fW c W j) -∗ WP c κ Q)
        -∗ WP c (startW 0 <| startW 1 <| startW 2 <| startW 3 <| startW 4 <| startW 5 <| startW 6 <| startW 7 <| startW 8 <| startW 9 <| startW 10 κ) Q) := by
  iintro ⟨⟨Hh0, Hh1, Hh2, Hh3, Hh4, Hh5, Hh6, Hh7, Hh8, Hh9, Hh10⟩, ⟨Hv0, Hv1, Hv2, Hv3, Hv4, Hv5, Hv6, Hv7, Hv8, Hv9, Hv10⟩, ⟨Hz0, Hz1, Hz2, Hz3, Hz4, Hz5, Hz6, Hz7, Hz8, Hz9, Hz10⟩⟩ Hk
  iapply (startW_wp c W 0 _ _) $$ [Hh0 Hv0 Hz0]
  · isplitl [Hh0]; · iexact Hh0
    isplitl [Hv0] <;> iassumption
  iintro Hf0
  iapply (startW_wp c W 1 _ _) $$ [Hh1 Hv1 Hz1]
  · isplitl [Hh1]; · iexact Hh1
    isplitl [Hv1] <;> iassumption
  iintro Hf1
  iapply (startW_wp c W 2 _ _) $$ [Hh2 Hv2 Hz2]
  · isplitl [Hh2]; · iexact Hh2
    isplitl [Hv2] <;> iassumption
  iintro Hf2
  iapply (startW_wp c W 3 _ _) $$ [Hh3 Hv3 Hz3]
  · isplitl [Hh3]; · iexact Hh3
    isplitl [Hv3] <;> iassumption
  iintro Hf3
  iapply (startW_wp c W 4 _ _) $$ [Hh4 Hv4 Hz4]
  · isplitl [Hh4]; · iexact Hh4
    isplitl [Hv4] <;> iassumption
  iintro Hf4
  iapply (startW_wp c W 5 _ _) $$ [Hh5 Hv5 Hz5]
  · isplitl [Hh5]; · iexact Hh5
    isplitl [Hv5] <;> iassumption
  iintro Hf5
  iapply (startW_wp c W 6 _ _) $$ [Hh6 Hv6 Hz6]
  · isplitl [Hh6]; · iexact Hh6
    isplitl [Hv6] <;> iassumption
  iintro Hf6
  iapply (startW_wp c W 7 _ _) $$ [Hh7 Hv7 Hz7]
  · isplitl [Hh7]; · iexact Hh7
    isplitl [Hv7] <;> iassumption
  iintro Hf7
  iapply (startW_wp c W 8 _ _) $$ [Hh8 Hv8 Hz8]
  · isplitl [Hh8]; · iexact Hh8
    isplitl [Hv8] <;> iassumption
  iintro Hf8
  iapply (startW_wp c W 9 _ _) $$ [Hh9 Hv9 Hz9]
  · isplitl [Hh9]; · iexact Hh9
    isplitl [Hv9] <;> iassumption
  iintro Hf9
  iapply (startW_wp c W 10 _ _) $$ [Hh10 Hv10 Hz10]
  · isplitl [Hh10]; · iexact Hh10
    isplitl [Hv10] <;> iassumption
  iintro Hf10
  iapply Hk
  isplitl [Hf0]; · iexact Hf0
  isplitl [Hf1]; · iexact Hf1
  isplitl [Hf2]; · iexact Hf2
  isplitl [Hf3]; · iexact Hf3
  isplitl [Hf4]; · iexact Hf4
  isplitl [Hf5]; · iexact Hf5
  isplitl [Hf6]; · iexact Hf6
  isplitl [Hf7]; · iexact Hf7
  isplitl [Hf8]; · iexact Hf8
  isplitl [Hf9]; · iexact Hf9
  iexact Hf10

theorem accB_succ (n : Nat) (h : n < 11) : accB W (n + 1) = accN W ⟨n, h⟩ (accB W n) 64 := by
  show (if h : n < 11 then _ else _) = _
  rw [dif_pos h]
theorem sumB_wp (j : Fin 11) (n : Nat) (hj : j.val = n) (κ : FVec F S32x512 .f32 → PU F) (Q : PUnit → sProp 𝕄) :
    iprop(fW c W j ∗ Ow (F := F) c) ⊢ iprop((iprop(dW c W j ∗ Z (F := F) c (wSem j) ∗ Ow (F := F) c) -∗ WP c (κ (accB W (n + 1))) Q) -∗ WP c (sumBlock j (accB W n) κ) Q) := by
  subst hj
  rw [accB_succ W j.val j.isLt]
  exact sumBlock_wp c W j (accB W j.val) κ Q
/-- All of the sum. -/
theorem sums_wp (κ : FVec F S32x512 .f32 → PU F) (Q : PUnit → sProp 𝕄) :
    iprop((C11 fun j => fW c W j) ∗ Ow (F := F) c)
      ⊢ iprop((iprop((C11 fun j => At c cc0_scratch1 (wSlot j).view.set (wvF W)) ∗ (C11 fun j => At c main_arg1 (wCol j).view.set W) ∗ (C11 fun j => Z (F := F) c (wSem j)) ∗ Ow (F := F) c)
          -∗ WP c (κ (accB W 11)) Q)
        -∗ WP c (sumBlock 0 acc0 fun a0 => sumBlock 1 a0 fun a1 => sumBlock 2 a1 fun a2 => sumBlock 3 a2 fun a3 => sumBlock 4 a3 fun a4 => sumBlock 5 a4 fun a5 =>
          sumBlock 6 a5 fun a6 => sumBlock 7 a6 fun a7 => sumBlock 8 a7 fun a8 => sumBlock 9 a8 fun a9 => sumBlock 10 a9 κ) Q) := by
  iintro ⟨⟨Hf0, Hf1, Hf2, Hf3, Hf4, Hf5, Hf6, Hf7, Hf8, Hf9, Hf10⟩, Ho⟩ Hk
  iapply (sumB_wp c W 0 0 rfl _ _) $$ [Hf0 Ho]
  · isplitl [Hf0] <;> iassumption
  iintro ⟨⟨Hw0, Hh0⟩, Hz0, Ho⟩
  iapply (sumB_wp c W 1 1 rfl _ _) $$ [Hf1 Ho]
  · isplitl [Hf1] <;> iassumption
  iintro ⟨⟨Hw1, Hh1⟩, Hz1, Ho⟩
  iapply (sumB_wp c W 2 2 rfl _ _) $$ [Hf2 Ho]
  · isplitl [Hf2] <;> iassumption
  iintro ⟨⟨Hw2, Hh2⟩, Hz2, Ho⟩
  iapply (sumB_wp c W 3 3 rfl _ _) $$ [Hf3 Ho]
  · isplitl [Hf3] <;> iassumption
  iintro ⟨⟨Hw3, Hh3⟩, Hz3, Ho⟩
  iapply (sumB_wp c W 4 4 rfl _ _) $$ [Hf4 Ho]
  · isplitl [Hf4] <;> iassumption
  iintro ⟨⟨Hw4, Hh4⟩, Hz4, Ho⟩
  iapply (sumB_wp c W 5 5 rfl _ _) $$ [Hf5 Ho]
  · isplitl [Hf5] <;> iassumption
  iintro ⟨⟨Hw5, Hh5⟩, Hz5, Ho⟩
  iapply (sumB_wp c W 6 6 rfl _ _) $$ [Hf6 Ho]
  · isplitl [Hf6] <;> iassumption
  iintro ⟨⟨Hw6, Hh6⟩, Hz6, Ho⟩
  iapply (sumB_wp c W 7 7 rfl _ _) $$ [Hf7 Ho]
  · isplitl [Hf7] <;> iassumption
  iintro ⟨⟨Hw7, Hh7⟩, Hz7, Ho⟩
  iapply (sumB_wp c W 8 8 rfl _ _) $$ [Hf8 Ho]
  · isplitl [Hf8] <;> iassumption
  iintro ⟨⟨Hw8, Hh8⟩, Hz8, Ho⟩
  iapply (sumB_wp c W 9 9 rfl _ _) $$ [Hf9 Ho]
  · isplitl [Hf9] <;> iassumption
  iintro ⟨⟨Hw9, Hh9⟩, Hz9, Ho⟩
  iapply (sumB_wp c W 10 10 rfl _ _) $$ [Hf10 Ho]
  · isplitl [Hf10] <;> iassumption
  iintro ⟨⟨Hw10, Hh10⟩, Hz10, Ho⟩
  iapply Hk
  isplitl [Hw0 Hw1 Hw2 Hw3 Hw4 Hw5 Hw6 Hw7 Hw8 Hw9 Hw10]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    iexact Hw10
  isplitl [Hh0 Hh1 Hh2 Hh3 Hh4 Hh5 Hh6 Hh7 Hh8 Hh9 Hh10]
  · isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    iexact Hh10
  isplitl [Hz0 Hz1 Hz2 Hz3 Hz4 Hz5 Hz6 Hz7 Hz8 Hz9 Hz10]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    iexact Hz10
  iexact Ho

/-- All of the column blocks, two in flight. -/
theorem blocks_wp (κ : PU F) (Q : PUnit → sProp 𝕄) :
    iprop((C11 fun j => At c cc0_scratch1 (wSlot j).view.set (wvF W)) ∗ Keep c X ∗ C2 (fun b => Slot (F := F) c b) ∗ (C11 fun j => Dest (F := F) c j) ∗ Ow (F := F) c)
      ⊢ iprop((iprop((C11 fun j => At c cc0_scratch1 (wSlot j).view.set (wvF W)) ∗ Keep c X ∗ C2 (fun b => Slot (F := F) c b) ∗ (C11 fun j => Done c X W j) ∗ Ow (F := F) c) -∗ WP c κ Q)
        -∗ WP c (outBlock 0 0 (gF W) <| outBlock 1 1 (gF W) <| waitY 0 0 <| waitP 0 0 <| outBlock 2 0 (gF W) <| waitY 1 1 <| waitP 1 1 <| outBlock 3 1 (gF W) <| waitY 2 0 <| waitP 2 0 <| outBlock 4 0 (gF W) <| waitY 3 1 <| waitP 3 1 <| outBlock 5 1 (gF W) <| waitY 4 0 <| waitP 4 0 <| outBlock 6 0 (gF W) <| waitY 5 1 <| waitP 5 1 <| outBlock 7 1 (gF W) <| waitY 6 0 <| waitP 6 0 <| outBlock 8 0 (gF W) <| waitY 7 1 <| waitP 7 1 <| outBlock 9 1 (gF W) <| waitY 8 0 <| waitP 8 0 <| outBlock 10 0 (gF W) <| waitY 9 1 <| waitP 9 1 <| waitY 10 0 <| waitP 10 0 κ) Q) := by
  iintro ⟨⟨Hw0, Hw1, Hw2, Hw3, Hw4, Hw5, Hw6, Hw7, Hw8, Hw9, Hw10⟩, Hk, ⟨Hs0, Hs1⟩, ⟨Hd0, Hd1, Hd2, Hd3, Hd4, Hd5, Hd6, Hd7, Hd8, Hd9, Hd10⟩, Ho⟩ HK
  iapply (outBlock_wp c X W 0 0 _ _) $$ [Hw0 Hk Hs0 Hd0]
  · isplitl [Hw0]; · iexact Hw0
    isplitl [Hk]; · iexact Hk
    isplitl [Hs0] <;> iassumption
  iintro ⟨Hw0, Hk, Hs0⟩
  iapply (outBlock_wp c X W 1 1 _ _) $$ [Hw1 Hk Hs1 Hd1]
  · isplitl [Hw1]; · iexact Hw1
    isplitl [Hk]; · iexact Hk
    isplitl [Hs1] <;> iassumption
  iintro ⟨Hw1, Hk, Hs1⟩
  iapply (waitOut_wp c X W 0 0 _ _) $$ [Hs0 Ho]
  · isplitl [Hs0] <;> iassumption
  iintro ⟨Hd0, Hs0, Ho⟩
  iapply (outBlock_wp c X W 2 0 _ _) $$ [Hw2 Hk Hs0 Hd2]
  · isplitl [Hw2]; · iexact Hw2
    isplitl [Hk]; · iexact Hk
    isplitl [Hs0] <;> iassumption
  iintro ⟨Hw2, Hk, Hs0⟩
  iapply (waitOut_wp c X W 1 1 _ _) $$ [Hs1 Ho]
  · isplitl [Hs1] <;> iassumption
  iintro ⟨Hd1, Hs1, Ho⟩
  iapply (outBlock_wp c X W 3 1 _ _) $$ [Hw3 Hk Hs1 Hd3]
  · isplitl [Hw3]; · iexact Hw3
    isplitl [Hk]; · iexact Hk
    isplitl [Hs1] <;> iassumption
  iintro ⟨Hw3, Hk, Hs1⟩
  iapply (waitOut_wp c X W 2 0 _ _) $$ [Hs0 Ho]
  · isplitl [Hs0] <;> iassumption
  iintro ⟨Hd2, Hs0, Ho⟩
  iapply (outBlock_wp c X W 4 0 _ _) $$ [Hw4 Hk Hs0 Hd4]
  · isplitl [Hw4]; · iexact Hw4
    isplitl [Hk]; · iexact Hk
    isplitl [Hs0] <;> iassumption
  iintro ⟨Hw4, Hk, Hs0⟩
  iapply (waitOut_wp c X W 3 1 _ _) $$ [Hs1 Ho]
  · isplitl [Hs1] <;> iassumption
  iintro ⟨Hd3, Hs1, Ho⟩
  iapply (outBlock_wp c X W 5 1 _ _) $$ [Hw5 Hk Hs1 Hd5]
  · isplitl [Hw5]; · iexact Hw5
    isplitl [Hk]; · iexact Hk
    isplitl [Hs1] <;> iassumption
  iintro ⟨Hw5, Hk, Hs1⟩
  iapply (waitOut_wp c X W 4 0 _ _) $$ [Hs0 Ho]
  · isplitl [Hs0] <;> iassumption
  iintro ⟨Hd4, Hs0, Ho⟩
  iapply (outBlock_wp c X W 6 0 _ _) $$ [Hw6 Hk Hs0 Hd6]
  · isplitl [Hw6]; · iexact Hw6
    isplitl [Hk]; · iexact Hk
    isplitl [Hs0] <;> iassumption
  iintro ⟨Hw6, Hk, Hs0⟩
  iapply (waitOut_wp c X W 5 1 _ _) $$ [Hs1 Ho]
  · isplitl [Hs1] <;> iassumption
  iintro ⟨Hd5, Hs1, Ho⟩
  iapply (outBlock_wp c X W 7 1 _ _) $$ [Hw7 Hk Hs1 Hd7]
  · isplitl [Hw7]; · iexact Hw7
    isplitl [Hk]; · iexact Hk
    isplitl [Hs1] <;> iassumption
  iintro ⟨Hw7, Hk, Hs1⟩
  iapply (waitOut_wp c X W 6 0 _ _) $$ [Hs0 Ho]
  · isplitl [Hs0] <;> iassumption
  iintro ⟨Hd6, Hs0, Ho⟩
  iapply (outBlock_wp c X W 8 0 _ _) $$ [Hw8 Hk Hs0 Hd8]
  · isplitl [Hw8]; · iexact Hw8
    isplitl [Hk]; · iexact Hk
    isplitl [Hs0] <;> iassumption
  iintro ⟨Hw8, Hk, Hs0⟩
  iapply (waitOut_wp c X W 7 1 _ _) $$ [Hs1 Ho]
  · isplitl [Hs1] <;> iassumption
  iintro ⟨Hd7, Hs1, Ho⟩
  iapply (outBlock_wp c X W 9 1 _ _) $$ [Hw9 Hk Hs1 Hd9]
  · isplitl [Hw9]; · iexact Hw9
    isplitl [Hk]; · iexact Hk
    isplitl [Hs1] <;> iassumption
  iintro ⟨Hw9, Hk, Hs1⟩
  iapply (waitOut_wp c X W 8 0 _ _) $$ [Hs0 Ho]
  · isplitl [Hs0] <;> iassumption
  iintro ⟨Hd8, Hs0, Ho⟩
  iapply (outBlock_wp c X W 10 0 _ _) $$ [Hw10 Hk Hs0 Hd10]
  · isplitl [Hw10]; · iexact Hw10
    isplitl [Hk]; · iexact Hk
    isplitl [Hs0] <;> iassumption
  iintro ⟨Hw10, Hk, Hs0⟩
  iapply (waitOut_wp c X W 9 1 _ _) $$ [Hs1 Ho]
  · isplitl [Hs1] <;> iassumption
  iintro ⟨Hd9, Hs1, Ho⟩
  iapply (waitOut_wp c X W 10 0 _ _) $$ [Hs0 Ho]
  · isplitl [Hs0] <;> iassumption
  iintro ⟨Hd10, Hs0, Ho⟩
  iapply HK
  isplitl [Hw0 Hw1 Hw2 Hw3 Hw4 Hw5 Hw6 Hw7 Hw8 Hw9 Hw10]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    iexact Hw10
  isplitl [Hk]; · iexact Hk
  isplitl [Hs0 Hs1]
  · isplitl [Hs0] <;> iassumption
  isplitl [Hd0 Hd1 Hd2 Hd3 Hd4 Hd5 Hd6 Hd7 Hd8 Hd9 Hd10]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    iexact Hd10
  iexact Ho

end Cert.Kernel.Body

end
-- ==== Proof.Kernel.BodyWp.lean ====
/- The whole body: from the buffers it is given to the buffers it leaves. -/
module

public import proofs.«01_k».proof.Proof.Kernel.Stages

@[expose] public section

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (c : Dev nD) (X : XT F) (W : WT F)

/-- The scratch buffers, each whole at some contents. -/
abbrev Scr : sProp 𝕄 := iprop(Ex (F := F) c cc0_scratch0 Finset.univ ∗ Ex (F := F) c cc0_scratch1 Finset.univ ∗ Ex (F := F) c cc0_scratch2 Finset.univ
  ∗ Ex (F := F) c cc0_scratch3 Finset.univ ∗ Ex (F := F) c cc0_scratch4 Finset.univ ∗ Ex (F := F) c cc0_scratch5 Finset.univ
  ∗ Ex (F := F) c cc0_scratch6 Finset.univ ∗ Ex (F := F) c cc0_scratch7 Finset.univ)
/-- The copies' cells, each at zero. -/
abbrev Cells : sProp 𝕄 := iprop(Z (F := F) c cc0_scratch8.sem ∗ (C11 fun j => Z (F := F) c (wSem j)) ∗ Z (F := F) c cc0_scratch10.sem
  ∗ (C2 fun b => Z (F := F) c (ySem b)) ∗ C2 fun b => Z (F := F) c (pSem b))
/-- What the body is given. -/
abbrev Given : sProp 𝕄 := iprop(Scr (F := F) c ∗ Cells (F := F) c ∗ (At c main_v0 Finset.univ X ∗ At c main_arg1 Finset.univ W)
  ∗ (Ex (F := F) c main_v1_0 Finset.univ ∗ Ex (F := F) c main_v1_1 Finset.univ ∗ Ex (F := F) c main_v1_3 Finset.univ)
  ∗ (Ex (F := F) c cc0_stg0_0 Finset.univ ∗ Ex (F := F) c cc0_stg1_0 Finset.univ) ∗ Ow (F := F) c)
/-- What the body leaves. -/
abbrev Left : sProp 𝕄 := iprop(Scr (F := F) c ∗ Cells (F := F) c ∗ (At c main_v0 Finset.univ X ∗ At c main_arg1 Finset.univ W)
  ∗ (At c main_v1_0 Finset.univ (yF X W) ∗ At (F := F) c main_v1_1 Finset.univ (pF W) ∗ At (F := F) c main_v1_3 Finset.univ (ciF X))
  ∗ (At c cc0_stg0_0 Finset.univ (fun _ => gF W) ∗ At c cc0_stg1_0 Finset.univ (scF X)) ∗ Ow (F := F) c)

theorem not_sP0 (i : S2x256.Idx) : ¬ sP 0 i := by unfold sP; omega
theorem sP4 (i : S2x256.Idx) : sP 4 i := by
  have h : (i 0).val < 2 := (i 0).isLt
  have h' : (i 1).val < 256 := (i 1).isLt
  unfold sP; omega

theorem scaleAt_wp (k : Fin 4) (n : Nat) (hk : k.val = n) (κ : PU F) (Q : PUnit → sProp 𝕄) :
    iprop(At c cc0_scratch4 Finset.univ (srF X) ∗ Agr c cc0_stg1_0 Finset.univ (scF X) (sP n))
      ⊢ iprop((iprop(At c cc0_scratch4 Finset.univ (srF X) ∗ Agr c cc0_stg1_0 Finset.univ (scF X) (sP (n + 1))) -∗ WP c κ Q) -∗ WP c (scaleStep k κ) Q) := by
  subst hk
  exact scaleStep_wp c X k κ Q

theorem body_wp (Q : PUnit → sProp 𝕄) : Given c X W ⊢ iprop((Left c X W -∗ Q ⟨⟩) -∗ WP c (prog (F := F)) Q) := by
  unfold prog
  iintro ⟨⟨S0, S1, S2, S3, S4, S5, S6, S7⟩, ⟨ZX, ZW, ZC, ⟨ZY0, ZY1⟩, ⟨ZP0, ZP1⟩⟩, ⟨HX, HW⟩, ⟨HY, HP, HC⟩, ⟨HG, HS⟩, Ho⟩ HK
  ihave HW := (Entails.of_eq (wCols c W)) $$ HW
  ihave S1 := (wSlotsEx (F := F) c) $$ S1
  ihave S6 := (ySlotsEx (F := F) c) $$ S6
  ihave S7 := (pSlotsEx (F := F) c) $$ S7
  ihave HY := (yColsEx (F := F) c) $$ HY
  ihave HP := (pColsEx (F := F) c) $$ HP
  iapply (startX_wp c X _ _) $$ [HX S0 ZX]
  · isplitl [HX]; · iexact HX
    isplitl [S0] <;> iassumption
  iintro FX
  iapply (startWs_wp c W _ _) $$ [HW S1 ZW]
  · isplitl [HW]; · iexact HW
    isplitl [S1] <;> iassumption
  iintro FW
  iapply (waitX_wp c X _ _) $$ [FX Ho]
  · isplitl [FX] <;> iassumption
  iintro ⟨⟨S0, HX⟩, ZX, Ho⟩
  iapply (quant_wp c X _ _) $$ [S0 S2 S3 S4]
  · isplitl [S0]; · iexact S0
    isplitl [S2]; · iexact S2
    isplitl [S3] <;> iassumption
  iintro ⟨S0, S2, S3, S4⟩
  iapply (startC_wp c X _ _) $$ [S3 HC ZC]
  · isplitl [S3]; · iexact S3
    isplitl [HC] <;> iassumption
  iintro FC
  ihave HS := (ex_agr c cc0_stg1_0 Finset.univ (scF X) (sP 0) not_sP0) $$ HS
  iapply (scaleAt_wp c X 0 0 rfl _ _) $$ [S4 HS]
  · isplitl [S4] <;> iassumption
  iintro ⟨S4, HS⟩
  iapply (scaleAt_wp c X 1 1 rfl _ _) $$ [S4 HS]
  · isplitl [S4] <;> iassumption
  iintro ⟨S4, HS⟩
  iapply (scaleAt_wp c X 2 2 rfl _ _) $$ [S4 HS]
  · isplitl [S4] <;> iassumption
  iintro ⟨S4, HS⟩
  iapply (scaleAt_wp c X 3 3 rfl _ _) $$ [S4 HS]
  · isplitl [S4] <;> iassumption
  iintro ⟨S4, HS⟩
  ihave HS := (agr_at c cc0_stg1_0 Finset.univ (scF X) (sP 4) fun i _ => sP4 i) $$ HS
  iapply (sums_wp c W _ _) $$ [FW Ho]
  · isplitl [FW] <;> iassumption
  iintro ⟨S1, HW, ZW, Ho⟩
  iapply (gammaStep_wp c (gF W) _ _) $$ HG
  iintro HG
  icases HY with ⟨HY0, HY1, HY2, HY3, HY4, HY5, HY6, HY7, HY8, HY9, HY10⟩
  icases HP with ⟨HP0, HP1, HP2, HP3, HP4, HP5, HP6, HP7, HP8, HP9, HP10⟩
  icases S6 with ⟨T0, T1⟩
  icases S7 with ⟨U0, U1⟩
  iapply (blocks_wp c X W _ _) $$ [S1 S2 S5 S4 T0 T1 U0 U1 ZY0 ZY1 ZP0 ZP1 HY0 HY1 HY2 HY3 HY4 HY5 HY6 HY7 HY8 HY9 HY10 HP0 HP1 HP2 HP3 HP4 HP5 HP6 HP7 HP8 HP9 HP10 Ho]
  · isplitl [S1]; · iexact S1
    isplitl [S2 S5 S4]
    · isplitl [S2]; · iexact S2
      isplitl [S5] <;> iassumption
    isplitl [T0 T1 U0 U1 ZY0 ZY1 ZP0 ZP1]
    · isplitl [T0 U0 ZY0 ZP0]
      · isplitl [T0]; · iexact T0
        isplitl [U0]; · iexact U0
        isplitl [ZY0] <;> iassumption
      isplitl [T1]; · iexact T1
      isplitl [U1]; · iexact U1
      isplitl [ZY1] <;> iassumption
    isplitl [HY0 HY1 HY2 HY3 HY4 HY5 HY6 HY7 HY8 HY9 HY10 HP0 HP1 HP2 HP3 HP4 HP5 HP6 HP7 HP8 HP9 HP10]
    ·
      isplitl [HY0 HP0]; · (isplitl [HY0] <;> iassumption)
      isplitl [HY1 HP1]; · (isplitl [HY1] <;> iassumption)
      isplitl [HY2 HP2]; · (isplitl [HY2] <;> iassumption)
      isplitl [HY3 HP3]; · (isplitl [HY3] <;> iassumption)
      isplitl [HY4 HP4]; · (isplitl [HY4] <;> iassumption)
      isplitl [HY5 HP5]; · (isplitl [HY5] <;> iassumption)
      isplitl [HY6 HP6]; · (isplitl [HY6] <;> iassumption)
      isplitl [HY7 HP7]; · (isplitl [HY7] <;> iassumption)
      isplitl [HY8 HP8]; · (isplitl [HY8] <;> iassumption)
      isplitl [HY9 HP9]; · (isplitl [HY9] <;> iassumption)
      isplitl [HY10] <;> iassumption
    iexact Ho
  iintro ⟨S1, ⟨S2, S5, S4⟩, ⟨⟨T0, U0, ZY0, ZP0⟩, ⟨T1, U1, ZY1, ZP1⟩⟩, ⟨⟨HY0, HP0⟩, ⟨HY1, HP1⟩, ⟨HY2, HP2⟩, ⟨HY3, HP3⟩, ⟨HY4, HP4⟩, ⟨HY5, HP5⟩, ⟨HY6, HP6⟩, ⟨HY7, HP7⟩, ⟨HY8, HP8⟩, ⟨HY9, HP9⟩, ⟨HY10, HP10⟩⟩, Ho⟩
  iapply (waitC_wp c X _ _) $$ [FC Ho]
  · isplitl [FC] <;> iassumption
  iintro ⟨⟨HC, S3⟩, ZC, Ho⟩
  iapply (pure_wp c _ _) $$ [-]
  iapply HK
  isplitl [S0 S1 S2 S3 S4 S5 T0 T1 U0 U1]
  · isplitl [S0]; · iexists _; iexact S0
    isplitl [S1]
    · ihave S1 := (Entails.of_eq (wSlots c (wvF W)).symm) $$ S1
      iexists _; iexact S1
    isplitl [S2]; · iexists _; iexact S2
    isplitl [S3]; · iexists _; iexact S3
    isplitl [S4]; · iexists _; iexact S4
    isplitl [S5]; · iexact S5
    isplitl [T0 T1]
    · iapply (joinEx (F := F) c cc0_scratch6 (fun b => (ySlot b).view.set) (fun i : S2x512x512.Idx => (i 0).val) mem_ySlot (fun i => (i 0).isLt))
      isplitl [T0] <;> iassumption
    iapply (joinEx (F := F) c cc0_scratch7 (fun b => (pSlot b).view.set) (fun i : S2x2048x128.Idx => (i 0).val) mem_pSlot (fun i => (i 0).isLt))
    isplitl [U0] <;> iassumption
  isplitl [ZX ZW ZC ZY0 ZY1 ZP0 ZP1]
  · isplitl [ZX]; · iexact ZX
    isplitl [ZW]; · iexact ZW
    isplitl [ZC]; · iexact ZC
    isplitl [ZY0 ZY1]; · (isplitl [ZY0] <;> iassumption)
    isplitl [ZP0] <;> iassumption
  isplitl [HX HW]
  · isplitl [HX]; · iexact HX
    iapply (Entails.of_eq (wCols c W).symm); iexact HW
  isplitl [HY0 HY1 HY2 HY3 HY4 HY5 HY6 HY7 HY8 HY9 HY10 HP0 HP1 HP2 HP3 HP4 HP5 HP6 HP7 HP8 HP9 HP10 HC]
  · isplitl [HY0 HY1 HY2 HY3 HY4 HY5 HY6 HY7 HY8 HY9 HY10]
    · iapply (Entails.of_eq (yCols c (yF X W)).symm)
      isplitl [HY0]; · iexact HY0
      isplitl [HY1]; · iexact HY1
      isplitl [HY2]; · iexact HY2
      isplitl [HY3]; · iexact HY3
      isplitl [HY4]; · iexact HY4
      isplitl [HY5]; · iexact HY5
      isplitl [HY6]; · iexact HY6
      isplitl [HY7]; · iexact HY7
      isplitl [HY8]; · iexact HY8
      isplitl [HY9]; · iexact HY9
      iexact HY10
    isplitl [HP0 HP1 HP2 HP3 HP4 HP5 HP6 HP7 HP8 HP9 HP10]
    · iapply (Entails.of_eq (pCols (F := F) c (pF W)).symm)
      isplitl [HP0]; · iexact HP0
      isplitl [HP1]; · iexact HP1
      isplitl [HP2]; · iexact HP2
      isplitl [HP3]; · iexact HP3
      isplitl [HP4]; · iexact HP4
      isplitl [HP5]; · iexact HP5
      isplitl [HP6]; · iexact HP6
      isplitl [HP7]; · iexact HP7
      isplitl [HP8]; · iexact HP8
      isplitl [HP9]; · iexact HP9
      iexact HP10
    iexact HC
  isplitl [HG HS]
  · isplitl [HG] <;> iassumption
  iexact Ho

end Cert.Kernel.Body

end
-- ==== Proof.Kernel.FlatEq.lean ====
/- The printed body is the sequence of blocks of `Prog.lean`, by unfolding. -/
module

public import proofs.«01_k».proof.Proof.Kernel.Prog
public import proofs.«01_k».proof.Proof.Gen.Kernel.Launch

@[expose] public section

noncomputable section

namespace Cert.Kernel.Body

open Idealize.ShloMosaic Idealize.ShloMosaic.TcCoe Idealize.SL.Sem Cert.Kernel Cert.Kernel.Gen

variable {F : FTy → Type} [BitOps F]

set_option maxHeartbeats 8000000
set_option maxRecDepth 65536

theorem flat_eq : flat (F := F) xH (Memref.isWhole_whole _) wH (Memref.isWhole_whole _) yH (Memref.isWhole_whole _) pH (Memref.isWhole_whole _)
    gS (Memref.isWhole_whole _) cH (Memref.isWhole_whole _) sV (Memref.isWhole_whole _) xV (Memref.isWhole_whole _) wV (Memref.isWhole_whole _)
    cbV (Memref.isWhole_whole _) ciV (Memref.isWhole_whole _) srV (Memref.isWhole_whole _) tV (Memref.isWhole_whole _) yV (Memref.isWhole_whole _)
    pV (Memref.isWhole_whole _) cc0_scratch8 cc0_scratch9 cc0_scratch10 cc0_scratch11 cc0_scratch12 = prog := by
  rfl

theorem body_eq (t : Fin cfg0.N) : bodyAt0 (F := F) t = prog := by
  have ht : t = t0_0 := fin_N0 t
  subst ht
  exact (flat.eq_at ..).trans flat_eq

end Cert.Kernel.Body

end
-- ==== Proof.Kernel.Run.lean ====
/- The launch: the body as the one point of the pipeline, and what every array holds at the end of @main. -/
module

public import proofs.«01_k».proof.Proof.Kernel.BodyWp
public import proofs.«01_k».proof.Proof.Kernel.FlatEq
public import proofs.«01_k».proof.Proof.Gen.Kernel.Frame
public import Idealize.ShloMosaic.Lib.Pipeline.FrameSuffixV

@[expose] public section

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-- The arrays the body reads by its own copies, and those it writes so. -/
def H0 : Finset (Ref sig .tc) := {main_v0, main_arg1}
def R0 : Finset (Ref sig .tc) := {main_v1_0, main_v1_1, main_v1_3}
theorem H0_sub : H0 ⊆ Pipeline.restRefs sig spec0 := by decide
theorem R0_sub : R0 ⊆ Pipeline.restRefs sig spec0 \ H0 := by decide
/-- The copies' cells. -/
abbrev osem0 : Fin 17 → SemLoc sig := fun j =>
  (![SemLoc.dma cc0_scratch8.sem, SemLoc.dma (wSem 0), SemLoc.dma (wSem 1), SemLoc.dma (wSem 2), SemLoc.dma (wSem 3), SemLoc.dma (wSem 4), SemLoc.dma (wSem 5), SemLoc.dma (wSem 6), SemLoc.dma (wSem 7), SemLoc.dma (wSem 8), SemLoc.dma (wSem 9), SemLoc.dma (wSem 10), SemLoc.dma cc0_scratch10.sem, SemLoc.dma (ySem 0), SemLoc.dma (ySem 1), SemLoc.dma (pSem 0), SemLoc.dma (pSem 1)] : Fin 17 → SemLoc sig) j
theorem ownSemFacts0 : Pipeline.OwnSemFacts spec0 osem0 := by decide

/-- The two arrays read: the activations as rows, and the weights. -/
abbrev xIn (c : Dev nD) : XT F := V m c main_v0
abbrev wIn (c : Dev nD) : WT F := V m c main_arg1
/-- What the written arrays end at. -/
def G (c : Dev nD) : (b : Ref sig .tc) → Buf (Elt F) ((c : Thread nD τ).loc b) :=
  Function.update (Function.update (Function.update (V m c) main_v1_0 (yF (xIn m c) (wIn m c))) main_v1_1 (pF (wIn m c))) main_v1_3 (ciF (xIn m c))
theorem G_y (c : Dev nD) : G m c main_v1_0 = yF (xIn m c) (wIn m c) := by
  unfold G
  rw [Function.update_of_ne (by decide), Function.update_of_ne (by decide), Function.update_self]
theorem G_p (c : Dev nD) : G m c main_v1_1 = pF (wIn m c) := by
  unfold G
  rw [Function.update_of_ne (by decide), Function.update_self]
theorem G_c (c : Dev nD) : G m c main_v1_3 = ciF (xIn m c) := by
  unfold G
  rw [Function.update_self]

theorem hbm_eq (c : Dev nD) : (bigSep H0 (fun b => ((c : Thread nD τ).loc b) ↦{fullShare} V m c b) : sProp 𝕄)
    = iprop(At c main_v0 Finset.univ (xIn m c) ∗ At c main_arg1 Finset.univ (wIn m c)) := by
  rw [BI.bigSep_eq_bigSepL_of_eq [main_v0, main_arg1] (by decide) (by decide)]; rfl
theorem out_eq (c : Dev nD) (g : (b : Ref sig .tc) → Buf (Elt F) ((c : Thread nD τ).loc b)) :
    (bigSep R0 (fun b => ((c : Thread nD τ).loc b) ↦{fullShare} g b) : sProp 𝕄)
    = iprop(At c main_v1_0 Finset.univ (g main_v1_0) ∗ At c main_v1_1 Finset.univ (g main_v1_1) ∗ At c main_v1_3 Finset.univ (g main_v1_3)) := by
  rw [BI.bigSep_eq_bigSepL_of_eq [main_v1_0, main_v1_1, main_v1_3] (by decide) (by decide)]; rfl
theorem scr_eq (c : Dev nD) : (Pipeline.scopedRest (Ix := Unit) (Name := ℕ) (U := Pipeline.UD sig nD τ) (Lvl := ℕ) (Val := Elt F) spec0 c : sProp 𝕄) = Scr (F := F) c :=
  scopedRest0_eq c
/-- The cells in a row. -/
abbrev Row (c : Dev nD) : sProp 𝕄 := iprop(Z (F := F) c cc0_scratch8.sem ∗ Z (F := F) c (wSem 0) ∗ Z (F := F) c (wSem 1) ∗ Z (F := F) c (wSem 2) ∗ Z (F := F) c (wSem 3) ∗ Z (F := F) c (wSem 4) ∗ Z (F := F) c (wSem 5) ∗ Z (F := F) c (wSem 6) ∗ Z (F := F) c (wSem 7) ∗ Z (F := F) c (wSem 8) ∗ Z (F := F) c (wSem 9) ∗ Z (F := F) c (wSem 10) ∗ Z (F := F) c cc0_scratch10.sem ∗ Z (F := F) c (ySem 0) ∗ Z (F := F) c (ySem 1) ∗ Z (F := F) c (pSem 0) ∗ Z (F := F) c (pSem 1))
theorem row_eq (c : Dev nD) : (Pipeline.ownSems0 (Ix := Unit) (Name := ℕ) (U := Pipeline.UD sig nD τ) (Lvl := ℕ) (Val := Elt F) (τ := τ) osem0 c : sProp 𝕄) = Row (F := F) c := by
  rw [Pipeline.ownSems0_eq_of_list c osem0 [0, 1, 2, 3, 4, 5, 6, 7, 8, 9, 10, 11, 12, 13, 14, 15, 16] (by decide) (by decide)]; rfl
theorem row_cells (c : Dev nD) : Row (F := F) c ⊢ Cells (F := F) c := by
  iintro ⟨z0, z1, z2, z3, z4, z5, z6, z7, z8, z9, z10, z11, z12, z13, z14, z15, z16⟩
  isplitl [z0]; · iexact z0
  isplitl [z1 z2 z3 z4 z5 z6 z7 z8 z9 z10 z11]
  · isplitl [z1]; · iexact z1
    isplitl [z2]; · iexact z2
    isplitl [z3]; · iexact z3
    isplitl [z4]; · iexact z4
    isplitl [z5]; · iexact z5
    isplitl [z6]; · iexact z6
    isplitl [z7]; · iexact z7
    isplitl [z8]; · iexact z8
    isplitl [z9]; · iexact z9
    isplitl [z10]; · iexact z10
    iexact z11
  isplitl [z12]; · iexact z12
  isplitl [z13 z14]; · (isplitl [z13] <;> iassumption)
  isplitl [z15] <;> iassumption
theorem cells_row (c : Dev nD) : Cells (F := F) c ⊢ Row (F := F) c := by
  iintro ⟨z0, ⟨z1, z2, z3, z4, z5, z6, z7, z8, z9, z10, z11⟩, z12, ⟨z13, z14⟩, ⟨z15, z16⟩⟩
  isplitl [z0]; · iexact z0
  isplitl [z1]; · iexact z1
  isplitl [z2]; · iexact z2
  isplitl [z3]; · iexact z3
  isplitl [z4]; · iexact z4
  isplitl [z5]; · iexact z5
  isplitl [z6]; · iexact z6
  isplitl [z7]; · iexact z7
  isplitl [z8]; · iexact z8
  isplitl [z9]; · iexact z9
  isplitl [z10]; · iexact z10
  isplitl [z11]; · iexact z11
  isplitl [z12]; · iexact z12
  isplitl [z13]; · iexact z13
  isplitl [z14]; · iexact z14
  isplitl [z15]; · iexact z15
  iexact z16

/-- The proof data: the body takes the written arrays as they are and leaves them at `G`. -/
def dats (_ : Fin 1) (c : Dev nD) : Dat τ (Elt F) Unit ℕ (Pipeline.UD sig nD τ) ℕ cfg0 c where
  A w := V m c (Pipeline.arrRef spec0 w)
  after w t := match w with
    | ⟨0, _⟩ => fun _ => gF (wIn m c)
    | ⟨1, _⟩ => scF (xIn m c)
  Φ k := if k.val = 0 then Pipeline.ΦDRV osem0 spec0 H0 R0 (V m) (V m) c else Pipeline.ΦDRV osem0 spec0 H0 R0 (V m) (G m) c
  q _ := fullShare
  owed _ := 0

theorem A_eq (c : Dev nD) (w : Fin cfg0.W) : (dats m 0 c).A w = V m c (Pipeline.arrRef spec0 w) := by
  dsimp only [dats]

abbrev ms0_0 (t : Fin cfg0.N) : Memref sig .tc .smem S1x1 .f32 := win0_0.stage (cfg0.slots t 0)
abbrev ms0_1 (t : Fin cfg0.N) : Memref sig .tc .vmem S2x256 .f32 := win0_1.stage (cfg0.slots t 1)
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

theorem ms_g : ms0_0 t0_0 = Memref.whole cc0_stg0_0 := rfl
theorem ms_s : ms0_1 t0_0 = Memref.whole cc0_stg1_0 := rfl
theorem owns_g (c : Dev nD) (f : S1x1.Idx → F .f32) : (owns (c : Thread nD τ) (ms0_0 t0_0) fullShare f : sProp 𝕄) = At c cc0_stg0_0 Finset.univ f := by
  rw [ms_g]
  exact owns_whole (Val := Elt F) (c : Thread nD τ) cc0_stg0_0 fullShare f
theorem owns_s (c : Dev nD) (f : S2x256.Idx → F .f32) : (owns (c : Thread nD τ) (ms0_1 t0_0) fullShare f : sProp 𝕄) = At c cc0_stg1_0 Finset.univ f := by
  rw [ms_s]
  exact owns_whole (Val := Elt F) (c : Thread nD τ) cc0_stg1_0 fullShare f

theorem given (c : Dev nD) : bodyPre m c t0_0 ⊢ Given c (xIn m c) (wIn m c) := by
  unfold bodyPre
  rw [show (dats m 0 c).Φ t0_0.castSucc = Pipeline.ΦDRV osem0 spec0 H0 R0 (V m) (V m) c from rfl]
  unfold Pipeline.ΦDRV Dat.owesAt Pipeline.owesWithin
  rw [scr_eq, row_eq, hbm_eq, out_eq, show (dats m 0 c).owed t0_0.castSucc = 0 from rfl]
  iintro ⟨⟨HS, HR, HH, ⟨HY, HP, HC⟩⟩, ⟨%W, -, HW⟩, ⟨%d0, B0⟩, ⟨%d1, B1⟩⟩
  isplitl [HS]; · iexact HS
  isplitl [HR]; · iapply (row_cells (F := F) c); iexact HR
  isplitl [HH]; · iexact HH
  isplitl [HY HP HC]
  · isplitl [HY]; · iexists _; iexact HY
    isplitl [HP]; · iexists _; iexact HP
    iexists _; iexact HC
  isplitl [B0 B1]
  · isplitl [B0]
    · iexists _
      iapply (Entails.of_eq (owns_g c ((dats m 0 c).before 0 t0_0 d0))); iexact B0
    iexists _
    iapply (Entails.of_eq (owns_s c ((dats m 0 c).before 1 t0_0 d1))); iexact B1
  iexists W; iexact HW

theorem left_post (c : Dev nD) : Left c (xIn m c) (wIn m c) ⊢ bodyPost m c t0_0 := by
  unfold bodyPost
  rw [show (dats m 0 c).Φ t0_0.succ = Pipeline.ΦDRV osem0 spec0 H0 R0 (V m) (G m) c from rfl]
  unfold Pipeline.ΦDRV Dat.owesAt Pipeline.owesWithin
  rw [scr_eq, row_eq, hbm_eq, out_eq, G_y, G_p, G_c, show (dats m 0 c).owed t0_0.succ = 0 from rfl]
  iintro ⟨HS, HR, HH, HO, ⟨B0, B1⟩, ⟨%W, HW⟩⟩
  isplitl [HS HR HH HO]
  · isplitl [HS]; · iexact HS
    isplitl [HR]; · iapply (cells_row (F := F) c); iexact HR
    isplitl [HH]; · iexact HH
    iexact HO
  isplitl [HW]
  · iexists W; isplitr; · ipureintro; exact fun _ _ => Or.inl trivial
    iexact HW
  isplitl [B0]
  · iapply (Entails.of_eq (owns_g c (fun _ => gF (wIn m c))).symm); iexact B0
  iapply (Entails.of_eq (owns_s c (scF (xIn m c))).symm); iexact B1

theorem sound_body (c : Dev nD) (t : Fin cfg0.N) :
    bodyPre m c t ⊢ wp frame (wpE (defs₀ (F := F)) Variants.none c none) Set.univ (bodyAt0 t) (fun _ => bodyPost m c t) := by
  rw [body_eq]
  have ht : t = t0_0 := fin_N0 t
  subst ht
  iintro H
  ihave H := (given m c) $$ H
  iapply (body_wp c (xIn m c) (wIn m c) (fun _ => bodyPost m c t0_0)) $$ H
  iintro H
  iapply (left_post m c)
  iexact H

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The memory when the last host line has run. -/
abbrev endV (c : Dev nD) : Valuation τ sig (Elt F) :=
  StableHlo.after ([hostOps1] : List (List (HloOp τ sig (Elt F)))).flatten (Pipeline.withArrays spec0 c (Pipeline.withR (V0 m c) R0 c (G m c)) fun w => (dats m 0 c).arrAt w cfg0.N)

set_option backward.isDefEq.respectTransparency.types false in
theorem run_main : θ_run defs (onTc (τ := τ) (main (F := F))) ⟨m, fun _ => 0, ρ⟩ (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = endV m c (Proc.devRef .tc b))
    ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmainD m Variants.none) (hA := A_eq m)
    (hin := fun _ => .rfl) (hout := fun _ => .rfl) (Q' := _) (hQ' := fun _ h => h)

/-- The arguments end as they began. -/
theorem end_arg0 (c : Dev nD) : endV m c (Proc.devRef .tc main_arg0) = m ((c : Thread nD τ).loc main_arg0) := by
  unfold endV
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c _ _ main_arg0 (by exact (by decide : ∀ w, Pipeline.arrRef spec0 w ≠ main_arg0)),
    Pipeline.withR_of_not_mem _ _ _ _ main_arg0 (by decide)]
  exact V_main_arg0 m c
theorem end_arg1 (c : Dev nD) : endV m c (Proc.devRef .tc main_arg1) = m ((c : Thread nD τ).loc main_arg1) := by
  unfold endV
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c _ _ main_arg1 (by exact (by decide : ∀ w, Pipeline.arrRef spec0 w ≠ main_arg1)),
    Pipeline.withR_of_not_mem _ _ _ _ main_arg1 (by decide)]
  exact V_main_arg1 m c

/-- The frame, at any float type. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).2 main_arg0 (Pipeline.mem_restRefs_of main_arg0 (by decide) (by decide))).trans (end_arg0 m c),
    ((h.1 c).2 main_arg1 (Pipeline.mem_restRefs_of main_arg1 (by decide) (by decide))).trans (end_arg1 m c)⟩, h.2⟩) (run_main m ρ)

end Cert.Kernel.Body

end
-- ==== Proof.KernelIdeal.Flat.lean ====
module

public import proofs.«01_k».proof.Proof.Gen.KernelIdeal.Skeleton
public import Idealize.ShloMosaic.Lib.Tactic.OpenCalls

@[expose] public section

noncomputable section

namespace Cert.KernelIdeal.Body

open Idealize.ShloMosaic Idealize.SL.Sem Cert.KernelIdeal

variable {F : FTy → Type} [FloatOps F]

set_option maxHeartbeats 4000000
set_option maxRecDepth 16384
set_option open_calls.check false

open_calls flat := cc0_bitlinear [k0_part45, k0_part46, k0_part47, k0_part48, k0_part49, k0_part50, k0_part51, k0_part52,
  k0_part53, k0_part54, k0_part55, k0_part56, k0_part57, k0_part58, k0_part59, k0_part60, k0_part61, k0_part62, k0_part63,
  k0_part64, k0_part65]

end Cert.KernelIdeal.Body

end
-- ==== Proof.KernelIdeal.Prog.lean ====
/- The body of the kernel written once more, block by block: the steps that the printed program repeats for every
   column block (start a copy of a weight block, sum a block, quantise a block, multiply a block, write a block out)
   are stated once, at the block's index, and the body is their sequence (`prog`). `Flat.lean`'s flattened body IS this
   sequence, by unfolding (`flat_eq`). -/
module

public import proofs.«01_k».proof.Proof.KernelIdeal.Flat
public import proofs.«01_k».proof.Proof.Gen.KernelIdeal.Points

@[expose] public section

noncomputable section

namespace Cert.KernelIdeal.Body

open Idealize.ShloMosaic Idealize.ShloMosaic.TcCoe Idealize.SL.Sem Cert.KernelIdeal Cert.KernelIdeal.Gen

variable {F : FTy → Type} [FloatOps F]

/-- Programs of the body, ending in nothing. -/
abbrev PU (F : FTy → Type) [FloatOps F] := Prog (TpuEff nD τ sig (Elt F) Λ₀ .tc) PUnit

/-! ## Buffers -/

abbrev xH : Memref sig .tc .hbm S512x2048 .bf16 := Memref.whole main_v0
abbrev wH : Memref sig .tc .hbm S2048x5632 .bf16 := Memref.whole main_arg1
abbrev yH : Memref sig .tc .hbm S512x5632 .bf16 := Memref.whole main_v1_0
abbrev pH : Memref sig .tc .hbm S2048x1408 .i8 := Memref.whole main_v1_1
abbrev cH : Memref sig .tc .hbm S512x2048 .i8 := Memref.whole main_v1_3
abbrev gS : Memref sig .tc .smem S1x1 .f32 := Memref.whole cc0_stg0_0
abbrev sV : Memref sig .tc .vmem S2x256 .f32 := Memref.whole cc0_stg1_0
abbrev xV : Memref sig .tc .vmem S512x2048 .bf16 := Memref.whole cc0_scratch0
abbrev wV : Memref sig .tc .vmem S11x2048x512 .bf16 := Memref.whole cc0_scratch1
abbrev cbV : Memref sig .tc .vmem S512x2048 .bf16 := Memref.whole cc0_scratch2
abbrev ciV : Memref sig .tc .vmem S512x2048 .i8 := Memref.whole cc0_scratch3
abbrev srV : Memref sig .tc .vmem S512x128 .f32 := Memref.whole cc0_scratch4
abbrev tV : Memref sig .tc .vmem S2x2048x512 .bf16 := Memref.whole cc0_scratch5
abbrev yV : Memref sig .tc .vmem S2x512x512 .bf16 := Memref.whole cc0_scratch6
abbrev pV : Memref sig .tc .vmem S2x2048x128 .i8 := Memref.whole cc0_scratch7

theorem wCol_inb : ∀ j : Fin 11, ∀ a, (![0, 512 * j.val] : Fin 2 → Nat) a + S2048x512.size a ≤ S2048x5632.size a := by decide
theorem wSlot_inb : ∀ j : Fin 11, ∀ a, (![j.val, 0, 0] : Fin 3 → Nat) a + S1x2048x512.size a ≤ S11x2048x512.size a := by decide
theorem wSem_inb : ∀ j : Fin 11, ∀ a, (![j.val] : Fin 1 → Nat) a + S1.size a ≤ S11.size a := by decide
theorem yCol_inb : ∀ j : Fin 11, ∀ a, (![0, 512 * j.val] : Fin 2 → Nat) a + S512x512.size a ≤ S512x5632.size a := by decide
theorem pCol_inb : ∀ j : Fin 11, ∀ a, (![0, 128 * j.val] : Fin 2 → Nat) a + S2048x128.size a ≤ S2048x1408.size a := by decide
theorem tSlot_inb : ∀ b : Fin 2, ∀ a, (![b.val, 0, 0] : Fin 3 → Nat) a + S1x2048x512.size a ≤ S2x2048x512.size a := by decide
theorem ySlot_inb : ∀ b : Fin 2, ∀ a, (![b.val, 0, 0] : Fin 3 → Nat) a + S1x512x512.size a ≤ S2x512x512.size a := by decide
theorem pSlot_inb : ∀ b : Fin 2, ∀ a, (![b.val, 0, 0] : Fin 3 → Nat) a + S1x2048x128.size a ≤ S2x2048x128.size a := by decide
theorem sem2_inb : ∀ b : Fin 2, ∀ a, (![b.val] : Fin 1 → Nat) a + S1.size a ≤ S2.size a := by decide

/-- Column block `j` of the weights, and the slot of the staging buffer it is copied to. -/
abbrev wCol (j : Fin 11) : Memref sig .tc .hbm S2048x512 .bf16 :=
  wH.slice (Rect.unit (s := S2048x5632) ![0, 512 * j.val] S2048x512.size (wCol_inb j)) (fun _ => rfl)
abbrev wSlot (j : Fin 11) : Memref sig .tc .vmem S2048x512 .bf16 :=
  (wV.slice (Rect.unit (s := S11x2048x512) ![j.val, 0, 0] S1x2048x512.size (wSlot_inb j)) (fun _ => rfl)).squeeze S2048x512 squeezes_S1x2048x512_S2048x512
abbrev wSem (j : Fin 11) : DmaSem sig := ((cc0_scratch9.slice (Rect.unit (s := S11) ![j.val] S1.size (wSem_inb j))).squeeze S_ squeezes_S1_S_).sem
/-- Column block `j` of the product and of the packed weights, and the slots they leave from. -/
abbrev yCol (j : Fin 11) : Memref sig .tc .hbm S512x512 .bf16 :=
  yH.slice (Rect.unit (s := S512x5632) ![0, 512 * j.val] S512x512.size (yCol_inb j)) (fun _ => rfl)
abbrev pCol (j : Fin 11) : Memref sig .tc .hbm S2048x128 .i8 :=
  pH.slice (Rect.unit (s := S2048x1408) ![0, 128 * j.val] S2048x128.size (pCol_inb j)) (fun _ => rfl)
abbrev tSlot (b : Fin 2) : Memref sig .tc .vmem S2048x512 .bf16 :=
  (tV.slice (Rect.unit (s := S2x2048x512) ![b.val, 0, 0] S1x2048x512.size (tSlot_inb b)) (fun _ => rfl)).squeeze S2048x512 squeezes_S1x2048x512_S2048x512
abbrev ySlot (b : Fin 2) : Memref sig .tc .vmem S512x512 .bf16 :=
  (yV.slice (Rect.unit (s := S2x512x512) ![b.val, 0, 0] S1x512x512.size (ySlot_inb b)) (fun _ => rfl)).squeeze S512x512 squeezes_S1x512x512_S512x512
abbrev pSlot (b : Fin 2) : Memref sig .tc .vmem S2048x128 .i8 :=
  (pV.slice (Rect.unit (s := S2x2048x128) ![b.val, 0, 0] S1x2048x128.size (pSlot_inb b)) (fun _ => rfl)).squeeze S2048x128 squeezes_S1x2048x128_S2048x128
abbrev ySem (b : Fin 2) : DmaSem sig := ((cc0_scratch11.slice (Rect.unit (s := S2) ![b.val] S1.size (sem2_inb b))).squeeze S_ squeezes_S1_S_).sem
abbrev pSem (b : Fin 2) : DmaSem sig := ((cc0_scratch12.slice (Rect.unit (s := S2) ![b.val] S1.size (sem2_inb b))).squeeze S_ squeezes_S1_S_).sem

theorem wCol_words : ∀ j : Fin 11, (Rect.unit (s := S2048x5632) ![0, 512 * j.val] S2048x512.size (wCol_inb j)).WholeWords (EltTy.packing .bf16) := by decide
theorem wSlot_words : ∀ j : Fin 11, (Rect.unit (s := S11x2048x512) ![j.val, 0, 0] S1x2048x512.size (wSlot_inb j)).WholeWords (EltTy.packing .bf16) := by decide
theorem yCol_words : ∀ j : Fin 11, (Rect.unit (s := S512x5632) ![0, 512 * j.val] S512x512.size (yCol_inb j)).WholeWords (EltTy.packing .bf16) := by decide
theorem pCol_words : ∀ j : Fin 11, (Rect.unit (s := S2048x1408) ![0, 128 * j.val] S2048x128.size (pCol_inb j)).WholeWords (EltTy.packing .i8) := by decide
theorem ySlot_words : ∀ b : Fin 2, (Rect.unit (s := S2x512x512) ![b.val, 0, 0] S1x512x512.size (ySlot_inb b)).WholeWords (EltTy.packing .bf16) := by decide
theorem pSlot_words : ∀ b : Fin 2, (Rect.unit (s := S2x2048x128) ![b.val, 0, 0] S1x2048x128.size (pSlot_inb b)).WholeWords (EltTy.packing .i8) := by decide
theorem ySlot_packed : ∀ b : Fin 2, (Rect.unit (s := S2x512x512) ![b.val, 0, 0] S1x512x512.size (ySlot_inb b)).PackedRows (EltTy.packing .bf16) := by decide

theorem wCol_exact (j : Fin 11) : (wCol j).view.WordExact := (Memref.isWhole_whole main_arg1).wordExact_slice rfl _ (wCol_words j)
theorem wSlot_exact (j : Fin 11) : (wSlot j).view.WordExact := ((Memref.isWhole_whole cc0_scratch1).wordExact_slice rfl _ (wSlot_words j)).reshape _ _
theorem yCol_exact (j : Fin 11) : (yCol j).view.WordExact := (Memref.isWhole_whole main_v1_0).wordExact_slice rfl _ (yCol_words j)
theorem pCol_exact (j : Fin 11) : (pCol j).view.WordExact := (Memref.isWhole_whole main_v1_1).wordExact_slice rfl _ (pCol_words j)
theorem ySlot_exact (b : Fin 2) : (ySlot b).view.WordExact := ((Memref.isWhole_whole cc0_scratch6).wordExact_slice rfl _ (ySlot_words b)).reshape _ _
theorem pSlot_exact (b : Fin 2) : (pSlot b).view.WordExact := ((Memref.isWhole_whole cc0_scratch7).wordExact_slice rfl _ (pSlot_words b)).reshape _ _

/-! ## Values -/

/-- The threshold of the ternary rounding, from the mean: half of it, in `bf16`, in every lane. -/
def thetaOf (g : F .f32) : FVec F S32x128 .bf16 :=
  truncf .bf16 (extf .f32 (truncf .bf16 (broadcast S32x128 (Scalar.mulf (Scalar.ofBits .f32 0x3F000000#32) g) : FVec F S32x128 .f32) bitsLt_bf16_f32 : FVec F S32x128 .bf16) bitsLt_bf16_f32 : FVec F S32x128 .f32) bitsLt_bf16_f32

/-- The mean, from the sum over the 11 blocks kept as 32 x 512 partial sums. -/
def gammaOf (a : FVec F S32x512 .f32) : F .f32 :=
  Scalar.divf (extractAt ![0, 0, 0] (shapeCast S1x1x1 (multiReduction .add [1, 2] S1 (shapeCast S1x32x512 a shapeCasts_S32x512_S1x32x512)
    0x00000000#32 reduces_S1x32x512_S1 (.inl rfl) rfl : FVec F S1 .f32) shapeCasts_S1_S1x1x1) inpos_S1x1x1_p0_0_0) (Scalar.ofBits .f32 0x4B300000#32)

/-- One step of the sum: 32 rows of a block. -/
def absAcc (a : FVec F S32x512 .f32) (v : Vec F S1x32x512 .bf16) : FVec F S32x512 .f32 :=
  addf a (absf (extf .f32 (shapeCast S32x512 v shapeCasts_S1x32x512_S32x512 : FVec F S32x512 .bf16) bitsLt_bf16_f32))

def acc0 : FVec F S32x512 .f32 := broadcast S32x512 (Scalar.ofBits .f32 0x00000000#32)

/-- The scales of 32 rows, as a column. -/
def qScale (v : Vec F S32x2048 .bf16) : FVec F S32x1 .f32 :=
  let v557 : FVec F S32x1 .f32 := shapeCast S32x1 (multiReduction .maximumf [1] S32 (absf (extf .f32 v bitsLt_bf16_f32)) 0xFF800000#32 reduces_S32x2048_S32 (.inl rfl) rfl : FVec F S32 .f32) shapeCasts_S32_S32x1
  select (cmpf .oeq v557 (broadcast S32x1 (Scalar.ofBits .f32 0x00000000#32))) (broadcast S32x1 (Scalar.ofBits .f32 0x3F800000#32))
    (divf v557 (broadcast S32x1 (Scalar.ofBits .f32 0x42FE0000#32)))

/-- The codes of 32 rows, as floats. -/
def qCode (v : Vec F S32x2048 .bf16) : FVec F S32x2048 .f32 :=
  minimumf (broadcast S32x2048 (Scalar.sitofp .f32 127#32))
    (maximumf (broadcast S32x2048 (Scalar.sitofp .f32 (-127#32 : BitVec 32)))
      (roundeven (divf (extf .f32 v bitsLt_bf16_f32) (broadcastTo S32x2048 (qScale v) broadcasts_S32x1_S32x2048))))
def qCodeB (v : Vec F S32x2048 .bf16) : FVec F S32x2048 .bf16 :=
  shapeCast S32x2048 (truncf .bf16 (qCode v) bitsLt_bf16_f32 : FVec F S32x2048 .bf16) shapeCasts_S32x2048_S32x2048
def qCodeI (v : Vec F S32x2048 .bf16) : IVec S32x2048 8 := shapeCast S32x2048 (fptosi 8 (qCode v) : IVec S32x2048 8) shapeCasts_S32x2048_S32x2048
def qScaleB (v : Vec F S32x2048 .bf16) : FVec F S32x128 .f32 :=
  shapeCast S32x128 (broadcastTo S32x128 (shapeCast S32x1 (qScale v) shapeCasts_S32x1_S32x1 : FVec F S32x1 .f32) broadcasts_S32x1_S32x128) shapeCasts_S32x128_S32x128

/-- 128 scales kept one per row, turned into a row: the diagonal's column sums. -/
def diagRow (v : Vec F S128x128 .f32) : FVec F S1x128 .f32 :=
  shapeCast S1x128 (multiReduction .add [0] S128 (select (cmpi .eq (iota .tc S128x128 32 [0] iota_S128x128_d0_w32) (iota .tc S128x128 32 [1] iota_S128x128_d1_w32)) v
    (broadcast S128x128 (Scalar.ofBits .f32 0x00000000#32)) : FVec F S128x128 .f32) 0x00000000#32 reduces_S128x128_S128 (.inl rfl) rfl : FVec F S128 .f32) shapeCasts_S128_S1x128

/-- The two comparisons of the ternary rounding. -/
def isPos (θ w : FVec F S32x128 .bf16) : IVec S32x128 1 := cmpf .ogt w θ
def isNeg (θ w : FVec F S32x128 .bf16) : IVec S32x128 1 := cmpf .olt w (subf (broadcast S32x128 (Scalar.ofBits .bf16 0x0000#16)) θ)
/-- The ternary value of 32 x 128 weights. -/
def tern (θ w : FVec F S32x128 .bf16) : FVec F S32x128 .bf16 :=
  select (isPos θ w) (broadcast S32x128 (Scalar.truncf .bf16 bitsLt_bf16_f32 (Scalar.ofBits .f32 0x3F800000#32)))
    (truncf .bf16 (select (isNeg θ w) (broadcast S32x128 (Scalar.ofBits .f32 0xBF800000#32)) (broadcast S32x128 (Scalar.ofBits .f32 0x00000000#32)) : FVec F S32x128 .f32) bitsLt_bf16_f32)
def ternS (θ w : FVec F S32x128 .bf16) : Vec F S1x32x128 .bf16 :=
  shapeCast S1x32x128 (shapeCast S32x128 (tern θ w) shapeCasts_S32x128_S32x128 : FVec F S32x128 .bf16) shapeCasts_S32x128_S1x32x128
/-- One in each lane's two-bit field of its byte. -/
def oneBit : IVec S32x128 16 :=
  trunci 16 (shli (broadcast S32x128 1#32) (muli (broadcast S32x128 2#32) (andi (iota .tc S32x128 32 [1] iota_S32x128_d1_w32) (broadcast S32x128 3#32)))) natLt_16_32
/-- The ternary digit plus one of 32 x 128 weights, each in its lane's two-bit field, four rows to a word. -/
def fieldOf (θ w : FVec F S32x128 .bf16) : IVec S8x128 32 :=
  bitcast S8x128 32 (trunci 8 (select (isPos θ w) (addi oneBit oneBit) (select (isNeg θ w) (broadcast S32x128 0#16) oneBit)) natLt_8_16 : IVec S32x128 8) bitcasts_S32x128_w8_S8x128_w32
/-- The lane numbers. -/
def laneI : IVec S8x128 32 := iota .tc S8x128 32 [1] iota_S8x128_d1_w32
/-- The lanes moved by the index vector `ix`. -/
def gatherBy (v ix : IVec S8x128 32) : IVec S8x128 32 :=
  dynamicGather 1 v (shapeCast S8x128 (shapeCast S8x128x1 (select (cmpi .slt ix (broadcast S8x128 0#32)) (addi ix (broadcast S8x128 128#32)) ix)
    shapeCasts_S8x128_S8x128x1 : IVec S8x128x1 32) shapeCasts_S8x128x1_S8x128)
/-- One step of the merge of two fields whose lanes differ in the bit `d`. -/
def merge (d : BitVec 32) (a b : IVec S8x128 32) : IVec S8x128 32 :=
  let e : IVec S8x128 1 := cmpi .eq (andi laneI (broadcast S8x128 d)) (broadcast S8x128 0#32)
  ori (select e a b) (gatherBy (select e b a) (xori laneI (broadcast S8x128 d)))
/-- The packed bytes of 32 rows. -/
def packOf (f0 f1 f2 f3 : IVec S8x128 32) : IVec S32x128 8 :=
  bitcast S32x128 8 (gatherBy (merge 2#32 (merge 1#32 f0 f1) (merge 1#32 f2 f3))
    (ori (shli (andi laneI (broadcast S8x128 31#32)) (broadcast S8x128 2#32)) (shrsi laneI (broadcast S8x128 5#32)))) bitcasts_S8x128_w32_S32x128_w8
def packS (θ w0 w1 w2 w3 : FVec F S32x128 .bf16) : Vec F S1x32x128 .i8 :=
  shapeCast S1x32x128 (shapeCast S32x128 (packOf (fieldOf θ w0) (fieldOf θ w1) (fieldOf θ w2) (fieldOf θ w3)) shapeCasts_S32x128_S32x128 : IVec S32x128 8) shapeCasts_S32x128_S1x32x128

/-- The product of a block: codes times ternary weights, scaled. -/
def yOf (g : F .f32) (cb : Vec F S512x2048 .bf16) (tb : Vec F S1x2048x512 .bf16) (s : Vec F S512x1 .f32) : FVec F S512x512 .bf16 :=
  truncf .bf16 (mulf (mulf (matmul dot_S512x2048_S2048x512_S512x512_1_0_0_1_n_n none cb (shapeCast S2048x512 tb shapeCasts_S1x2048x512_S2048x512 : FVec F S2048x512 .bf16) (constant S512x512 .f32 0x00000000#32))
    (broadcastTo S512x512 s broadcasts_S512x1_S512x512)) (broadcast S512x512 g) : FVec F S512x512 .f32) bitsLt_bf16_f32
def yS (g : F .f32) (cb : Vec F S512x2048 .bf16) (tb : Vec F S1x2048x512 .bf16) (s : Vec F S512x1 .f32) : Vec F S1x512x512 .bf16 :=
  shapeCast S1x512x512 (yOf g cb tb s) shapeCasts_S512x512_S1x512x512

/-! ## Steps -/

def startX (κ : PU F) : PU F :=
  Prog.lift (.enqueueDma xH (.here xV) (.dma cc0_scratch8.sem) (Memref.isWhole_whole _).wordExact (Memref.isWhole_whole _).wordExact ⟨Or.inl rfl, trivial⟩) >>= fun _ => κ
def waitX (κ : PU F) : PU F :=
  Prog.lift (.waitDma2 cc0_scratch8.sem xH xV (Memref.isWhole_whole _).wordExact (Memref.isWhole_whole _).wordExact) >>= fun _ => κ
def startC (κ : PU F) : PU F :=
  Prog.lift (.enqueueDma ciV (.here cH) (.dma cc0_scratch10.sem) (Memref.isWhole_whole _).wordExact (Memref.isWhole_whole _).wordExact ⟨Or.inl rfl, trivial⟩) >>= fun _ => κ
def waitC (κ : PU F) : PU F :=
  Prog.lift (.waitDma2 cc0_scratch10.sem ciV cH (Memref.isWhole_whole _).wordExact (Memref.isWhole_whole _).wordExact) >>= fun _ => κ
def startW (j : Fin 11) (κ : PU F) : PU F :=
  Prog.lift (.enqueueDma (wCol j) (.here (wSlot j)) (.dma (wSem j)) (wCol_exact j) (wSlot_exact j) ⟨Or.inl rfl, trivial⟩) >>= fun _ => κ
def waitW (j : Fin 11) (κ : PU F) : PU F :=
  Prog.lift (.waitDma2 (wSem j) (wCol j) (wSlot j) (wCol_exact j) (wSlot_exact j)) >>= fun _ => κ
def startP (j : Fin 11) (b : Fin 2) (κ : PU F) : PU F :=
  Prog.lift (.enqueueDma (pSlot b) (.here (pCol j)) (.dma (pSem b)) (pSlot_exact b) (pCol_exact j) ⟨Or.inl rfl, trivial⟩) >>= fun _ => κ
def waitP (j : Fin 11) (b : Fin 2) (κ : PU F) : PU F :=
  Prog.lift (.waitDma2 (pSem b) (pSlot b) (pCol j) (pSlot_exact b) (pCol_exact j)) >>= fun _ => κ
def startY (j : Fin 11) (b : Fin 2) (κ : PU F) : PU F :=
  Prog.lift (.enqueueDma (ySlot b) (.here (yCol j)) (.dma (ySem b)) (ySlot_exact b) (yCol_exact j) ⟨Or.inl rfl, trivial⟩) >>= fun _ => κ
def waitY (j : Fin 11) (b : Fin 2) (κ : PU F) : PU F :=
  Prog.lift (.waitDma2 (ySem b) (ySlot b) (yCol j) (ySlot_exact b) (yCol_exact j)) >>= fun _ => κ

/-- The rows of trip `t` of the quantising loop. -/
theorem q_inb : ∀ t : Fin k0_t1_loop.trips, ∀ a, (![32 * t.val, 0] : Fin 2 → Nat) a + S32x2048.size a ≤ S512x2048.size a := by decide +kernel

/-- One trip of the quantising loop. -/
def quantTrip (t : Fin k0_t1_loop.trips) : PU F :=
  Prog.lift (.load xV (Rect.unit (s := S512x2048) (k0_off1 t) S32x2048.size (k0_off1_inb t)).toLoadRect (View.loadsAt_vmem h_S32x2048)) >>= fun v =>
  Prog.lift (.load cbV (Rect.unit (s := S512x2048) (k0_off1 t) S32x2048.size (k0_off1_inb t)).toLoadRect (View.loadsAt_vmem h_S32x2048)) >>= fun _ =>
  Prog.lift (.store cbV (Rect.unit (s := S512x2048) (k0_off1 t) S32x2048.size (k0_off1_inb t)) (qCodeB v) Finset.univ (View.stores_vmem h_S32x2048 ((Memref.isWhole_whole _).storeExact_slice rfl _ (k0_off1_packedbf16 t)) (fun _ => rfl)) (.inl rfl)) >>= fun _ =>
  Prog.lift (.load ciV (Rect.unit (s := S512x2048) (k0_off1 t) S32x2048.size (k0_off1_inb t)).toLoadRect (View.loadsAt_vmem h_S32x2048)) >>= fun _ =>
  Prog.lift (.store ciV (Rect.unit (s := S512x2048) (k0_off1 t) S32x2048.size (k0_off1_inb t)) (qCodeI v) Finset.univ (View.stores_vmem h_S32x2048 ((Memref.isWhole_whole _).storeExact_slice rfl _ (k0_off1_packedi8 t)) (fun _ => rfl)) (.inl rfl)) >>= fun _ =>
  Prog.lift (.load srV (Rect.unit (s := S512x128) (k0_off2 t) S32x128.size (k0_off2_inb t)).toLoadRect (View.loadsAt_vmem h_S32x128)) >>= fun _ =>
  Prog.lift (.store srV (Rect.unit (s := S512x128) (k0_off2 t) S32x128.size (k0_off2_inb t)) (qScaleB v) Finset.univ (View.stores_vmem_bits_univ h_S32x128 rfl) (.inl rfl)) >>= fun _ =>
  pure ⟨⟩

theorem sr_inb : ∀ k : Fin 4, ∀ a, (![128 * k.val, 0] : Fin 2 → Nat) a + S128x128.size a ≤ S512x128.size a := by decide
theorem s_inb : ∀ k : Fin 4, ∀ a, (![k.val / 2, 128 * (k.val % 2)] : Fin 2 → Nat) a + S1x128.size a ≤ S2x256.size a := by decide
/-- 128 of the scales written out as a row. -/
def scaleStep (k : Fin 4) (κ : PU F) : PU F :=
  Prog.lift (.load srV (Rect.unit (s := S512x128) ![128 * k.val, 0] S128x128.size (sr_inb k)).toLoadRect (View.loadsAt_vmem h_S128x128)) >>= fun v =>
  Prog.lift (.load sV (Rect.unit (s := S2x256) ![k.val / 2, 128 * (k.val % 2)] S1x128.size (s_inb k)).toLoadRect (View.loadsAt_vmem h_S1x128)) >>= fun _ =>
  Prog.lift (.store sV (Rect.unit (s := S2x256) ![k.val / 2, 128 * (k.val % 2)] S1x128.size (s_inb k)) (diagRow v) Finset.univ (View.stores_vmem_bits_univ h_S1x128 rfl) (.inl rfl)) >>= fun _ => κ

/-- The row a trip of a 64-trip loop of 32 rows starts at, as the program computes it. -/
abbrev sRow (t : Fin k0_t2_loop.trips) : Nat := (Scalar.indexCast (Scalar.muli (Scf.iv 0#32 1#32 t : BitVec 32) 32#32)).toNat
abbrev qRow (t : Fin k0_t13_loop.trips) : Nat :=
  (Scalar.indexCast (Scalar.muli (Scalar.addi 0#32 (Scalar.muli (Scf.iv 0#32 1#32 t : BitVec 32) 1#32)) 32#32)).toNat
theorem sRow_eq : ∀ t : Fin k0_t2_loop.trips, sRow t = 32 * t.val := by decide +kernel
theorem qRow_eq : ∀ t : Fin k0_t13_loop.trips, qRow t = 32 * t.val := by decide +kernel
theorem trips2 : k0_t2_loop.trips = 64 := by decide +kernel
theorem trips13 : k0_t13_loop.trips = 64 := by decide +kernel

theorem sum_inb (j : Fin 11) (t : Fin k0_t2_loop.trips) : ∀ a, (![j.val, sRow t, 0] : Fin 3 → Nat) a + S1x32x512.size a ≤ S11x2048x512.size a := by
  have h := sRow_eq t
  have := t.isLt
  have := trips2
  have := j.isLt
  intro a
  match a with
  | 0 => show j.val + 1 ≤ 11; omega
  | 1 => show sRow t + 32 ≤ 2048; omega
  | 2 => show 0 + 512 ≤ 512; omega

/-- One trip of the sum over block `j`. -/
def sumTrip (j : Fin 11) (t : Fin k0_t2_loop.trips) (a : FVec F S32x512 .f32) : Prog (TpuEff nD τ sig (Elt F) Λ₀ .tc) (FVec F S32x512 .f32) :=
  Prog.lift (.load wV (Rect.unit (s := S11x2048x512) ![j.val, sRow t, 0] S1x32x512.size (sum_inb j t)).toLoadRect (View.loadsAt_vmem h_S1x32x512)) >>= fun v =>
  pure (absAcc a v)
/-- The sum over block `j`, once its copy has landed. -/
def sumBlock (j : Fin 11) (a : FVec F S32x512 .f32) (κ : FVec F S32x512 .f32 → PU F) : PU F :=
  waitW j (Scf.Loop.for k0_t2_loop k0_t2_ok a (sumTrip j) >>= κ)

/-- The mean stored. -/
def gammaStep (g : F .f32) (κ : PU F) : PU F :=
  smemLoad gS (Rect.unit (s := S1x1) ![0, 0] S1x1.size inb_S1x1_S1x1_0_0) numel1_S1x1 rfl >>= fun _ =>
  Prog.lift (.store gS (Rect.unit (s := S1x1) ![0, 0] S1x1.size inb_S1x1_S1x1_0_0) (fun _ => g) Finset.univ (View.stores_smem_one rfl numel1_S1x1) (.inl rfl)) >>= fun _ => κ

theorem tw_inb (c : Fin 4) (t : Fin k0_t13_loop.trips) : ∀ a, (![qRow t, 128 * c.val] : Fin 2 → Nat) a + S32x128.size a ≤ S2048x512.size a := by
  have h := qRow_eq t
  have := t.isLt
  have := trips13
  have := c.isLt
  intro a
  match a with
  | 0 => show qRow t + 32 ≤ 2048; omega
  | 1 => show 128 * c.val + 128 ≤ 512; omega
theorem tb_inb (b : Fin 2) (c : Fin 4) (t : Fin k0_t13_loop.trips) : ∀ a, (![b.val, qRow t, 128 * c.val] : Fin 3 → Nat) a + S1x32x128.size a ≤ S2x2048x512.size a := by
  have h := qRow_eq t
  have := t.isLt
  have := trips13
  have := c.isLt
  have := b.isLt
  intro a
  match a with
  | 0 => show b.val + 1 ≤ 2; omega
  | 1 => show qRow t + 32 ≤ 2048; omega
  | 2 => show 128 * c.val + 128 ≤ 512; omega
theorem tp_inb (t : Fin k0_t13_loop.trips) : ∀ a, (![qRow t, 0] : Fin 2 → Nat) a + S32x128.size a ≤ S2048x128.size a := by
  have h := qRow_eq t
  have := t.isLt
  have := trips13
  intro a
  match a with
  | 0 => show qRow t + 32 ≤ 2048; omega
  | 1 => show 0 + 128 ≤ 128; omega
theorem pb_inb (b : Fin 2) (t : Fin k0_t13_loop.trips) : ∀ a, (![b.val, qRow t, 0] : Fin 3 → Nat) a + S1x32x128.size a ≤ S2x2048x128.size a := by
  have h := qRow_eq t
  have := t.isLt
  have := trips13
  have := b.isLt
  intro a
  match a with
  | 0 => show b.val + 1 ≤ 2; omega
  | 1 => show qRow t + 32 ≤ 2048; omega
  | 2 => show 0 + 128 ≤ 128; omega
theorem tb_packed : ∀ (b : Fin 2) (c : Fin 4) (t : Fin k0_t13_loop.trips), (Rect.unit (s := S2x2048x512) ![b.val, qRow t, 128 * c.val] S1x32x128.size (tb_inb b c t)).PackedRows (EltTy.packing .bf16) := by decide +kernel
theorem pb_packed : ∀ (b : Fin 2) (t : Fin k0_t13_loop.trips), (Rect.unit (s := S2x2048x128) ![b.val, qRow t, 0] S1x32x128.size (pb_inb b t)).PackedRows (EltTy.packing .i8) := by decide +kernel

/-- 32 x 128 weights of block `j` rounded into slot `b`. -/
def ternStep (j : Fin 11) (b : Fin 2) (θ : FVec F S32x128 .bf16) (t : Fin k0_t13_loop.trips) (c : Fin 4) (κ : Vec F S32x128 .bf16 → PU F) : PU F :=
  Prog.lift (.load (wSlot j) (Rect.unit (s := S2048x512) ![qRow t, 128 * c.val] S32x128.size (tw_inb c t)).toLoadRect (View.loadsAt_vmem h_S32x128)) >>= fun w =>
  Prog.lift (.load (tSlot b) (Rect.unit (s := S2048x512) ![qRow t, 128 * c.val] S32x128.size (tw_inb c t)).toLoadRect (View.loadsAt_vmem h_S32x128)) >>= fun _ =>
  Prog.lift (.store tV (Rect.unit (s := S2x2048x512) ![b.val, qRow t, 128 * c.val] S1x32x128.size (tb_inb b c t)) (ternS θ w) Finset.univ (View.stores_vmem h_S1x32x128 ((Memref.isWhole_whole _).storeExact_slice rfl _ (tb_packed b c t)) (fun _ => rfl)) (.inl rfl)) >>= fun _ =>
  κ w
/-- One trip of the rounding of block `j`: 32 rows rounded, and packed. -/
def ternTrip (j : Fin 11) (b : Fin 2) (θ : FVec F S32x128 .bf16) (t : Fin k0_t13_loop.trips) : PU F :=
  ternStep j b θ t 0 fun w0 => ternStep j b θ t 1 fun w1 => ternStep j b θ t 2 fun w2 => ternStep j b θ t 3 fun w3 =>
  Prog.lift (.load (pSlot b) (Rect.unit (s := S2048x128) ![qRow t, 0] S32x128.size (tp_inb t)).toLoadRect (View.loadsAt_vmem h_S32x128)) >>= fun _ =>
  Prog.lift (.store pV (Rect.unit (s := S2x2048x128) ![b.val, qRow t, 0] S1x32x128.size (pb_inb b t)) (packS θ w0 w1 w2 w3) Finset.univ (View.stores_vmem h_S1x32x128 ((Memref.isWhole_whole _).storeExact_slice rfl _ (pb_packed b t)) (fun _ => rfl)) (.inl rfl)) >>= fun _ =>
  pure ⟨⟩
def ternLoop (j : Fin 11) (b : Fin 2) (θ : FVec F S32x128 .bf16) : PU F :=
  Scf.Loop.for k0_t13_loop k0_t13_ok ⟨⟩ fun t _ => ternTrip j b θ t

/-- The product of a block into slot `b`. -/
def mulStep (b : Fin 2) (g : F .f32) (κ : PU F) : PU F :=
  Prog.lift (.load cbV (Rect.unit (s := S512x2048) ![0, 0] S512x2048.size inb_S512x2048_S512x2048_0_0).toLoadRect (View.loadsAt_vmem h_S512x2048)) >>= fun cb =>
  Prog.lift (.load tV (Rect.unit (s := S2x2048x512) ![b.val, 0, 0] S1x2048x512.size (tSlot_inb b)).toLoadRect (View.loadsAt_vmem h_S1x2048x512)) >>= fun tb =>
  Prog.lift (.load srV (Rect.unit (s := S512x128) ![0, 0] S512x1.size inb_S512x128_S512x1_0_0).toLoadRect (View.loadsAt_vmem h_S512x1)) >>= fun s =>
  Prog.lift (.load yV (Rect.unit (s := S2x512x512) ![b.val, 0, 0] S1x512x512.size (ySlot_inb b)).toLoadRect (View.loadsAt_vmem h_S1x512x512)) >>= fun _ =>
  Prog.lift (.store yV (Rect.unit (s := S2x512x512) ![b.val, 0, 0] S1x512x512.size (ySlot_inb b)) (yS g cb tb s) Finset.univ (View.stores_vmem h_S1x512x512 ((Memref.isWhole_whole _).storeExact_slice rfl _ (ySlot_packed b)) (fun _ => rfl)) (.inl rfl)) >>= fun _ => κ

/-- One column block: round, start the packed copy, multiply, start the product's copy. -/
def outBlock (j : Fin 11) (b : Fin 2) (g : F .f32) (κ : PU F) : PU F :=
  ternLoop j b (thetaOf g) >>= fun _ => startP j b <| mulStep b g <| startY j b κ

/-- The body. -/
def prog : PU F :=
  startX <| startW 0 <| startW 1 <| startW 2 <| startW 3 <| startW 4 <| startW 5 <| startW 6 <| startW 7 <| startW 8 <| startW 9 <| startW 10 <|
  waitX <| (Scf.Loop.for k0_t1_loop k0_t1_ok ⟨⟩ fun t _ => quantTrip t) >>= fun _ => startC <|
  scaleStep 0 <| scaleStep 1 <| scaleStep 2 <| scaleStep 3 <|
  sumBlock 0 acc0 fun a0 => sumBlock 1 a0 fun a1 => sumBlock 2 a1 fun a2 => sumBlock 3 a2 fun a3 => sumBlock 4 a3 fun a4 => sumBlock 5 a4 fun a5 =>
  sumBlock 6 a5 fun a6 => sumBlock 7 a6 fun a7 => sumBlock 8 a7 fun a8 => sumBlock 9 a8 fun a9 => sumBlock 10 a9 fun a10 =>
  gammaStep (gammaOf a10) <|
  outBlock 0 0 (gammaOf a10) <|
  outBlock 1 1 (gammaOf a10) <| waitY 0 0 <| waitP 0 0 <|
  outBlock 2 0 (gammaOf a10) <| waitY 1 1 <| waitP 1 1 <|
  outBlock 3 1 (gammaOf a10) <| waitY 2 0 <| waitP 2 0 <|
  outBlock 4 0 (gammaOf a10) <| waitY 3 1 <| waitP 3 1 <|
  outBlock 5 1 (gammaOf a10) <| waitY 4 0 <| waitP 4 0 <|
  outBlock 6 0 (gammaOf a10) <| waitY 5 1 <| waitP 5 1 <|
  outBlock 7 1 (gammaOf a10) <| waitY 6 0 <| waitP 6 0 <|
  outBlock 8 0 (gammaOf a10) <| waitY 7 1 <| waitP 7 1 <|
  outBlock 9 1 (gammaOf a10) <| waitY 8 0 <| waitP 8 0 <|
  outBlock 10 0 (gammaOf a10) <| waitY 9 1 <| waitP 9 1 <|
  waitY 10 0 <| waitP 10 0 <| waitC <| pure ⟨⟩

end Cert.KernelIdeal.Body

end
-- ==== Proof.KernelIdeal.Vals.lean ====
/- What every buffer of the kernel holds, as functions of the two arguments: the staged weights, the codes and scales,
   the sum of the magnitudes, the ternary blocks, the packed bytes and the product. -/
module

public import proofs.«01_k».proof.Proof.KernelIdeal.Prog
public import Idealize.ShloMosaic.Lib.ValueLayout

@[expose] public section

noncomputable section

namespace Cert.KernelIdeal.Body

open Idealize.ShloMosaic Idealize.ShloMosaic.TcCoe Idealize.ShloMosaic.ValueIdx Idealize.SL.Sem Cert.KernelIdeal Cert.KernelIdeal.Gen

variable {F : FTy → Type} [FloatOps F]

/-- The two arguments' types: the activations as 512 rows, and the weights. -/
abbrev XT (F : FTy → Type) [FloatOps F] := S512x2048.Idx → F .bf16
abbrev WT (F : FTy → Type) [FloatOps F] := S2048x5632.Idx → F .bf16

/-! ## The quantised activations -/

/-- Rows `32 t …` of the activations. -/
def xRows (X : XT F) (t : Fin 16) : Vec F S32x2048 .bf16 := fun i =>
  X (ix2 ⟨32 * t.val + (i 0).val, by have h : (i 0).val < 32 := (i 0).isLt; omega⟩ ⟨(i 1).val, (i 1).isLt⟩)
/-- A row's block of 32, and its place there. -/
def rb (i : Fin 512) : Fin 16 := ⟨i.val / 32, by omega⟩
def ri (i : Fin 512) : Fin 32 := ⟨i.val % 32, by omega⟩
/-- The codes, as floats and as integers, and the scales (each in 128 lanes). -/
def cbF (X : XT F) : S512x2048.Idx → F .bf16 := fun i => qCodeB (xRows X (rb (i 0))) (ix2 (ri (i 0)) (i 1))
def ciF (X : XT F) : S512x2048.Idx → BitVec 8 := fun i => qCodeI (xRows X (rb (i 0))) (ix2 (ri (i 0)) (i 1))
def srF (X : XT F) : S512x128.Idx → F .f32 := fun i => qScaleB (xRows X (rb (i 0))) (ix2 (ri (i 0)) (i 1))
/-- 128 rows of the scales; the scales, one a place. -/
def srBlk (X : XT F) (k : Fin 4) : Vec F S128x128 .f32 := fun i =>
  srF X (ix2 ⟨128 * k.val + (i 0).val, by have h : (i 0).val < 128 := (i 0).isLt; omega⟩ ⟨(i 1).val, (i 1).isLt⟩)
def scF (X : XT F) : S2x256.Idx → F .f32 := fun i =>
  diagRow (srBlk X ⟨2 * (i 0).val + (i 1).val / 128, by have h : (i 0).val < 2 := (i 0).isLt; have h' : (i 1).val < 256 := (i 1).isLt; omega⟩)
    (ix2 (0 : Fin 1) ⟨(i 1).val % 128, by omega⟩)
/-- The scales' column the product reads. -/
def sCol (X : XT F) : Vec F S512x1 .f32 := fun i => srF X (ix2 (i 0) ⟨0, by decide⟩)

/-! ## The mean -/

/-- What the staging buffer of the weights holds once every block has landed. -/
def wvF (W : WT F) : S11x2048x512.Idx → F .bf16 := fun i =>
  W (ix2 ⟨(i 1).val, (i 1).isLt⟩ ⟨512 * (i 0).val + (i 2).val, by have h : (i 0).val < 11 := (i 0).isLt; have h' : (i 2).val < 512 := (i 2).isLt; omega⟩)
/-- 32 rows of block `j`. -/
def wRows (W : WT F) (j : Fin 11) (t : Fin 64) : Vec F S1x32x512 .bf16 := fun i =>
  W (ix2 ⟨32 * t.val + (i 1).val, by have h : (i 1).val < 32 := (i 1).isLt; omega⟩
    ⟨512 * j.val + (i 2).val, by have h' : (i 2).val < 512 := (i 2).isLt; omega⟩)
/-- The sum after `n` steps over block `j`. -/
def accN (W : WT F) (j : Fin 11) (a : FVec F S32x512 .f32) : Nat → FVec F S32x512 .f32
  | 0 => a
  | n + 1 => if h : n < 64 then absAcc (accN W j a n) (wRows W j ⟨n, h⟩) else accN W j a n
/-- The sum after the first blocks. -/
def accB (W : WT F) : Nat → FVec F S32x512 .f32
  | 0 => acc0
  | n + 1 => if h : n < 11 then accN W ⟨n, h⟩ (accB W n) 64 else accB W n
/-- The mean. -/
def gF (W : WT F) : F .f32 := gammaOf (accB W 11)

/-! ## The ternary blocks, the packed bytes, the product -/

/-- 32 x 128 weights of block `j`. -/
def wChunk (W : WT F) (j : Fin 11) (t : Fin 64) (c : Fin 4) : Vec F S32x128 .bf16 := fun i =>
  W (ix2 ⟨32 * t.val + (i 0).val, by have h : (i 0).val < 32 := (i 0).isLt; omega⟩
    ⟨512 * j.val + 128 * c.val + (i 1).val, by have h' : (i 1).val < 128 := (i 1).isLt; omega⟩)
/-- The ternary values of block `j`. -/
def tbBlk (W : WT F) (j : Fin 11) : Vec F S1x2048x512 .bf16 := fun i =>
  tern (thetaOf (gF W)) (wChunk W j ⟨(i 1).val / 32, by have h : (i 1).val < 2048 := (i 1).isLt; omega⟩ ⟨(i 2).val / 128, by have h : (i 2).val < 512 := (i 2).isLt; omega⟩)
    (ix2 ⟨(i 1).val % 32, by omega⟩ ⟨(i 2).val % 128, by omega⟩)
def tbF (W : WT F) (j : Fin 11) : S2x2048x512.Idx → F .bf16 := fun i => tbBlk W j (ix3 (0 : Fin 1) (i 1) (i 2))
/-- The packed bytes of 32 rows of block `j`, and of the block. -/
def pkRows (W : WT F) (j : Fin 11) (t : Fin 64) : IVec S32x128 8 :=
  packOf (fieldOf (thetaOf (gF W)) (wChunk W j t 0)) (fieldOf (thetaOf (gF W)) (wChunk W j t 1)) (fieldOf (thetaOf (gF W)) (wChunk W j t 2)) (fieldOf (thetaOf (gF W)) (wChunk W j t 3))
def pkBlk (W : WT F) (j : Fin 11) : S2048x128.Idx → BitVec 8 := fun i =>
  pkRows W j ⟨(i 0).val / 32, by have h : (i 0).val < 2048 := (i 0).isLt; omega⟩ (ix2 ⟨(i 0).val % 32, by omega⟩ (i 1))
def pbF (W : WT F) (j : Fin 11) : S2x2048x128.Idx → BitVec 8 := fun i => pkBlk W j (ix2 (i 1) (i 2))
/-- The product of block `j`. -/
def yBlk (X : XT F) (W : WT F) (j : Fin 11) : FVec F S512x512 .bf16 := yOf (gF W) (cbF X) (tbBlk W j) (sCol X)
def ybF (X : XT F) (W : WT F) (j : Fin 11) : S2x512x512.Idx → F .bf16 := fun i => yBlk X W j (ix2 (i 1) (i 2))

/-- The results left in HBM. -/
def yF (X : XT F) (W : WT F) : S512x5632.Idx → F .bf16 := fun i =>
  yBlk X W ⟨(i 1).val / 512, by have h : (i 1).val < 5632 := (i 1).isLt; omega⟩ (ix2 (i 0) ⟨(i 1).val % 512, by omega⟩)
def pF (W : WT F) : S2048x1408.Idx → BitVec 8 := fun i =>
  pkBlk W ⟨(i 1).val / 128, by have h : (i 1).val < 1408 := (i 1).isLt; omega⟩ (ix2 (i 0) ⟨(i 1).val % 128, by omega⟩)

/-! ## The views' elements -/

/-- An index from its coordinates' values. -/
theorem ix2_ext {a b : Nat} {i i' : (⟨2, ![a, b]⟩ : Shape).Idx} (h0 : (i 0).val = (i' 0).val) (h1 : (i 1).val = (i' 1).val) : i = i' := by
  funext k; match k with
  | 0 => exact Fin.ext h0
  | 1 => exact Fin.ext h1
theorem ix3_ext {a b d : Nat} {i i' : (⟨3, ![a, b, d]⟩ : Shape).Idx} (h0 : (i 0).val = (i' 0).val) (h1 : (i 1).val = (i' 1).val) (h2 : (i 2).val = (i' 2).val) : i = i' := by
  funext k; match k with
  | 0 => exact Fin.ext h0
  | 1 => exact Fin.ext h1
  | 2 => exact Fin.ext h2

theorem wSlot_emb (j : Fin 11) (y : S2048x512.Idx) : (wSlot j).view.emb y = (ix3 j (y 0) (y 1) : S11x2048x512.Idx) := by
  have hy : y = ix2 (y 0) (y 1) := ix2_ext rfl rfl
  rw [hy]
  show (Rect.unit (s := S11x2048x512) ![j.val, 0, 0] S1x2048x512.size (wSlot_inb j)).emb (Shape.reshapeEquiv _ (ix2 (y 0) (y 1))) = _
  erw [reshapeEquiv_ix2_1ab]
  refine ix3_ext ?_ ?_ ?_
  · show j.val + 1 * 0 = j.val; omega
  · show 0 + 1 * (y 0).val = (y 0).val; omega
  · show 0 + 1 * (y 1).val = (y 1).val; omega
theorem pSlot_emb (b : Fin 2) (y : S2048x128.Idx) : (pSlot b).view.emb y = (ix3 b (y 0) (y 1) : S2x2048x128.Idx) := by
  have hy : y = ix2 (y 0) (y 1) := ix2_ext rfl rfl
  rw [hy]
  show (Rect.unit (s := S2x2048x128) ![b.val, 0, 0] S1x2048x128.size (pSlot_inb b)).emb (Shape.reshapeEquiv _ (ix2 (y 0) (y 1))) = _
  erw [reshapeEquiv_ix2_1ab]
  refine ix3_ext ?_ ?_ ?_
  · show b.val + 1 * 0 = b.val; omega
  · show 0 + 1 * (y 0).val = (y 0).val; omega
  · show 0 + 1 * (y 1).val = (y 1).val; omega
theorem ySlot_emb (b : Fin 2) (y : S512x512.Idx) : (ySlot b).view.emb y = (ix3 b (y 0) (y 1) : S2x512x512.Idx) := by
  have hy : y = ix2 (y 0) (y 1) := ix2_ext rfl rfl
  rw [hy]
  show (Rect.unit (s := S2x512x512) ![b.val, 0, 0] S1x512x512.size (ySlot_inb b)).emb (Shape.reshapeEquiv _ (ix2 (y 0) (y 1))) = _
  erw [reshapeEquiv_ix2_1ab]
  refine ix3_ext ?_ ?_ ?_
  · show b.val + 1 * 0 = b.val; omega
  · show 0 + 1 * (y 0).val = (y 0).val; omega
  · show 0 + 1 * (y 1).val = (y 1).val; omega
theorem wCol_emb (j : Fin 11) (y : S2048x512.Idx) : (wCol j).view.emb y = (ix2 (y 0) ⟨512 * j.val + (y 1).val, by have h : (y 1).val < 512 := (y 1).isLt; omega⟩ : S2048x5632.Idx) :=
  ix2_ext (by show 0 + 1 * (y 0).val = (y 0).val; omega) (by show 512 * j.val + 1 * (y 1).val = 512 * j.val + (y 1).val; omega)
theorem yCol_emb (j : Fin 11) (y : S512x512.Idx) : (yCol j).view.emb y = (ix2 (y 0) ⟨512 * j.val + (y 1).val, by have h : (y 1).val < 512 := (y 1).isLt; omega⟩ : S512x5632.Idx) :=
  ix2_ext (by show 0 + 1 * (y 0).val = (y 0).val; omega) (by show 512 * j.val + 1 * (y 1).val = 512 * j.val + (y 1).val; omega)
theorem pCol_emb (j : Fin 11) (y : S2048x128.Idx) : (pCol j).view.emb y = (ix2 (y 0) ⟨128 * j.val + (y 1).val, by have h : (y 1).val < 128 := (y 1).isLt; omega⟩ : S2048x1408.Idx) :=
  ix2_ext (by show 0 + 1 * (y 0).val = (y 0).val; omega) (by show 128 * j.val + 1 * (y 1).val = 128 * j.val + (y 1).val; omega)

theorem mem_wSlot (j : Fin 11) (i : S11x2048x512.Idx) : i ∈ (wSlot j).view.set ↔ (i 0).val = j.val := by
  constructor
  · intro h
    obtain ⟨y, -, rfl⟩ := Finset.mem_map.mp h
    exact congrArg (fun i : S11x2048x512.Idx => (i 0).val) (wSlot_emb j y)
  · intro h
    refine Finset.mem_map.mpr ⟨ix2 (i 1) (i 2), Finset.mem_univ _, ?_⟩
    refine (wSlot_emb j _).trans (ix3_ext h.symm rfl rfl)
theorem mem_pSlot (b : Fin 2) (i : S2x2048x128.Idx) : i ∈ (pSlot b).view.set ↔ (i 0).val = b.val := by
  constructor
  · intro h
    obtain ⟨y, -, rfl⟩ := Finset.mem_map.mp h
    exact congrArg (fun i : S2x2048x128.Idx => (i 0).val) (pSlot_emb b y)
  · intro h
    refine Finset.mem_map.mpr ⟨ix2 (i 1) (i 2), Finset.mem_univ _, ?_⟩
    refine (pSlot_emb b _).trans (ix3_ext h.symm rfl rfl)
theorem mem_ySlot (b : Fin 2) (i : S2x512x512.Idx) : i ∈ (ySlot b).view.set ↔ (i 0).val = b.val := by
  constructor
  · intro h
    obtain ⟨y, -, rfl⟩ := Finset.mem_map.mp h
    exact congrArg (fun i : S2x512x512.Idx => (i 0).val) (ySlot_emb b y)
  · intro h
    refine Finset.mem_map.mpr ⟨ix2 (i 1) (i 2), Finset.mem_univ _, ?_⟩
    refine (ySlot_emb b _).trans (ix3_ext h.symm rfl rfl)
theorem mem_wCol (j : Fin 11) (i : S2048x5632.Idx) : i ∈ (wCol j).view.set ↔ (i 1).val / 512 = j.val := by
  constructor
  · intro h
    obtain ⟨y, -, rfl⟩ := Finset.mem_map.mp h
    have e : (((wCol j).view.emb y : S2048x5632.Idx) 1).val = 512 * j.val + (y 1).val := congrArg (fun i : S2048x5632.Idx => (i 1).val) (wCol_emb j y)
    have h : (y 1).val < 512 := (y 1).isLt
    rw [e]; omega
  · intro h
    refine Finset.mem_map.mpr ⟨ix2 (i 0) ⟨(i 1).val % 512, by omega⟩, Finset.mem_univ _, ?_⟩
    refine (wCol_emb j _).trans (ix2_ext rfl ?_)
    show 512 * j.val + (i 1).val % 512 = (i 1).val; omega
theorem mem_yCol (j : Fin 11) (i : S512x5632.Idx) : i ∈ (yCol j).view.set ↔ (i 1).val / 512 = j.val := by
  constructor
  · intro h
    obtain ⟨y, -, rfl⟩ := Finset.mem_map.mp h
    have e : (((yCol j).view.emb y : S512x5632.Idx) 1).val = 512 * j.val + (y 1).val := congrArg (fun i : S512x5632.Idx => (i 1).val) (yCol_emb j y)
    have h : (y 1).val < 512 := (y 1).isLt
    rw [e]; omega
  · intro h
    refine Finset.mem_map.mpr ⟨ix2 (i 0) ⟨(i 1).val % 512, by omega⟩, Finset.mem_univ _, ?_⟩
    refine (yCol_emb j _).trans (ix2_ext rfl ?_)
    show 512 * j.val + (i 1).val % 512 = (i 1).val; omega
theorem mem_pCol (j : Fin 11) (i : S2048x1408.Idx) : i ∈ (pCol j).view.set ↔ (i 1).val / 128 = j.val := by
  constructor
  · intro h
    obtain ⟨y, -, rfl⟩ := Finset.mem_map.mp h
    have e : (((pCol j).view.emb y : S2048x1408.Idx) 1).val = 128 * j.val + (y 1).val := congrArg (fun i : S2048x1408.Idx => (i 1).val) (pCol_emb j y)
    have h : (y 1).val < 128 := (y 1).isLt
    rw [e]; omega
  · intro h
    refine Finset.mem_map.mpr ⟨ix2 (i 0) ⟨(i 1).val % 128, by omega⟩, Finset.mem_univ _, ?_⟩
    refine (pCol_emb j _).trans (ix2_ext rfl ?_)
    show 128 * j.val + (i 1).val % 128 = (i 1).val; omega

/-- A store of the values `g` has there, into contents that agree with `g` where `P` says: they agree where either says. -/
theorem agree_store (b : Ref sig .tc) (r : Rect b.ty.shape) (f g : b.ty.Contents (Elt F)) (w : r.shape.Idx → Elt F b.ty.elt)
    (hw : ∀ x, w x = g (r.emb x)) {P P' : b.ty.shape.Idx → Prop} (hf : ∀ i, P i → f i = g i) (hP : ∀ i, P' i → P i ∨ i ∈ r.set) :
    ∀ i, P' i → ((Memref.whole b).access r).write (Elt F) f w Finset.univ i = g i := by
  intro i hi
  by_cases hm : i ∈ r.set
  · rw [← Rect.map_emb_univ] at hm
    obtain ⟨x, -, rfl⟩ := Finset.mem_map.mp hm
    exact (View.write_emb_of_mem (v := (Memref.whole b).access r) f w (Finset.mem_univ x)).trans (hw x)
  · have h2 : i ∉ ((Memref.whole b).access r).setOn Finset.univ := by
      rw [View.setOn_univ]; rw [← View.set_slice_whole] at hm; exact hm
    rw [View.write_of_not_mem _ _ _ h2]
    exact hf i ((hP i hi).resolve_right hm)

/-- A copy into a view, read by a target function: where the source agrees with the target under the view. -/
theorem agree_copy {sp : Space} {s : Shape} {e : EltTy} (v : View sig .tc sp s e) (fd g : v.ty.Contents (Elt F)) (w : s.Idx → Elt F e)
    (hw : ∀ x, cast (congrArg (Elt F) v.elt_eq.symm) (w x) = g (v.emb x)) : ∀ i ∈ v.set, v.write (Elt F) fd w Finset.univ i = g i := by
  intro i hi
  obtain ⟨x, -, rfl⟩ := Finset.mem_map.mp hi
  rw [View.write_emb_of_mem _ _ (Finset.mem_univ x)]
  exact hw x

end Cert.KernelIdeal.Body

end
-- ==== Proof.KernelIdeal.Rules.lean ====
/- Any copy, load and store of the body, over whatever memref it names: what the core holds before and after. -/
module

public import proofs.«01_k».proof.Proof.KernelIdeal.Vals
public import Idealize.ShloMosaic.Lib.Transfers
public import Idealize.ShloMosaic.Lib.Scf
public import Idealize.ShloMosaic.Lib.Pipeline.FrameSuffixV
public import Idealize.ShloMosaic.Lib.Ring
public import Idealize.ShloMosaic.Lib.Tactic

@[expose] public section

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The transfers' counters in the proof's algebra. -/
abbrev EC : UEmb Counters (MT nD τ sig Unit (Elt F) ℕ (Pipeline.UD sig nD τ) ℕ) := countersEmb (U := Pipeline.UD sig nD τ)

/-- The body's programs, run on core `c`. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

variable (c : Dev nD)

/-- Elements `S` of a buffer, at contents `f`; the same at some contents. -/
abbrev At (b : Ref sig .tc) (S : Finset b.ty.Idx) (f : b.ty.Contents (Elt F)) : sProp 𝕄 :=
  pointsTo ((c : Thread nD τ).loc b) S fullShare f
abbrev Ex (b : Ref sig .tc) (S : Finset b.ty.Idx) : sProp 𝕄 := iprop(∃ f : b.ty.Contents (Elt F), At c b S f)
/-- The same at contents that agree with `g` where `P` says. -/
abbrev Agr (b : Ref sig .tc) (S : Finset b.ty.Idx) (g : b.ty.Contents (Elt F)) (P : b.ty.Idx → Prop) : sProp 𝕄 :=
  iprop(∃ f : b.ty.Contents (Elt F), ⌜∀ i, P i → f i = g i⌝ ∗ At c b S f)

/-- The core's record of its waits. -/
abbrev Ow : sProp 𝕄 := iprop(∃ V : Waits sig Unit, owes (c : Thread nD τ) 0 V)
/-- A cell at zero. -/
abbrev Z (s : DmaSem sig) : sProp 𝕄 := semVal ((c : Thread nD τ), SemLoc.dma s) 0
/-- A copy in flight. -/
abbrev Fl (s : DmaSem sig) (N : ℕ) (D : sProp 𝕄) : sProp 𝕄 := Transfers.Flight (EC (F := F)) (c : Thread nD τ) (SemLoc.dma s) () N D

/-! ## Any copy, load and store -/

theorem start_wp {sp sp' : Space} {s : Shape} {e : EltTy} (src : Memref sig .tc sp s e) (dst : Memref sig .tc sp' s e) (sem : DmaSem sig)
    (hsrc : src.view.WordExact) (hdst : dst.view.WordExact) (hsem : DmaTarget.Typed (nD := nD) (τ := τ) (p := .tc) sp (SemLoc.dma sem) (.here dst))
    (hpos : 0 < s.numel) (fs : src.view.ty.Contents (Elt F)) (g : dst.view.ty.Contents (Elt F))
    (hg : ∀ fd : dst.view.ty.Contents (Elt F), ∀ i ∈ dst.view.set, dst.view.write (Elt F) fd (src.view.read (Elt F) fs) Finset.univ i = g i) (κ : PU F) (Q : PUnit → sProp 𝕄) :
    iprop(At c src.view.ref src.view.set fs ∗ Ex c dst.view.ref dst.view.set ∗ Z c sem)
      ⊢ iprop((Fl c sem dst.view.dmaCredit iprop(At c dst.view.ref dst.view.set g ∗ At c src.view.ref src.view.set fs) -∗ WP c κ Q)
        -∗ WP c (Prog.lift (.enqueueDma src (.here dst) (.dma sem) hsrc hdst hsem) >>= fun _ => κ) Q) := by
  iintro ⟨Hs, ⟨%fd, Hd⟩, Hz⟩ Hk
  iapply (Transfers.wp_dmaLocal (EC (F := F)) Variants.none (c : Thread nD τ) none (src := src) (dst := dst) (via := .same)
    (sm := .dma sem) (hsrc := hsrc) (hdst := hdst) (hsem := hsem) (k := fun _ => κ) (Q := Q) (q := fullShare) (fs := fs)
    (Sd := dst.view.set) (fd := fd) () dst.view.dmaCredit rfl (View.dmaCredit_pos _ hpos) (Finset.Subset.refl _)) $$ [Hs Hd Hz]
  · isplitl [Hs]; · iexact Hs
    isplitl [Hd]; · iexact Hd
    iexact Hz
  iintro HF
  iapply Hk
  iapply (Transfers.Flight_mono (EC (F := F)) (c : Thread nD τ) (D' := iprop(At c dst.view.ref dst.view.set g ∗ At c src.view.ref src.view.set fs)) ?_)
  · exact sep_mono (Entails.of_eq (pointsTo_congr (hg fd))) .rfl
  · iexact HF

/-- The same, the elements named. -/
theorem start_wp' {sp sp' : Space} {s : Shape} {e : EltTy} (src : Memref sig .tc sp s e) (dst : Memref sig .tc sp' s e) (sem : DmaSem sig)
    (hsrc : src.view.WordExact) (hdst : dst.view.WordExact) (hsem : DmaTarget.Typed (nD := nD) (τ := τ) (p := .tc) sp (SemLoc.dma sem) (.here dst))
    (hpos : 0 < s.numel) (Ss : Finset src.view.ref.ty.Idx) (hs : src.view.set = Ss) (Sd : Finset dst.view.ref.ty.Idx) (hd : dst.view.set = Sd)
    (fs : src.view.ty.Contents (Elt F)) (g : dst.view.ty.Contents (Elt F))
    (hg : ∀ fd : dst.view.ty.Contents (Elt F), ∀ i ∈ dst.view.set, dst.view.write (Elt F) fd (src.view.read (Elt F) fs) Finset.univ i = g i) (κ : PU F) (Q : PUnit → sProp 𝕄) :
    iprop(At c src.view.ref Ss fs ∗ Ex c dst.view.ref Sd ∗ Z c sem)
      ⊢ iprop((Fl c sem dst.view.dmaCredit iprop(At c dst.view.ref Sd g ∗ At c src.view.ref Ss fs) -∗ WP c κ Q)
        -∗ WP c (Prog.lift (.enqueueDma src (.here dst) (.dma sem) hsrc hdst hsem) >>= fun _ => κ) Q) := by
  subst hs
  subst hd
  exact start_wp c src dst sem hsrc hdst hsem hpos fs g hg κ Q

theorem wait_wp {sp sp' : Space} {s : Shape} {e : EltTy} (src : Memref sig .tc sp s e) (dst : Memref sig .tc sp' s e) (sem : DmaSem sig)
    (hsrc : src.view.WordExact) (hdst : dst.view.WordExact) (D : sProp 𝕄) (κ : PU F) (Q : PUnit → sProp 𝕄) :
    iprop(Fl c sem dst.view.dmaCredit D ∗ Ow c)
      ⊢ iprop((iprop(D ∗ Z c sem ∗ Ow c) -∗ WP c κ Q) -∗ WP c (Prog.lift (.waitDma2 sem src dst hsrc hdst) >>= fun _ => κ) Q) := by
  iintro ⟨HF, ⟨%V, HV⟩⟩ Hk
  iapply (Transfers.wp_waitLocal (EC (F := F)) Variants.none (c : Thread nD τ) none (srcw := src) (dstw := dst) (hsrc := hsrc) (hdst := hdst)
    (k := fun _ => κ) (Q := Q) (W := V) () rfl) $$ [HF HV]
  · isplitl [HF] <;> iassumption
  iintro ⟨HD, HZ, HV⟩
  iapply Hk
  isplitl [HD]; · iexact HD
  isplitl [HZ]; · iexact HZ
  iexists _; iexact HV

/-- A load whose value is known. -/
theorem load_wp {α : Type} {cs : CoreSpace} {s : Shape} {e : EltTy} (m : Memref sig .tc cs s e) (r : Rect s) (hl : m.view.LoadsAt r) (S : Finset m.view.ref.ty.Idx)
    (f : m.view.ref.ty.Contents (Elt F)) (v : r.shape.Idx → Elt F e) (hS : (m.access r).set ⊆ S) (hv : (m.access r).read (Elt F) f = v)
    (κ : (r.shape.Idx → Elt F e) → Prog (TpuEff nD τ sig (Elt F) Λ₀ .tc) α) (Q : α → sProp 𝕄) :
    At c m.view.ref S f ⊢ iprop((At c m.view.ref S f -∗ WP c (κ v) Q) -∗ WP c (Prog.lift (.load m r.toLoadRect hl) >>= κ) Q) := by
  subst hv
  exact wp_load_rect (defs := defs₀ (F := F)) Variants.none (c : Thread nD τ) none Set.univ (m := m) (r := r) (hl := hl) (k := κ) (S := S) (q := fullShare) (f := f) (Q := Q) hS

/-- A load whose value is dropped. -/
theorem drop_wp {cs : CoreSpace} {s : Shape} {e : EltTy} (m : Memref sig .tc cs s e) (r : Rect s) (hl : m.view.LoadsAt r) (S : Finset m.view.ref.ty.Idx)
    (g : m.view.ref.ty.Contents (Elt F)) (P : m.view.ref.ty.Idx → Prop) (hS : (m.access r).set ⊆ S) (κ : PU F) (Q : PUnit → sProp 𝕄) :
    Agr c m.view.ref S g P ⊢ iprop((Agr c m.view.ref S g P -∗ WP c κ Q) -∗ WP c (Prog.lift (.load m r.toLoadRect hl) >>= fun _ => κ) Q) := by
  iintro ⟨%f, %hf, H⟩ Hk
  iapply (load_wp c m r hl S f _ hS rfl (fun _ => κ) Q) $$ H
  iintro H
  iapply Hk
  iexists f
  isplitr; · ipureintro; exact hf
  iexact H

/-- A store of the target's values. -/
theorem store_wp {cs : CoreSpace} {s : Shape} {e : EltTy} (m : Memref sig .tc cs s e) (r : Rect s) (w : r.shape.Idx → Elt F e)
    (hx : (m.access r).Stores Finset.univ) (hm : Finset.univ = (Finset.univ : Finset r.shape.Idx) ∨ ∀ a, r.stride a = 1) (S : Finset m.view.ref.ty.Idx)
    (g : m.view.ref.ty.Contents (Elt F)) (P P' : m.view.ref.ty.Idx → Prop) (hS : (m.access r).set ⊆ S)
    (hw : ∀ f : m.view.ref.ty.Contents (Elt F), (∀ i, P i → f i = g i) → ∀ i, P' i → (m.access r).write (Elt F) f w Finset.univ i = g i)
    (κ : PU F) (Q : PUnit → sProp 𝕄) :
    Agr c m.view.ref S g P ⊢ iprop((Agr c m.view.ref S g P' -∗ WP c κ Q) -∗ WP c (Prog.lift (.store m r w Finset.univ hx hm) >>= fun _ => κ) Q) := by
  iintro ⟨%f, %hf, H⟩ Hk
  iapply (wp_store (defs := defs₀ (F := F)) Variants.none (c : Thread nD τ) none Set.univ (m := m) (r := r) (w := w) (Mk := Finset.univ) (hx := hx) (hm := hm)
    (k := fun _ => κ) (S := S) (f := f) (Q := Q) (by rw [View.setOn_univ]; exact hS)) $$ H
  iintro H
  iapply Hk
  iexists ((m.access r).write (Elt F) f w Finset.univ)
  isplitr; · ipureintro; exact hw f hf
  iexact H

/-- A load of one scalar, dropped. -/
theorem smemDrop_wp {s : Shape} {e : EltTy} (m : Memref sig .tc .smem s e) (r : Rect s) (h1 : r.shape.numel = 1) (hp : e.packing = 1) (S : Finset m.view.ref.ty.Idx)
    (g : m.view.ref.ty.Contents (Elt F)) (P : m.view.ref.ty.Idx → Prop) (hS : (m.access r).set ⊆ S) (κ : PU F) (Q : PUnit → sProp 𝕄) :
    Agr c m.view.ref S g P ⊢ iprop((Agr c m.view.ref S g P -∗ WP c κ Q) -∗ WP c (smemLoad m r h1 hp >>= fun _ => κ) Q) := by
  iintro ⟨%f, %hf, H⟩ Hk
  iapply (wp_load_rect (defs := defs₀ (F := F)) Variants.none (c : Thread nD τ) none Set.univ (m := m) (r := r) (k := fun _ => κ) (S := S) (q := fullShare) (f := f) (Q := Q) hS) $$ H
  iintro H
  iapply Hk
  iexists f
  isplitr; · ipureintro; exact hf
  iexact H

/-- A loop at the head of a program, by an invariant. -/
theorem loop_wp {σ β : Type} (L : Scf.Loop 32) (hok : L.OK) (init : σ) (body : Fin L.trips → σ → Prog (TpuEff nD τ sig (Elt F) Λ₀ .tc) σ) (I : Nat → σ → sProp 𝕄)
    (hbody : ∀ (k : Fin L.trips) (a : σ), I k.val a ⊢ WP c (body k a) (I (k.val + 1)))
    (κ : σ → Prog (TpuEff nD τ sig (Elt F) Λ₀ .tc) β) (Q : β → sProp 𝕄) :
    I 0 init ⊢ iprop((∀ a, I L.trips a -∗ WP c (κ a) Q) -∗ WP c (Scf.Loop.for L hok init body >>= κ) Q) :=
  Scf.wp_for_bind frame (wpE (defs₀ (F := F)) Variants.none (c : Thread nD τ) none) Set.univ L.lb L.ub L.st hok init body I hbody
theorem pure_wp {β : Type} (b : β) (Q : β → sProp 𝕄) : Q b ⊢ WP c (pure b) Q :=
  le_wp_ret _ _ _ _ _

/-- Contents that agree everywhere held are the target's. -/
theorem agr_at (b : Ref sig .tc) (S : Finset b.ty.Idx) (g : b.ty.Contents (Elt F)) (P : b.ty.Idx → Prop) (h : ∀ i ∈ S, P i) : Agr c b S g P ⊢ At c b S g := by
  iintro ⟨%f, %hf, H⟩
  iapply (Entails.of_eq (pointsTo_congr (f := f) (g := g) fun i hi => hf i (h i hi)))
  iexact H
theorem at_agr (b : Ref sig .tc) (S : Finset b.ty.Idx) (g : b.ty.Contents (Elt F)) (P : b.ty.Idx → Prop) : At c b S g ⊢ Agr c b S g P := by
  iintro H
  iexists g
  isplitr; · ipureintro; exact fun _ _ => rfl
  iexact H
/-- Any contents agree nowhere. -/
theorem ex_agr (b : Ref sig .tc) (S : Finset b.ty.Idx) (g : b.ty.Contents (Elt F)) (P : b.ty.Idx → Prop) (h : ∀ i, ¬ P i) : Ex c b S ⊢ Agr c b S g P := by
  iintro ⟨%f, H⟩
  iexists f
  isplitr; · ipureintro; exact fun i hi => absurd hi (h i)
  iexact H
theorem agr_ex (b : Ref sig .tc) (S : Finset b.ty.Idx) (g : b.ty.Contents (Elt F)) (P : b.ty.Idx → Prop) : Agr c b S g P ⊢ Ex c b S := by
  iintro ⟨%f, -, H⟩
  iexists f
  iexact H
theorem at_ex (b : Ref sig .tc) (S : Finset b.ty.Idx) (g : b.ty.Contents (Elt F)) : At c b S g ⊢ Ex c b S := by
  iintro H
  iexists g
  iexact H

end Cert.KernelIdeal.Body

end
-- ==== Proof.KernelIdeal.Copies.lean ====
/- What each step of the body does to what the core holds: a copy started, a copy waited for.
   Each is stated once, at the block's index and the slot's. -/
module

public import proofs.«01_k».proof.Proof.KernelIdeal.Rules

@[expose] public section

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (X : XT F) (W : WT F)

theorem pos_S512x2048 : 0 < S512x2048.numel := Shape.numel_pos (by decide)
theorem pos_S2048x512 : 0 < S2048x512.numel := Shape.numel_pos (by decide)
theorem pos_S2048x128 : 0 < S2048x128.numel := Shape.numel_pos (by decide)
theorem pos_S512x512 : 0 < S512x512.numel := Shape.numel_pos (by decide)

/-- The results at a block's columns. -/
theorem pF_at (j : Fin 11) (x : S2048x128.Idx) (h : 128 * j.val + (x 1).val < 1408) : pF W (ix2 (x 0) ⟨128 * j.val + (x 1).val, h⟩) = pkBlk W j (ix2 (x 0) (x 1)) := by
  have hx : (x 1).val < 128 := (x 1).isLt
  have e1 : (⟨(128 * j.val + (x 1).val) / 128, by omega⟩ : Fin 11) = j := Fin.ext (by show (128 * j.val + (x 1).val) / 128 = j.val; omega)
  have e2 : (⟨(128 * j.val + (x 1).val) % 128, by omega⟩ : Fin 128) = x 1 := Fin.ext (by show (128 * j.val + (x 1).val) % 128 = (x 1).val; omega)
  show pkBlk W ⟨(128 * j.val + (x 1).val) / 128, _⟩ (ix2 (x 0) ⟨(128 * j.val + (x 1).val) % 128, _⟩) = _
  rw [e1, e2]
theorem yF_at (j : Fin 11) (x : S512x512.Idx) (h : 512 * j.val + (x 1).val < 5632) : yF X W (ix2 (x 0) ⟨512 * j.val + (x 1).val, h⟩) = yBlk X W j (ix2 (x 0) (x 1)) := by
  have hx : (x 1).val < 512 := (x 1).isLt
  have e1 : (⟨(512 * j.val + (x 1).val) / 512, by omega⟩ : Fin 11) = j := Fin.ext (by show (512 * j.val + (x 1).val) / 512 = j.val; omega)
  have e2 : (⟨(512 * j.val + (x 1).val) % 512, by omega⟩ : Fin 512) = x 1 := Fin.ext (by show (512 * j.val + (x 1).val) % 512 = (x 1).val; omega)
  show yBlk X W ⟨(512 * j.val + (x 1).val) / 512, _⟩ (ix2 (x 0) ⟨(512 * j.val + (x 1).val) % 512, _⟩) = _
  rw [e1, e2]

/-! ## The copies -/

/-- What each copy delivers: its target written, its source as it was. -/
abbrev dX : sProp 𝕄 := iprop(At c cc0_scratch0 Finset.univ X ∗ At c main_v0 Finset.univ X)
abbrev dC : sProp 𝕄 := iprop(At c main_v1_3 Finset.univ (ciF X) ∗ At c cc0_scratch3 Finset.univ (ciF X))
abbrev dW (j : Fin 11) : sProp 𝕄 := iprop(At c cc0_scratch1 (wSlot j).view.set (wvF W) ∗ At c main_arg1 (wCol j).view.set W)
abbrev dP (j : Fin 11) (b : Fin 2) : sProp 𝕄 := iprop(At c main_v1_1 (pCol j).view.set (pF W) ∗ At c cc0_scratch7 (pSlot b).view.set (pbF W j))
abbrev dY (j : Fin 11) (b : Fin 2) : sProp 𝕄 := iprop(At c main_v1_0 (yCol j).view.set (yF X W) ∗ At c cc0_scratch6 (ySlot b).view.set (ybF X W j))
/-- The copies in flight. -/
abbrev fX : sProp 𝕄 := Fl c cc0_scratch8.sem xV.view.dmaCredit (dX c X)
abbrev fC : sProp 𝕄 := Fl c cc0_scratch10.sem cH.view.dmaCredit (dC c X)
abbrev fW (j : Fin 11) : sProp 𝕄 := Fl c (wSem j) (wSlot j).view.dmaCredit (dW c W j)
abbrev fP (j : Fin 11) (b : Fin 2) : sProp 𝕄 := Fl c (pSem b) (pCol j).view.dmaCredit (dP c W j b)
abbrev fY (j : Fin 11) (b : Fin 2) : sProp 𝕄 := Fl c (ySem b) (yCol j).view.dmaCredit (dY c X W j b)

theorem write_all (b : Ref sig .tc) (fd g : b.ty.Contents (Elt F)) : ∀ i ∈ (Memref.whole b).view.set, (Memref.whole b).view.write (Elt F) fd g Finset.univ i = g i :=
  agree_copy (Memref.whole b).view fd g g fun _ => rfl

theorem startX_wp (κ : PU F) (Q : PUnit → sProp 𝕄) : iprop(At c main_v0 Finset.univ X ∗ Ex c cc0_scratch0 Finset.univ ∗ Z c cc0_scratch8.sem)
    ⊢ iprop((fX c X -∗ WP c κ Q) -∗ WP c (startX κ) Q) :=
  start_wp' c xH xV cc0_scratch8.sem (Memref.isWhole_whole _).wordExact (Memref.isWhole_whole _).wordExact ⟨Or.inl rfl, trivial⟩ pos_S512x2048 Finset.univ (View.set_whole main_v0) Finset.univ (View.set_whole cc0_scratch0) X X
    (fun fd => write_all (F := F) cc0_scratch0 fd X) κ Q
theorem waitX_wp (κ : PU F) (Q : PUnit → sProp 𝕄) : iprop(fX c X ∗ Ow c) ⊢ iprop((iprop(dX c X ∗ Z c cc0_scratch8.sem ∗ Ow c) -∗ WP c κ Q) -∗ WP c (waitX κ) Q) :=
  wait_wp c xH xV cc0_scratch8.sem (Memref.isWhole_whole _).wordExact (Memref.isWhole_whole _).wordExact (dX c X) κ Q
theorem startC_wp (κ : PU F) (Q : PUnit → sProp 𝕄) : iprop(At c cc0_scratch3 Finset.univ (ciF X) ∗ Ex c main_v1_3 Finset.univ ∗ Z c cc0_scratch10.sem)
    ⊢ iprop((fC c X -∗ WP c κ Q) -∗ WP c (startC κ) Q) :=
  start_wp' c ciV cH cc0_scratch10.sem (Memref.isWhole_whole _).wordExact (Memref.isWhole_whole _).wordExact ⟨Or.inl rfl, trivial⟩ pos_S512x2048 Finset.univ (View.set_whole cc0_scratch3) Finset.univ (View.set_whole main_v1_3) (ciF X) (ciF X)
    (fun fd => write_all (F := F) main_v1_3 fd (ciF X)) κ Q
theorem waitC_wp (κ : PU F) (Q : PUnit → sProp 𝕄) : iprop(fC c X ∗ Ow c) ⊢ iprop((iprop(dC c X ∗ Z c cc0_scratch10.sem ∗ Ow c) -∗ WP c κ Q) -∗ WP c (waitC κ) Q) :=
  wait_wp c ciV cH cc0_scratch10.sem (Memref.isWhole_whole _).wordExact (Memref.isWhole_whole _).wordExact (dC c X) κ Q
theorem startW_wp (j : Fin 11) (κ : PU F) (Q : PUnit → sProp 𝕄) : iprop(At c main_arg1 (wCol j).view.set W ∗ Ex c cc0_scratch1 (wSlot j).view.set ∗ Z c (wSem j))
    ⊢ iprop((fW c W j -∗ WP c κ Q) -∗ WP c (startW j κ) Q) :=
  start_wp c (wCol j) (wSlot j) (wSem j) (wCol_exact j) (wSlot_exact j) ⟨Or.inl rfl, trivial⟩ pos_S2048x512 W (wvF W)
    (fun fd => agree_copy (wSlot j).view fd (wvF W) ((wCol j).view.read (Elt F) W) fun x => by
      have e1 : wvF W ((wSlot j).view.emb x) = wvF W (ix3 j (x 0) (x 1)) := congrArg (wvF W) (wSlot_emb j x)
      refine Eq.trans ?_ e1.symm
      show W ((wCol j).view.emb x) = _
      exact congrArg W (wCol_emb j x)) κ Q
theorem waitW_wp (j : Fin 11) (κ : PU F) (Q : PUnit → sProp 𝕄) : iprop(fW c W j ∗ Ow c) ⊢ iprop((iprop(dW c W j ∗ Z c (wSem j) ∗ Ow c) -∗ WP c κ Q) -∗ WP c (waitW j κ) Q) :=
  wait_wp c (wCol j) (wSlot j) (wSem j) (wCol_exact j) (wSlot_exact j) (dW c W j) κ Q
theorem startP_wp (j : Fin 11) (b : Fin 2) (κ : PU F) (Q : PUnit → sProp 𝕄) : iprop(At c cc0_scratch7 (pSlot b).view.set (pbF W j) ∗ Ex c main_v1_1 (pCol j).view.set ∗ Z c (pSem b))
    ⊢ iprop((fP c W j b -∗ WP c κ Q) -∗ WP c (startP j b κ) Q) :=
  start_wp c (pSlot b) (pCol j) (pSem b) (pSlot_exact b) (pCol_exact j) ⟨Or.inl rfl, trivial⟩ pos_S2048x128 (pbF W j) (pF W)
    (fun fd => agree_copy (pCol j).view fd (pF W) ((pSlot b).view.read (Elt F) (pbF W j)) fun x => by
      refine (cast_eq _ _).trans ((View.read_apply _ _).trans ((cast_eq _ _).trans ?_))
      exact (congrArg (pbF W j) (pSlot_emb b x)).trans ((pF_at W j x _).symm.trans (congrArg (pF W) (pCol_emb j x)).symm)) κ Q
theorem waitP_wp (j : Fin 11) (b : Fin 2) (κ : PU F) (Q : PUnit → sProp 𝕄) : iprop(fP c W j b ∗ Ow c) ⊢ iprop((iprop(dP c W j b ∗ Z c (pSem b) ∗ Ow c) -∗ WP c κ Q) -∗ WP c (waitP j b κ) Q) :=
  wait_wp c (pSlot b) (pCol j) (pSem b) (pSlot_exact b) (pCol_exact j) (dP c W j b) κ Q
theorem startY_wp (j : Fin 11) (b : Fin 2) (κ : PU F) (Q : PUnit → sProp 𝕄) : iprop(At c cc0_scratch6 (ySlot b).view.set (ybF X W j) ∗ Ex c main_v1_0 (yCol j).view.set ∗ Z c (ySem b))
    ⊢ iprop((fY c X W j b -∗ WP c κ Q) -∗ WP c (startY j b κ) Q) :=
  start_wp c (ySlot b) (yCol j) (ySem b) (ySlot_exact b) (yCol_exact j) ⟨Or.inl rfl, trivial⟩ pos_S512x512 (ybF X W j) (yF X W)
    (fun fd => agree_copy (yCol j).view fd (yF X W) ((ySlot b).view.read (Elt F) (ybF X W j)) fun x => by
      show ybF X W j ((ySlot b).view.emb x) = yF X W ((yCol j).view.emb x)
      exact (congrArg (ybF X W j) (ySlot_emb b x)).trans ((yF_at X W j x _).symm.trans (congrArg (yF X W) (yCol_emb j x)).symm)) κ Q
theorem waitY_wp (j : Fin 11) (b : Fin 2) (κ : PU F) (Q : PUnit → sProp 𝕄) : iprop(fY c X W j b ∗ Ow c) ⊢ iprop((iprop(dY c X W j b ∗ Z c (ySem b) ∗ Ow c) -∗ WP c κ Q) -∗ WP c (waitY j b κ) Q) :=
  wait_wp c (ySlot b) (yCol j) (ySem b) (ySlot_exact b) (yCol_exact j) (dY c X W j b) κ Q

end Cert.KernelIdeal.Body

end
-- ==== Proof.KernelIdeal.Quant.lean ====
/- What each step of the body does to what the core holds: a copy started, a copy waited for, a loop run, a block
   multiplied. Each is stated once, at the block's index and the slot's. -/
module

public import proofs.«01_k».proof.Proof.KernelIdeal.Copies

@[expose] public section

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (X : XT F) (W : WT F)

/-- The element a rectangle's index names, an axis at a time. -/
theorem unit_emb_val {s : Shape} (off size : Fin s.rank → Nat) (h : ∀ a, off a + size a ≤ s.size a) (x : (Rect.unit (s := s) off size h).shape.Idx) (a : Fin s.rank) :
    ((Rect.unit (s := s) off size h).emb x a).val = off a + 1 * (x a).val := rfl
theorem access_set {cs : CoreSpace} {s : Shape} {e : EltTy} (m : Memref sig .tc cs s e) (r : Rect s) : (m.access r).set ⊆ m.view.set := View.set_slice_subset _ _

/-! ## The quantising loop -/

theorem trips1 : k0_t1_loop.trips = 16 := by decide +kernel
theorem off1_eq : ∀ t : Fin k0_t1_loop.trips, k0_off1 t = ![32 * t.val, 0] := by decide +kernel
theorem off2_eq : ∀ t : Fin k0_t1_loop.trips, k0_off2 t = ![32 * t.val, 0] := by decide +kernel
theorem rb_at (t : Fin 16) (p : Fin 32) (i : Fin 512) (h : i.val = 32 * t.val + p.val) : rb i = t ∧ ri i = p :=
  ⟨Fin.ext (by show i.val / 32 = t.val; omega), Fin.ext (by show i.val % 32 = p.val; omega)⟩
theorem cbF_at (t : Fin 16) (x : S32x2048.Idx) (i : S512x2048.Idx) (h0 : (i 0).val = 32 * t.val + (x 0).val) (h1 : (i 1).val = (x 1).val) : qCodeB (xRows X t) x = cbF X i := by
  obtain ⟨e1, e2⟩ := rb_at t (x 0) (i 0) h0
  have e3 : x = ix2 (ri (i 0)) (i 1) := ix2_ext (congrArg Fin.val e2.symm) h1.symm
  exact congr (congrArg (fun t => qCodeB (xRows X t)) e1.symm) e3
theorem ciF_at (t : Fin 16) (x : S32x2048.Idx) (i : S512x2048.Idx) (h0 : (i 0).val = 32 * t.val + (x 0).val) (h1 : (i 1).val = (x 1).val) : qCodeI (xRows X t) x = ciF X i := by
  obtain ⟨e1, e2⟩ := rb_at t (x 0) (i 0) h0
  have e3 : x = ix2 (ri (i 0)) (i 1) := ix2_ext (congrArg Fin.val e2.symm) h1.symm
  exact congr (congrArg (fun t => qCodeI (xRows X t)) e1.symm) e3
theorem srF_at (t : Fin 16) (x : S32x128.Idx) (i : S512x128.Idx) (h0 : (i 0).val = 32 * t.val + (x 0).val) (h1 : (i 1).val = (x 1).val) : qScaleB (xRows X t) x = srF X i := by
  obtain ⟨e1, e2⟩ := rb_at t (x 0) (i 0) h0
  have e3 : x = ix2 (ri (i 0)) (i 1) := ix2_ext (congrArg Fin.val e2.symm) h1.symm
  exact congr (congrArg (fun t => qScaleB (xRows X t)) e1.symm) e3

/-- What the loop holds before trip `n`: the rows below `32 n` done. -/
abbrev qInv (n : Nat) : sProp 𝕄 :=
  iprop(At c cc0_scratch0 Finset.univ X ∗ Agr c cc0_scratch2 Finset.univ (cbF X) (fun i => (i 0).val < 32 * n)
    ∗ Agr c cc0_scratch3 Finset.univ (ciF X) (fun i => (i 0).val < 32 * n) ∗ Agr c cc0_scratch4 Finset.univ (srF X) (fun i => (i 0).val < 32 * n))

theorem rows_cover (t : Fin k0_t1_loop.trips) (i : S512x2048.Idx) (h : (i 0).val < 32 * (t.val + 1)) :
    (i 0).val < 32 * t.val ∨ i ∈ (Rect.unit (s := S512x2048) (k0_off1 t) S32x2048.size (k0_off1_inb t)).set := by
  by_cases h' : (i 0).val < 32 * t.val
  · exact .inl h'
  · refine .inr (Rect.mem_set_unit.mpr fun a => ?_)
    rw [off1_eq]
    match a with
    | 0 => exact ⟨by show 32 * t.val ≤ (i 0).val; omega, by show (i 0).val < 32 * t.val + 32; omega⟩
    | 1 => exact ⟨by show 0 ≤ (i 1).val; omega, by have h : (i 1).val < 2048 := (i 1).isLt; show (i 1).val < 0 + 2048; omega⟩
theorem srows_cover (t : Fin k0_t1_loop.trips) (i : S512x128.Idx) (h : (i 0).val < 32 * (t.val + 1)) :
    (i 0).val < 32 * t.val ∨ i ∈ (Rect.unit (s := S512x128) (k0_off2 t) S32x128.size (k0_off2_inb t)).set := by
  by_cases h' : (i 0).val < 32 * t.val
  · exact .inl h'
  · refine .inr (Rect.mem_set_unit.mpr fun a => ?_)
    rw [off2_eq]
    match a with
    | 0 => exact ⟨by show 32 * t.val ≤ (i 0).val; omega, by show (i 0).val < 32 * t.val + 32; omega⟩
    | 1 => exact ⟨by show 0 ≤ (i 1).val; omega, by have h : (i 1).val < 128 := (i 1).isLt; show (i 1).val < 0 + 128; omega⟩
theorem emb1 (t : Fin k0_t1_loop.trips) (x : S32x2048.Idx) :
    ((Rect.unit (s := S512x2048) (k0_off1 t) S32x2048.size (k0_off1_inb t)).emb x 0).val = 32 * t.val + (x 0).val
      ∧ ((Rect.unit (s := S512x2048) (k0_off1 t) S32x2048.size (k0_off1_inb t)).emb x 1).val = (x 1).val := by
  have h0 : k0_off1 t 0 = 32 * t.val := congrFun (off1_eq t) 0
  have h1 : k0_off1 t 1 = 0 := congrFun (off1_eq t) 1
  exact ⟨by show k0_off1 t 0 + 1 * (x 0).val = _; rw [h0, Nat.one_mul], by show k0_off1 t 1 + 1 * (x 1).val = _; rw [h1, Nat.one_mul, Nat.zero_add]⟩
theorem emb2 (t : Fin k0_t1_loop.trips) (x : S32x128.Idx) :
    ((Rect.unit (s := S512x128) (k0_off2 t) S32x128.size (k0_off2_inb t)).emb x 0).val = 32 * t.val + (x 0).val
      ∧ ((Rect.unit (s := S512x128) (k0_off2 t) S32x128.size (k0_off2_inb t)).emb x 1).val = (x 1).val := by
  have h0 : k0_off2 t 0 = 32 * t.val := congrFun (off2_eq t) 0
  have h1 : k0_off2 t 1 = 0 := congrFun (off2_eq t) 1
  exact ⟨by show k0_off2 t 0 + 1 * (x 0).val = _; rw [h0, Nat.one_mul], by show k0_off2 t 1 + 1 * (x 1).val = _; rw [h1, Nat.one_mul, Nat.zero_add]⟩

theorem xRows_at (t : Fin k0_t1_loop.trips) (ht : t.val < 16) :
    (xV.access (Rect.unit (s := S512x2048) (k0_off1 t) S32x2048.size (k0_off1_inb t))).read (Elt F) X = xRows X ⟨t.val, ht⟩ := by
  funext x
  refine (View.read_apply _ _).trans ((cast_eq _ _).trans ?_)
  show X ((Rect.unit (s := S512x2048) (k0_off1 t) S32x2048.size (k0_off1_inb t)).emb x) = X _
  exact congrArg X (ix2_ext (emb1 t x).1 (emb1 t x).2)

theorem qLoadX (t : Fin k0_t1_loop.trips) (ht : t.val < 16) (κ : Vec F S32x2048 .bf16 → PU F) (Q : PUnit → sProp 𝕄) :
    At c cc0_scratch0 Finset.univ X ⊢ iprop((At c cc0_scratch0 Finset.univ X -∗ WP c (κ (xRows X ⟨t.val, ht⟩)) Q) -∗
      WP c (Prog.lift (.load xV (Rect.unit (s := S512x2048) (k0_off1 t) S32x2048.size (k0_off1_inb t)).toLoadRect (View.loadsAt_vmem h_S32x2048)) >>= κ) Q) :=
  load_wp c xV (Rect.unit (s := S512x2048) (k0_off1 t) S32x2048.size (k0_off1_inb t)) (View.loadsAt_vmem h_S32x2048) Finset.univ X (xRows X ⟨t.val, ht⟩) (Finset.subset_univ _) (xRows_at X t ht) κ Q
theorem qDropCb (t : Fin k0_t1_loop.trips) (P : cc0_scratch2.ty.Idx → Prop) (κ : PU F) (Q : PUnit → sProp 𝕄) :
    Agr c cc0_scratch2 Finset.univ (cbF X) P ⊢ iprop((Agr c cc0_scratch2 Finset.univ (cbF X) P -∗ WP c κ Q) -∗
      WP c (Prog.lift (.load cbV (Rect.unit (s := S512x2048) (k0_off1 t) S32x2048.size (k0_off1_inb t)).toLoadRect (View.loadsAt_vmem h_S32x2048)) >>= fun _ => κ) Q) :=
  drop_wp c cbV (Rect.unit (s := S512x2048) (k0_off1 t) S32x2048.size (k0_off1_inb t)) (View.loadsAt_vmem h_S32x2048) Finset.univ (cbF X) P (Finset.subset_univ _) κ Q
theorem qStoreCb (t : Fin k0_t1_loop.trips) (ht : t.val < 16) (κ : PU F) (Q : PUnit → sProp 𝕄) :
    Agr c cc0_scratch2 Finset.univ (cbF X) (fun i => (i 0).val < 32 * t.val) ⊢ iprop((Agr c cc0_scratch2 Finset.univ (cbF X) (fun i => (i 0).val < 32 * (t.val + 1)) -∗ WP c κ Q) -∗
      WP c (Prog.lift (.store cbV (Rect.unit (s := S512x2048) (k0_off1 t) S32x2048.size (k0_off1_inb t)) (qCodeB (xRows X ⟨t.val, ht⟩)) Finset.univ (View.stores_vmem h_S32x2048 ((Memref.isWhole_whole _).storeExact_slice rfl _ (k0_off1_packedbf16 t)) (fun _ => rfl)) (.inl rfl)) >>= fun _ => κ) Q) :=
  store_wp c cbV (Rect.unit (s := S512x2048) (k0_off1 t) S32x2048.size (k0_off1_inb t)) (qCodeB (xRows X ⟨t.val, ht⟩)) (View.stores_vmem h_S32x2048 ((Memref.isWhole_whole _).storeExact_slice rfl _ (k0_off1_packedbf16 t)) (fun _ => rfl)) (.inl rfl) Finset.univ (cbF X) (fun i => (i 0).val < 32 * t.val) (fun i => (i 0).val < 32 * (t.val + 1)) (Finset.subset_univ _)
    (fun f hf => agree_store (F := F) cc0_scratch2 (Rect.unit (s := S512x2048) (k0_off1 t) S32x2048.size (k0_off1_inb t)) f (cbF X) (qCodeB (xRows X ⟨t.val, ht⟩)) (fun x => cbF_at X ⟨t.val, ht⟩ x _ (emb1 t x).1 (emb1 t x).2) hf (rows_cover t)) κ Q
theorem qDropCi (t : Fin k0_t1_loop.trips) (P : cc0_scratch3.ty.Idx → Prop) (κ : PU F) (Q : PUnit → sProp 𝕄) :
    Agr c cc0_scratch3 Finset.univ (ciF X) P ⊢ iprop((Agr c cc0_scratch3 Finset.univ (ciF X) P -∗ WP c κ Q) -∗
      WP c (Prog.lift (.load ciV (Rect.unit (s := S512x2048) (k0_off1 t) S32x2048.size (k0_off1_inb t)).toLoadRect (View.loadsAt_vmem h_S32x2048)) >>= fun _ => κ) Q) :=
  drop_wp c ciV (Rect.unit (s := S512x2048) (k0_off1 t) S32x2048.size (k0_off1_inb t)) (View.loadsAt_vmem h_S32x2048) Finset.univ (ciF X) P (Finset.subset_univ _) κ Q
theorem qStoreCi (t : Fin k0_t1_loop.trips) (ht : t.val < 16) (κ : PU F) (Q : PUnit → sProp 𝕄) :
    Agr c cc0_scratch3 Finset.univ (ciF X) (fun i => (i 0).val < 32 * t.val) ⊢ iprop((Agr c cc0_scratch3 Finset.univ (ciF X) (fun i => (i 0).val < 32 * (t.val + 1)) -∗ WP c κ Q) -∗
      WP c (Prog.lift (.store ciV (Rect.unit (s := S512x2048) (k0_off1 t) S32x2048.size (k0_off1_inb t)) (qCodeI (xRows X ⟨t.val, ht⟩)) Finset.univ (View.stores_vmem h_S32x2048 ((Memref.isWhole_whole _).storeExact_slice rfl _ (k0_off1_packedi8 t)) (fun _ => rfl)) (.inl rfl)) >>= fun _ => κ) Q) :=
  store_wp c ciV (Rect.unit (s := S512x2048) (k0_off1 t) S32x2048.size (k0_off1_inb t)) (qCodeI (xRows X ⟨t.val, ht⟩)) (View.stores_vmem h_S32x2048 ((Memref.isWhole_whole _).storeExact_slice rfl _ (k0_off1_packedi8 t)) (fun _ => rfl)) (.inl rfl) Finset.univ (ciF X) (fun i => (i 0).val < 32 * t.val) (fun i => (i 0).val < 32 * (t.val + 1)) (Finset.subset_univ _)
    (fun f hf => agree_store (F := F) cc0_scratch3 (Rect.unit (s := S512x2048) (k0_off1 t) S32x2048.size (k0_off1_inb t)) f (ciF X) (qCodeI (xRows X ⟨t.val, ht⟩)) (fun x => ciF_at X ⟨t.val, ht⟩ x _ (emb1 t x).1 (emb1 t x).2) hf (rows_cover t)) κ Q
theorem qDropSr (t : Fin k0_t1_loop.trips) (P : cc0_scratch4.ty.Idx → Prop) (κ : PU F) (Q : PUnit → sProp 𝕄) :
    Agr c cc0_scratch4 Finset.univ (srF X) P ⊢ iprop((Agr c cc0_scratch4 Finset.univ (srF X) P -∗ WP c κ Q) -∗
      WP c (Prog.lift (.load srV (Rect.unit (s := S512x128) (k0_off2 t) S32x128.size (k0_off2_inb t)).toLoadRect (View.loadsAt_vmem h_S32x128)) >>= fun _ => κ) Q) :=
  drop_wp c srV (Rect.unit (s := S512x128) (k0_off2 t) S32x128.size (k0_off2_inb t)) (View.loadsAt_vmem h_S32x128) Finset.univ (srF X) P (Finset.subset_univ _) κ Q
theorem qStoreSr (t : Fin k0_t1_loop.trips) (ht : t.val < 16) (κ : PU F) (Q : PUnit → sProp 𝕄) :
    Agr c cc0_scratch4 Finset.univ (srF X) (fun i => (i 0).val < 32 * t.val) ⊢ iprop((Agr c cc0_scratch4 Finset.univ (srF X) (fun i => (i 0).val < 32 * (t.val + 1)) -∗ WP c κ Q) -∗
      WP c (Prog.lift (.store srV (Rect.unit (s := S512x128) (k0_off2 t) S32x128.size (k0_off2_inb t)) (qScaleB (xRows X ⟨t.val, ht⟩)) Finset.univ (View.stores_vmem_bits_univ h_S32x128 rfl) (.inl rfl)) >>= fun _ => κ) Q) :=
  store_wp c srV (Rect.unit (s := S512x128) (k0_off2 t) S32x128.size (k0_off2_inb t)) (qScaleB (xRows X ⟨t.val, ht⟩)) (View.stores_vmem_bits_univ h_S32x128 rfl) (.inl rfl) Finset.univ (srF X) (fun i => (i 0).val < 32 * t.val) (fun i => (i 0).val < 32 * (t.val + 1)) (Finset.subset_univ _)
    (fun f hf => agree_store (F := F) cc0_scratch4 (Rect.unit (s := S512x128) (k0_off2 t) S32x128.size (k0_off2_inb t)) f (srF X) (qScaleB (xRows X ⟨t.val, ht⟩)) (fun x => srF_at X ⟨t.val, ht⟩ x _ (emb2 t x).1 (emb2 t x).2) hf (srows_cover t)) κ Q

theorem quantTrip_wp (t : Fin k0_t1_loop.trips) : qInv c X t.val ⊢ WP c (quantTrip t) (fun _ => qInv c X (t.val + 1)) := by
  have ht : t.val < 16 := lt_of_lt_of_eq t.isLt trips1
  unfold quantTrip
  iintro ⟨Hx, Hcb, Hci, Hsr⟩
  iapply (qLoadX c X t ht _ _) $$ Hx
  iintro Hx
  iapply (qDropCb c X t _ _ _) $$ Hcb
  iintro Hcb
  iapply (qStoreCb c X t ht _ _) $$ Hcb
  iintro Hcb
  iapply (qDropCi c X t _ _ _) $$ Hci
  iintro Hci
  iapply (qStoreCi c X t ht _ _) $$ Hci
  iintro Hci
  iapply (qDropSr c X t _ _ _) $$ Hsr
  iintro Hsr
  iapply (qStoreSr c X t ht _ _) $$ Hsr
  iintro Hsr
  iapply (pure_wp c PUnit.unit _)
  isplitl [Hx]; · iexact Hx
  isplitl [Hcb]; · iexact Hcb
  isplitl [Hci]; · iexact Hci
  iexact Hsr

/-- The loop: the codes and the scales of every row. -/
theorem quant_wp (κ : PU F) (Q : PUnit → sProp 𝕄) :
    iprop(At c cc0_scratch0 Finset.univ X ∗ Ex c cc0_scratch2 Finset.univ ∗ Ex c cc0_scratch3 Finset.univ ∗ Ex c cc0_scratch4 Finset.univ)
      ⊢ iprop((iprop(At c cc0_scratch0 Finset.univ X ∗ At c cc0_scratch2 Finset.univ (cbF X) ∗ At c cc0_scratch3 Finset.univ (ciF X) ∗ At c cc0_scratch4 Finset.univ (srF X)) -∗ WP c κ Q)
        -∗ WP c ((Scf.Loop.for k0_t1_loop k0_t1_ok ⟨⟩ fun t _ => quantTrip t) >>= fun _ => κ) Q) := by
  iintro ⟨Hx, Hcb, Hci, Hsr⟩ Hk
  iapply (loop_wp c k0_t1_loop k0_t1_ok PUnit.unit (fun t _ => quantTrip t) (fun n _ => qInv c X n) (fun t _ => quantTrip_wp c X t) (fun _ => κ) Q) $$ [Hx Hcb Hci Hsr]
  · isplitl [Hx]; · iexact Hx
    isplitl [Hcb]; · iapply (ex_agr c cc0_scratch2 Finset.univ (cbF X) (fun i => (i 0).val < 32 * 0) (fun i => Nat.not_lt_zero _)); iexact Hcb
    isplitl [Hci]; · iapply (ex_agr c cc0_scratch3 Finset.univ (ciF X) (fun i => (i 0).val < 32 * 0) (fun i => Nat.not_lt_zero _)); iexact Hci
    iapply (ex_agr c cc0_scratch4 Finset.univ (srF X) (fun i => (i 0).val < 32 * 0) (fun i => Nat.not_lt_zero _)); iexact Hsr
  iintro %a ⟨Hx, Hcb, Hci, Hsr⟩
  iapply Hk
  have h1 : ∀ i : S512x2048.Idx, (i 0).val < 32 * k0_t1_loop.trips := fun i => by rw [trips1]; exact (i 0).isLt
  have h2 : ∀ i : S512x128.Idx, (i 0).val < 32 * k0_t1_loop.trips := fun i => by rw [trips1]; exact (i 0).isLt
  isplitl [Hx]; · iexact Hx
  isplitl [Hcb]; · iapply (agr_at c cc0_scratch2 Finset.univ (cbF X) _ (fun i _ => h1 i)); iexact Hcb
  isplitl [Hci]; · iapply (agr_at c cc0_scratch3 Finset.univ (ciF X) _ (fun i _ => h1 i)); iexact Hci
  iapply (agr_at c cc0_scratch4 Finset.univ (srF X) _ (fun i _ => h2 i)); iexact Hsr

end Cert.KernelIdeal.Body

end
-- ==== Proof.KernelIdeal.Sums.lean ====
/- What each step of the body does to what the core holds: a copy started, a copy waited for, a loop run, a block
   multiplied. Each is stated once, at the block's index and the slot's. -/
module

public import proofs.«01_k».proof.Proof.KernelIdeal.Quant

@[expose] public section

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (X : XT F) (W : WT F)

/-! ## The scales written out -/

theorem srBlk_read (k : Fin 4) : (srV.access (Rect.unit (s := S512x128) ![128 * k.val, 0] S128x128.size (sr_inb k))).read (Elt F) (srF X) = srBlk X k := by
  funext x
  refine (View.read_apply _ _).trans ((cast_eq _ _).trans ?_)
  show srF X ((Rect.unit (s := S512x128) ![128 * k.val, 0] S128x128.size (sr_inb k)).emb x) = srF X _
  exact congrArg (srF X) (ix2_ext (by rw [unit_emb_val]; show 128 * k.val + 1 * (x 0).val = 128 * k.val + (x 0).val; omega)
    (by rw [unit_emb_val]; show 0 + 1 * (x 1).val = (x 1).val; omega))
theorem scF_at (k : Fin 4) (x : S1x128.Idx) (i : S2x256.Idx) (h0 : (i 0).val = k.val / 2) (h1 : (i 1).val = 128 * (k.val % 2) + (x 1).val) :
    diagRow (srBlk X k) x = scF X i := by
  have hx : (x 1).val < 128 := (x 1).isLt
  have hx0 : (x 0).val < 1 := (x 0).isLt
  have hk := k.isLt
  have hi : (i 1).val < 256 := (i 1).isLt
  have hi0 : (i 0).val < 2 := (i 0).isLt
  have e1 : k = ⟨2 * (i 0).val + (i 1).val / 128, by omega⟩ := Fin.ext (by show k.val = 2 * (i 0).val + (i 1).val / 128; omega)
  have e2 : x = ix2 (0 : Fin 1) ⟨(i 1).val % 128, by omega⟩ := ix2_ext (by show (x 0).val = 0; omega) (by show (x 1).val = (i 1).val % 128; omega)
  exact congr (congrArg (fun k => diagRow (srBlk X k)) e1) e2
/-- The places of the first `k` blocks of 128. -/
abbrev sP (k : Nat) (i : S2x256.Idx) : Prop := 2 * (i 0).val + (i 1).val / 128 < k
theorem s_cover (k : Fin 4) (i : S2x256.Idx) (h : sP (k.val + 1) i) : sP k.val i ∨ i ∈ (Rect.unit (s := S2x256) ![k.val / 2, 128 * (k.val % 2)] S1x128.size (s_inb k)).set := by
  by_cases h' : sP k.val i
  · exact .inl h'
  · have hi : (i 1).val < 256 := (i 1).isLt
    have hi0 : (i 0).val < 2 := (i 0).isLt
    refine .inr (Rect.mem_set_unit.mpr fun a => ?_)
    match a with
    | 0 => exact ⟨by show k.val / 2 ≤ (i 0).val; omega, by show (i 0).val < k.val / 2 + 1; omega⟩
    | 1 => exact ⟨by show 128 * (k.val % 2) ≤ (i 1).val; omega, by show (i 1).val < 128 * (k.val % 2) + 128; omega⟩
theorem sLoad (k : Fin 4) (κ : Vec F S128x128 .f32 → PU F) (Q : PUnit → sProp 𝕄) :
    At c cc0_scratch4 Finset.univ (srF X) ⊢ iprop((At c cc0_scratch4 Finset.univ (srF X) -∗ WP c (κ (srBlk X k)) Q) -∗
      WP c (Prog.lift (.load srV (Rect.unit (s := S512x128) ![128 * k.val, 0] S128x128.size (sr_inb k)).toLoadRect (View.loadsAt_vmem h_S128x128)) >>= κ) Q) :=
  load_wp c srV (Rect.unit (s := S512x128) ![128 * k.val, 0] S128x128.size (sr_inb k)) (View.loadsAt_vmem h_S128x128) Finset.univ (srF X) (srBlk X k) (Finset.subset_univ _) (srBlk_read X k) κ Q
theorem sDrop (k : Fin 4) (P : S2x256.Idx → Prop) (κ : PU F) (Q : PUnit → sProp 𝕄) :
    Agr c cc0_stg1_0 Finset.univ (scF X) P ⊢ iprop((Agr c cc0_stg1_0 Finset.univ (scF X) P -∗ WP c κ Q) -∗
      WP c (Prog.lift (.load sV (Rect.unit (s := S2x256) ![k.val / 2, 128 * (k.val % 2)] S1x128.size (s_inb k)).toLoadRect (View.loadsAt_vmem h_S1x128)) >>= fun _ => κ) Q) :=
  drop_wp c sV (Rect.unit (s := S2x256) ![k.val / 2, 128 * (k.val % 2)] S1x128.size (s_inb k)) (View.loadsAt_vmem h_S1x128) Finset.univ (scF X) P (Finset.subset_univ _) κ Q
theorem sStore (k : Fin 4) (κ : PU F) (Q : PUnit → sProp 𝕄) :
    Agr c cc0_stg1_0 Finset.univ (scF X) (sP k.val) ⊢ iprop((Agr c cc0_stg1_0 Finset.univ (scF X) (sP (k.val + 1)) -∗ WP c κ Q) -∗
      WP c (Prog.lift (.store sV (Rect.unit (s := S2x256) ![k.val / 2, 128 * (k.val % 2)] S1x128.size (s_inb k)) (diagRow (srBlk X k)) Finset.univ (View.stores_vmem_bits_univ h_S1x128 rfl) (.inl rfl)) >>= fun _ => κ) Q) :=
  store_wp c sV (Rect.unit (s := S2x256) ![k.val / 2, 128 * (k.val % 2)] S1x128.size (s_inb k)) (diagRow (srBlk X k)) (View.stores_vmem_bits_univ h_S1x128 rfl) (.inl rfl) Finset.univ (scF X) (sP k.val) (sP (k.val + 1)) (Finset.subset_univ _)
    (fun f hf => agree_store (F := F) cc0_stg1_0 (Rect.unit (s := S2x256) ![k.val / 2, 128 * (k.val % 2)] S1x128.size (s_inb k)) f (scF X) (diagRow (srBlk X k)) (fun x => scF_at X k x _
      (by have h : (x 0).val < 1 := (x 0).isLt
          rw [unit_emb_val]; show k.val / 2 + 1 * (x 0).val = k.val / 2; omega)
      (by rw [unit_emb_val]; show 128 * (k.val % 2) + 1 * (x 1).val = 128 * (k.val % 2) + (x 1).val; omega)) hf (s_cover k)) κ Q
theorem scaleStep_wp (k : Fin 4) (κ : PU F) (Q : PUnit → sProp 𝕄) :
    iprop(At c cc0_scratch4 Finset.univ (srF X) ∗ Agr c cc0_stg1_0 Finset.univ (scF X) (sP k.val))
      ⊢ iprop((iprop(At c cc0_scratch4 Finset.univ (srF X) ∗ Agr c cc0_stg1_0 Finset.univ (scF X) (sP (k.val + 1))) -∗ WP c κ Q) -∗ WP c (scaleStep k κ) Q) := by
  unfold scaleStep
  iintro ⟨Hr, Hs⟩ Hk
  iapply (sLoad c X k _ _) $$ Hr
  iintro Hr
  iapply (sDrop c X k _ _ _) $$ Hs
  iintro Hs
  iapply (sStore c X k _ _) $$ Hs
  iintro Hs
  iapply Hk
  isplitl [Hr] <;> iassumption

/-! ## The sum -/

theorem access_sub_slot (j : Fin 11) (t : Fin k0_t2_loop.trips) : (wV.access (Rect.unit (s := S11x2048x512) ![j.val, sRow t, 0] S1x32x512.size (sum_inb j t))).set ⊆ (wSlot j).view.set := by
  intro i hi
  rw [show (wV.access (Rect.unit (s := S11x2048x512) ![j.val, sRow t, 0] S1x32x512.size (sum_inb j t))).set = (Rect.unit (s := S11x2048x512) ![j.val, sRow t, 0] S1x32x512.size (sum_inb j t)).set from View.set_slice_whole cc0_scratch1 _] at hi
  refine (mem_wSlot j i).mpr ?_
  have h := Rect.mem_set_unit.mp hi 0
  have h1 : j.val ≤ (i 0).val := h.1
  have h2 : (i 0).val < j.val + 1 := h.2
  omega
theorem wRows_read (j : Fin 11) (t : Fin k0_t2_loop.trips) (ht : t.val < 64) : (wV.access (Rect.unit (s := S11x2048x512) ![j.val, sRow t, 0] S1x32x512.size (sum_inb j t))).read (Elt F) (wvF W) = wRows W j ⟨t.val, ht⟩ := by
  have hr := sRow_eq t
  funext x
  have hx : (x 0).val < 1 := (x 0).isLt
  refine (View.read_apply _ _).trans ((cast_eq _ _).trans ?_)
  show W (ix2 ⟨((Rect.unit (s := S11x2048x512) ![j.val, sRow t, 0] S1x32x512.size (sum_inb j t)).emb x 1).val, _⟩ ⟨512 * ((Rect.unit (s := S11x2048x512) ![j.val, sRow t, 0] S1x32x512.size (sum_inb j t)).emb x 0).val + ((Rect.unit (s := S11x2048x512) ![j.val, sRow t, 0] S1x32x512.size (sum_inb j t)).emb x 2).val, _⟩) = W _
  refine congrArg W (ix2_ext ?_ ?_)
  · show sRow t + 1 * (x 1).val = 32 * t.val + (x 1).val; omega
  · show 512 * (j.val + 1 * (x 0).val) + (0 + 1 * (x 2).val) = 512 * j.val + (x 2).val; omega
theorem sumLoad {α : Type} (j : Fin 11) (t : Fin k0_t2_loop.trips) (ht : t.val < 64) (κ : Vec F S1x32x512 .bf16 → Prog (TpuEff nD τ sig (Elt F) Λ₀ .tc) α) (Q : α → sProp 𝕄) :
    At c cc0_scratch1 (wSlot j).view.set (wvF W) ⊢ iprop((At c cc0_scratch1 (wSlot j).view.set (wvF W) -∗ WP c (κ (wRows W j ⟨t.val, ht⟩)) Q) -∗
      WP c (Prog.lift (.load wV (Rect.unit (s := S11x2048x512) ![j.val, sRow t, 0] S1x32x512.size (sum_inb j t)).toLoadRect (View.loadsAt_vmem h_S1x32x512)) >>= κ) Q) :=
  load_wp c wV (Rect.unit (s := S11x2048x512) ![j.val, sRow t, 0] S1x32x512.size (sum_inb j t)) (View.loadsAt_vmem h_S1x32x512) (wSlot j).view.set (wvF W) (wRows W j ⟨t.val, ht⟩) (access_sub_slot j t) (wRows_read W j t ht) κ Q
theorem accN_succ (j : Fin 11) (a : FVec F S32x512 .f32) (n : Nat) (h : n < 64) : accN W j a (n + 1) = absAcc (accN W j a n) (wRows W j ⟨n, h⟩) := by
  show (if h : n < 64 then _ else _) = _
  rw [dif_pos h]
/-- What the loop holds before trip `n`: the sum so far. -/
abbrev sInv (j : Fin 11) (a : FVec F S32x512 .f32) (n : Nat) (b : FVec F S32x512 .f32) : sProp 𝕄 :=
  iprop(⌜b = accN W j a n⌝ ∗ At c cc0_scratch1 (wSlot j).view.set (wvF W))
theorem sumTrip_wp (j : Fin 11) (a : FVec F S32x512 .f32) (t : Fin k0_t2_loop.trips) (b : FVec F S32x512 .f32) :
    sInv c W j a t.val b ⊢ WP c (sumTrip j t b) (sInv c W j a (t.val + 1)) := by
  have ht : t.val < 64 := lt_of_lt_of_eq t.isLt trips2
  unfold sumTrip
  iintro ⟨%hb, Hw⟩
  iapply (sumLoad c W j t ht _ _) $$ Hw
  iintro Hw
  iapply (pure_wp c (absAcc b (wRows W j ⟨t.val, ht⟩)) _)
  isplitr
  · ipureintro; rw [accN_succ W j a t.val ht, hb]
  iexact Hw
theorem sumBlock_wp (j : Fin 11) (a : FVec F S32x512 .f32) (κ : FVec F S32x512 .f32 → PU F) (Q : PUnit → sProp 𝕄) :
    iprop(fW c W j ∗ Ow c) ⊢ iprop((iprop(dW c W j ∗ Z c (wSem j) ∗ Ow c) -∗ WP c (κ (accN W j a 64)) Q) -∗ WP c (sumBlock j a κ) Q) := by
  unfold sumBlock
  iintro ⟨Hf, Ho⟩ Hk
  iapply (waitW_wp c W j _ _) $$ [Hf Ho]
  · isplitl [Hf] <;> iassumption
  iintro ⟨⟨Hw, Hh⟩, Hz, Ho⟩
  iapply (loop_wp c k0_t2_loop k0_t2_ok a (sumTrip j) (sInv c W j a) (fun t b => sumTrip_wp c W j a t b) κ Q) $$ [Hw]
  · isplitr; · ipureintro; rfl
    iexact Hw
  iintro %b ⟨%hb, Hw⟩
  rw [hb, trips2]
  iapply Hk
  isplitl [Hw Hh]
  · isplitl [Hw] <;> iassumption
  isplitl [Hz] <;> iassumption

/-! ## The mean stored -/

theorem gDrop (P : S1x1.Idx → Prop) (κ : PU F) (Q : PUnit → sProp 𝕄) (g : S1x1.Idx → F .f32) :
    Agr c cc0_stg0_0 Finset.univ g P ⊢ iprop((Agr c cc0_stg0_0 Finset.univ g P -∗ WP c κ Q) -∗ WP c (smemLoad gS (Rect.unit (s := S1x1) ![0, 0] S1x1.size inb_S1x1_S1x1_0_0) numel1_S1x1 rfl >>= fun _ => κ) Q) :=
  smemDrop_wp c gS (Rect.unit (s := S1x1) ![0, 0] S1x1.size inb_S1x1_S1x1_0_0) numel1_S1x1 rfl Finset.univ g P (Finset.subset_univ _) κ Q
theorem g_cover (i : S1x1.Idx) : i ∈ (Rect.unit (s := S1x1) ![0, 0] S1x1.size inb_S1x1_S1x1_0_0).set :=
  Rect.mem_set_unit.mpr fun a => by
    match a with
    | 0 => exact ⟨Nat.zero_le _, by have h : (i 0).val < 1 := (i 0).isLt; show (i 0).val < 0 + 1; omega⟩
    | 1 => exact ⟨Nat.zero_le _, by have h : (i 1).val < 1 := (i 1).isLt; show (i 1).val < 0 + 1; omega⟩
theorem gStore (g : F .f32) (P : S1x1.Idx → Prop) (κ : PU F) (Q : PUnit → sProp 𝕄) :
    Agr c cc0_stg0_0 Finset.univ (fun _ => g) P ⊢ iprop((Agr c cc0_stg0_0 Finset.univ (fun _ => g) (fun _ => True) -∗ WP c κ Q) -∗
      WP c (Prog.lift (.store gS (Rect.unit (s := S1x1) ![0, 0] S1x1.size inb_S1x1_S1x1_0_0) (fun _ => g) Finset.univ (View.stores_smem_one rfl numel1_S1x1) (.inl rfl)) >>= fun _ => κ) Q) :=
  store_wp c gS (Rect.unit (s := S1x1) ![0, 0] S1x1.size inb_S1x1_S1x1_0_0) (fun _ => g) (View.stores_smem_one rfl numel1_S1x1) (.inl rfl) Finset.univ (fun _ => g) P (fun _ => True) (Finset.subset_univ _)
    (fun f hf => agree_store (F := F) cc0_stg0_0 (Rect.unit (s := S1x1) ![0, 0] S1x1.size inb_S1x1_S1x1_0_0) f (fun _ => g) (fun _ => g) (fun _ => rfl) hf (fun i _ => .inr (g_cover i))) κ Q
theorem gammaStep_wp (g : F .f32) (κ : PU F) (Q : PUnit → sProp 𝕄) :
    Ex c cc0_stg0_0 Finset.univ ⊢ iprop((At c cc0_stg0_0 Finset.univ (fun _ => g) -∗ WP c κ Q) -∗ WP c (gammaStep g κ) Q) := by
  unfold gammaStep
  iintro H Hk
  ihave H := (ex_agr c cc0_stg0_0 Finset.univ (fun _ => g) (fun _ => False) (fun _ h => h)) $$ H
  iapply (gDrop c _ _ _ _) $$ H
  iintro H
  iapply (gStore c g _ _ _) $$ H
  iintro H
  iapply Hk
  iapply (agr_at c cc0_stg0_0 Finset.univ (fun _ => g) (fun _ => True) (fun _ _ => trivial)); iexact H

end Cert.KernelIdeal.Body

end
-- ==== Proof.KernelIdeal.Blocks.lean ====
/- What each step of the body does to what the core holds: a copy started, a copy waited for, a loop run, a block
   multiplied. Each is stated once, at the block's index and the slot's. -/
module

public import proofs.«01_k».proof.Proof.KernelIdeal.Sums

@[expose] public section

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (X : XT F) (W : WT F)

/-- The threshold. -/
abbrev θF : FVec F S32x128 .bf16 := thetaOf (gF W)

/-! ## The rounding loop -/

theorem wChunk_read (j : Fin 11) (t : Fin k0_t13_loop.trips) (ht : t.val < 64) (e : Fin 4) :
    ((wSlot j).access (Rect.unit (s := S2048x512) ![qRow t, 128 * e.val] S32x128.size (tw_inb e t))).read (Elt F) (wvF W) = wChunk W j ⟨t.val, ht⟩ e := by
  have hr := qRow_eq t
  funext x
  refine (View.read_apply _ _).trans ((cast_eq _ _).trans ?_)
  show wvF W ((wSlot j).view.emb ((Rect.unit (s := S2048x512) ![qRow t, 128 * e.val] S32x128.size (tw_inb e t)).emb x)) = _
  refine (congrArg (wvF W) (wSlot_emb j _)).trans ?_
  show W (ix2 ⟨((Rect.unit (s := S2048x512) ![qRow t, 128 * e.val] S32x128.size (tw_inb e t)).emb x 0).val, _⟩ ⟨512 * j.val + ((Rect.unit (s := S2048x512) ![qRow t, 128 * e.val] S32x128.size (tw_inb e t)).emb x 1).val, _⟩) = W _
  refine congrArg W (ix2_ext ?_ ?_)
  · show qRow t + 1 * (x 0).val = 32 * t.val + (x 0).val; omega
  · show 512 * j.val + (128 * e.val + 1 * (x 1).val) = 512 * j.val + 128 * e.val + (x 1).val; omega

/-- The rounded places before chunk `n` of trip `t`. -/
abbrev tP (b : Fin 2) (t n : Nat) (i : S2x2048x512.Idx) : Prop := (i 0).val = b.val ∧ ((i 1).val < 32 * t ∨ ((i 1).val < 32 * (t + 1) ∧ (i 2).val < 128 * n))
theorem t_cover (b : Fin 2) (t : Fin k0_t13_loop.trips) (e : Fin 4) (i : S2x2048x512.Idx) (h : tP b t.val (e.val + 1) i) :
    tP b t.val e.val i ∨ i ∈ (Rect.unit (s := S2x2048x512) ![b.val, qRow t, 128 * e.val] S1x32x128.size (tb_inb b e t)).set := by
  have hr := qRow_eq t
  obtain ⟨h0, h1⟩ := h
  by_cases h' : tP b t.val e.val i
  · exact .inl h'
  · have h2 : ¬ ((i 1).val < 32 * t.val ∨ ((i 1).val < 32 * (t.val + 1) ∧ (i 2).val < 128 * e.val)) := fun h => h' ⟨h0, h⟩
    refine .inr (Rect.mem_set_unit.mpr fun a => ?_)
    match a with
    | 0 => exact ⟨by show b.val ≤ (i 0).val; omega, by show (i 0).val < b.val + 1; omega⟩
    | 1 => exact ⟨by show qRow t ≤ (i 1).val; omega, by show (i 1).val < qRow t + 32; omega⟩
    | 2 => exact ⟨by show 128 * e.val ≤ (i 2).val; omega, by show (i 2).val < 128 * e.val + 128; omega⟩
theorem tbBlk_at (j : Fin 11) (t : Fin 64) (e : Fin 4) (p : Fin 32) (l : Fin 128) (i : S1x2048x512.Idx) (h1 : (i 1).val = 32 * t.val + p.val) (h2 : (i 2).val = 128 * e.val + l.val) :
    tern (θF W) (wChunk W j t e) (ix2 p l) = tbBlk W j i := by
  have e1 : t = ⟨(i 1).val / 32, by have := t.isLt; omega⟩ := Fin.ext (by show t.val = (i 1).val / 32; omega)
  have e2 : e = ⟨(i 2).val / 128, by have := e.isLt; omega⟩ := Fin.ext (by show e.val = (i 2).val / 128; omega)
  have e3 : (ix2 p l : S32x128.Idx) = ix2 ⟨(i 1).val % 32, by omega⟩ ⟨(i 2).val % 128, by omega⟩ :=
    ix2_ext (by show p.val = (i 1).val % 32; omega) (by show l.val = (i 2).val % 128; omega)
  have e4 : wChunk W j t e = wChunk W j ⟨(i 1).val / 32, by have := t.isLt; omega⟩ ⟨(i 2).val / 128, by have := e.isLt; omega⟩ := congr (congrArg (fun t e => wChunk W j t e) e1) e2
  exact congr (congrArg (tern (θF W)) e4) e3
theorem ternS_at (j : Fin 11) (b : Fin 2) (t : Fin 64) (e : Fin 4) (x : S1x32x128.Idx) (i : S2x2048x512.Idx)
    (h1 : (i 1).val = 32 * t.val + (x 1).val) (h2 : (i 2).val = 128 * e.val + (x 2).val) : ternS (θF W) (wChunk W j t e) x = tbF W j i := by
  have hx : x = ix3 (0 : Fin 1) (x 1) (x 2) := ix3_ext (by have h : (x 0).val < 1 := (x 0).isLt; show (x 0).val = 0; omega) rfl rfl
  have e1 : ternS (θF W) (wChunk W j t e) (ix3 (0 : Fin 1) (x 1) (x 2)) = tern (θF W) (wChunk W j t e) (ix2 (x 1) (x 2)) := by
    unfold ternS
    rw [shapeCast_self]
    exact shapeCast_ab_1ab_apply _ _ _ _ _
  refine (congrArg _ hx).trans (e1.trans ?_)
  exact tbBlk_at W j t e (x 1) (x 2) (ix3 (0 : Fin 1) (i 1) (i 2)) h1 h2

theorem tLoad (j : Fin 11) (t : Fin k0_t13_loop.trips) (ht : t.val < 64) (e : Fin 4) (κ : Vec F S32x128 .bf16 → PU F) (Q : PUnit → sProp 𝕄) :
    At c cc0_scratch1 (wSlot j).view.set (wvF W) ⊢ iprop((At c cc0_scratch1 (wSlot j).view.set (wvF W) -∗ WP c (κ (wChunk W j ⟨t.val, ht⟩ e)) Q) -∗
      WP c (Prog.lift (.load (wSlot j) (Rect.unit (s := S2048x512) ![qRow t, 128 * e.val] S32x128.size (tw_inb e t)).toLoadRect (View.loadsAt_vmem h_S32x128)) >>= κ) Q) :=
  load_wp c (wSlot j) (Rect.unit (s := S2048x512) ![qRow t, 128 * e.val] S32x128.size (tw_inb e t)) (View.loadsAt_vmem h_S32x128) (wSlot j).view.set (wvF W) (wChunk W j ⟨t.val, ht⟩ e) (access_set _ _) (wChunk_read W j t ht e) κ Q
theorem tDrop (j : Fin 11) (b : Fin 2) (t : Fin k0_t13_loop.trips) (e : Fin 4) (P : S2x2048x512.Idx → Prop) (κ : PU F) (Q : PUnit → sProp 𝕄) :
    Agr c cc0_scratch5 Finset.univ (tbF W j) P ⊢ iprop((Agr c cc0_scratch5 Finset.univ (tbF W j) P -∗ WP c κ Q) -∗
      WP c (Prog.lift (.load (tSlot b) (Rect.unit (s := S2048x512) ![qRow t, 128 * e.val] S32x128.size (tw_inb e t)).toLoadRect (View.loadsAt_vmem h_S32x128)) >>= fun _ => κ) Q) :=
  drop_wp c (tSlot b) (Rect.unit (s := S2048x512) ![qRow t, 128 * e.val] S32x128.size (tw_inb e t)) (View.loadsAt_vmem h_S32x128) Finset.univ (tbF W j) P (Finset.subset_univ _) κ Q
theorem tStore (j : Fin 11) (b : Fin 2) (t : Fin k0_t13_loop.trips) (ht : t.val < 64) (e : Fin 4) (κ : PU F) (Q : PUnit → sProp 𝕄) :
    Agr c cc0_scratch5 Finset.univ (tbF W j) (tP b t.val e.val) ⊢ iprop((Agr c cc0_scratch5 Finset.univ (tbF W j) (tP b t.val (e.val + 1)) -∗ WP c κ Q) -∗
      WP c (Prog.lift (.store tV (Rect.unit (s := S2x2048x512) ![b.val, qRow t, 128 * e.val] S1x32x128.size (tb_inb b e t)) (ternS (θF W) (wChunk W j ⟨t.val, ht⟩ e)) Finset.univ (View.stores_vmem h_S1x32x128 ((Memref.isWhole_whole _).storeExact_slice rfl _ (tb_packed b e t)) (fun _ => rfl)) (.inl rfl)) >>= fun _ => κ) Q) :=
  store_wp c tV (Rect.unit (s := S2x2048x512) ![b.val, qRow t, 128 * e.val] S1x32x128.size (tb_inb b e t)) (ternS (θF W) (wChunk W j ⟨t.val, ht⟩ e)) (View.stores_vmem h_S1x32x128 ((Memref.isWhole_whole _).storeExact_slice rfl _ (tb_packed b e t)) (fun _ => rfl)) (.inl rfl) Finset.univ (tbF W j) (tP b t.val e.val) (tP b t.val (e.val + 1)) (Finset.subset_univ _)
    (fun f hf => agree_store (F := F) cc0_scratch5 (Rect.unit (s := S2x2048x512) ![b.val, qRow t, 128 * e.val] S1x32x128.size (tb_inb b e t)) f (tbF W j) (ternS (θF W) (wChunk W j ⟨t.val, ht⟩ e)) (fun x => ternS_at W j b ⟨t.val, ht⟩ e x _
      (by have hr := qRow_eq t
          rw [unit_emb_val]; show qRow t + 1 * (x 1).val = 32 * t.val + (x 1).val; omega)
      (by rw [unit_emb_val]; show 128 * e.val + 1 * (x 2).val = 128 * e.val + (x 2).val; omega)) hf (t_cover b t e)) κ Q
theorem ternStep_wp (j : Fin 11) (b : Fin 2) (t : Fin k0_t13_loop.trips) (ht : t.val < 64) (e : Fin 4) (κ : Vec F S32x128 .bf16 → PU F) (Q : PUnit → sProp 𝕄) :
    iprop(At c cc0_scratch1 (wSlot j).view.set (wvF W) ∗ Agr c cc0_scratch5 Finset.univ (tbF W j) (tP b t.val e.val))
      ⊢ iprop((iprop(At c cc0_scratch1 (wSlot j).view.set (wvF W) ∗ Agr c cc0_scratch5 Finset.univ (tbF W j) (tP b t.val (e.val + 1))) -∗ WP c (κ (wChunk W j ⟨t.val, ht⟩ e)) Q)
        -∗ WP c (ternStep j b (θF W) t e κ) Q) := by
  unfold ternStep
  iintro ⟨Hw, Ht⟩ Hk
  iapply (tLoad c W j t ht e _ _) $$ Hw
  iintro Hw
  iapply (tDrop c W j b t e _ _ _) $$ Ht
  iintro Ht
  iapply (tStore c W j b t ht e _ _) $$ Ht
  iintro Ht
  iapply Hk
  isplitl [Hw] <;> iassumption

/-- Agreement at fewer places. -/
theorem agr_mono (b : Ref sig .tc) (S : Finset b.ty.Idx) (g : b.ty.Contents (Elt F)) (P P' : b.ty.Idx → Prop) (h : ∀ i, P' i → P i) : Agr c b S g P ⊢ Agr c b S g P' := by
  iintro ⟨%f, %hf, H⟩
  iexists f
  isplitr; · ipureintro; exact fun i hi => hf i (h i hi)
  iexact H

/-- The packed rows before trip `t`. -/
abbrev pP (b : Fin 2) (t : Nat) (i : S2x2048x128.Idx) : Prop := (i 0).val = b.val ∧ (i 1).val < 32 * t
theorem p_cover (b : Fin 2) (t : Fin k0_t13_loop.trips) (i : S2x2048x128.Idx) (h : pP b (t.val + 1) i) : pP b t.val i ∨ i ∈ (Rect.unit (s := S2x2048x128) ![b.val, qRow t, 0] S1x32x128.size (pb_inb b t)).set := by
  have hr := qRow_eq t
  obtain ⟨h0, h1⟩ := h
  by_cases h' : (i 1).val < 32 * t.val
  · exact .inl ⟨h0, h'⟩
  · have hi : (i 2).val < 128 := (i 2).isLt
    refine .inr (Rect.mem_set_unit.mpr fun a => ?_)
    match a with
    | 0 => exact ⟨by show b.val ≤ (i 0).val; omega, by show (i 0).val < b.val + 1; omega⟩
    | 1 => exact ⟨by show qRow t ≤ (i 1).val; omega, by show (i 1).val < qRow t + 32; omega⟩
    | 2 => exact ⟨by show 0 ≤ (i 2).val; omega, by show (i 2).val < 0 + 128; omega⟩
theorem p_sub (b : Fin 2) (t : Fin k0_t13_loop.trips) : (pV.access (Rect.unit (s := S2x2048x128) ![b.val, qRow t, 0] S1x32x128.size (pb_inb b t))).set ⊆ (pSlot b).view.set := by
  intro i hi
  rw [show (pV.access (Rect.unit (s := S2x2048x128) ![b.val, qRow t, 0] S1x32x128.size (pb_inb b t))).set = (Rect.unit (s := S2x2048x128) ![b.val, qRow t, 0] S1x32x128.size (pb_inb b t)).set from View.set_slice_whole cc0_scratch7 _] at hi
  refine (mem_pSlot b i).mpr ?_
  have h := Rect.mem_set_unit.mp hi 0
  have h1 : b.val ≤ (i 0).val := h.1
  have h2 : (i 0).val < b.val + 1 := h.2
  omega
theorem pkBlk_at (j : Fin 11) (t : Fin 64) (p : Fin 32) (l : Fin 128) (i : S2048x128.Idx) (h1 : (i 0).val = 32 * t.val + p.val) (h2 : (i 1).val = l.val) :
    pkRows W j t (ix2 p l) = pkBlk W j i := by
  have e1 : t = ⟨(i 0).val / 32, by have := t.isLt; omega⟩ := Fin.ext (by show t.val = (i 0).val / 32; omega)
  have e3 : (ix2 p l : S32x128.Idx) = ix2 ⟨(i 0).val % 32, by omega⟩ (i 1) := ix2_ext (by show p.val = (i 0).val % 32; omega) h2.symm
  exact congr (congrArg (fun t => pkRows W j t) e1) e3
/-- The packed bytes of a trip, as the program stores them. -/
abbrev pkS (j : Fin 11) (t : Fin 64) : Vec F S1x32x128 .i8 := packS (θF W) (wChunk W j t 0) (wChunk W j t 1) (wChunk W j t 2) (wChunk W j t 3)
theorem packS_at (j : Fin 11) (t : Fin 64) (x : S1x32x128.Idx) (i : S2x2048x128.Idx)
    (h1 : (i 1).val = 32 * t.val + (x 1).val) (h2 : (i 2).val = (x 2).val) : (pkS W j t x : BitVec 8) = pbF W j i := by
  have hx : x = ix3 (0 : Fin 1) (x 1) (x 2) := ix3_ext (by have h : (x 0).val < 1 := (x 0).isLt; show (x 0).val = 0; omega) rfl rfl
  have e1 : (pkS W j t (ix3 (0 : Fin 1) (x 1) (x 2)) : BitVec 8) = pkRows W j t (ix2 (x 1) (x 2)) := by
    unfold pkS packS
    rw [shapeCast_self]
    exact shapeCast_ab_1ab_apply _ _ _ _ _
  refine (congrArg (fun x => (pkS W j t x : BitVec 8)) hx).trans (e1.trans ?_)
  exact pkBlk_at W j t (x 1) (x 2) (ix2 (i 1) (i 2)) h1 h2
theorem pDrop (j : Fin 11) (b : Fin 2) (t : Fin k0_t13_loop.trips) (P : S2x2048x128.Idx → Prop) (κ : PU F) (Q : PUnit → sProp 𝕄) :
    Agr c cc0_scratch7 (pSlot b).view.set (pbF W j) P ⊢ iprop((Agr c cc0_scratch7 (pSlot b).view.set (pbF W j) P -∗ WP c κ Q) -∗
      WP c (Prog.lift (.load (pSlot b) (Rect.unit (s := S2048x128) ![qRow t, 0] S32x128.size (tp_inb t)).toLoadRect (View.loadsAt_vmem h_S32x128)) >>= fun _ => κ) Q) :=
  drop_wp c (pSlot b) (Rect.unit (s := S2048x128) ![qRow t, 0] S32x128.size (tp_inb t)) (View.loadsAt_vmem h_S32x128) (pSlot b).view.set (pbF W j) P (access_set _ _) κ Q
theorem pStore (j : Fin 11) (b : Fin 2) (t : Fin k0_t13_loop.trips) (ht : t.val < 64) (κ : PU F) (Q : PUnit → sProp 𝕄) :
    Agr c cc0_scratch7 (pSlot b).view.set (pbF W j) (pP b t.val) ⊢ iprop((Agr c cc0_scratch7 (pSlot b).view.set (pbF W j) (pP b (t.val + 1)) -∗ WP c κ Q) -∗
      WP c (Prog.lift (.store pV (Rect.unit (s := S2x2048x128) ![b.val, qRow t, 0] S1x32x128.size (pb_inb b t)) (pkS W j ⟨t.val, ht⟩) Finset.univ (View.stores_vmem h_S1x32x128 ((Memref.isWhole_whole _).storeExact_slice rfl _ (pb_packed b t)) (fun _ => rfl)) (.inl rfl)) >>= fun _ => κ) Q) :=
  store_wp c pV (Rect.unit (s := S2x2048x128) ![b.val, qRow t, 0] S1x32x128.size (pb_inb b t)) (pkS W j ⟨t.val, ht⟩) (View.stores_vmem h_S1x32x128 ((Memref.isWhole_whole _).storeExact_slice rfl _ (pb_packed b t)) (fun _ => rfl)) (.inl rfl) (pSlot b).view.set (pbF W j) (pP b t.val) (pP b (t.val + 1)) (p_sub b t)
    (fun f hf => agree_store (F := F) cc0_scratch7 (Rect.unit (s := S2x2048x128) ![b.val, qRow t, 0] S1x32x128.size (pb_inb b t)) f (pbF W j) (pkS W j ⟨t.val, ht⟩) (fun x => packS_at W j ⟨t.val, ht⟩ x _
      (by have hr := qRow_eq t
          rw [unit_emb_val]; show qRow t + 1 * (x 1).val = 32 * t.val + (x 1).val; omega)
      (by rw [unit_emb_val]; show 0 + 1 * (x 2).val = (x 2).val; omega)) hf (p_cover b t)) κ Q

/-- What the loop holds before trip `n`. -/
abbrev tInv (j : Fin 11) (b : Fin 2) (n : Nat) : sProp 𝕄 :=
  iprop(At c cc0_scratch1 (wSlot j).view.set (wvF W) ∗ Agr c cc0_scratch5 Finset.univ (tbF W j) (tP b n 0)
    ∗ Agr c cc0_scratch7 (pSlot b).view.set (pbF W j) (pP b n))
theorem ternTrip_wp (j : Fin 11) (b : Fin 2) (t : Fin k0_t13_loop.trips) : tInv c W j b t.val ⊢ WP c (ternTrip j b (θF W) t) (fun _ => tInv c W j b (t.val + 1)) := by
  have ht : t.val < 64 := lt_of_lt_of_eq t.isLt trips13
  unfold ternTrip
  iintro ⟨Hw, Ht, Hp⟩
  iapply (ternStep_wp c W j b t ht 0 _ _) $$ [Hw Ht]
  · isplitl [Hw] <;> iassumption
  iintro ⟨Hw, Ht⟩
  iapply (ternStep_wp c W j b t ht 1 _ _) $$ [Hw Ht]
  · isplitl [Hw] <;> iassumption
  iintro ⟨Hw, Ht⟩
  iapply (ternStep_wp c W j b t ht 2 _ _) $$ [Hw Ht]
  · isplitl [Hw] <;> iassumption
  iintro ⟨Hw, Ht⟩
  iapply (ternStep_wp c W j b t ht 3 _ _) $$ [Hw Ht]
  · isplitl [Hw] <;> iassumption
  iintro ⟨Hw, Ht⟩
  iapply (pDrop c W j b t _ _ _) $$ Hp
  iintro Hp
  iapply (pStore c W j b t ht _ _) $$ Hp
  iintro Hp
  iapply (pure_wp c PUnit.unit _)
  isplitl [Hw]; · iexact Hw
  isplitl [Ht]
  · iapply (agr_mono c cc0_scratch5 Finset.univ (tbF W j) (tP b t.val 4) (tP b (t.val + 1) 0) (fun i h => by
      have hi : (i 2).val < 512 := (i 2).isLt
      obtain ⟨h0, h1⟩ := h
      exact ⟨h0, by omega⟩))
    iexact Ht
  iexact Hp
theorem ternLoop_wp (j : Fin 11) (b : Fin 2) (κ : PU F) (Q : PUnit → sProp 𝕄) :
    iprop(At c cc0_scratch1 (wSlot j).view.set (wvF W) ∗ Ex c cc0_scratch5 Finset.univ ∗ Ex c cc0_scratch7 (pSlot b).view.set)
      ⊢ iprop((iprop(At c cc0_scratch1 (wSlot j).view.set (wvF W) ∗ Agr c cc0_scratch5 Finset.univ (tbF W j) (fun i => (i 0).val = b.val)
          ∗ At c cc0_scratch7 (pSlot b).view.set (pbF W j)) -∗ WP c κ Q)
        -∗ WP c (ternLoop j b (θF W) >>= fun _ => κ) Q) := by
  unfold ternLoop
  iintro ⟨Hw, Ht, Hp⟩ Hk
  iapply (loop_wp c k0_t13_loop k0_t13_ok PUnit.unit (fun t _ => ternTrip j b (θF W) t) (fun n _ => tInv c W j b n) (fun t _ => ternTrip_wp c W j b t) (fun _ => κ) Q) $$ [Hw Ht Hp]
  · isplitl [Hw]; · iexact Hw
    isplitl [Ht]; · iapply (ex_agr c cc0_scratch5 Finset.univ (tbF W j) (tP b 0 0) (fun i h => by obtain ⟨h0, h1⟩ := h; omega)); iexact Ht
    iapply (ex_agr c cc0_scratch7 (pSlot b).view.set (pbF W j) (pP b 0) (fun i h => by obtain ⟨h0, h1⟩ := h; omega)); iexact Hp
  iintro %a ⟨Hw, Ht, Hp⟩
  iapply Hk
  have h1 : ∀ i : S2x2048x512.Idx, (i 0).val = b.val → tP b k0_t13_loop.trips 0 i := fun i h => by
    have hi : (i 1).val < 2048 := (i 1).isLt
    have := trips13
    exact ⟨h, .inl (by omega)⟩
  have h2 : ∀ i ∈ (pSlot b).view.set, pP b k0_t13_loop.trips i := fun i h => by
    have hi : (i 1).val < 2048 := (i 1).isLt
    have := trips13
    exact ⟨(mem_pSlot b i).mp h, by omega⟩
  isplitl [Hw]; · iexact Hw
  isplitl [Ht]; · iapply (agr_mono c cc0_scratch5 Finset.univ (tbF W j) _ (fun i => (i 0).val = b.val) h1); iexact Ht
  iapply (agr_at c cc0_scratch7 (pSlot b).view.set (pbF W j) _ h2); iexact Hp

/-! ## The product of a block -/

theorem cb_read (f : S512x2048.Idx → F .bf16) : (cbV.access (Rect.unit (s := S512x2048) ![0, 0] S512x2048.size inb_S512x2048_S512x2048_0_0)).read (Elt F) f = f :=
  Memref.read_access_unit_zero (Elt F) cc0_scratch2 (off := ![0, 0]) (by funext a; match a with | 0 => rfl | 1 => rfl) inb_S512x2048_S512x2048_0_0 f
theorem sCol_read : (srV.access (Rect.unit (s := S512x128) ![0, 0] S512x1.size inb_S512x128_S512x1_0_0)).read (Elt F) (srF X) = sCol X := by
  funext x
  have hx : (x 1).val < 1 := (x 1).isLt
  refine (View.read_apply _ _).trans ((cast_eq _ _).trans ?_)
  show srF X ((Rect.unit (s := S512x128) ![0, 0] S512x1.size inb_S512x128_S512x1_0_0).emb x) = srF X _
  exact congrArg (srF X) (ix2_ext (by rw [unit_emb_val]; show 0 + 1 * (x 0).val = (x 0).val; omega)
    (by rw [unit_emb_val]; show 0 + 1 * (x 1).val = 0; omega))
theorem tb_read (j : Fin 11) (b : Fin 2) (f : S2x2048x512.Idx → F .bf16) (hf : ∀ i, (i 0).val = b.val → f i = tbF W j i) : (tV.access (Rect.unit (s := S2x2048x512) ![b.val, 0, 0] S1x2048x512.size (tSlot_inb b))).read (Elt F) f = tbBlk W j := by
  funext x
  have hx : (x 0).val < 1 := (x 0).isLt
  refine (View.read_apply _ _).trans ((cast_eq _ _).trans ?_)
  show f ((Rect.unit (s := S2x2048x512) ![b.val, 0, 0] S1x2048x512.size (tSlot_inb b)).emb x) = tbBlk W j x
  refine (hf _ (by rw [unit_emb_val]; show b.val + 1 * (x 0).val = b.val; omega)).trans ?_
  show tbBlk W j (ix3 (0 : Fin 1) ((Rect.unit (s := S2x2048x512) ![b.val, 0, 0] S1x2048x512.size (tSlot_inb b)).emb x 1) ((Rect.unit (s := S2x2048x512) ![b.val, 0, 0] S1x2048x512.size (tSlot_inb b)).emb x 2)) = tbBlk W j x
  refine congrArg (tbBlk W j) (ix3_ext (by show 0 = (x 0).val; omega) ?_ ?_)
  · show 0 + 1 * (x 1).val = (x 1).val; omega
  · show 0 + 1 * (x 2).val = (x 2).val; omega
theorem mLoadC (κ : Vec F S512x2048 .bf16 → PU F) (Q : PUnit → sProp 𝕄) :
    At c cc0_scratch2 Finset.univ (cbF X) ⊢ iprop((At c cc0_scratch2 Finset.univ (cbF X) -∗ WP c (κ (cbF X)) Q) -∗
      WP c (Prog.lift (.load cbV (Rect.unit (s := S512x2048) ![0, 0] S512x2048.size inb_S512x2048_S512x2048_0_0).toLoadRect (View.loadsAt_vmem h_S512x2048)) >>= κ) Q) :=
  load_wp c cbV (Rect.unit (s := S512x2048) ![0, 0] S512x2048.size inb_S512x2048_S512x2048_0_0) (View.loadsAt_vmem h_S512x2048) Finset.univ (cbF X) (cbF X) (Finset.subset_univ _) (cb_read (cbF X)) κ Q
theorem mLoadS (κ : Vec F S512x1 .f32 → PU F) (Q : PUnit → sProp 𝕄) :
    At c cc0_scratch4 Finset.univ (srF X) ⊢ iprop((At c cc0_scratch4 Finset.univ (srF X) -∗ WP c (κ (sCol X)) Q) -∗
      WP c (Prog.lift (.load srV (Rect.unit (s := S512x128) ![0, 0] S512x1.size inb_S512x128_S512x1_0_0).toLoadRect (View.loadsAt_vmem h_S512x1)) >>= κ) Q) :=
  load_wp c srV (Rect.unit (s := S512x128) ![0, 0] S512x1.size inb_S512x128_S512x1_0_0) (View.loadsAt_vmem h_S512x1) Finset.univ (srF X) (sCol X) (Finset.subset_univ _) (sCol_read X) κ Q
theorem mLoadT (j : Fin 11) (b : Fin 2) (κ : Vec F S1x2048x512 .bf16 → PU F) (Q : PUnit → sProp 𝕄) :
    Agr c cc0_scratch5 Finset.univ (tbF W j) (fun i => (i 0).val = b.val) ⊢ iprop((Ex c cc0_scratch5 Finset.univ -∗ WP c (κ (tbBlk W j)) Q) -∗
      WP c (Prog.lift (.load tV (Rect.unit (s := S2x2048x512) ![b.val, 0, 0] S1x2048x512.size (tSlot_inb b)).toLoadRect (View.loadsAt_vmem h_S1x2048x512)) >>= κ) Q) := by
  iintro ⟨%f, %hf, H⟩ Hk
  iapply (load_wp c tV (Rect.unit (s := S2x2048x512) ![b.val, 0, 0] S1x2048x512.size (tSlot_inb b)) (View.loadsAt_vmem h_S1x2048x512) Finset.univ f (tbBlk W j) (Finset.subset_univ _) (tb_read W j b f hf) κ Q) $$ H
  iintro H
  iapply Hk
  iexists f
  iexact H
theorem y_sub (b : Fin 2) : (yV.access (Rect.unit (s := S2x512x512) ![b.val, 0, 0] S1x512x512.size (ySlot_inb b))).set ⊆ (ySlot b).view.set := by
  intro i hi
  rw [show (yV.access (Rect.unit (s := S2x512x512) ![b.val, 0, 0] S1x512x512.size (ySlot_inb b))).set = (Rect.unit (s := S2x512x512) ![b.val, 0, 0] S1x512x512.size (ySlot_inb b)).set from View.set_slice_whole cc0_scratch6 _] at hi
  refine (mem_ySlot b i).mpr ?_
  have h := Rect.mem_set_unit.mp hi 0
  have h1 : b.val ≤ (i 0).val := h.1
  have h2 : (i 0).val < b.val + 1 := h.2
  omega
theorem y_cover (b : Fin 2) (i : S2x512x512.Idx) (h : (i 0).val = b.val) : i ∈ (Rect.unit (s := S2x512x512) ![b.val, 0, 0] S1x512x512.size (ySlot_inb b)).set := by
  refine Rect.mem_set_unit.mpr fun a => ?_
  match a with
  | 0 => exact ⟨by show b.val ≤ (i 0).val; omega, by show (i 0).val < b.val + 1; omega⟩
  | 1 => exact ⟨Nat.zero_le _, by have h : (i 1).val < 512 := (i 1).isLt; show (i 1).val < 0 + 512; omega⟩
  | 2 => exact ⟨Nat.zero_le _, by have h : (i 2).val < 512 := (i 2).isLt; show (i 2).val < 0 + 512; omega⟩
/-- The product of a block, as the program stores it. -/
abbrev yBS (j : Fin 11) : Vec F S1x512x512 .bf16 := yS (gF W) (cbF X) (tbBlk W j) (sCol X)
theorem yS_at (j : Fin 11) (x : S1x512x512.Idx) (i : S2x512x512.Idx) (h1 : (i 1).val = (x 1).val) (h2 : (i 2).val = (x 2).val) : yBS X W j x = ybF X W j i := by
  have hx : x = ix3 (0 : Fin 1) (x 1) (x 2) := ix3_ext (by have h : (x 0).val < 1 := (x 0).isLt; show (x 0).val = 0; omega) rfl rfl
  have e1 : yBS X W j (ix3 (0 : Fin 1) (x 1) (x 2)) = yBlk X W j (ix2 (x 1) (x 2)) := shapeCast_ab_1ab_apply _ _ _ _ _
  refine (congrArg (yBS X W j) hx).trans (e1.trans ?_)
  exact congrArg (yBlk X W j) (ix2_ext h1.symm h2.symm)
theorem mDropY (j : Fin 11) (b : Fin 2) (P : S2x512x512.Idx → Prop) (κ : PU F) (Q : PUnit → sProp 𝕄) :
    Agr c cc0_scratch6 (ySlot b).view.set (ybF X W j) P ⊢ iprop((Agr c cc0_scratch6 (ySlot b).view.set (ybF X W j) P -∗ WP c κ Q) -∗
      WP c (Prog.lift (.load yV (Rect.unit (s := S2x512x512) ![b.val, 0, 0] S1x512x512.size (ySlot_inb b)).toLoadRect (View.loadsAt_vmem h_S1x512x512)) >>= fun _ => κ) Q) :=
  drop_wp c yV (Rect.unit (s := S2x512x512) ![b.val, 0, 0] S1x512x512.size (ySlot_inb b)) (View.loadsAt_vmem h_S1x512x512) (ySlot b).view.set (ybF X W j) P (y_sub b) κ Q
theorem mStoreY (j : Fin 11) (b : Fin 2) (P : S2x512x512.Idx → Prop) (κ : PU F) (Q : PUnit → sProp 𝕄) :
    Agr c cc0_scratch6 (ySlot b).view.set (ybF X W j) P ⊢ iprop((Agr c cc0_scratch6 (ySlot b).view.set (ybF X W j) (fun i => (i 0).val = b.val) -∗ WP c κ Q) -∗
      WP c (Prog.lift (.store yV (Rect.unit (s := S2x512x512) ![b.val, 0, 0] S1x512x512.size (ySlot_inb b)) (yBS X W j) Finset.univ (View.stores_vmem h_S1x512x512 ((Memref.isWhole_whole _).storeExact_slice rfl _ (ySlot_packed b)) (fun _ => rfl)) (.inl rfl)) >>= fun _ => κ) Q) :=
  store_wp c yV (Rect.unit (s := S2x512x512) ![b.val, 0, 0] S1x512x512.size (ySlot_inb b)) (yBS X W j) (View.stores_vmem h_S1x512x512 ((Memref.isWhole_whole _).storeExact_slice rfl _ (ySlot_packed b)) (fun _ => rfl)) (.inl rfl) (ySlot b).view.set (ybF X W j) P (fun i => (i 0).val = b.val) (y_sub b)
    (fun f hf => agree_store (F := F) cc0_scratch6 (Rect.unit (s := S2x512x512) ![b.val, 0, 0] S1x512x512.size (ySlot_inb b)) f (ybF X W j) (yBS X W j) (fun x => yS_at X W j x _
      (by rw [unit_emb_val]; show 0 + 1 * (x 1).val = (x 1).val; omega)
      (by rw [unit_emb_val]; show 0 + 1 * (x 2).val = (x 2).val; omega)) hf (fun i h => .inr (y_cover b i h))) κ Q
theorem mulStep_wp (j : Fin 11) (b : Fin 2) (κ : PU F) (Q : PUnit → sProp 𝕄) :
    iprop(At c cc0_scratch2 Finset.univ (cbF X) ∗ Agr c cc0_scratch5 Finset.univ (tbF W j) (fun i => (i 0).val = b.val) ∗ At c cc0_scratch4 Finset.univ (srF X)
        ∗ Ex c cc0_scratch6 (ySlot b).view.set)
      ⊢ iprop((iprop(At c cc0_scratch2 Finset.univ (cbF X) ∗ Ex c cc0_scratch5 Finset.univ ∗ At c cc0_scratch4 Finset.univ (srF X)
          ∗ At c cc0_scratch6 (ySlot b).view.set (ybF X W j)) -∗ WP c κ Q) -∗ WP c (mulStep b (gF W) κ) Q) := by
  unfold mulStep
  iintro ⟨Hc, Ht, Hs, Hy⟩ Hk
  iapply (mLoadC c X _ _) $$ Hc
  iintro Hc
  iapply (mLoadT c W j b _ _) $$ Ht
  iintro Ht
  iapply (mLoadS c X _ _) $$ Hs
  iintro Hs
  ihave Hy := (ex_agr c cc0_scratch6 (ySlot b).view.set (ybF X W j) (fun _ => False) (fun _ h => h)) $$ Hy
  iapply (mDropY c X W j b _ _ _) $$ Hy
  iintro Hy
  iapply (mStoreY c X W j b _ _ _) $$ Hy
  iintro Hy
  iapply Hk
  isplitl [Hc]; · iexact Hc
  isplitl [Ht]; · iexact Ht
  isplitl [Hs]; · iexact Hs
  iapply (agr_at c cc0_scratch6 (ySlot b).view.set (ybF X W j) _ (fun i h => (mem_ySlot b i).mp h)); iexact Hy

/-! ## A column block -/

/-- What a block's computation keeps from block to block. -/
abbrev Keep : sProp 𝕄 :=
  iprop(At c cc0_scratch2 Finset.univ (cbF X) ∗ Ex c cc0_scratch5 Finset.univ ∗ At c cc0_scratch4 Finset.univ (srF X))
/-- What it takes of slot `b`, and of the results. -/
abbrev Slot (b : Fin 2) : sProp 𝕄 :=
  iprop(Ex c cc0_scratch6 (ySlot b).view.set ∗ Ex c cc0_scratch7 (pSlot b).view.set ∗ Z c (ySem b) ∗ Z c (pSem b))
abbrev Dest (j : Fin 11) : sProp 𝕄 := iprop(Ex c main_v1_0 (yCol j).view.set ∗ Ex c main_v1_1 (pCol j).view.set)
abbrev Done (j : Fin 11) : sProp 𝕄 := iprop(At c main_v1_0 (yCol j).view.set (yF X W) ∗ At c main_v1_1 (pCol j).view.set (pF W))
abbrev Out (j : Fin 11) (b : Fin 2) : sProp 𝕄 := iprop(fY c X W j b ∗ fP c W j b)

theorem outBlock_wp (j : Fin 11) (b : Fin 2) (κ : PU F) (Q : PUnit → sProp 𝕄) :
    iprop(At c cc0_scratch1 (wSlot j).view.set (wvF W) ∗ Keep c X ∗ Slot (F := F) c b ∗ Dest (F := F) c j)
      ⊢ iprop((iprop(At c cc0_scratch1 (wSlot j).view.set (wvF W) ∗ Keep c X ∗ Out c X W j b) -∗ WP c κ Q) -∗ WP c (outBlock j b (gF W) κ) Q) := by
  unfold outBlock
  iintro ⟨Hw, ⟨Hc, Ht, Hs⟩, ⟨Hy, Hp, Hzy, Hzp⟩, ⟨Hdy, Hdp⟩⟩ Hk
  iapply (ternLoop_wp c W j b _ _) $$ [Hw Ht Hp]
  · isplitl [Hw]; · iexact Hw
    isplitl [Ht] <;> iassumption
  iintro ⟨Hw, Ht, Hp⟩
  iapply (startP_wp c W j b _ _) $$ [Hp Hdp Hzp]
  · isplitl [Hp]; · iexact Hp
    isplitl [Hdp] <;> iassumption
  iintro Hfp
  iapply (mulStep_wp c X W j b _ _) $$ [Hc Ht Hs Hy]
  · isplitl [Hc]; · iexact Hc
    isplitl [Ht]; · iexact Ht
    isplitl [Hs] <;> iassumption
  iintro ⟨Hc, Ht, Hs, Hy⟩
  iapply (startY_wp c X W j b _ _) $$ [Hy Hdy Hzy]
  · isplitl [Hy]; · iexact Hy
    isplitl [Hdy] <;> iassumption
  iintro Hfy
  iapply Hk
  isplitl [Hw]; · iexact Hw
  isplitl [Hc Ht Hs]
  · isplitl [Hc]; · iexact Hc
    isplitl [Ht] <;> iassumption
  isplitl [Hfy] <;> iassumption

/-- Both copies of block `j` waited for. -/
theorem waitOut_wp (j : Fin 11) (b : Fin 2) (κ : PU F) (Q : PUnit → sProp 𝕄) :
    iprop(Out c X W j b ∗ Ow c) ⊢ iprop((iprop(Done c X W j ∗ Slot (F := F) c b ∗ Ow c) -∗ WP c κ Q) -∗ WP c (waitY j b <| waitP j b κ) Q) := by
  iintro ⟨⟨Hy, Hp⟩, Ho⟩ Hk
  iapply (waitY_wp c X W j b _ _) $$ [Hy Ho]
  · isplitl [Hy] <;> iassumption
  iintro ⟨⟨Hdy, Hsy⟩, Hzy, Ho⟩
  iapply (waitP_wp c W j b _ _) $$ [Hp Ho]
  · isplitl [Hp] <;> iassumption
  iintro ⟨⟨Hdp, Hsp⟩, Hzp, Ho⟩
  iapply Hk
  isplitl [Hdy Hdp]
  · isplitl [Hdy] <;> iassumption
  isplitr [Ho]
  · isplitl [Hsy]; · iapply (at_ex c cc0_scratch6 (ySlot b).view.set (ybF X W j)); iexact Hsy
    isplitl [Hsp]; · iapply (at_ex c cc0_scratch7 (pSlot b).view.set (pbF W j)); iexact Hsp
    isplitl [Hzy] <;> iassumption
  iexact Ho

end Cert.KernelIdeal.Body

end
-- ==== Proof.KernelIdeal.Stages.lean ====
/- The whole body: from the buffers it is given to the buffers it leaves. -/
module

public import proofs.«01_k».proof.Proof.KernelIdeal.Blocks

@[expose] public section

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (X : XT F) (W : WT F)

/-! ## A buffer as its blocks -/

theorem fam (b : Ref sig .tc) {n : Nat} (K : Fin n → Finset b.ty.Idx) (k : b.ty.Idx → Nat) (hk : ∀ j i, i ∈ K j ↔ k i = j.val) (hlt : ∀ i, k i < n) (f : b.ty.Contents (Elt F)) :
    At c b Finset.univ f = bigSep Finset.univ (fun j => At c b (K j) f) := by
  classical
  refine Eq.trans ?_ (pointsTo_biUnion (ℓ := (c : Thread nD τ).loc b) Finset.univ K (fun t _ t' _ h => Finset.disjoint_left.mpr fun i h1 h2 => h (Fin.ext (((hk t i).mp h1).symm.trans ((hk t' i).mp h2)))))
  rw [show Finset.univ.biUnion K = Finset.univ from by
    ext i
    simp only [Finset.mem_univ, Finset.mem_biUnion, true_and, iff_true]
    exact ⟨⟨k i, hlt i⟩, (hk _ i).mpr rfl⟩]
/-- The eleven of a family, and the two. -/
abbrev C11 (Φ : Fin 11 → sProp 𝕄) : sProp 𝕄 := iprop(Φ 0 ∗ Φ 1 ∗ Φ 2 ∗ Φ 3 ∗ Φ 4 ∗ Φ 5 ∗ Φ 6 ∗ Φ 7 ∗ Φ 8 ∗ Φ 9 ∗ Φ 10)
abbrev C2 (Φ : Fin 2 → sProp 𝕄) : sProp 𝕄 := iprop(Φ 0 ∗ Φ 1)
theorem big11 (Φ : Fin 11 → sProp 𝕄) : bigSep Finset.univ Φ = C11 Φ :=
  bigSep_univ_eq_bigSepL [0, 1, 2, 3, 4, 5, 6, 7, 8, 9, 10] (by decide) (by decide) Φ
theorem big2 (Φ : Fin 2 → sProp 𝕄) : bigSep Finset.univ Φ = C2 Φ :=
  bigSep_univ_eq_bigSepL [0, 1] (by decide) (by decide) Φ

theorem wCols (f : WT F) : At c main_arg1 Finset.univ f = C11 fun j => At c main_arg1 (wCol j).view.set f :=
  (fam c main_arg1 (fun j => (wCol j).view.set) (fun i : S2048x5632.Idx => (i 1).val / 512) mem_wCol (fun i => by have h : (i 1).val < 5632 := (i 1).isLt; show (i 1).val / 512 < 11; omega) f).trans (big11 _)
theorem yCols (f : S512x5632.Idx → F .bf16) : At c main_v1_0 Finset.univ f = C11 fun j => At c main_v1_0 (yCol j).view.set f :=
  (fam c main_v1_0 (fun j => (yCol j).view.set) (fun i : S512x5632.Idx => (i 1).val / 512) mem_yCol (fun i => by have h : (i 1).val < 5632 := (i 1).isLt; show (i 1).val / 512 < 11; omega) f).trans (big11 _)
theorem pCols (f : S2048x1408.Idx → BitVec 8) : At (F := F) c main_v1_1 Finset.univ f = C11 fun j => At (F := F) c main_v1_1 (pCol j).view.set f :=
  (fam c main_v1_1 (fun j => (pCol j).view.set) (fun i : S2048x1408.Idx => (i 1).val / 128) mem_pCol (fun i => by have h : (i 1).val < 1408 := (i 1).isLt; show (i 1).val / 128 < 11; omega) f).trans (big11 _)
theorem wSlots (f : S11x2048x512.Idx → F .bf16) : At c cc0_scratch1 Finset.univ f = C11 fun j => At c cc0_scratch1 (wSlot j).view.set f :=
  (fam c cc0_scratch1 (fun j => (wSlot j).view.set) (fun i : S11x2048x512.Idx => (i 0).val) mem_wSlot (fun i => (i 0).isLt) f).trans (big11 _)
theorem ySlots (f : S2x512x512.Idx → F .bf16) : At c cc0_scratch6 Finset.univ f = C2 fun b => At c cc0_scratch6 (ySlot b).view.set f :=
  (fam c cc0_scratch6 (fun b => (ySlot b).view.set) (fun i : S2x512x512.Idx => (i 0).val) mem_ySlot (fun i => (i 0).isLt) f).trans (big2 _)
theorem pSlots (f : S2x2048x128.Idx → BitVec 8) : At (F := F) c cc0_scratch7 Finset.univ f = C2 fun b => At (F := F) c cc0_scratch7 (pSlot b).view.set f :=
  (fam c cc0_scratch7 (fun b => (pSlot b).view.set) (fun i : S2x2048x128.Idx => (i 0).val) mem_pSlot (fun i => (i 0).isLt) f).trans (big2 _)

theorem C11_mono {Φ Ψ : Fin 11 → sProp 𝕄} (h : ∀ j, Φ j ⊢ Ψ j) : C11 Φ ⊢ C11 Ψ :=
  BIClass.sep_mono (h 0) (BIClass.sep_mono (h 1) (BIClass.sep_mono (h 2) (BIClass.sep_mono (h 3) (BIClass.sep_mono (h 4) (BIClass.sep_mono (h 5) (BIClass.sep_mono (h 6) (BIClass.sep_mono (h 7) (BIClass.sep_mono (h 8) (BIClass.sep_mono (h 9) (h 10))))))))))
/-- A buffer at some contents, as its blocks each at some contents. -/
theorem yColsEx : Ex (F := F) c main_v1_0 Finset.univ ⊢ C11 fun j => Ex (F := F) c main_v1_0 (yCol j).view.set := by
  iintro ⟨%f, H⟩
  iapply (C11_mono (F := F) fun j => at_ex c main_v1_0 (yCol j).view.set f)
  iapply (Entails.of_eq (yCols c f)); iexact H
theorem pColsEx : Ex (F := F) c main_v1_1 Finset.univ ⊢ C11 fun j => Ex (F := F) c main_v1_1 (pCol j).view.set := by
  iintro ⟨%f, H⟩
  iapply (C11_mono (F := F) fun j => at_ex c main_v1_1 (pCol j).view.set f)
  iapply (Entails.of_eq (pCols c f)); iexact H
theorem wSlotsEx : Ex (F := F) c cc0_scratch1 Finset.univ ⊢ C11 fun j => Ex (F := F) c cc0_scratch1 (wSlot j).view.set := by
  iintro ⟨%f, H⟩
  iapply (C11_mono (F := F) fun j => at_ex c cc0_scratch1 (wSlot j).view.set f)
  iapply (Entails.of_eq (wSlots c f)); iexact H
theorem ySlotsEx : Ex (F := F) c cc0_scratch6 Finset.univ ⊢ C2 fun b => Ex (F := F) c cc0_scratch6 (ySlot b).view.set := by
  iintro ⟨%f, H⟩
  iapply (BIClass.sep_mono (at_ex c cc0_scratch6 (ySlot 0).view.set f) (at_ex c cc0_scratch6 (ySlot 1).view.set f))
  iapply (Entails.of_eq (ySlots c f)); iexact H
theorem pSlotsEx : Ex (F := F) c cc0_scratch7 Finset.univ ⊢ C2 fun b => Ex (F := F) c cc0_scratch7 (pSlot b).view.set := by
  iintro ⟨%f, H⟩
  iapply (BIClass.sep_mono (at_ex c cc0_scratch7 (pSlot 0).view.set f) (at_ex c cc0_scratch7 (pSlot 1).view.set f))
  iapply (Entails.of_eq (pSlots c f)); iexact H
/-- And back. -/
theorem joinEx (b : Ref sig .tc) (K : Fin 2 → Finset b.ty.Idx) (k : b.ty.Idx → Nat) (hk : ∀ j i, i ∈ K j ↔ k i = j.val) (hlt : ∀ i, k i < 2) :
    C2 (fun j => Ex (F := F) c b (K j)) ⊢ Ex (F := F) c b Finset.univ := by
  iintro ⟨⟨%f0, H0⟩, ⟨%f1, H1⟩⟩
  ihave H := (pointsTo_join (ℓ := (c : Thread nD τ).loc b) (I := K 0) (J := K 1) (f := f0) (g := f1) (Finset.disjoint_left.mpr fun i h1 h2 => by
    have e1 := (hk 0 i).mp h1
    have e2 := (hk 1 i).mp h2
    exact absurd (e1.symm.trans e2) (by decide))) $$ [H0 H1]
  · isplitl [H0] <;> iassumption
  have e : K 0 ∪ K 1 = Finset.univ := by
    ext i
    have h := hlt i
    simp only [Finset.mem_union, Finset.mem_univ, iff_true]
    rcases Nat.lt_or_ge (k i) 1 with h' | h'
    · exact .inl ((hk 0 i).mpr (by show k i = 0; omega))
    · exact .inr ((hk 1 i).mpr (by show k i = 1; omega))
  rw [e]
  iexists _
  iexact H

/-! ## Copies of all blocks -/

theorem startWs_wp (κ : PU F) (Q : PUnit → sProp 𝕄) :
    iprop((C11 fun j => At c main_arg1 (wCol j).view.set W) ∗ (C11 fun j => Ex (F := F) c cc0_scratch1 (wSlot j).view.set) ∗ C11 fun j => Z (F := F) c (wSem j))
      ⊢ iprop(((C11 fun j => fW c W j) -∗ WP c κ Q)
        -∗ WP c (startW 0 <| startW 1 <| startW 2 <| startW 3 <| startW 4 <| startW 5 <| startW 6 <| startW 7 <| startW 8 <| startW 9 <| startW 10 κ) Q) := by
  iintro ⟨⟨Hh0, Hh1, Hh2, Hh3, Hh4, Hh5, Hh6, Hh7, Hh8, Hh9, Hh10⟩, ⟨Hv0, Hv1, Hv2, Hv3, Hv4, Hv5, Hv6, Hv7, Hv8, Hv9, Hv10⟩, ⟨Hz0, Hz1, Hz2, Hz3, Hz4, Hz5, Hz6, Hz7, Hz8, Hz9, Hz10⟩⟩ Hk
  iapply (startW_wp c W 0 _ _) $$ [Hh0 Hv0 Hz0]
  · isplitl [Hh0]; · iexact Hh0
    isplitl [Hv0] <;> iassumption
  iintro Hf0
  iapply (startW_wp c W 1 _ _) $$ [Hh1 Hv1 Hz1]
  · isplitl [Hh1]; · iexact Hh1
    isplitl [Hv1] <;> iassumption
  iintro Hf1
  iapply (startW_wp c W 2 _ _) $$ [Hh2 Hv2 Hz2]
  · isplitl [Hh2]; · iexact Hh2
    isplitl [Hv2] <;> iassumption
  iintro Hf2
  iapply (startW_wp c W 3 _ _) $$ [Hh3 Hv3 Hz3]
  · isplitl [Hh3]; · iexact Hh3
    isplitl [Hv3] <;> iassumption
  iintro Hf3
  iapply (startW_wp c W 4 _ _) $$ [Hh4 Hv4 Hz4]
  · isplitl [Hh4]; · iexact Hh4
    isplitl [Hv4] <;> iassumption
  iintro Hf4
  iapply (startW_wp c W 5 _ _) $$ [Hh5 Hv5 Hz5]
  · isplitl [Hh5]; · iexact Hh5
    isplitl [Hv5] <;> iassumption
  iintro Hf5
  iapply (startW_wp c W 6 _ _) $$ [Hh6 Hv6 Hz6]
  · isplitl [Hh6]; · iexact Hh6
    isplitl [Hv6] <;> iassumption
  iintro Hf6
  iapply (startW_wp c W 7 _ _) $$ [Hh7 Hv7 Hz7]
  · isplitl [Hh7]; · iexact Hh7
    isplitl [Hv7] <;> iassumption
  iintro Hf7
  iapply (startW_wp c W 8 _ _) $$ [Hh8 Hv8 Hz8]
  · isplitl [Hh8]; · iexact Hh8
    isplitl [Hv8] <;> iassumption
  iintro Hf8
  iapply (startW_wp c W 9 _ _) $$ [Hh9 Hv9 Hz9]
  · isplitl [Hh9]; · iexact Hh9
    isplitl [Hv9] <;> iassumption
  iintro Hf9
  iapply (startW_wp c W 10 _ _) $$ [Hh10 Hv10 Hz10]
  · isplitl [Hh10]; · iexact Hh10
    isplitl [Hv10] <;> iassumption
  iintro Hf10
  iapply Hk
  isplitl [Hf0]; · iexact Hf0
  isplitl [Hf1]; · iexact Hf1
  isplitl [Hf2]; · iexact Hf2
  isplitl [Hf3]; · iexact Hf3
  isplitl [Hf4]; · iexact Hf4
  isplitl [Hf5]; · iexact Hf5
  isplitl [Hf6]; · iexact Hf6
  isplitl [Hf7]; · iexact Hf7
  isplitl [Hf8]; · iexact Hf8
  isplitl [Hf9]; · iexact Hf9
  iexact Hf10

theorem accB_succ (n : Nat) (h : n < 11) : accB W (n + 1) = accN W ⟨n, h⟩ (accB W n) 64 := by
  show (if h : n < 11 then _ else _) = _
  rw [dif_pos h]
theorem sumB_wp (j : Fin 11) (n : Nat) (hj : j.val = n) (κ : FVec F S32x512 .f32 → PU F) (Q : PUnit → sProp 𝕄) :
    iprop(fW c W j ∗ Ow (F := F) c) ⊢ iprop((iprop(dW c W j ∗ Z (F := F) c (wSem j) ∗ Ow (F := F) c) -∗ WP c (κ (accB W (n + 1))) Q) -∗ WP c (sumBlock j (accB W n) κ) Q) := by
  subst hj
  rw [accB_succ W j.val j.isLt]
  exact sumBlock_wp c W j (accB W j.val) κ Q
/-- All of the sum. -/
theorem sums_wp (κ : FVec F S32x512 .f32 → PU F) (Q : PUnit → sProp 𝕄) :
    iprop((C11 fun j => fW c W j) ∗ Ow (F := F) c)
      ⊢ iprop((iprop((C11 fun j => At c cc0_scratch1 (wSlot j).view.set (wvF W)) ∗ (C11 fun j => At c main_arg1 (wCol j).view.set W) ∗ (C11 fun j => Z (F := F) c (wSem j)) ∗ Ow (F := F) c)
          -∗ WP c (κ (accB W 11)) Q)
        -∗ WP c (sumBlock 0 acc0 fun a0 => sumBlock 1 a0 fun a1 => sumBlock 2 a1 fun a2 => sumBlock 3 a2 fun a3 => sumBlock 4 a3 fun a4 => sumBlock 5 a4 fun a5 =>
          sumBlock 6 a5 fun a6 => sumBlock 7 a6 fun a7 => sumBlock 8 a7 fun a8 => sumBlock 9 a8 fun a9 => sumBlock 10 a9 κ) Q) := by
  iintro ⟨⟨Hf0, Hf1, Hf2, Hf3, Hf4, Hf5, Hf6, Hf7, Hf8, Hf9, Hf10⟩, Ho⟩ Hk
  iapply (sumB_wp c W 0 0 rfl _ _) $$ [Hf0 Ho]
  · isplitl [Hf0] <;> iassumption
  iintro ⟨⟨Hw0, Hh0⟩, Hz0, Ho⟩
  iapply (sumB_wp c W 1 1 rfl _ _) $$ [Hf1 Ho]
  · isplitl [Hf1] <;> iassumption
  iintro ⟨⟨Hw1, Hh1⟩, Hz1, Ho⟩
  iapply (sumB_wp c W 2 2 rfl _ _) $$ [Hf2 Ho]
  · isplitl [Hf2] <;> iassumption
  iintro ⟨⟨Hw2, Hh2⟩, Hz2, Ho⟩
  iapply (sumB_wp c W 3 3 rfl _ _) $$ [Hf3 Ho]
  · isplitl [Hf3] <;> iassumption
  iintro ⟨⟨Hw3, Hh3⟩, Hz3, Ho⟩
  iapply (sumB_wp c W 4 4 rfl _ _) $$ [Hf4 Ho]
  · isplitl [Hf4] <;> iassumption
  iintro ⟨⟨Hw4, Hh4⟩, Hz4, Ho⟩
  iapply (sumB_wp c W 5 5 rfl _ _) $$ [Hf5 Ho]
  · isplitl [Hf5] <;> iassumption
  iintro ⟨⟨Hw5, Hh5⟩, Hz5, Ho⟩
  iapply (sumB_wp c W 6 6 rfl _ _) $$ [Hf6 Ho]
  · isplitl [Hf6] <;> iassumption
  iintro ⟨⟨Hw6, Hh6⟩, Hz6, Ho⟩
  iapply (sumB_wp c W 7 7 rfl _ _) $$ [Hf7 Ho]
  · isplitl [Hf7] <;> iassumption
  iintro ⟨⟨Hw7, Hh7⟩, Hz7, Ho⟩
  iapply (sumB_wp c W 8 8 rfl _ _) $$ [Hf8 Ho]
  · isplitl [Hf8] <;> iassumption
  iintro ⟨⟨Hw8, Hh8⟩, Hz8, Ho⟩
  iapply (sumB_wp c W 9 9 rfl _ _) $$ [Hf9 Ho]
  · isplitl [Hf9] <;> iassumption
  iintro ⟨⟨Hw9, Hh9⟩, Hz9, Ho⟩
  iapply (sumB_wp c W 10 10 rfl _ _) $$ [Hf10 Ho]
  · isplitl [Hf10] <;> iassumption
  iintro ⟨⟨Hw10, Hh10⟩, Hz10, Ho⟩
  iapply Hk
  isplitl [Hw0 Hw1 Hw2 Hw3 Hw4 Hw5 Hw6 Hw7 Hw8 Hw9 Hw10]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    iexact Hw10
  isplitl [Hh0 Hh1 Hh2 Hh3 Hh4 Hh5 Hh6 Hh7 Hh8 Hh9 Hh10]
  · isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    iexact Hh10
  isplitl [Hz0 Hz1 Hz2 Hz3 Hz4 Hz5 Hz6 Hz7 Hz8 Hz9 Hz10]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    iexact Hz10
  iexact Ho

/-- All of the column blocks, two in flight. -/
theorem blocks_wp (κ : PU F) (Q : PUnit → sProp 𝕄) :
    iprop((C11 fun j => At c cc0_scratch1 (wSlot j).view.set (wvF W)) ∗ Keep c X ∗ C2 (fun b => Slot (F := F) c b) ∗ (C11 fun j => Dest (F := F) c j) ∗ Ow (F := F) c)
      ⊢ iprop((iprop((C11 fun j => At c cc0_scratch1 (wSlot j).view.set (wvF W)) ∗ Keep c X ∗ C2 (fun b => Slot (F := F) c b) ∗ (C11 fun j => Done c X W j) ∗ Ow (F := F) c) -∗ WP c κ Q)
        -∗ WP c (outBlock 0 0 (gF W) <| outBlock 1 1 (gF W) <| waitY 0 0 <| waitP 0 0 <| outBlock 2 0 (gF W) <| waitY 1 1 <| waitP 1 1 <| outBlock 3 1 (gF W) <| waitY 2 0 <| waitP 2 0 <| outBlock 4 0 (gF W) <| waitY 3 1 <| waitP 3 1 <| outBlock 5 1 (gF W) <| waitY 4 0 <| waitP 4 0 <| outBlock 6 0 (gF W) <| waitY 5 1 <| waitP 5 1 <| outBlock 7 1 (gF W) <| waitY 6 0 <| waitP 6 0 <| outBlock 8 0 (gF W) <| waitY 7 1 <| waitP 7 1 <| outBlock 9 1 (gF W) <| waitY 8 0 <| waitP 8 0 <| outBlock 10 0 (gF W) <| waitY 9 1 <| waitP 9 1 <| waitY 10 0 <| waitP 10 0 κ) Q) := by
  iintro ⟨⟨Hw0, Hw1, Hw2, Hw3, Hw4, Hw5, Hw6, Hw7, Hw8, Hw9, Hw10⟩, Hk, ⟨Hs0, Hs1⟩, ⟨Hd0, Hd1, Hd2, Hd3, Hd4, Hd5, Hd6, Hd7, Hd8, Hd9, Hd10⟩, Ho⟩ HK
  iapply (outBlock_wp c X W 0 0 _ _) $$ [Hw0 Hk Hs0 Hd0]
  · isplitl [Hw0]; · iexact Hw0
    isplitl [Hk]; · iexact Hk
    isplitl [Hs0] <;> iassumption
  iintro ⟨Hw0, Hk, Hs0⟩
  iapply (outBlock_wp c X W 1 1 _ _) $$ [Hw1 Hk Hs1 Hd1]
  · isplitl [Hw1]; · iexact Hw1
    isplitl [Hk]; · iexact Hk
    isplitl [Hs1] <;> iassumption
  iintro ⟨Hw1, Hk, Hs1⟩
  iapply (waitOut_wp c X W 0 0 _ _) $$ [Hs0 Ho]
  · isplitl [Hs0] <;> iassumption
  iintro ⟨Hd0, Hs0, Ho⟩
  iapply (outBlock_wp c X W 2 0 _ _) $$ [Hw2 Hk Hs0 Hd2]
  · isplitl [Hw2]; · iexact Hw2
    isplitl [Hk]; · iexact Hk
    isplitl [Hs0] <;> iassumption
  iintro ⟨Hw2, Hk, Hs0⟩
  iapply (waitOut_wp c X W 1 1 _ _) $$ [Hs1 Ho]
  · isplitl [Hs1] <;> iassumption
  iintro ⟨Hd1, Hs1, Ho⟩
  iapply (outBlock_wp c X W 3 1 _ _) $$ [Hw3 Hk Hs1 Hd3]
  · isplitl [Hw3]; · iexact Hw3
    isplitl [Hk]; · iexact Hk
    isplitl [Hs1] <;> iassumption
  iintro ⟨Hw3, Hk, Hs1⟩
  iapply (waitOut_wp c X W 2 0 _ _) $$ [Hs0 Ho]
  · isplitl [Hs0] <;> iassumption
  iintro ⟨Hd2, Hs0, Ho⟩
  iapply (outBlock_wp c X W 4 0 _ _) $$ [Hw4 Hk Hs0 Hd4]
  · isplitl [Hw4]; · iexact Hw4
    isplitl [Hk]; · iexact Hk
    isplitl [Hs0] <;> iassumption
  iintro ⟨Hw4, Hk, Hs0⟩
  iapply (waitOut_wp c X W 3 1 _ _) $$ [Hs1 Ho]
  · isplitl [Hs1] <;> iassumption
  iintro ⟨Hd3, Hs1, Ho⟩
  iapply (outBlock_wp c X W 5 1 _ _) $$ [Hw5 Hk Hs1 Hd5]
  · isplitl [Hw5]; · iexact Hw5
    isplitl [Hk]; · iexact Hk
    isplitl [Hs1] <;> iassumption
  iintro ⟨Hw5, Hk, Hs1⟩
  iapply (waitOut_wp c X W 4 0 _ _) $$ [Hs0 Ho]
  · isplitl [Hs0] <;> iassumption
  iintro ⟨Hd4, Hs0, Ho⟩
  iapply (outBlock_wp c X W 6 0 _ _) $$ [Hw6 Hk Hs0 Hd6]
  · isplitl [Hw6]; · iexact Hw6
    isplitl [Hk]; · iexact Hk
    isplitl [Hs0] <;> iassumption
  iintro ⟨Hw6, Hk, Hs0⟩
  iapply (waitOut_wp c X W 5 1 _ _) $$ [Hs1 Ho]
  · isplitl [Hs1] <;> iassumption
  iintro ⟨Hd5, Hs1, Ho⟩
  iapply (outBlock_wp c X W 7 1 _ _) $$ [Hw7 Hk Hs1 Hd7]
  · isplitl [Hw7]; · iexact Hw7
    isplitl [Hk]; · iexact Hk
    isplitl [Hs1] <;> iassumption
  iintro ⟨Hw7, Hk, Hs1⟩
  iapply (waitOut_wp c X W 6 0 _ _) $$ [Hs0 Ho]
  · isplitl [Hs0] <;> iassumption
  iintro ⟨Hd6, Hs0, Ho⟩
  iapply (outBlock_wp c X W 8 0 _ _) $$ [Hw8 Hk Hs0 Hd8]
  · isplitl [Hw8]; · iexact Hw8
    isplitl [Hk]; · iexact Hk
    isplitl [Hs0] <;> iassumption
  iintro ⟨Hw8, Hk, Hs0⟩
  iapply (waitOut_wp c X W 7 1 _ _) $$ [Hs1 Ho]
  · isplitl [Hs1] <;> iassumption
  iintro ⟨Hd7, Hs1, Ho⟩
  iapply (outBlock_wp c X W 9 1 _ _) $$ [Hw9 Hk Hs1 Hd9]
  · isplitl [Hw9]; · iexact Hw9
    isplitl [Hk]; · iexact Hk
    isplitl [Hs1] <;> iassumption
  iintro ⟨Hw9, Hk, Hs1⟩
  iapply (waitOut_wp c X W 8 0 _ _) $$ [Hs0 Ho]
  · isplitl [Hs0] <;> iassumption
  iintro ⟨Hd8, Hs0, Ho⟩
  iapply (outBlock_wp c X W 10 0 _ _) $$ [Hw10 Hk Hs0 Hd10]
  · isplitl [Hw10]; · iexact Hw10
    isplitl [Hk]; · iexact Hk
    isplitl [Hs0] <;> iassumption
  iintro ⟨Hw10, Hk, Hs0⟩
  iapply (waitOut_wp c X W 9 1 _ _) $$ [Hs1 Ho]
  · isplitl [Hs1] <;> iassumption
  iintro ⟨Hd9, Hs1, Ho⟩
  iapply (waitOut_wp c X W 10 0 _ _) $$ [Hs0 Ho]
  · isplitl [Hs0] <;> iassumption
  iintro ⟨Hd10, Hs0, Ho⟩
  iapply HK
  isplitl [Hw0 Hw1 Hw2 Hw3 Hw4 Hw5 Hw6 Hw7 Hw8 Hw9 Hw10]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    iexact Hw10
  isplitl [Hk]; · iexact Hk
  isplitl [Hs0 Hs1]
  · isplitl [Hs0] <;> iassumption
  isplitl [Hd0 Hd1 Hd2 Hd3 Hd4 Hd5 Hd6 Hd7 Hd8 Hd9 Hd10]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    iexact Hd10
  iexact Ho

end Cert.KernelIdeal.Body

end
-- ==== Proof.KernelIdeal.BodyWp.lean ====
/- The whole body: from the buffers it is given to the buffers it leaves. -/
module

public import proofs.«01_k».proof.Proof.KernelIdeal.Stages

@[expose] public section

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (X : XT F) (W : WT F)

/-- The scratch buffers, each whole at some contents. -/
abbrev Scr : sProp 𝕄 := iprop(Ex (F := F) c cc0_scratch0 Finset.univ ∗ Ex (F := F) c cc0_scratch1 Finset.univ ∗ Ex (F := F) c cc0_scratch2 Finset.univ
  ∗ Ex (F := F) c cc0_scratch3 Finset.univ ∗ Ex (F := F) c cc0_scratch4 Finset.univ ∗ Ex (F := F) c cc0_scratch5 Finset.univ
  ∗ Ex (F := F) c cc0_scratch6 Finset.univ ∗ Ex (F := F) c cc0_scratch7 Finset.univ)
/-- The copies' cells, each at zero. -/
abbrev Cells : sProp 𝕄 := iprop(Z (F := F) c cc0_scratch8.sem ∗ (C11 fun j => Z (F := F) c (wSem j)) ∗ Z (F := F) c cc0_scratch10.sem
  ∗ (C2 fun b => Z (F := F) c (ySem b)) ∗ C2 fun b => Z (F := F) c (pSem b))
/-- What the body is given. -/
abbrev Given : sProp 𝕄 := iprop(Scr (F := F) c ∗ Cells (F := F) c ∗ (At c main_v0 Finset.univ X ∗ At c main_arg1 Finset.univ W)
  ∗ (Ex (F := F) c main_v1_0 Finset.univ ∗ Ex (F := F) c main_v1_1 Finset.univ ∗ Ex (F := F) c main_v1_3 Finset.univ)
  ∗ (Ex (F := F) c cc0_stg0_0 Finset.univ ∗ Ex (F := F) c cc0_stg1_0 Finset.univ) ∗ Ow (F := F) c)
/-- What the body leaves. -/
abbrev Left : sProp 𝕄 := iprop(Scr (F := F) c ∗ Cells (F := F) c ∗ (At c main_v0 Finset.univ X ∗ At c main_arg1 Finset.univ W)
  ∗ (At c main_v1_0 Finset.univ (yF X W) ∗ At (F := F) c main_v1_1 Finset.univ (pF W) ∗ At (F := F) c main_v1_3 Finset.univ (ciF X))
  ∗ (At c cc0_stg0_0 Finset.univ (fun _ => gF W) ∗ At c cc0_stg1_0 Finset.univ (scF X)) ∗ Ow (F := F) c)

theorem not_sP0 (i : S2x256.Idx) : ¬ sP 0 i := by unfold sP; omega
theorem sP4 (i : S2x256.Idx) : sP 4 i := by
  have h : (i 0).val < 2 := (i 0).isLt
  have h' : (i 1).val < 256 := (i 1).isLt
  unfold sP; omega

theorem scaleAt_wp (k : Fin 4) (n : Nat) (hk : k.val = n) (κ : PU F) (Q : PUnit → sProp 𝕄) :
    iprop(At c cc0_scratch4 Finset.univ (srF X) ∗ Agr c cc0_stg1_0 Finset.univ (scF X) (sP n))
      ⊢ iprop((iprop(At c cc0_scratch4 Finset.univ (srF X) ∗ Agr c cc0_stg1_0 Finset.univ (scF X) (sP (n + 1))) -∗ WP c κ Q) -∗ WP c (scaleStep k κ) Q) := by
  subst hk
  exact scaleStep_wp c X k κ Q

theorem body_wp (Q : PUnit → sProp 𝕄) : Given c X W ⊢ iprop((Left c X W -∗ Q ⟨⟩) -∗ WP c (prog (F := F)) Q) := by
  unfold prog
  iintro ⟨⟨S0, S1, S2, S3, S4, S5, S6, S7⟩, ⟨ZX, ZW, ZC, ⟨ZY0, ZY1⟩, ⟨ZP0, ZP1⟩⟩, ⟨HX, HW⟩, ⟨HY, HP, HC⟩, ⟨HG, HS⟩, Ho⟩ HK
  ihave HW := (Entails.of_eq (wCols c W)) $$ HW
  ihave S1 := (wSlotsEx (F := F) c) $$ S1
  ihave S6 := (ySlotsEx (F := F) c) $$ S6
  ihave S7 := (pSlotsEx (F := F) c) $$ S7
  ihave HY := (yColsEx (F := F) c) $$ HY
  ihave HP := (pColsEx (F := F) c) $$ HP
  iapply (startX_wp c X _ _) $$ [HX S0 ZX]
  · isplitl [HX]; · iexact HX
    isplitl [S0] <;> iassumption
  iintro FX
  iapply (startWs_wp c W _ _) $$ [HW S1 ZW]
  · isplitl [HW]; · iexact HW
    isplitl [S1] <;> iassumption
  iintro FW
  iapply (waitX_wp c X _ _) $$ [FX Ho]
  · isplitl [FX] <;> iassumption
  iintro ⟨⟨S0, HX⟩, ZX, Ho⟩
  iapply (quant_wp c X _ _) $$ [S0 S2 S3 S4]
  · isplitl [S0]; · iexact S0
    isplitl [S2]; · iexact S2
    isplitl [S3] <;> iassumption
  iintro ⟨S0, S2, S3, S4⟩
  iapply (startC_wp c X _ _) $$ [S3 HC ZC]
  · isplitl [S3]; · iexact S3
    isplitl [HC] <;> iassumption
  iintro FC
  ihave HS := (ex_agr c cc0_stg1_0 Finset.univ (scF X) (sP 0) not_sP0) $$ HS
  iapply (scaleAt_wp c X 0 0 rfl _ _) $$ [S4 HS]
  · isplitl [S4] <;> iassumption
  iintro ⟨S4, HS⟩
  iapply (scaleAt_wp c X 1 1 rfl _ _) $$ [S4 HS]
  · isplitl [S4] <;> iassumption
  iintro ⟨S4, HS⟩
  iapply (scaleAt_wp c X 2 2 rfl _ _) $$ [S4 HS]
  · isplitl [S4] <;> iassumption
  iintro ⟨S4, HS⟩
  iapply (scaleAt_wp c X 3 3 rfl _ _) $$ [S4 HS]
  · isplitl [S4] <;> iassumption
  iintro ⟨S4, HS⟩
  ihave HS := (agr_at c cc0_stg1_0 Finset.univ (scF X) (sP 4) fun i _ => sP4 i) $$ HS
  iapply (sums_wp c W _ _) $$ [FW Ho]
  · isplitl [FW] <;> iassumption
  iintro ⟨S1, HW, ZW, Ho⟩
  iapply (gammaStep_wp c (gF W) _ _) $$ HG
  iintro HG
  icases HY with ⟨HY0, HY1, HY2, HY3, HY4, HY5, HY6, HY7, HY8, HY9, HY10⟩
  icases HP with ⟨HP0, HP1, HP2, HP3, HP4, HP5, HP6, HP7, HP8, HP9, HP10⟩
  icases S6 with ⟨T0, T1⟩
  icases S7 with ⟨U0, U1⟩
  iapply (blocks_wp c X W _ _) $$ [S1 S2 S5 S4 T0 T1 U0 U1 ZY0 ZY1 ZP0 ZP1 HY0 HY1 HY2 HY3 HY4 HY5 HY6 HY7 HY8 HY9 HY10 HP0 HP1 HP2 HP3 HP4 HP5 HP6 HP7 HP8 HP9 HP10 Ho]
  · isplitl [S1]; · iexact S1
    isplitl [S2 S5 S4]
    · isplitl [S2]; · iexact S2
      isplitl [S5] <;> iassumption
    isplitl [T0 T1 U0 U1 ZY0 ZY1 ZP0 ZP1]
    · isplitl [T0 U0 ZY0 ZP0]
      · isplitl [T0]; · iexact T0
        isplitl [U0]; · iexact U0
        isplitl [ZY0] <;> iassumption
      isplitl [T1]; · iexact T1
      isplitl [U1]; · iexact U1
      isplitl [ZY1] <;> iassumption
    isplitl [HY0 HY1 HY2 HY3 HY4 HY5 HY6 HY7 HY8 HY9 HY10 HP0 HP1 HP2 HP3 HP4 HP5 HP6 HP7 HP8 HP9 HP10]
    ·
      isplitl [HY0 HP0]; · (isplitl [HY0] <;> iassumption)
      isplitl [HY1 HP1]; · (isplitl [HY1] <;> iassumption)
      isplitl [HY2 HP2]; · (isplitl [HY2] <;> iassumption)
      isplitl [HY3 HP3]; · (isplitl [HY3] <;> iassumption)
      isplitl [HY4 HP4]; · (isplitl [HY4] <;> iassumption)
      isplitl [HY5 HP5]; · (isplitl [HY5] <;> iassumption)
      isplitl [HY6 HP6]; · (isplitl [HY6] <;> iassumption)
      isplitl [HY7 HP7]; · (isplitl [HY7] <;> iassumption)
      isplitl [HY8 HP8]; · (isplitl [HY8] <;> iassumption)
      isplitl [HY9 HP9]; · (isplitl [HY9] <;> iassumption)
      isplitl [HY10] <;> iassumption
    iexact Ho
  iintro ⟨S1, ⟨S2, S5, S4⟩, ⟨⟨T0, U0, ZY0, ZP0⟩, ⟨T1, U1, ZY1, ZP1⟩⟩, ⟨⟨HY0, HP0⟩, ⟨HY1, HP1⟩, ⟨HY2, HP2⟩, ⟨HY3, HP3⟩, ⟨HY4, HP4⟩, ⟨HY5, HP5⟩, ⟨HY6, HP6⟩, ⟨HY7, HP7⟩, ⟨HY8, HP8⟩, ⟨HY9, HP9⟩, ⟨HY10, HP10⟩⟩, Ho⟩
  iapply (waitC_wp c X _ _) $$ [FC Ho]
  · isplitl [FC] <;> iassumption
  iintro ⟨⟨HC, S3⟩, ZC, Ho⟩
  iapply (pure_wp c _ _) $$ [-]
  iapply HK
  isplitl [S0 S1 S2 S3 S4 S5 T0 T1 U0 U1]
  · isplitl [S0]; · iexists _; iexact S0
    isplitl [S1]
    · ihave S1 := (Entails.of_eq (wSlots c (wvF W)).symm) $$ S1
      iexists _; iexact S1
    isplitl [S2]; · iexists _; iexact S2
    isplitl [S3]; · iexists _; iexact S3
    isplitl [S4]; · iexists _; iexact S4
    isplitl [S5]; · iexact S5
    isplitl [T0 T1]
    · iapply (joinEx (F := F) c cc0_scratch6 (fun b => (ySlot b).view.set) (fun i : S2x512x512.Idx => (i 0).val) mem_ySlot (fun i => (i 0).isLt))
      isplitl [T0] <;> iassumption
    iapply (joinEx (F := F) c cc0_scratch7 (fun b => (pSlot b).view.set) (fun i : S2x2048x128.Idx => (i 0).val) mem_pSlot (fun i => (i 0).isLt))
    isplitl [U0] <;> iassumption
  isplitl [ZX ZW ZC ZY0 ZY1 ZP0 ZP1]
  · isplitl [ZX]; · iexact ZX
    isplitl [ZW]; · iexact ZW
    isplitl [ZC]; · iexact ZC
    isplitl [ZY0 ZY1]; · (isplitl [ZY0] <;> iassumption)
    isplitl [ZP0] <;> iassumption
  isplitl [HX HW]
  · isplitl [HX]; · iexact HX
    iapply (Entails.of_eq (wCols c W).symm); iexact HW
  isplitl [HY0 HY1 HY2 HY3 HY4 HY5 HY6 HY7 HY8 HY9 HY10 HP0 HP1 HP2 HP3 HP4 HP5 HP6 HP7 HP8 HP9 HP10 HC]
  · isplitl [HY0 HY1 HY2 HY3 HY4 HY5 HY6 HY7 HY8 HY9 HY10]
    · iapply (Entails.of_eq (yCols c (yF X W)).symm)
      isplitl [HY0]; · iexact HY0
      isplitl [HY1]; · iexact HY1
      isplitl [HY2]; · iexact HY2
      isplitl [HY3]; · iexact HY3
      isplitl [HY4]; · iexact HY4
      isplitl [HY5]; · iexact HY5
      isplitl [HY6]; · iexact HY6
      isplitl [HY7]; · iexact HY7
      isplitl [HY8]; · iexact HY8
      isplitl [HY9]; · iexact HY9
      iexact HY10
    isplitl [HP0 HP1 HP2 HP3 HP4 HP5 HP6 HP7 HP8 HP9 HP10]
    · iapply (Entails.of_eq (pCols (F := F) c (pF W)).symm)
      isplitl [HP0]; · iexact HP0
      isplitl [HP1]; · iexact HP1
      isplitl [HP2]; · iexact HP2
      isplitl [HP3]; · iexact HP3
      isplitl [HP4]; · iexact HP4
      isplitl [HP5]; · iexact HP5
      isplitl [HP6]; · iexact HP6
      isplitl [HP7]; · iexact HP7
      isplitl [HP8]; · iexact HP8
      isplitl [HP9]; · iexact HP9
      iexact HP10
    iexact HC
  isplitl [HG HS]
  · isplitl [HG] <;> iassumption
  iexact Ho

end Cert.KernelIdeal.Body

end
-- ==== Proof.KernelIdeal.FlatEq.lean ====
/- The printed body is the sequence of blocks of `Prog.lean`, by unfolding. -/
module

public import proofs.«01_k».proof.Proof.KernelIdeal.Prog
public import proofs.«01_k».proof.Proof.Gen.KernelIdeal.Launch

@[expose] public section

noncomputable section

namespace Cert.KernelIdeal.Body

open Idealize.ShloMosaic Idealize.ShloMosaic.TcCoe Idealize.SL.Sem Cert.KernelIdeal Cert.KernelIdeal.Gen

variable {F : FTy → Type} [FloatOps F]

set_option maxHeartbeats 8000000
set_option maxRecDepth 65536

theorem flat_eq : flat (F := F) xH (Memref.isWhole_whole _) wH (Memref.isWhole_whole _) yH (Memref.isWhole_whole _) pH (Memref.isWhole_whole _)
    gS (Memref.isWhole_whole _) cH (Memref.isWhole_whole _) sV (Memref.isWhole_whole _) xV (Memref.isWhole_whole _) wV (Memref.isWhole_whole _)
    cbV (Memref.isWhole_whole _) ciV (Memref.isWhole_whole _) srV (Memref.isWhole_whole _) tV (Memref.isWhole_whole _) yV (Memref.isWhole_whole _)
    pV (Memref.isWhole_whole _) cc0_scratch8 cc0_scratch9 cc0_scratch10 cc0_scratch11 cc0_scratch12 = prog := by
  rfl

theorem body_eq (t : Fin cfg0.N) : bodyAt0 (F := F) t = prog := by
  have ht : t = t0_0 := fin_N0 t
  subst ht
  exact (flat.eq_at ..).trans flat_eq

end Cert.KernelIdeal.Body

end
-- ==== Proof.KernelIdeal.Run.lean ====
/- The launch: the body as the one point of the pipeline, and what every array holds at the end of @main. -/
module

public import proofs.«01_k».proof.Proof.KernelIdeal.BodyWp
public import proofs.«01_k».proof.Proof.KernelIdeal.FlatEq
public import proofs.«01_k».proof.Proof.Gen.KernelIdeal.Frame
public import Idealize.ShloMosaic.Lib.Pipeline.FrameSuffixV

@[expose] public section

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The arrays the body reads by its own copies, and those it writes so. -/
def H0 : Finset (Ref sig .tc) := {main_v0, main_arg1}
def R0 : Finset (Ref sig .tc) := {main_v1_0, main_v1_1, main_v1_3}
theorem H0_sub : H0 ⊆ Pipeline.restRefs sig spec0 := by decide
theorem R0_sub : R0 ⊆ Pipeline.restRefs sig spec0 \ H0 := by decide
/-- The copies' cells. -/
abbrev osem0 : Fin 17 → SemLoc sig := fun j =>
  (![SemLoc.dma cc0_scratch8.sem, SemLoc.dma (wSem 0), SemLoc.dma (wSem 1), SemLoc.dma (wSem 2), SemLoc.dma (wSem 3), SemLoc.dma (wSem 4), SemLoc.dma (wSem 5), SemLoc.dma (wSem 6), SemLoc.dma (wSem 7), SemLoc.dma (wSem 8), SemLoc.dma (wSem 9), SemLoc.dma (wSem 10), SemLoc.dma cc0_scratch10.sem, SemLoc.dma (ySem 0), SemLoc.dma (ySem 1), SemLoc.dma (pSem 0), SemLoc.dma (pSem 1)] : Fin 17 → SemLoc sig) j
theorem ownSemFacts0 : Pipeline.OwnSemFacts spec0 osem0 := by decide

/-- The two arrays read: the activations as rows, and the weights. -/
abbrev xIn (c : Dev nD) : XT F := V m c main_v0
abbrev wIn (c : Dev nD) : WT F := V m c main_arg1
/-- What the written arrays end at. -/
def G (c : Dev nD) : (b : Ref sig .tc) → Buf (Elt F) ((c : Thread nD τ).loc b) :=
  Function.update (Function.update (Function.update (V m c) main_v1_0 (yF (xIn m c) (wIn m c))) main_v1_1 (pF (wIn m c))) main_v1_3 (ciF (xIn m c))
theorem G_y (c : Dev nD) : G m c main_v1_0 = yF (xIn m c) (wIn m c) := by
  unfold G
  rw [Function.update_of_ne (by decide), Function.update_of_ne (by decide), Function.update_self]
theorem G_p (c : Dev nD) : G m c main_v1_1 = pF (wIn m c) := by
  unfold G
  rw [Function.update_of_ne (by decide), Function.update_self]
theorem G_c (c : Dev nD) : G m c main_v1_3 = ciF (xIn m c) := by
  unfold G
  rw [Function.update_self]

theorem hbm_eq (c : Dev nD) : (bigSep H0 (fun b => ((c : Thread nD τ).loc b) ↦{fullShare} V m c b) : sProp 𝕄)
    = iprop(At c main_v0 Finset.univ (xIn m c) ∗ At c main_arg1 Finset.univ (wIn m c)) := by
  rw [BI.bigSep_eq_bigSepL_of_eq [main_v0, main_arg1] (by decide) (by decide)]; rfl
theorem out_eq (c : Dev nD) (g : (b : Ref sig .tc) → Buf (Elt F) ((c : Thread nD τ).loc b)) :
    (bigSep R0 (fun b => ((c : Thread nD τ).loc b) ↦{fullShare} g b) : sProp 𝕄)
    = iprop(At c main_v1_0 Finset.univ (g main_v1_0) ∗ At c main_v1_1 Finset.univ (g main_v1_1) ∗ At c main_v1_3 Finset.univ (g main_v1_3)) := by
  rw [BI.bigSep_eq_bigSepL_of_eq [main_v1_0, main_v1_1, main_v1_3] (by decide) (by decide)]; rfl
theorem scr_eq (c : Dev nD) : (Pipeline.scopedRest (Ix := Unit) (Name := ℕ) (U := Pipeline.UD sig nD τ) (Lvl := ℕ) (Val := Elt F) spec0 c : sProp 𝕄) = Scr (F := F) c :=
  scopedRest0_eq c
/-- The cells in a row. -/
abbrev Row (c : Dev nD) : sProp 𝕄 := iprop(Z (F := F) c cc0_scratch8.sem ∗ Z (F := F) c (wSem 0) ∗ Z (F := F) c (wSem 1) ∗ Z (F := F) c (wSem 2) ∗ Z (F := F) c (wSem 3) ∗ Z (F := F) c (wSem 4) ∗ Z (F := F) c (wSem 5) ∗ Z (F := F) c (wSem 6) ∗ Z (F := F) c (wSem 7) ∗ Z (F := F) c (wSem 8) ∗ Z (F := F) c (wSem 9) ∗ Z (F := F) c (wSem 10) ∗ Z (F := F) c cc0_scratch10.sem ∗ Z (F := F) c (ySem 0) ∗ Z (F := F) c (ySem 1) ∗ Z (F := F) c (pSem 0) ∗ Z (F := F) c (pSem 1))
theorem row_eq (c : Dev nD) : (Pipeline.ownSems0 (Ix := Unit) (Name := ℕ) (U := Pipeline.UD sig nD τ) (Lvl := ℕ) (Val := Elt F) (τ := τ) osem0 c : sProp 𝕄) = Row (F := F) c := by
  rw [Pipeline.ownSems0_eq_of_list c osem0 [0, 1, 2, 3, 4, 5, 6, 7, 8, 9, 10, 11, 12, 13, 14, 15, 16] (by decide) (by decide)]; rfl
theorem row_cells (c : Dev nD) : Row (F := F) c ⊢ Cells (F := F) c := by
  iintro ⟨z0, z1, z2, z3, z4, z5, z6, z7, z8, z9, z10, z11, z12, z13, z14, z15, z16⟩
  isplitl [z0]; · iexact z0
  isplitl [z1 z2 z3 z4 z5 z6 z7 z8 z9 z10 z11]
  · isplitl [z1]; · iexact z1
    isplitl [z2]; · iexact z2
    isplitl [z3]; · iexact z3
    isplitl [z4]; · iexact z4
    isplitl [z5]; · iexact z5
    isplitl [z6]; · iexact z6
    isplitl [z7]; · iexact z7
    isplitl [z8]; · iexact z8
    isplitl [z9]; · iexact z9
    isplitl [z10]; · iexact z10
    iexact z11
  isplitl [z12]; · iexact z12
  isplitl [z13 z14]; · (isplitl [z13] <;> iassumption)
  isplitl [z15] <;> iassumption
theorem cells_row (c : Dev nD) : Cells (F := F) c ⊢ Row (F := F) c := by
  iintro ⟨z0, ⟨z1, z2, z3, z4, z5, z6, z7, z8, z9, z10, z11⟩, z12, ⟨z13, z14⟩, ⟨z15, z16⟩⟩
  isplitl [z0]; · iexact z0
  isplitl [z1]; · iexact z1
  isplitl [z2]; · iexact z2
  isplitl [z3]; · iexact z3
  isplitl [z4]; · iexact z4
  isplitl [z5]; · iexact z5
  isplitl [z6]; · iexact z6
  isplitl [z7]; · iexact z7
  isplitl [z8]; · iexact z8
  isplitl [z9]; · iexact z9
  isplitl [z10]; · iexact z10
  isplitl [z11]; · iexact z11
  isplitl [z12]; · iexact z12
  isplitl [z13]; · iexact z13
  isplitl [z14]; · iexact z14
  isplitl [z15]; · iexact z15
  iexact z16

/-- The proof data: the body takes the written arrays as they are and leaves them at `G`. -/
def dats (_ : Fin 1) (c : Dev nD) : Dat τ (Elt F) Unit ℕ (Pipeline.UD sig nD τ) ℕ cfg0 c where
  A w := V m c (Pipeline.arrRef spec0 w)
  after w t := match w with
    | ⟨0, _⟩ => fun _ => gF (wIn m c)
    | ⟨1, _⟩ => scF (xIn m c)
  Φ k := if k.val = 0 then Pipeline.ΦDRV osem0 spec0 H0 R0 (V m) (V m) c else Pipeline.ΦDRV osem0 spec0 H0 R0 (V m) (G m) c
  q _ := fullShare
  owed _ := 0

theorem A_eq (c : Dev nD) (w : Fin cfg0.W) : (dats m 0 c).A w = V m c (Pipeline.arrRef spec0 w) := by
  dsimp only [dats]

abbrev ms0_0 (t : Fin cfg0.N) : Memref sig .tc .smem S1x1 .f32 := win0_0.stage (cfg0.slots t 0)
abbrev ms0_1 (t : Fin cfg0.N) : Memref sig .tc .vmem S2x256 .f32 := win0_1.stage (cfg0.slots t 1)
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

theorem ms_g : ms0_0 t0_0 = Memref.whole cc0_stg0_0 := rfl
theorem ms_s : ms0_1 t0_0 = Memref.whole cc0_stg1_0 := rfl
theorem owns_g (c : Dev nD) (f : S1x1.Idx → F .f32) : (owns (c : Thread nD τ) (ms0_0 t0_0) fullShare f : sProp 𝕄) = At c cc0_stg0_0 Finset.univ f := by
  rw [ms_g]
  exact owns_whole (Val := Elt F) (c : Thread nD τ) cc0_stg0_0 fullShare f
theorem owns_s (c : Dev nD) (f : S2x256.Idx → F .f32) : (owns (c : Thread nD τ) (ms0_1 t0_0) fullShare f : sProp 𝕄) = At c cc0_stg1_0 Finset.univ f := by
  rw [ms_s]
  exact owns_whole (Val := Elt F) (c : Thread nD τ) cc0_stg1_0 fullShare f

theorem given (c : Dev nD) : bodyPre m c t0_0 ⊢ Given c (xIn m c) (wIn m c) := by
  unfold bodyPre
  rw [show (dats m 0 c).Φ t0_0.castSucc = Pipeline.ΦDRV osem0 spec0 H0 R0 (V m) (V m) c from rfl]
  unfold Pipeline.ΦDRV Dat.owesAt Pipeline.owesWithin
  rw [scr_eq, row_eq, hbm_eq, out_eq, show (dats m 0 c).owed t0_0.castSucc = 0 from rfl]
  iintro ⟨⟨HS, HR, HH, ⟨HY, HP, HC⟩⟩, ⟨%W, -, HW⟩, ⟨%d0, B0⟩, ⟨%d1, B1⟩⟩
  isplitl [HS]; · iexact HS
  isplitl [HR]; · iapply (row_cells (F := F) c); iexact HR
  isplitl [HH]; · iexact HH
  isplitl [HY HP HC]
  · isplitl [HY]; · iexists _; iexact HY
    isplitl [HP]; · iexists _; iexact HP
    iexists _; iexact HC
  isplitl [B0 B1]
  · isplitl [B0]
    · iexists _
      iapply (Entails.of_eq (owns_g c ((dats m 0 c).before 0 t0_0 d0))); iexact B0
    iexists _
    iapply (Entails.of_eq (owns_s c ((dats m 0 c).before 1 t0_0 d1))); iexact B1
  iexists W; iexact HW

theorem left_post (c : Dev nD) : Left c (xIn m c) (wIn m c) ⊢ bodyPost m c t0_0 := by
  unfold bodyPost
  rw [show (dats m 0 c).Φ t0_0.succ = Pipeline.ΦDRV osem0 spec0 H0 R0 (V m) (G m) c from rfl]
  unfold Pipeline.ΦDRV Dat.owesAt Pipeline.owesWithin
  rw [scr_eq, row_eq, hbm_eq, out_eq, G_y, G_p, G_c, show (dats m 0 c).owed t0_0.succ = 0 from rfl]
  iintro ⟨HS, HR, HH, HO, ⟨B0, B1⟩, ⟨%W, HW⟩⟩
  isplitl [HS HR HH HO]
  · isplitl [HS]; · iexact HS
    isplitl [HR]; · iapply (cells_row (F := F) c); iexact HR
    isplitl [HH]; · iexact HH
    iexact HO
  isplitl [HW]
  · iexists W; isplitr; · ipureintro; exact fun _ _ => Or.inl trivial
    iexact HW
  isplitl [B0]
  · iapply (Entails.of_eq (owns_g c (fun _ => gF (wIn m c))).symm); iexact B0
  iapply (Entails.of_eq (owns_s c (scF (xIn m c))).symm); iexact B1

theorem sound_body (c : Dev nD) (t : Fin cfg0.N) :
    bodyPre m c t ⊢ wp frame (wpE (defs₀ (F := F)) Variants.none c none) Set.univ (bodyAt0 t) (fun _ => bodyPost m c t) := by
  rw [body_eq]
  have ht : t = t0_0 := fin_N0 t
  subst ht
  iintro H
  ihave H := (given m c) $$ H
  iapply (body_wp c (xIn m c) (wIn m c) (fun _ => bodyPost m c t0_0)) $$ H
  iintro H
  iapply (left_post m c)
  iexact H

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The memory when the last host line has run. -/
abbrev endV (c : Dev nD) : Valuation τ sig (Elt F) :=
  StableHlo.after ([hostOps1] : List (List (HloOp τ sig (Elt F)))).flatten (Pipeline.withArrays spec0 c (Pipeline.withR (V0 m c) R0 c (G m c)) fun w => (dats m 0 c).arrAt w cfg0.N)

set_option backward.isDefEq.respectTransparency.types false in
theorem run_main : θ_run defs (onTc (τ := τ) (main (F := F))) ⟨m, fun _ => 0, ρ⟩ (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = endV m c (Proc.devRef .tc b))
    ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmainD m Variants.none) (hA := A_eq m)
    (hin := fun _ => .rfl) (hout := fun _ => .rfl) (Q' := _) (hQ' := fun _ h => h)

/-- The arguments end as they began. -/
theorem end_arg0 (c : Dev nD) : endV m c (Proc.devRef .tc main_arg0) = m ((c : Thread nD τ).loc main_arg0) := by
  unfold endV
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c _ _ main_arg0 (by exact (by decide : ∀ w, Pipeline.arrRef spec0 w ≠ main_arg0)),
    Pipeline.withR_of_not_mem _ _ _ _ main_arg0 (by decide)]
  exact V_main_arg0 m c
theorem end_arg1 (c : Dev nD) : endV m c (Proc.devRef .tc main_arg1) = m ((c : Thread nD τ).loc main_arg1) := by
  unfold endV
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c _ _ main_arg1 (by exact (by decide : ∀ w, Pipeline.arrRef spec0 w ≠ main_arg1)),
    Pipeline.withR_of_not_mem _ _ _ _ main_arg1 (by decide)]
  exact V_main_arg1 m c

/-- The frame, at any float type. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).2 main_arg0 (Pipeline.mem_restRefs_of main_arg0 (by decide) (by decide))).trans (end_arg0 m c),
    ((h.1 c).2 main_arg1 (Pipeline.mem_restRefs_of main_arg1 (by decide) (by decide))).trans (end_arg1 m c)⟩, h.2⟩) (run_main m ρ)

end Cert.KernelIdeal.Body

end
-- ==== Proof.Value.Real.lean ====
/- Arithmetic of the extended reals that the two quantisers meet in: the rounded and clipped quotient, the ternary value by
   comparisons, and the sum of magnitudes. -/
module

public import Idealize.ShloMosaic.PureOps.Ideal
public import Idealize.ShloMosaic.PureOps.Ideal.Laws

@[expose] public section

noncomputable section

namespace Cert.Value

open Idealize.ShloMosaic

/-- Above one half rounds to at least one. -/
theorem rhe_pos {r : ℝ} (h : 1 / 2 < r) : 1 ≤ Ideal.roundHalfEven r := by
  have h1 := Int.floor_le r
  have h2 := Int.lt_floor_add_one r
  have h0 : 0 ≤ ⌊r⌋ := Int.floor_nonneg.2 (by linarith)
  unfold Ideal.roundHalfEven
  by_cases hf : ⌊r⌋ = 0
  · rw [hf]; simp only [Int.cast_zero, sub_zero]
    rw [if_neg (by linarith), if_pos h]; norm_num
  · have h3 : 1 ≤ ⌊r⌋ := by omega
    dsimp only
    split_ifs <;> omega
/-- Below minus one half rounds to at most minus one. -/
theorem rhe_neg {r : ℝ} (h : r < -(1 / 2)) : Ideal.roundHalfEven r ≤ -1 := by
  have h1 := Int.floor_le r
  have h2 := Int.lt_floor_add_one r
  have h0 : ⌊r⌋ < 0 := Int.floor_lt.2 (by push_cast; linarith)
  unfold Ideal.roundHalfEven
  by_cases hf : ⌊r⌋ = -1
  · rw [hf]; push_cast
    rw [if_pos (by linarith)]
  · have h3 : ⌊r⌋ ≤ -2 := by omega
    dsimp only
    split_ifs <;> omega
/-- Between the two rounds to zero. -/
theorem rhe_zero {r : ℝ} (h : -(1 / 2) ≤ r) (h' : r ≤ 1 / 2) : Ideal.roundHalfEven r = 0 := by
  unfold Ideal.roundHalfEven
  by_cases h0 : 0 ≤ r
  · have hf : ⌊r⌋ = 0 := Int.floor_eq_iff.2 ⟨by push_cast; linarith, by push_cast; linarith⟩
    rw [hf]; simp only [Int.cast_zero, sub_zero]
    rcases lt_or_eq_of_le h' with h1 | h1
    · rw [if_pos h1]
    · rw [if_neg (by linarith), if_neg (by linarith), if_pos (by decide)]
  · have hf : ⌊r⌋ = -1 := Int.floor_eq_iff.2 ⟨by push_cast; linarith, by push_cast; linarith⟩
    rw [hf]; push_cast
    rcases lt_or_eq_of_le h with h1 | h1
    · rw [if_neg (by linarith), if_pos (by linarith)]; try norm_num
    · rw [if_neg (by linarith), if_neg (by linarith), if_neg (by decide)]; try norm_num

/-- A rounded quotient clipped to `[-L, L]`. -/
def clipRound (L : ℤ) (z : EReal) : EReal := min ((L : ℝ) : EReal) (max (((-L : ℤ) : ℝ) : EReal) (Ideal.liftRound Ideal.roundHalfEven z))

/-- It is an integer of `[-L, L]`. -/
theorem clipRound_int (L : ℤ) (hL : 0 ≤ L) (z : EReal) : ∃ n : ℤ, -L ≤ n ∧ n ≤ L ∧ clipRound L z = ((n : ℝ) : EReal) := by
  unfold clipRound
  induction z with
  | bot =>
    refine ⟨-L, le_refl _, by omega, ?_⟩
    rw [Ideal.liftRound_bot, max_eq_left bot_le, min_eq_right]
    exact EReal.coe_le_coe_iff.2 (Int.cast_le.2 (by omega))
  | top =>
    refine ⟨L, by omega, le_refl _, ?_⟩
    rw [Ideal.liftRound_top, max_eq_right le_top, min_eq_left le_top]
  | coe r =>
    refine ⟨min L (max (-L) (Ideal.roundHalfEven r)), by omega, by omega, ?_⟩
    rw [Ideal.liftRound_coe, Int.cast_min, Int.cast_max]
    rw [EReal.coe_strictMono.monotone.map_min, EReal.coe_strictMono.monotone.map_max]

/-- Narrowed to eight bits such a value is the integer. -/
theorem fptosi_int (n : ℤ) (h : -127 ≤ n) (h' : n ≤ 127) : Ideal.fptosi 8 ((n : ℝ) : EReal) = BitVec.ofInt 8 n := by
  unfold Ideal.fptosi
  congr 1
  rw [Ideal.toIntClamped_coe, Int.floor_intCast, Int.ceil_intCast, ite_self]
  norm_num
  omega
theorem toInt_ofInt8 (n : ℤ) (h : -127 ≤ n) (h' : n ≤ 127) : (BitVec.ofInt 8 n).toInt = n := by
  rw [BitVec.toInt_ofInt]
  exact Int.bmod_eq_of_le (by norm_num; omega) (by norm_num; omega)
/-- Narrowed and read back it is itself. -/
theorem narrow_id (L : ℤ) (hL : 0 ≤ L) (hL' : L ≤ 127) (z : EReal) :
    (((Ideal.fptosi 8 (clipRound L z)).toInt : ℝ) : EReal) = clipRound L z := by
  obtain ⟨n, h1, h2, e⟩ := clipRound_int L hL z
  rw [e, fptosi_int n (by omega) (by omega), toInt_ofInt8 n (by omega) (by omega)]

/-- The ternary value: one comparison on each side of zero with half the mean. -/
def ternE (g w : EReal) : EReal := if ((1 / 2 : ℝ) : EReal) * g < w then 1 else if w < 0 - ((1 / 2 : ℝ) : EReal) * g then -1 else 0

/-- It is the rounded and clipped quotient by the mean, when the mean is not zero and bounds its weights. -/
theorem clip_eq_tern (g w : EReal) (h0 : 0 < g) (hw : g ≠ ⊤ → w ≠ ⊤ ∧ w ≠ ⊥) : clipRound 1 (Ideal.div w g) = ternE g w := by
  unfold ternE
  induction g with
  | bot => exact absurd h0 (by simp)
  | top =>
    have e : Ideal.div w ⊤ = ((0 : ℝ) : EReal) := by unfold Ideal.div; rw [if_neg (by simp), EReal.inv_top, mul_zero]; rfl
    rw [EReal.coe_mul_top_of_pos (by norm_num), if_neg (not_lt_of_ge le_top)]
    have e' : (0 : EReal) - ⊤ = ⊥ := by rw [sub_eq_add_neg, EReal.neg_top, zero_add]
    rw [e', if_neg (not_lt_of_ge bot_le), e]
    unfold clipRound
    rw [Ideal.liftRound_coe, rhe_zero (by norm_num) (by norm_num)]
    rw [Int.cast_zero, max_eq_right (EReal.coe_le_coe_iff.2 (by norm_num)), min_eq_right (EReal.coe_le_coe_iff.2 (by norm_num))]; rfl
  | coe g =>
    obtain ⟨hw1, hw2⟩ := hw (EReal.coe_ne_top g)
    have hg : (0 : ℝ) < g := by exact_mod_cast h0
    induction w with
    | bot => exact absurd rfl hw2
    | top => exact absurd rfl hw1
    | coe w =>
      have e : Ideal.div (w : EReal) (g : EReal) = ((w / g : ℝ) : EReal) := by
        rw [Ideal.div_coe hg.ne', ← EReal.coe_mul]; congr 1; field_simp
      have eg : ((1 / 2 : ℝ) : EReal) * (g : EReal) = ((1 / 2 * g : ℝ) : EReal) := (EReal.coe_mul _ _).symm
      have eg' : (0 : EReal) - ((1 / 2 * g : ℝ) : EReal) = ((-(1 / 2 * g) : ℝ) : EReal) := by rw [sub_eq_add_neg, zero_add, EReal.coe_neg]
      rw [e, eg, eg']
      unfold clipRound
      rw [Ideal.liftRound_coe]
      have key : min ((1 : ℤ) : ℝ) (max ((-1 : ℤ) : ℝ) (Ideal.roundHalfEven (w / g) : ℝ))
          = if 1 / 2 * g < w then 1 else if w < -(1 / 2 * g) then -1 else 0 := by
        push_cast
        split_ifs with h1 h2
        · have : (1 : ℝ) ≤ (Ideal.roundHalfEven (w / g) : ℝ) := by
            exact_mod_cast rhe_pos (by rw [lt_div_iff₀ hg]; exact h1)
          rw [max_eq_right (by linarith), min_eq_left this]
        · have : (Ideal.roundHalfEven (w / g) : ℝ) ≤ -1 := by
            exact_mod_cast rhe_neg (by rw [div_lt_iff₀ hg]; linarith)
          rw [max_eq_left this, min_eq_right (by norm_num)]
        · rw [rhe_zero (by rw [le_div_iff₀ hg]; linarith) (by rw [div_le_iff₀ hg]; linarith)]
          norm_num
      have key' := congrArg (fun r : ℝ => (r : EReal)) key
      simp only [EReal.coe_strictMono.monotone.map_min, EReal.coe_strictMono.monotone.map_max] at key'
      rw [key']
      simp only [EReal.coe_lt_coe_iff]
      split_ifs <;> simp

/-- A magnitude is not negative. -/
theorem absE_nonneg (w : EReal) : 0 ≤ max w (-w) := by
  rcases le_total 0 w with h | h
  · exact le_max_of_le_left h
  · exact le_max_of_le_right (EReal.neg_nonneg.2 h)

/-- A finite sum of magnitudes has finite terms. -/
theorem finite_of_sum {ι : Type} [Fintype ι] (w : ι → EReal) (h : ∑ i, max (w i) (-w i) ≠ ⊤) (i : ι) : w i ≠ ⊤ ∧ w i ≠ ⊥ := by
  have hle : max (w i) (-w i) ≤ ∑ i, max (w i) (-w i) := Finset.single_le_sum (f := fun i => max (w i) (-w i)) (fun j _ => absE_nonneg (w j)) (Finset.mem_univ i)
  refine ⟨fun e => h (top_le_iff.1 (le_trans ?_ hle)), fun e => h (top_le_iff.1 (le_trans ?_ hle))⟩
  · rw [e]; exact le_max_left _ _
  · rw [e, EReal.neg_bot]; exact le_max_right _ _

/-- The mean of a sum `S` of magnitudes: positive exactly where `S` is, infinite exactly where `S` is. -/
theorem mean_pos {S : EReal} {N : ℝ} (hN : 0 < N) (hS : 0 < S) : 0 < Ideal.div S (N : EReal) := by
  rw [Ideal.div_coe hN.ne']
  exact EReal.mul_pos hS (by exact_mod_cast (by positivity : (0 : ℝ) < 1 / N))
theorem mean_zero {N : ℝ} (hN : 0 < N) : Ideal.div 0 (N : EReal) = 0 := by
  rw [Ideal.div_coe hN.ne', zero_mul]
theorem mean_top {N : ℝ} (hN : 0 < N) : Ideal.div ⊤ (N : EReal) = ⊤ := by
  rw [Ideal.div_coe hN.ne', EReal.top_mul_coe_of_pos (by positivity)]

end Cert.Value

end
-- ==== Proof.KernelIdeal.Ends.lean ====
/- What the result arrays hold at the end of @main, as functions of the two arguments. -/
module

public import proofs.«01_k».proof.Proof.KernelIdeal.Run
public import Idealize.ShloMosaic.Lib.Pipeline.ValueKit.Geometry

@[expose] public section

noncomputable section

namespace Cert.KernelIdeal.Body

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ) (ρ : Dev nD → PrngReg)

/-- The two arguments. -/
abbrev xArg (c : Dev nD) : FVec F S2x256x2048 .bf16 := m ((c.tc : Thread nD τ).loc main_arg0)
abbrev wArg (c : Dev nD) : FVec F S2048x5632 .bf16 := m ((c.tc : Thread nD τ).loc main_arg1)

theorem xIn_eq (c : Dev nD) : xIn m c = shapeCast S512x2048 (xArg m c) shapeCasts_S2x256x2048_S512x2048 := by
  show V0 m c (Proc.devRef .tc main_v0) = _
  simp only [V0, hostOps0, List.flatten_cons, List.flatten_nil, List.append_nil, List.cons_append, List.nil_append]
  after_results_simp <;> rfl
theorem wIn_eq (c : Dev nD) : wIn m c = wArg m c := V_main_arg1 m c

theorem arr_g (c : Dev nD) : (dats m 0 c).arrAt 0 cfg0.N = (fun _ => gF (wIn m c) : S1x1.Idx → F .f32) :=
  (dats m 0 c).arrAt_eq_of_after_last 0 t0_0 (by decide +kernel) _ fun j => rfl
theorem arr_s (c : Dev nD) : (dats m 0 c).arrAt 1 cfg0.N = scF (xIn m c) :=
  (dats m 0 c).arrAt_eq_of_after_last 1 t0_0 (by decide +kernel) _ fun j => rfl

/-- The contents the last host lines read. -/
abbrev midV (c : Dev nD) : Valuation τ sig (Elt F) :=
  Pipeline.withArrays spec0 c (Pipeline.withR (V0 m c) R0 c (G m c)) fun w => (dats m 0 c).arrAt w cfg0.N
theorem mid_y (c : Dev nD) : midV m c (Proc.devRef .tc main_v1_0) = yF (xIn m c) (wIn m c) := by
  rw [← G_y]
  exact (Pipeline.withArrays_of_ne _ c _ _ main_v1_0 (by exact (by decide : ∀ w, Pipeline.arrRef spec0 w ≠ main_v1_0))).trans
    (Pipeline.withR_of_mem _ _ _ _ main_v1_0 (by decide))
theorem mid_p (c : Dev nD) : midV m c (Proc.devRef .tc main_v1_1) = pF (wIn m c) := by
  rw [← G_p]
  exact (Pipeline.withArrays_of_ne _ c _ _ main_v1_1 (by exact (by decide : ∀ w, Pipeline.arrRef spec0 w ≠ main_v1_1))).trans
    (Pipeline.withR_of_mem _ _ _ _ main_v1_1 (by decide))
theorem mid_c (c : Dev nD) : midV m c (Proc.devRef .tc main_v1_3) = ciF (xIn m c) := by
  rw [← G_c m]
  exact (Pipeline.withArrays_of_ne _ c _ _ main_v1_3 (by exact (by decide : ∀ w, Pipeline.arrRef spec0 w ≠ main_v1_3))).trans
    (Pipeline.withR_of_mem _ _ _ _ main_v1_3 (by decide))
theorem mid_g (c : Dev nD) : midV m c (Proc.devRef .tc main_v1_2) = (fun _ => gF (wIn m c) : S1x1.Idx → F .f32) := by
  rw [← arr_g m]
  exact Pipeline.withArrays_arr spec0 launch0.win.arr_inj c _ _ 0

theorem tail_y (V : Valuation τ sig (Elt F)) : StableHlo.after ([hostOps1] : List (List (HloOp τ sig (Elt F)))).flatten V (Proc.devRef .tc main_v2)
    = shapeCast S2x256x5632 (V (Proc.devRef .tc main_v1_0)) shapeCasts_S512x5632_S2x256x5632 := by
  simp only [hostOps1, List.flatten_cons, List.flatten_nil, List.append_nil, List.cons_append, List.nil_append]
  after_results <;> rfl
theorem tail_g (V : Valuation τ sig (Elt F)) : StableHlo.after ([hostOps1] : List (List (HloOp τ sig (Elt F)))).flatten V (Proc.devRef .tc main_v3)
    = shapeCast S_ (V (Proc.devRef .tc main_v1_2)) shapeCasts_S1x1_S_ := by
  simp only [hostOps1, List.flatten_cons, List.flatten_nil, List.append_nil, List.cons_append, List.nil_append]
  after_results <;> rfl
theorem tail_c (V : Valuation τ sig (Elt F)) : StableHlo.after ([hostOps1] : List (List (HloOp τ sig (Elt F)))).flatten V (Proc.devRef .tc main_v4)
    = shapeCast S2x256x2048 (V (Proc.devRef .tc main_v1_3)) shapeCasts_S512x2048_S2x256x2048 := by
  simp only [hostOps1, List.flatten_cons, List.flatten_nil, List.append_nil, List.cons_append, List.nil_append]
  after_results <;> rfl
theorem tail_p (V : Valuation τ sig (Elt F)) : StableHlo.after ([hostOps1] : List (List (HloOp τ sig (Elt F)))).flatten V (Proc.devRef .tc main_v1_1)
    = V (Proc.devRef .tc main_v1_1) := by
  simp only [hostOps1, List.flatten_cons, List.flatten_nil, List.append_nil, List.cons_append, List.nil_append]
  after_results

/-- Every result at the end. -/
theorem run_values : θ_run defs (onTc (τ := τ) (main (F := F))) ⟨m, fun _ => 0, ρ⟩ (fun r => ∀ c : Dev nD,
      r.2.mem ((c.tc : Thread nD τ).loc main_v2) = shapeCast S2x256x5632 (yF (xIn m c) (wIn m c)) shapeCasts_S512x5632_S2x256x5632
      ∧ r.2.mem ((c.tc : Thread nD τ).loc main_v1_1) = pF (wIn m c)
      ∧ r.2.mem ((c.tc : Thread nD τ).loc main_v3) = (fun _ => gF (wIn m c) : S_.Idx → F .f32)
      ∧ r.2.mem ((c.tc : Thread nD τ).loc main_v4) = shapeCast S2x256x2048 (ciF (xIn m c)) shapeCasts_S512x2048_S2x256x2048
      ∧ r.2.mem ((c.tc : Thread nD τ).loc main_v1_4) = scF (xIn m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨
    ((h.1 c).2 main_v2 (Pipeline.mem_restRefs_of main_v2 (by decide) (by decide))).trans ((tail_y (midV m c)).trans (by rw [mid_y])),
    ((h.1 c).2 main_v1_1 (Pipeline.mem_restRefs_of main_v1_1 (by decide) (by decide))).trans ((tail_p (midV m c)).trans (mid_p m c)),
    ((h.1 c).2 main_v3 (Pipeline.mem_restRefs_of main_v3 (by decide) (by decide))).trans ((tail_g (midV m c)).trans (by rw [mid_g]; rfl)),
    ((h.1 c).2 main_v4 (Pipeline.mem_restRefs_of main_v4 (by decide) (by decide))).trans ((tail_c (midV m c)).trans (by rw [mid_c])),
    ((h.1 c).1 1).trans (arr_s m c),
    ((h.1 c).2 main_arg0 (Pipeline.mem_restRefs_of main_arg0 (by decide) (by decide))).trans (end_arg0 m c),
    ((h.1 c).2 main_arg1 (Pipeline.mem_restRefs_of main_arg1 (by decide) (by decide))).trans (end_arg1 m c)⟩) (run_main m ρ)

end Cert.KernelIdeal.Body

end
-- ==== Proof.ReferenceIdeal.Reg.lean ====
/- What the reference's one kernel leaves in its four results, as functions of the two arguments. -/
module

public import proofs.«01_k».proof.Proof.Gen.ReferenceIdeal.Run
public import Idealize.ShloMosaic.Lib.Pipeline.ValueKit.Geometry

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The mean of the magnitudes. -/
def gammaR (w : FVec F S2048x5632 .bf16) : FVec F S_ .f32 :=
  Host.divf (Host.reduceAdd (Host.absf (extf .f32 w bitsLt_bf16_f32)) (constant S_ .f32 0x00000000#32) reducesTo_S2048x5632_S_d0_1 h_S_) (constant S_ .f32 0x4B300000#32)
/-- The ternary weights before they are narrowed. -/
def ternR (w : FVec F S2048x5632 .bf16) : FVec F S2048x5632 .f32 :=
  minimumf (broadcastInDim S2048x5632 ![] bcast_S_S2048x5632 (sitofp .f32 (constantI S_ 32 1#32)))
    (maximumf (broadcastInDim S2048x5632 ![] bcast_S_S2048x5632 (sitofp .f32 (constantI S_ 32 (-1#32))))
      (Host.roundeven (Host.divf (extf .f32 w bitsLt_bf16_f32) (broadcastInDim S2048x5632 ![] bcast_S_S2048x5632 (gammaR w)))))
/-- The largest magnitude of each row, and the scales. -/
def rowMaxR (x : FVec F S2x256x2048 .bf16) : FVec F S2x256 .f32 :=
  Host.reduce FloatOps.maximumf (Host.absf (extf .f32 x bitsLt_bf16_f32)) (constant S_ .f32 0xFF800000#32) reducesTo_S2x256x2048_S2x256_d2 h_S_
def scaleR (x : FVec F S2x256x2048 .bf16) : FVec F S2x256 .f32 :=
  select (cmpf .oeq (rowMaxR x) (broadcastInDim S2x256 ![] bcast_S_S2x256 (constant S_ .f32 0x00000000#32)))
    (broadcastInDim S2x256 ![] bcast_S_S2x256 (id (constant S_ .f32 0x3F800000#32)))
    (Host.divf (rowMaxR x) (broadcastInDim S2x256 ![] bcast_S_S2x256 (constant S_ .f32 0x42FE0000#32)))
/-- The codes before they are narrowed. -/
def codeR (x : FVec F S2x256x2048 .bf16) : FVec F S2x256x2048 .f32 :=
  minimumf (broadcastInDim S2x256x2048 ![] bcast_S_S2x256x2048 (sitofp .f32 (constantI S_ 32 127#32)))
    (maximumf (broadcastInDim S2x256x2048 ![] bcast_S_S2x256x2048 (sitofp .f32 (constantI S_ 32 (-127#32))))
      (Host.roundeven (Host.divf (extf .f32 x bitsLt_bf16_f32)
        (broadcastInDim S2x256x2048 ![0, 1, 2] bcast_S2x256x1_S2x256x2048_0_1_2 (broadcastInDim S2x256x1 ![0, 1] bcast_S2x256_S2x256x1_0_1 (scaleR x))))))

set_option maxRecDepth 8192 in
set_option maxHeartbeats 2000000 in
theorem V_codes (c : Dev nD) : Gen.V0 m c (Proc.devRef .tc main_v20) = codeR (m ((c.tc : Thread nD τ).loc main_arg0)) := by
  simp only [Gen.V0, Gen.hostOps0, Gen.hostOps0_1, Gen.hostOps0_2, Gen.hostOps0_3, Gen.hostOps0_4, Gen.hostOps0_5, Gen.hostOps0_6, Gen.hostOps0_7, Gen.hostOps0_8, Gen.hostOps0_9, TRef.binary, TRef.ternary, TRef.unary, TRef.toBuf, TRef.ofBuf, cast_eq, List.flatten_cons, List.flatten_nil, List.append_nil, List.cons_append, List.nil_append]
  after_results_simp <;> rfl
set_option maxRecDepth 8192 in
set_option maxHeartbeats 2000000 in
theorem V_tern (c : Dev nD) : Gen.V0 m c (Proc.devRef .tc main_v7) = ternR (m ((c.tc : Thread nD τ).loc main_arg1)) := by
  simp only [Gen.V0, Gen.hostOps0, Gen.hostOps0_1, Gen.hostOps0_2, Gen.hostOps0_3, Gen.hostOps0_4, Gen.hostOps0_5, Gen.hostOps0_6, Gen.hostOps0_7, Gen.hostOps0_8, Gen.hostOps0_9, TRef.binary, TRef.ternary, TRef.unary, TRef.toBuf, TRef.ofBuf, cast_eq, List.flatten_cons, List.flatten_nil, List.append_nil, List.cons_append, List.nil_append]
  after_results_simp <;> rfl

/-- The blocks the kernel reads are the whole arrays. -/
theorem blk_codes (c : Dev nD) : iblk m c 0 t0_0 = Gen.V0 m c (Proc.devRef .tc main_v20) := by
  funext y
  exact congrArg (Gen.V0 m c (Proc.devRef .tc main_v20)) (funext fun a => Fin.ext (by
    match a with
    | 0 => show 0 + 1 * (y 0).val = (y 0).val; omega
    | 1 => show 0 + 1 * (y 1).val = (y 1).val; omega
    | 2 => show 0 + 1 * (y 2).val = (y 2).val; omega))
theorem blk_tern (c : Dev nD) : iblk m c 1 t0_0 = Gen.V0 m c (Proc.devRef .tc main_v7) := by
  funext y
  exact congrArg (Gen.V0 m c (Proc.devRef .tc main_v7)) (funext fun a => Fin.ext (by
    match a with
    | 0 => show 0 + 1 * (y 0).val = (y 0).val; omega
    | 1 => show 0 + 1 * (y 1).val = (y 1).val; omega))

theorem reg0 (c : Dev nD) : reg_main_v21_0 m c = k0_pay1 (codeR (m ((c.tc : Thread nD τ).loc main_arg0))) := by
  refine (dats m 0 c).arrAt_eq_of_after_last 2 t0_0 (by decide +kernel) _ fun j => ?_
  rw [after0_2, blk_codes, V_codes]; unfold out0_2
  rw [View.canon_unit_zero (by decide), View.ld_unit_zero (by decide)]; rfl
theorem reg1 (c : Dev nD) : reg_main_v21_1 m c = k0_pay3 (codeR (m ((c.tc : Thread nD τ).loc main_arg0))) := by
  refine (dats m 0 c).arrAt_eq_of_after_last 3 t0_0 (by decide +kernel) _ fun j => ?_
  rw [after0_3, blk_codes, V_codes]; unfold out0_3
  rw [View.canon_unit_zero (by decide), View.ld_unit_zero (by decide)]; rfl
theorem reg2 (c : Dev nD) : reg_main_v21_2 m c = k0_pay4 (ternR (m ((c.tc : Thread nD τ).loc main_arg1))) := by
  refine (dats m 0 c).arrAt_eq_of_after_last 4 t0_0 (by decide +kernel) _ fun j => ?_
  rw [after0_4, blk_tern, V_tern]; unfold out0_4
  rw [View.canon_unit_zero (by decide), View.ld_unit_zero (by decide)]; rfl
theorem reg3 (c : Dev nD) : reg_main_v21_3 m c = k0_pay5 (ternR (m ((c.tc : Thread nD τ).loc main_arg1))) := by
  refine (dats m 0 c).arrAt_eq_of_after_last 5 t0_0 (by decide +kernel) _ fun j => ?_
  rw [after0_5, blk_tern, V_tern]; unfold out0_5
  rw [View.canon_unit_zero (by decide), View.ld_unit_zero (by decide)]; rfl

/-- Every result of the reference. -/
theorem run_values (ρ : Dev nD → PrngReg) :
    θ_run defs (onTc (τ := τ) (main (F := F))) ⟨m, fun _ => 0, ρ⟩ fun r => ∀ c : Dev nD,
      r.2.mem ((c.tc : Thread nD τ).loc main_v28) = truncf .bf16 (mulf (mulf (Host.dotGeneral dot_S2x256x2048_S2048x5632_S2x256x5632_2_0_01_1_n_n none (k0_pay3 (codeR (m ((c.tc : Thread nD τ).loc main_arg0)))) (k0_pay4 (ternR (m ((c.tc : Thread nD τ).loc main_arg1)))))
        (broadcastInDim S2x256x5632 ![0, 1, 2] bcast_S2x256x1_S2x256x5632_0_1_2 (broadcastInDim S2x256x1 ![0, 1] bcast_S2x256_S2x256x1_0_1 (scaleR (m ((c.tc : Thread nD τ).loc main_arg0))))))
        (broadcastInDim S2x256x5632 ![] bcast_S_S2x256x5632 (gammaR (m ((c.tc : Thread nD τ).loc main_arg1))))) bitsLt_bf16_f32
      ∧ r.2.mem ((c.tc : Thread nD τ).loc main_v21_3) = k0_pay5 (ternR (m ((c.tc : Thread nD τ).loc main_arg1)))
      ∧ r.2.mem ((c.tc : Thread nD τ).loc main_v3) = gammaR (m ((c.tc : Thread nD τ).loc main_arg1))
      ∧ r.2.mem ((c.tc : Thread nD τ).loc main_v21_0) = k0_pay1 (codeR (m ((c.tc : Thread nD τ).loc main_arg0)))
      ∧ r.2.mem ((c.tc : Thread nD τ).loc main_v15) = scaleR (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by rw [reg1, reg2]; rfl), (h c).2.1.trans (reg3 m c), (h c).2.2.1, (h c).2.2.2.1.trans (reg0 m c),
    (h c).2.2.2.2.1, (h c).2.2.2.2.2⟩) (run m ρ)

end Cert.ReferenceIdeal.Value

end
-- ==== Proof.Value.Gamma.lean ====
/- The mean of the magnitudes: the kernel's 32 x 512 running sums over 11 blocks of 64 steps add up the same terms as the
   reference's one sum. -/
module

public import proofs.«01_k».proof.Proof.Value.Real
public import proofs.«01_k».proof.Proof.KernelIdeal.Ends
public import proofs.«01_k».proof.Proof.ReferenceIdeal.Reg
public import Idealize.ShloMosaic.Lib.ValueIdx
public import Idealize.ShloMosaic.Lib.IdealHost

@[expose] public section

noncomputable section

namespace Cert.Value

open Idealize.ShloMosaic Idealize.ShloMosaic.ValueIdx Cert.KernelIdeal Cert.KernelIdeal.Gen Cert.KernelIdeal.Body

/-- A sum over `m n` places, cut into `m` runs of `n`. -/
theorem sum_split {M : Type*} [AddCommMonoid M] {N m n : ℕ} (h : N = m * n) (f : Fin N → M) (g : Fin m → Fin n → M)
    (hg : ∀ a b, ∀ k : Fin N, k.val = n * a.val + b.val → f k = g a b) : ∑ k, f k = ∑ a, ∑ b, g a b := by
  subst h
  rw [← Equiv.sum_comp finProdFinEquiv f, Fintype.sum_prod_type]
  exact Finset.sum_congr rfl fun a _ => Finset.sum_congr rfl fun b _ => hg a b _ (by
    show b.val + n * a.val = n * a.val + b.val; omega)

/-- The weights as extended reals; a magnitude at a row and a column. -/
abbrev WE := WT Ideal
def mag (W : WE) (i : S2048x5632.Idx) : EReal := max (W i) (-(W i))

/-- The term of step `t` over block `j` at row `r`, lane `l` of the running sum. -/
def term (W : WE) (j : Fin 11) (r : Fin 32) (l : Fin 512) (t : Fin 64) : EReal :=
  mag W (ix2 ⟨32 * t.val + r.val, by omega⟩ ⟨512 * j.val + l.val, by omega⟩)

theorem absAcc_apply (W : WE) (j : Fin 11) (t : Fin 64) (a : FVec Ideal S32x512 .f32) (r : Fin 32) (l : Fin 512) :
    absAcc a (wRows W j t) (ix2 r l) = a (ix2 r l) + term W j r l t := by
  have e : shapeCast S32x512 (wRows W j t) shapeCasts_S1x32x512_S32x512 (ix2 r l) = wRows W j t (ix3 (0 : Fin 1) r l) :=
    shapeCast_1ab_ab_apply _ _ _ _
  show a (ix2 r l) + max (shapeCast S32x512 (wRows W j t) shapeCasts_S1x32x512_S32x512 (ix2 r l)) (-(shapeCast S32x512 (wRows W j t) shapeCasts_S1x32x512_S32x512 (ix2 r l))) = _
  rw [e]; rfl

theorem accN_apply (W : WE) (j : Fin 11) (a : FVec Ideal S32x512 .f32) (r : Fin 32) (l : Fin 512) (n : Nat) :
    accN W j a n (ix2 r l) = a (ix2 r l) + ∑ t ∈ Finset.range n, (if h : t < 64 then term W j r l ⟨t, h⟩ else 0) := by
  induction n with
  | zero => rw [Finset.range_zero, Finset.sum_empty, add_zero]; rfl
  | succ n ih =>
    rw [Finset.sum_range_succ, ← add_assoc, ← ih]
    show (if h : n < 64 then absAcc (accN W j a n) (wRows W j ⟨n, h⟩) else accN W j a n) (ix2 r l) = _
    by_cases h : n < 64
    · rw [dif_pos h, dif_pos h, absAcc_apply]
    · rw [dif_neg h, dif_neg h, add_zero]

theorem accB_apply (W : WE) (r : Fin 32) (l : Fin 512) (n : Nat) :
    accB W n (ix2 r l) = ∑ j ∈ Finset.range n, (if h : j < 11 then ∑ t : Fin 64, term W ⟨j, h⟩ r l t else 0) := by
  induction n with
  | zero =>
    rw [Finset.range_zero, Finset.sum_empty]
    show Ideal.ofBits .f32 0x00000000#32 = 0
    exact Ideal.ofBits_zero_f32
  | succ n ih =>
    rw [Finset.sum_range_succ, ← ih]
    show (if h : n < 11 then accN W ⟨n, h⟩ (accB W n) 64 else accB W n) (ix2 r l) = _
    by_cases h : n < 11
    · rw [dif_pos h, dif_pos h, accN_apply, Finset.sum_range]
      simp only [Fin.is_lt, dite_true, Fin.eta]
    · rw [dif_neg h, dif_neg h, add_zero]

theorem accB_total (W : WE) (r : Fin 32) (l : Fin 512) :
    accB W 11 (ix2 r l) = ∑ j : Fin 11, ∑ t : Fin 64, term W j r l t := by
  rw [accB_apply, Finset.sum_range]
  simp only [Fin.is_lt, dite_true, Fin.eta]

/-- The sum of every magnitude. -/
def total (W : WE) : EReal := ∑ i, mag W i

theorem sum_acc (W : WE) : ∑ i, accB W 11 i = total W := by
  unfold total
  rw [sum_idx2, sum_idx2]
  rw [sum_split (show 2048 = 64 * 32 from rfl) (fun a : Fin 2048 => ∑ b : Fin 5632, mag W (ix2 a b))
    (fun t r => ∑ j : Fin 11, ∑ l : Fin 512, term W j r l t) (fun t r k hk => by
      have hk' : k = ⟨32 * t.val + r.val, by omega⟩ := Fin.ext hk
      rw [hk']
      exact sum_split (show 5632 = 11 * 512 from rfl) _ _ (fun j l n hn => by
        have hn' : n = ⟨512 * j.val + l.val, by omega⟩ := Fin.ext hn
        rw [hn']; rfl))]
  rw [Finset.sum_comm (s := (Finset.univ : Finset (Fin 64)))]
  refine Finset.sum_congr rfl fun r _ => ?_
  simp only [accB_total]
  rw [Finset.sum_comm, Finset.sum_comm (s := (Finset.univ : Finset (Fin 64)))]
  exact Finset.sum_congr rfl fun j _ => Finset.sum_comm

/-- The number of weights. -/
theorem ofBits_count : Ideal.ofBits .f32 0x4B300000#32 = ((11534336 : ℝ) : EReal) := by
  simp [Ideal.ofBits, Ideal.ieee]; try norm_num

theorem sum_cast {s t : Shape} (a : s.Idx → EReal) (h : s.ShapeCasts t) : ∑ i, shapeCast t a h i = ∑ i, a i :=
  Equiv.sum_comp (Shape.reshapeEquiv _) a

theorem gF_eq (W : WE) : gF W = Ideal.div (total W) ((11534336 : ℝ) : EReal) := by
  unfold gF gammaOf
  refine (congrArg (fun e : EReal => Ideal.div e (Ideal.ofBits .f32 0x4B300000#32))
    (Ideal.multiReduction_add_total (φ := .f32) (shapeCast S1x32x512 (accB W 11) shapeCasts_S32x512_S1x32x512) 0x00000000#32 reduces_S1x32x512_S1
      (by decide) (.inl rfl) rfl _)).trans ?_
  rw [ofBits_count, ← sum_acc, sum_cast]

theorem gammaR_eq (W : WE) (j : (⟨0, ![]⟩ : Shape).Idx) : Cert.ReferenceIdeal.Value.gammaR (F := Ideal) W j = Ideal.div (total W) ((11534336 : ℝ) : EReal) := by
  unfold Cert.ReferenceIdeal.Value.gammaR
  rw [hostDivf_apply, hostReduceAdd_apply, Ideal.hostReduceAdd_total _ (fun b => b.elim0)]
  show Ideal.div (Ideal.ofBits .f32 0x00000000#32 + total W) (Ideal.ofBits .f32 0x4B300000#32) = _
  rw [Ideal.ofBits_zero_f32, zero_add, ofBits_count]

theorem gamma_eq (W : WE) (j : (⟨0, ![]⟩ : Shape).Idx) : gF W = Cert.ReferenceIdeal.Value.gammaR (F := Ideal) W j :=
  (gF_eq W).trans (gammaR_eq W j).symm

/-- The mean is positive where some weight is not zero, and bounds the weights where it is finite. -/
theorem gF_pos (W : WE) (h : 0 < total W) : 0 < gF W := by
  rw [gF_eq]; exact mean_pos (by norm_num) h
theorem gF_zero (W : WE) (h : ¬ 0 < total W) : gF W = 0 := by
  have h0 : total W = 0 := le_antisymm (not_lt.1 h) (Finset.sum_nonneg fun i _ => absE_nonneg (W i))
  rw [gF_eq, h0]; exact mean_zero (by norm_num)
theorem gF_fin (W : WE) (i : S2048x5632.Idx) (h : gF W ≠ ⊤) : W i ≠ ⊤ ∧ W i ≠ ⊥ :=
  finite_of_sum W (fun e => h (by rw [gF_eq]; unfold total mag; rw [e]; exact mean_top (by norm_num))) i

end Cert.Value

end
-- ==== Proof.Value.Quant.lean ====
/- The activations' scales and codes: a row's largest magnitude, its scale, and the codes, the same on both sides row by row. -/
module

public import proofs.«01_k».proof.Proof.Value.Real
public import proofs.«01_k».proof.Proof.KernelIdeal.Ends
public import proofs.«01_k».proof.Proof.ReferenceIdeal.Reg
public import Idealize.ShloMosaic.Lib.ValueIdx
public import Idealize.ShloMosaic.Lib.ValueLayoutCasts
public import Idealize.ShloMosaic.Lib.IdealHost

@[expose] public section

noncomputable section

namespace Cert.Value

open Idealize.ShloMosaic Idealize.ShloMosaic.ValueIdx Cert.KernelIdeal Cert.KernelIdeal.Gen Cert.KernelIdeal.Body

/-- A row's largest magnitude; its scale; a code. -/
def rowM (f : Fin 2048 → EReal) : EReal := (Finset.univ : Finset (Fin 2048)).fold max (Ideal.ofBits .f32 0xFF800000#32) fun k => max (f k) (-(f k))
def scaleOf (M : EReal) : EReal :=
  Scalar.select (Ideal.cmp .oeq M (Ideal.ofBits .f32 0x00000000#32)) (Ideal.ofBits .f32 0x3F800000#32) (Ideal.div M (Ideal.ofBits .f32 0x42FE0000#32))
def codeOf (s x : EReal) : EReal := clipRound 127 (Ideal.div x s)

/-! ## The kernel's side -/

abbrev XE := XT Ideal

theorem lift_row (i : Fin 32) (k : Fin 2048) : (reduces_S32x2048_S32 : S32x2048.Reduces [1] S32).lift (ix1 i) k = (ix2 i k : S32x2048.Idx) := by
  funext a; apply Fin.ext
  match a with
  | ⟨0, _⟩ => rfl
  | ⟨1, _⟩ => rfl

theorem kMax (v : Vec Ideal S32x2048 .bf16) (i : Fin 32) :
    multiReduction .maximumf [1] S32 (absf (extf .f32 v bitsLt_bf16_f32) : FVec Ideal S32x2048 .f32) 0xFF800000#32 reduces_S32x2048_S32 (.inl rfl) rfl (ix1 i)
      = rowM fun k => v (ix2 i k) := by
  refine (Ideal.multiReduction_maximumf_single (φ := .f32) (absf (extf .f32 v bitsLt_bf16_f32) : FVec Ideal S32x2048 .f32) 0xFF800000#32 reduces_S32x2048_S32 (.inl rfl) rfl (ix1 i)).trans ?_
  refine congrArg (fun f : Fin 2048 → EReal => (Finset.univ : Finset (Fin 2048)).fold max (Ideal.ofBits .f32 0xFF800000#32) f) (funext fun k => ?_)
  exact congrArg (fun e : EReal => max e (-e)) (congrArg v (lift_row i k))

theorem scale_gen {s : Shape} (m : FVec Ideal s .f32) (i : s.Idx) :
    select (cmpf .oeq m (broadcast s (Scalar.ofBits .f32 0x00000000#32))) (broadcast s (Scalar.ofBits .f32 0x3F800000#32)) (divf m (broadcast s (Scalar.ofBits .f32 0x42FE0000#32))) i
      = scaleOf (m i) := rfl

theorem ints : (((127#32 : BitVec 32).toInt : ℝ) : EReal) = (((127 : ℤ) : ℝ) : EReal) ∧ (((-127#32 : BitVec 32).toInt : ℝ) : EReal) = (((-127 : ℤ) : ℝ) : EReal) := by
  have h : (127#32 : BitVec 32).toInt = 127 := by decide
  have h' : (-127#32 : BitVec 32).toInt = -127 := by decide
  exact ⟨by rw [h], by rw [h']⟩

theorem code_gen {s : Shape} (x q : FVec Ideal s .f32) (i : s.Idx) :
    minimumf (broadcast s (Scalar.sitofp .f32 127#32)) (maximumf (broadcast s (Scalar.sitofp .f32 (-127#32 : BitVec 32))) (roundeven (divf x q))) i
      = codeOf (q i) (x i) := by
  show min (((127#32 : BitVec 32).toInt : ℝ) : EReal) (max (((-127#32 : BitVec 32).toInt : ℝ) : EReal) (Ideal.liftRound Ideal.roundHalfEven (Ideal.div (x i) (q i)))) = _
  rw [ints.1, ints.2]; rfl

theorem qScale_apply (v : Vec Ideal S32x2048 .bf16) (i : Fin 32) (u : Fin 1) : qScale v (ix2 i u) = scaleOf (rowM fun k => v (ix2 i k)) := by
  have e := (shapeCast_a_a1_apply (multiReduction .maximumf [1] S32 (absf (extf .f32 v bitsLt_bf16_f32) : FVec Ideal S32x2048 .f32) 0xFF800000#32 reduces_S32x2048_S32 (.inl rfl) rfl)
    shapeCasts_S32_S32x1 i u).trans (kMax v i)
  exact (scale_gen _ _).trans (congrArg scaleOf e)

theorem bcast_scale (v : S32x1.Idx → EReal) (i : Fin 32) (k : Fin 2048) : broadcastTo S32x2048 v broadcasts_S32x1_S32x2048 (ix2 i k) = v (ix2 i (0 : Fin 1)) :=
  broadcastTo_apply v _ _ _ fun a => by
    match a with
    | ⟨0, _⟩ => rfl
    | ⟨1, _⟩ => rfl
theorem bcast_scale' (v : S32x1.Idx → EReal) (i : Fin 32) (k : Fin 128) : broadcastTo S32x128 v broadcasts_S32x1_S32x128 (ix2 i k) = v (ix2 i (0 : Fin 1)) :=
  broadcastTo_apply v _ _ _ fun a => by
    match a with
    | ⟨0, _⟩ => rfl
    | ⟨1, _⟩ => rfl

theorem qCode_apply (v : Vec Ideal S32x2048 .bf16) (i : Fin 32) (k : Fin 2048) :
    qCode v (ix2 i k) = codeOf (scaleOf (rowM fun k => v (ix2 i k))) (v (ix2 i k)) := by
  have e := (bcast_scale (qScale v) i k).trans (qScale_apply v i 0)
  exact (code_gen _ _ _).trans (congrArg (fun s : EReal => codeOf s (v (ix2 i k))) e)

theorem xRows_apply (X : XE) (r : Fin 512) (k : Fin 2048) : xRows X (rb r) (ix2 (ri r) k) = X (ix2 r k) :=
  congrArg X (ix2_ext (by show 32 * (r.val / 32) + r.val % 32 = r.val; omega) rfl)

/-- The scale of row `r`. -/
def sOf (X : XE) (r : Fin 512) : EReal := scaleOf (rowM fun k => X (ix2 r k))

theorem qCode_rows (X : XE) (r : Fin 512) (k : Fin 2048) : qCode (xRows X (rb r)) (ix2 (ri r) k) = codeOf (sOf X r) (X (ix2 r k)) := by
  rw [qCode_apply]; simp only [xRows_apply]; rfl

theorem cast_self {s : Shape} {α : Type} (x : s.Idx → α) (h : s.ShapeCasts s) (i : s.Idx) : shapeCast s x h i = x i := shapeCast_apply x h i i rfl

theorem cbF_apply (X : XE) (r : Fin 512) (k : Fin 2048) : cbF X (ix2 r k) = codeOf (sOf X r) (X (ix2 r k)) :=
  (cast_self (qCode (xRows X (rb r))) shapeCasts_S32x2048_S32x2048 _).trans (qCode_rows X r k)
theorem ciF_apply (X : XE) (r : Fin 512) (k : Fin 2048) : ciF X (ix2 r k) = Ideal.fptosi 8 (codeOf (sOf X r) (X (ix2 r k))) :=
  (cast_self (fptosi 8 (qCode (xRows X (rb r))) : IVec S32x2048 8) shapeCasts_S32x2048_S32x2048 _).trans (congrArg (Ideal.fptosi 8) (qCode_rows X r k))
theorem srF_apply (X : XE) (r : Fin 512) (l : Fin 128) : srF X (ix2 r l) = sOf X r := by
  refine (cast_self (broadcastTo S32x128 (shapeCast S32x1 (qScale (xRows X (rb r))) shapeCasts_S32x1_S32x1 : FVec Ideal S32x1 .f32) broadcasts_S32x1_S32x128) shapeCasts_S32x128_S32x128 (ix2 (ri r) l)).trans ?_
  refine (bcast_scale' _ (ri r) l).trans ?_
  refine (cast_self (qScale (xRows X (rb r))) shapeCasts_S32x1_S32x1 _).trans ?_
  rw [qScale_apply]; simp only [xRows_apply]; rfl
theorem sCol_apply (X : XE) (r : Fin 512) (u : Fin 1) : sCol X (ix2 r u) = sOf X r := srF_apply X r _

theorem lift_col (l a : Fin 128) : (reduces_S128x128_S128 : S128x128.Reduces [0] S128).lift (ix1 l) a = (ix2 a l : S128x128.Idx) := by
  funext b; apply Fin.ext
  match b with
  | ⟨0, _⟩ => rfl
  | ⟨1, _⟩ => rfl

theorem iota_eq (a l : Fin 128) : IntOp.cmpi .eq (BitVec.ofNat 32 a.val) (BitVec.ofNat 32 l.val) = if a = l then 1#1 else 0#1 := by
  unfold IntOp.cmpi
  by_cases h : a = l
  · subst h; simp
  · have hv : a.val ≠ l.val := fun e => h (Fin.ext e)
    have : BitVec.ofNat 32 a.val ≠ BitVec.ofNat 32 l.val := fun e => hv (by
      have e' := congrArg BitVec.toNat e
      simp only [BitVec.toNat_ofNat] at e'
      omega)
    rw [if_neg h]; show BitVec.ofBool (BitVec.ofNat 32 a.val == BitVec.ofNat 32 l.val) = _
    rw [beq_eq_false_iff_ne.2 this]; rfl

theorem sum_pick (l : Fin 128) (c : EReal) : ∑ a : Fin 128, (if a = l then c else 0) = c := by
  rw [Finset.sum_ite_eq', if_pos (Finset.mem_univ _)]

theorem diagRow_apply (v : Vec Ideal S128x128 .f32) (u : Fin 1) (l : Fin 128) : diagRow v (ix2 u l) = v (ix2 l l) := by
  unfold diagRow
  refine (shapeCast_a_1a_apply _ _ _ _).trans ?_
  refine (Ideal.multiReduction_add_single (φ := .f32) _ 0x00000000#32 reduces_S128x128_S128 (.inl rfl) rfl (ix1 l)).trans ?_
  have hz : Ideal.ofBits .f32 0x00000000#32 = 0 := Ideal.ofBits_zero_f32
  have key : ∀ a : Fin 128, select (cmpi .eq (iota .tc S128x128 32 [0] iota_S128x128_d0_w32) (iota .tc S128x128 32 [1] iota_S128x128_d1_w32)) v
      (broadcast S128x128 (Scalar.ofBits (F := Ideal) .f32 0x00000000#32)) ((reduces_S128x128_S128 : S128x128.Reduces [0] S128).lift (ix1 l) a) = if a = l then v (ix2 l l) else 0 := fun a => by
    rw [lift_col]
    show Scalar.select (IntOp.cmpi .eq (BitVec.ofNat 32 (0 * 128 + a.val)) (BitVec.ofNat 32 (0 * 128 + l.val))) (v (ix2 a l)) (Ideal.ofBits .f32 0x00000000#32) = _
    rw [hz, Nat.zero_mul, Nat.zero_add, Nat.zero_add, iota_eq]
    by_cases h : a = l
    · subst h; rw [if_pos rfl, if_pos rfl]; rfl
    · rw [if_neg h, if_neg h]; rfl
  refine (Finset.sum_congr rfl fun a _ => key a).trans ?_
  exact sum_pick l _

/-- Row `s` of batch `b` among the 512 rows. -/
def rowOf (b : Fin 2) (s : Fin 256) : Fin 512 := ⟨256 * b.val + s.val, by omega⟩

theorem scF_apply (X : XE) (b : Fin 2) (s : Fin 256) : scF X (ix2 b s) = sOf X (rowOf b s) := by
  refine (diagRow_apply _ _ _).trans ?_
  refine (congrArg (srF X) (?_ : _ = (ix2 (rowOf b s) (⟨s.val % 128, by omega⟩ : Fin 128) : S512x128.Idx))).trans (srF_apply X _ _)
  exact ix2_ext (by show 128 * (2 * b.val + s.val / 128) + s.val % 128 = 256 * b.val + s.val; omega) rfl

/-! ## The reference's side -/

section Ref
open Cert.ReferenceIdeal.Value

theorem lift_last (b : Fin 2) (s : Fin 256) (k : Fin 2048) (h : (⟨3, ![2, 256, 2048]⟩ : Shape).Reduces [2] ⟨2, ![2, 256]⟩) :
    h.lift (ix2 b s) k = (ix3 b s k : (⟨3, ![2, 256, 2048]⟩ : Shape).Idx) := by
  funext a; apply Fin.ext
  match a with
  | ⟨0, _⟩ => rfl
  | ⟨1, _⟩ => rfl
  | ⟨2, _⟩ => rfl

theorem rowMaxR_apply (x : (⟨3, ![2, 256, 2048]⟩ : Shape).Idx → EReal) (b : Fin 2) (s : Fin 256) :
    rowMaxR (F := Ideal) x (ix2 b s) = rowM fun k => x (ix3 b s k) := by
  have h : (⟨3, ![2, 256, 2048]⟩ : Shape).Reduces [2] ⟨2, ![2, 256]⟩ := by decide
  unfold rowMaxR
  refine (Host.reduce_eq_fold_single (max : EReal → EReal → EReal) _ _ _ h _ (ix2 b s)).trans ?_
  refine congrArg (fun f : Fin 2048 → EReal => (Finset.univ : Finset (Fin 2048)).fold max (Ideal.ofBits .f32 0xFF800000#32) f) (funext fun k => ?_)
  exact congrArg (fun e : EReal => max e (-e)) (congrArg x (lift_last b s k h))

theorem scaleSel_gen (m : FVec Ideal ⟨2, ![2, 256]⟩ .f32) (i : (⟨2, ![2, 256]⟩ : Shape).Idx) :
    select (cmpf .oeq m (broadcastInDim ⟨2, ![2, 256]⟩ ![] Cert.ReferenceIdeal.Gen.facts.bcast_S_S2x256 (constant Cert.ReferenceIdeal.S_ .f32 0x00000000#32)))
      (broadcastInDim ⟨2, ![2, 256]⟩ ![] Cert.ReferenceIdeal.Gen.facts.bcast_S_S2x256 (id (constant Cert.ReferenceIdeal.S_ .f32 0x3F800000#32)))
      (Host.divf m (broadcastInDim ⟨2, ![2, 256]⟩ ![] Cert.ReferenceIdeal.Gen.facts.bcast_S_S2x256 (constant Cert.ReferenceIdeal.S_ .f32 0x42FE0000#32))) i = scaleOf (m i) := rfl

theorem scaleR_gen (x : (⟨3, ![2, 256, 2048]⟩ : Shape).Idx → EReal) (i : (⟨2, ![2, 256]⟩ : Shape).Idx) :
    scaleR (F := Ideal) x i = scaleOf (rowMaxR (F := Ideal) x i) := scaleSel_gen (rowMaxR (F := Ideal) x) i

theorem codeSel_gen (x q : FVec Ideal ⟨3, ![2, 256, 2048]⟩ .f32) (i : (⟨3, ![2, 256, 2048]⟩ : Shape).Idx) :
    minimumf (broadcastInDim ⟨3, ![2, 256, 2048]⟩ ![] Cert.ReferenceIdeal.Gen.facts.bcast_S_S2x256x2048 (sitofp .f32 (constantI Cert.ReferenceIdeal.S_ 32 127#32)))
      (maximumf (broadcastInDim ⟨3, ![2, 256, 2048]⟩ ![] Cert.ReferenceIdeal.Gen.facts.bcast_S_S2x256x2048 (sitofp .f32 (constantI Cert.ReferenceIdeal.S_ 32 (-127#32))))
        (Host.roundeven (Host.divf x q))) i = codeOf (q i) (x i) := by
  show min (((127#32 : BitVec 32).toInt : ℝ) : EReal) (max (((-127#32 : BitVec 32).toInt : ℝ) : EReal) (Ideal.liftRound Ideal.roundHalfEven (Ideal.div (x i) (q i)))) = _
  rw [ints.1, ints.2]; rfl

theorem codeR_gen (x : (⟨3, ![2, 256, 2048]⟩ : Shape).Idx → EReal) (i : (⟨3, ![2, 256, 2048]⟩ : Shape).Idx) :
    codeR (F := Ideal) x i = codeOf (broadcastInDim ⟨3, ![2, 256, 2048]⟩ ![0, 1, 2] Cert.ReferenceIdeal.Gen.facts.bcast_S2x256x1_S2x256x2048_0_1_2
      (broadcastInDim ⟨3, ![2, 256, 1]⟩ ![0, 1] Cert.ReferenceIdeal.Gen.facts.bcast_S2x256_S2x256x1_0_1 (scaleR (F := Ideal) x)) i) (x i) :=
  codeSel_gen x _ i

theorem scaleR_apply (x : (⟨3, ![2, 256, 2048]⟩ : Shape).Idx → EReal) (b : Fin 2) (s : Fin 256) :
    scaleR (F := Ideal) x (ix2 b s) = scaleOf (rowM fun k => x (ix3 b s k)) :=
  (scaleR_gen x (ix2 b s)).trans (congrArg scaleOf (rowMaxR_apply x b s))

theorem bcastR {n : Nat} (v : (⟨2, ![2, 256]⟩ : Shape).Idx → EReal)
    (h : (⟨2, ![2, 256]⟩ : Shape).BroadcastsInDim ⟨3, ![2, 256, 1]⟩ ![0, 1]) (h' : (⟨3, ![2, 256, 1]⟩ : Shape).BroadcastsInDim ⟨3, ![2, 256, n]⟩ ![0, 1, 2])
    (b : Fin 2) (s : Fin 256) (k : Fin n) :
    broadcastInDim ⟨3, ![2, 256, n]⟩ ![0, 1, 2] h' (broadcastInDim ⟨3, ![2, 256, 1]⟩ ![0, 1] h v) (ix3 b s k) = v (ix2 b s) := by
  refine (broadcastInDim_apply _ h' _ (ix3 b s k) (ix3 b s (0 : Fin 1)) fun a => ?_).trans
    (broadcastInDim_apply _ h v (ix3 b s (0 : Fin 1)) (ix2 b s) fun a => ?_)
  · match a with
    | ⟨0, _⟩ => rfl
    | ⟨1, _⟩ => rfl
    | ⟨2, _⟩ => rfl
  · match a with
    | ⟨0, _⟩ => rfl
    | ⟨1, _⟩ => rfl

theorem codeR_apply (x : (⟨3, ![2, 256, 2048]⟩ : Shape).Idx → EReal) (b : Fin 2) (s : Fin 256) (k : Fin 2048) :
    codeR (F := Ideal) x (ix3 b s k) = codeOf (scaleOf (rowM fun k => x (ix3 b s k))) (x (ix3 b s k)) := by
  have e := (bcastR (scaleR (F := Ideal) x) Cert.ReferenceIdeal.Gen.facts.bcast_S2x256_S2x256x1_0_1 Cert.ReferenceIdeal.Gen.facts.bcast_S2x256x1_S2x256x2048_0_1_2 b s k).trans (scaleR_apply x b s)
  exact (codeR_gen x _).trans (congrArg (fun s' : EReal => codeOf s' (x (ix3 b s k))) e)

end Ref

/-- The activations as rows, and back. -/
theorem rows_apply {n : Nat} {α : Type} (x : (⟨3, ![2, 256, n]⟩ : Shape).Idx → α) (h : (⟨3, ![2, 256, n]⟩ : Shape).ShapeCasts ⟨2, ![512, n]⟩)
    (b : Fin 2) (s : Fin 256) (k : Fin n) : shapeCast ⟨2, ![512, n]⟩ x h (ix2 (rowOf b s) k) = x (ix3 b s k) :=
  shapeCast_apply x h _ _ (by
    rw [Shape.rowMajor_val_two, Shape.rowMajor_val_three]
    show (b.val * 256 + s.val) * n + k.val = (256 * b.val + s.val) * n + k.val
    rw [Nat.mul_comm b.val])
theorem unrows_apply {n : Nat} {α : Type} (x : (⟨2, ![512, n]⟩ : Shape).Idx → α) (h : (⟨2, ![512, n]⟩ : Shape).ShapeCasts ⟨3, ![2, 256, n]⟩)
    (b : Fin 2) (s : Fin 256) (k : Fin n) : shapeCast ⟨3, ![2, 256, n]⟩ x h (ix3 b s k) = x (ix2 (rowOf b s) k) :=
  shapeCast_apply x h _ _ (by
    rw [Shape.rowMajor_val_two, Shape.rowMajor_val_three]
    show (256 * b.val + s.val) * n + k.val = (b.val * 256 + s.val) * n + k.val
    rw [Nat.mul_comm b.val])

theorem sOf_rows (x : (⟨3, ![2, 256, 2048]⟩ : Shape).Idx → EReal) (h : (⟨3, ![2, 256, 2048]⟩ : Shape).ShapeCasts ⟨2, ![512, 2048]⟩) (b : Fin 2) (s : Fin 256) :
    sOf (shapeCast S512x2048 x h) (rowOf b s) = Cert.ReferenceIdeal.Value.scaleR (F := Ideal) x (ix2 b s) := by
  rw [scaleR_apply]; unfold sOf
  simp only [rows_apply]
theorem code_rows (x : (⟨3, ![2, 256, 2048]⟩ : Shape).Idx → EReal) (h : (⟨3, ![2, 256, 2048]⟩ : Shape).ShapeCasts ⟨2, ![512, 2048]⟩) (b : Fin 2) (s : Fin 256) (k : Fin 2048) :
    codeOf (sOf (shapeCast S512x2048 x h) (rowOf b s)) (shapeCast S512x2048 x h (ix2 (rowOf b s) k)) = Cert.ReferenceIdeal.Value.codeR (F := Ideal) x (ix3 b s k) := by
  rw [codeR_apply, sOf_rows, scaleR_apply, rows_apply]

end Cert.Value

end
-- ==== Proof.Value.Product.lean ====
/- The ternary weights and the product: the kernel's blocks of 512 columns are the reference's one product, column by column. -/
module

public import proofs.«01_k».proof.Proof.Value.Gamma
public import proofs.«01_k».proof.Proof.Value.Quant
public import Idealize.ShloMosaic.Lib.MatmulPlain

@[expose] public section

noncomputable section

namespace Cert.Value

open Idealize.ShloMosaic Idealize.ShloMosaic.ValueIdx Cert.KernelIdeal Cert.KernelIdeal.Gen Cert.KernelIdeal.Body

theorem ofBits_half : Ideal.ofBits .f32 0x3F000000#32 = ((1 / 2 : ℝ) : EReal) := by
  simp [Ideal.ofBits, Ideal.ieee]
  rw [← EReal.coe_mul]; norm_num
theorem ofBits_neg_one : Ideal.ofBits .f32 0xBF800000#32 = -1 := by
  simp [Ideal.ofBits, Ideal.ieee]
  rw [← EReal.coe_mul]; norm_num

theorem ofBits_one' : Ideal.ofBits .f32 0x3F800000#32 = 1 := by
  simp [Ideal.ofBits, Ideal.ieee]
  rw [← EReal.coe_mul]; norm_num
theorem ofBits_zero' : Ideal.ofBits .bf16 0x0000#16 = 0 := by simp [Ideal.ofBits, Ideal.ieee]

theorem theta_apply (g : EReal) (i : S32x128.Idx) : thetaOf (F := Ideal) g i = ((1 / 2 : ℝ) : EReal) * g := by
  show Ideal.ofBits .f32 0x3F000000#32 * g = _
  rw [ofBits_half]

theorem select_bool {α : Type} (p : Prop) [Decidable p] (a b : α) : Scalar.select (BitVec.ofBool (decide p)) a b = if p then a else b := by
  unfold Scalar.select
  by_cases h : p
  · rw [if_pos h, if_pos]; simp [h]
  · rw [if_neg h, if_neg]; simp [h]

theorem tern_apply (g : EReal) (w : FVec Ideal S32x128 .bf16) (i : S32x128.Idx) : tern (thetaOf (F := Ideal) g) w i = ternE g (w i) := by
  show Scalar.select (BitVec.ofBool (decide (thetaOf (F := Ideal) g i < w i))) (Ideal.ofBits .f32 0x3F800000#32)
    (Scalar.select (BitVec.ofBool (decide (w i < Ideal.ofBits .bf16 0x0000#16 - thetaOf (F := Ideal) g i))) (Ideal.ofBits .f32 0xBF800000#32) (Ideal.ofBits .f32 0x00000000#32)) = _
  rw [select_bool, select_bool, theta_apply, ofBits_one', ofBits_neg_one, Ideal.ofBits_zero_f32, ofBits_zero']
  rfl

/-- A column's block of 512, and its place there. -/
def cb (n : Fin 5632) : Fin 11 := ⟨n.val / 512, by omega⟩
def ci (n : Fin 5632) : Fin 512 := ⟨n.val % 512, by omega⟩

theorem tbBlk_apply (W : WE) (u : Fin 1) (k : Fin 2048) (n : Fin 5632) : tbBlk W (cb n) (ix3 u k (ci n)) = ternE (gF W) (W (ix2 k n)) := by
  refine (tern_apply (gF W) _ _).trans (congrArg (ternE (gF W)) (congrArg W (ix2_ext ?_ ?_)))
  · show 32 * (k.val / 32) + k.val % 32 = k.val; omega
  · show 512 * (n.val / 512) + 128 * (n.val % 512 / 128) + n.val % 512 % 128 = n.val; omega

theorem bcast_s (v : S512x1.Idx → EReal) (i : Fin 512) (k : Fin 512) : broadcastTo S512x512 v broadcasts_S512x1_S512x512 (ix2 i k) = v (ix2 i (0 : Fin 1)) :=
  broadcastTo_apply v _ _ _ fun a => by
    match a with
    | ⟨0, _⟩ => rfl
    | ⟨1, _⟩ => rfl

theorem yOf_apply (g : EReal) (c : Vec Ideal S512x2048 .bf16) (t : Vec Ideal S1x2048x512 .bf16) (s : Vec Ideal S512x1 .f32) (r l : Fin 512) :
    yOf (F := Ideal) g c t s (ix2 r l) = (∑ k : Fin 2048, c (ix2 r k) * t (ix3 (0 : Fin 1) k l)) * s (ix2 r (0 : Fin 1)) * g := by
  have e1 : FloatOps.matmul (φ₁ := .bf16) (φ₂ := .bf16) (DotDims.plain 512 2048 512) none c (shapeCast S2048x512 t shapeCasts_S1x2048x512_S2048x512 : FVec Ideal S2048x512 .bf16)
      (constant S512x512 .f32 0x00000000#32) (ix2 r l) = ∑ k : Fin 2048, c (ix2 r k) * t (ix3 (0 : Fin 1) k l) := by
    refine (Ideal.matmul_plain_apply (φ₁ := .bf16) (φ₂ := .bf16) none c _ _ r l).trans ?_
    have hz : (constant S512x512 .f32 0x00000000#32 : FVec Ideal S512x512 .f32) (ix2 r l) = 0 := Ideal.ofBits_zero_f32
    rw [hz, zero_add]
    refine Finset.sum_congr rfl fun k _ => ?_
    exact congrArg (fun e : EReal => c (ix2 r k) * e) (shapeCast_1ab_ab_apply _ _ _ _)
  have e2 := bcast_s s r l
  exact congrArg₂ (fun a b : EReal => a * b * g) e1 e2

theorem yF_apply (X : XE) (W : WE) (r : Fin 512) (n : Fin 5632) :
    yF X W (ix2 r n) = (∑ k : Fin 2048, codeOf (sOf X r) (X (ix2 r k)) * ternE (gF W) (W (ix2 k n))) * sOf X r * gF W := by
  refine (yOf_apply (gF W) (cbF X) (tbBlk W (cb n)) (sCol X) r (ci n)).trans ?_
  rw [sCol_apply]
  refine congrArg (fun e : EReal => e * sOf X r * gF W) (Finset.sum_congr rfl fun k _ => ?_)
  rw [cbF_apply, tbBlk_apply]

/-! ## The reference's side -/

theorem ones : (((1#32 : BitVec 32).toInt : ℝ) : EReal) = (((1 : ℤ) : ℝ) : EReal) ∧ (((-1#32 : BitVec 32).toInt : ℝ) : EReal) = (((-1 : ℤ) : ℝ) : EReal) := by
  have h : (1#32 : BitVec 32).toInt = 1 := by decide
  have h' : (-1#32 : BitVec 32).toInt = -1 := by decide
  exact ⟨by rw [h], by rw [h']⟩

theorem ternSel_gen (w : FVec Ideal ⟨2, ![2048, 5632]⟩ .f32) (g : FVec Ideal Cert.ReferenceIdeal.S_ .f32) (i : (⟨2, ![2048, 5632]⟩ : Shape).Idx) :
    minimumf (broadcastInDim ⟨2, ![2048, 5632]⟩ ![] Cert.ReferenceIdeal.Gen.facts.bcast_S_S2048x5632 (sitofp .f32 (constantI Cert.ReferenceIdeal.S_ 32 1#32)))
      (maximumf (broadcastInDim ⟨2, ![2048, 5632]⟩ ![] Cert.ReferenceIdeal.Gen.facts.bcast_S_S2048x5632 (sitofp .f32 (constantI Cert.ReferenceIdeal.S_ 32 (-1#32))))
        (Host.roundeven (Host.divf w (broadcastInDim ⟨2, ![2048, 5632]⟩ ![] Cert.ReferenceIdeal.Gen.facts.bcast_S_S2048x5632 g)))) i
      = clipRound 1 (Ideal.div (w i) (g ix0)) := by
  have e : broadcastInDim ⟨2, ![2048, 5632]⟩ ![] Cert.ReferenceIdeal.Gen.facts.bcast_S_S2048x5632 g i = g ix0 := broadcastInDim_scalar_apply _ _ _
  show min (((1#32 : BitVec 32).toInt : ℝ) : EReal) (max (((-1#32 : BitVec 32).toInt : ℝ) : EReal) (Ideal.liftRound Ideal.roundHalfEven
    (Ideal.div (w i) (broadcastInDim ⟨2, ![2048, 5632]⟩ ![] Cert.ReferenceIdeal.Gen.facts.bcast_S_S2048x5632 g i)))) = _
  rw [ones.1, ones.2, e]; rfl

theorem ternR_apply (W : WE) (i : S2048x5632.Idx) : Cert.ReferenceIdeal.Value.ternR (F := Ideal) W i = clipRound 1 (Ideal.div (W i) (gF W)) :=
  (ternSel_gen W (Cert.ReferenceIdeal.Value.gammaR (F := Ideal) W) i).trans (congrArg (fun g : EReal => clipRound 1 (Ideal.div (W i) g)) (gamma_eq W ix0).symm)

/-- Where some weight is not zero, the two ternary values are equal. -/
theorem ternR_eq (W : WE) (h : 0 < total W) (i : S2048x5632.Idx) : Cert.ReferenceIdeal.Value.ternR (F := Ideal) W i = ternE (gF W) (W i) :=
  (ternR_apply W i).trans (clip_eq_tern (gF W) (W i) (gF_pos W h) (gF_fin W i))

theorem dot_apply (a : FVec Ideal ⟨3, ![2, 256, 2048]⟩ .bf16) (t : FVec Ideal ⟨2, ![2048, 5632]⟩ .bf16) (b : Fin 2) (s : Fin 256) (n : Fin 5632) :
    (Host.dotGeneral Cert.ReferenceIdeal.dot_S2x256x2048_S2048x5632_S2x256x5632_2_0_01_1_n_n none a t : FVec Ideal ⟨3, ![2, 256, 5632]⟩ .f32) (ix3 b s n)
      = ∑ k : Fin 2048, a (ix3 b s k) * t (ix2 k n) := by
  refine (Ideal.dotGeneral_apply _ none _ a t (ix3 b s n)).trans ?_
  rw [← Equiv.sum_comp (contrEquiv1 Cert.ReferenceIdeal.dot_S2x256x2048_S2048x5632_S2x256x5632_2_0_01_1_n_n 2048 rfl rfl).symm]
  refine Finset.sum_congr rfl fun k _ => ?_
  have hk := contrEquiv1_symm_val Cert.ReferenceIdeal.dot_S2x256x2048_S2048x5632_S2x256x5632_2_0_01_1_n_n 2048 rfl rfl k
  have el : Cert.ReferenceIdeal.dot_S2x256x2048_S2048x5632_S2x256x5632_2_0_01_1_n_n.lhsIdx (ix3 b s n)
      ((contrEquiv1 Cert.ReferenceIdeal.dot_S2x256x2048_S2048x5632_S2x256x5632_2_0_01_1_n_n 2048 rfl rfl).symm k) = ix3 b s k := by
    funext a; apply Fin.ext
    match a with
    | ⟨0, _⟩ => rfl
    | ⟨1, _⟩ => rfl
    | ⟨2, _⟩ => exact hk
  have er : Cert.ReferenceIdeal.dot_S2x256x2048_S2048x5632_S2x256x5632_2_0_01_1_n_n.rhsIdx (ix3 b s n)
      ((contrEquiv1 Cert.ReferenceIdeal.dot_S2x256x2048_S2048x5632_S2x256x5632_2_0_01_1_n_n 2048 rfl rfl).symm k) = ix2 k n := by
    funext a; apply Fin.ext
    match a with
    | ⟨0, _⟩ => exact hk
    | ⟨1, _⟩ => rfl
  exact congrArg₂ (fun p q : EReal => p * q) (congrArg a el) (congrArg t er)

/-- The reference's narrowed codes and ternary values, read back. -/
theorem pay3_apply (x : (⟨3, ![2, 256, 2048]⟩ : Shape).Idx → EReal) (i : (⟨3, ![2, 256, 2048]⟩ : Shape).Idx) (z : EReal)
    (h : x i = clipRound 127 z) : Cert.ReferenceIdeal.Gen.k0_pay3 (F := Ideal) x i = clipRound 127 z := by
  have e : shapeCast ⟨3, ![2, 256, 2048]⟩ x rfl i = x i := cast_self x rfl i
  refine (congrArg (fun a : EReal => (((Ideal.fptosi 8 a).toInt : ℝ) : EReal)) (e.trans h)).trans (narrow_id 127 (by norm_num) le_rfl z)
theorem pay4_apply (x : (⟨2, ![2048, 5632]⟩ : Shape).Idx → EReal) (i : (⟨2, ![2048, 5632]⟩ : Shape).Idx) (z : EReal)
    (h : x i = clipRound 1 z) : Cert.ReferenceIdeal.Gen.k0_pay4 (F := Ideal) x i = clipRound 1 z := by
  have e : shapeCast ⟨2, ![2048, 5632]⟩ x rfl i = x i := cast_self x rfl i
  refine (congrArg (fun a : EReal => (((Ideal.fptosi 8 a).toInt : ℝ) : EReal)) (e.trans h)).trans (narrow_id 1 (by norm_num) (by norm_num) z)

end Cert.Value

end
-- ==== Proof.Value.Packed.lean ====
/- The packed bytes: the lanes the kernel moves bring four neighbouring digits together, as the reference's reshape does. -/
module

public import proofs.«01_k».proof.Proof.Value.Product
public import Idealize.ShloMosaic.Lib.BitcastFour

@[expose] public section

noncomputable section

namespace Cert.Value

open Idealize.ShloMosaic Idealize.ShloMosaic.ValueIdx Cert.KernelIdeal Cert.KernelIdeal.Gen Cert.KernelIdeal.Body

/-! ## Moving lanes -/

/-- Lane `u` of the group of four lanes `m`. -/
def ln (m : Fin 32) (u : Fin 4) : Fin 128 := ⟨4 * m.val + u.val, by omega⟩

theorem laneI_apply (r : Fin 8) (l : Fin 128) : laneI (ix2 r l) = BitVec.ofNat 32 l.val := by
  show BitVec.ofNat 32 (0 * 128 + l.val) = _
  rw [Nat.zero_mul, Nat.zero_add]

theorem wrap_lane (l : Fin 128) : Scalar.select (IntOp.cmpi .slt (BitVec.ofNat 32 l.val) 0#32) (BitVec.ofNat 32 l.val + 128#32) (BitVec.ofNat 32 l.val) = BitVec.ofNat 32 l.val := by
  revert l; decide +kernel
theorem lane_mod (l : Fin 128) : (BitVec.ofNat 32 l.val).toNat % 128 = l.val := by
  revert l; decide +kernel

theorem casts_apply (x : IVec S8x128 32) (r : Fin 8) (l : Fin 128) :
    shapeCast S8x128 (shapeCast S8x128x1 x shapeCasts_S8x128_S8x128x1 : IVec S8x128x1 32) shapeCasts_S8x128x1_S8x128 (ix2 r l) = x (ix2 r l) := by
  refine (shapeCast_apply _ shapeCasts_S8x128x1_S8x128 (ix2 r l) (ix3 r l (0 : Fin 1)) ?_).trans (shapeCast_apply _ shapeCasts_S8x128_S8x128x1 (ix3 r l (0 : Fin 1)) (ix2 r l) ?_)
  · rw [Shape.rowMajor_val_two, Shape.rowMajor_val_three]; show (r.val * 128 + l.val) * 1 + 0 = r.val * 128 + l.val; omega
  · rw [Shape.rowMajor_val_two, Shape.rowMajor_val_three]; show r.val * 128 + l.val = (r.val * 128 + l.val) * 1 + 0; omega

theorem gatherBy_apply (v ix : IVec S8x128 32) (r : Fin 8) (l L : Fin 128) (h : ix (ix2 r l) = BitVec.ofNat 32 L.val) :
    gatherBy v ix (ix2 r l) = v (ix2 r L) := by
  have e : (shapeCast S8x128 (shapeCast S8x128x1 (select (cmpi .slt ix (broadcast S8x128 0#32)) (addi ix (broadcast S8x128 128#32)) ix)
      shapeCasts_S8x128_S8x128x1 : IVec S8x128x1 32) shapeCasts_S8x128x1_S8x128) (ix2 r l) = BitVec.ofNat 32 L.val := by
    refine (casts_apply _ r l).trans ?_
    show Scalar.select (IntOp.cmpi .slt (ix (ix2 r l)) 0#32) (ix (ix2 r l) + 128#32) (ix (ix2 r l)) = _
    rw [h]; exact wrap_lane L
  unfold gatherBy dynamicGather
  refine congrArg v (funext fun b => ?_)
  match b with
  | ⟨0, _⟩ => rfl
  | ⟨1, _⟩ =>
    apply Fin.ext
    refine Eq.trans ?_ (lane_mod L)
    exact congrArg (fun z : BitVec 32 => z.toNat % 128) e

theorem cmp_eq (x : BitVec 32) : IntOp.cmpi .eq x 0#32 = if x = 0#32 then 1#1 else 0#1 := by
  show BitVec.ofBool (x == 0#32) = _
  by_cases h : x = 0#32
  · rw [if_pos h, h]; rfl
  · rw [if_neg h, beq_false_of_ne h]; rfl

/-- One step of the merge, at a lane without the bit and at a lane with it: the lane's own word and its partner's, of one field. -/
theorem merge_apply (d : BitVec 32) (a b : IVec S8x128 32) (r : Fin 8) (l L : Fin 128) (hx : BitVec.ofNat 32 l.val ^^^ d = BitVec.ofNat 32 L.val)
    (h : BitVec.ofNat 32 l.val &&& d = 0#32) (h' : BitVec.ofNat 32 L.val &&& d ≠ 0#32) :
    merge d a b (ix2 r l) = a (ix2 r l) ||| a (ix2 r L) := by
  have e1 : ∀ (u v : IVec S8x128 32) (k : Fin 128), select (cmpi .eq (andi laneI (broadcast S8x128 d)) (broadcast S8x128 0#32)) u v (ix2 r k)
      = if BitVec.ofNat 32 k.val &&& d = 0#32 then u (ix2 r k) else v (ix2 r k) := by
    intro u v k
    show Scalar.select (IntOp.cmpi .eq (laneI (ix2 r k) &&& d) 0#32) (u (ix2 r k)) (v (ix2 r k)) = _
    rw [laneI_apply, cmp_eq]
    by_cases hk : BitVec.ofNat 32 k.val &&& d = 0#32
    · rw [if_pos hk, if_pos hk]; rfl
    · rw [if_neg hk, if_neg hk]; rfl
  have e2 := (gatherBy_apply (select (cmpi .eq (andi laneI (broadcast S8x128 d)) (broadcast S8x128 0#32)) b a) (xori laneI (broadcast S8x128 d)) r l L
    (by show laneI (ix2 r l) ^^^ d = _; rw [laneI_apply, hx])).trans (e1 b a L)
  have e3 := e1 a b l
  rw [if_neg h'] at e2
  rw [if_pos h] at e3
  exact congrArg₂ (fun p q : BitVec 32 => p ||| q) e3 e2
theorem merge_apply' (d : BitVec 32) (a b : IVec S8x128 32) (r : Fin 8) (l L : Fin 128) (hx : BitVec.ofNat 32 l.val ^^^ d = BitVec.ofNat 32 L.val)
    (h : BitVec.ofNat 32 l.val &&& d ≠ 0#32) (h' : BitVec.ofNat 32 L.val &&& d = 0#32) :
    merge d a b (ix2 r l) = b (ix2 r l) ||| b (ix2 r L) := by
  have e1 : ∀ (u v : IVec S8x128 32) (k : Fin 128), select (cmpi .eq (andi laneI (broadcast S8x128 d)) (broadcast S8x128 0#32)) u v (ix2 r k)
      = if BitVec.ofNat 32 k.val &&& d = 0#32 then u (ix2 r k) else v (ix2 r k) := by
    intro u v k
    show Scalar.select (IntOp.cmpi .eq (laneI (ix2 r k) &&& d) 0#32) (u (ix2 r k)) (v (ix2 r k)) = _
    rw [laneI_apply, cmp_eq]
    by_cases hk : BitVec.ofNat 32 k.val &&& d = 0#32
    · rw [if_pos hk, if_pos hk]; rfl
    · rw [if_neg hk, if_neg hk]; rfl
  have e2 := (gatherBy_apply (select (cmpi .eq (andi laneI (broadcast S8x128 d)) (broadcast S8x128 0#32)) b a) (xori laneI (broadcast S8x128 d)) r l L
    (by show laneI (ix2 r l) ^^^ d = _; rw [laneI_apply, hx])).trans (e1 b a L)
  have e3 := e1 a b l
  rw [if_pos h'] at e2
  rw [if_neg h] at e3
  exact congrArg₂ (fun p q : BitVec 32 => p ||| q) e3 e2

/-- The lanes' bits one and two. -/
theorem bit1 (m : Fin 32) : (BitVec.ofNat 32 (ln m 0).val ^^^ 1#32 = BitVec.ofNat 32 (ln m 1).val ∧ BitVec.ofNat 32 (ln m 1).val ^^^ 1#32 = BitVec.ofNat 32 (ln m 0).val)
    ∧ (BitVec.ofNat 32 (ln m 2).val ^^^ 1#32 = BitVec.ofNat 32 (ln m 3).val ∧ BitVec.ofNat 32 (ln m 3).val ^^^ 1#32 = BitVec.ofNat 32 (ln m 2).val)
    ∧ (BitVec.ofNat 32 (ln m 0).val &&& 1#32 = 0#32 ∧ BitVec.ofNat 32 (ln m 1).val &&& 1#32 ≠ 0#32)
    ∧ (BitVec.ofNat 32 (ln m 2).val &&& 1#32 = 0#32 ∧ BitVec.ofNat 32 (ln m 3).val &&& 1#32 ≠ 0#32) := by
  revert m; decide +kernel
theorem bit2 (m : Fin 32) : (BitVec.ofNat 32 (ln m 0).val ^^^ 2#32 = BitVec.ofNat 32 (ln m 2).val ∧ BitVec.ofNat 32 (ln m 2).val ^^^ 2#32 = BitVec.ofNat 32 (ln m 0).val)
    ∧ (BitVec.ofNat 32 (ln m 1).val ^^^ 2#32 = BitVec.ofNat 32 (ln m 3).val ∧ BitVec.ofNat 32 (ln m 3).val ^^^ 2#32 = BitVec.ofNat 32 (ln m 1).val)
    ∧ (BitVec.ofNat 32 (ln m 0).val &&& 2#32 = 0#32 ∧ BitVec.ofNat 32 (ln m 2).val &&& 2#32 ≠ 0#32)
    ∧ (BitVec.ofNat 32 (ln m 1).val &&& 2#32 = 0#32 ∧ BitVec.ofNat 32 (ln m 3).val &&& 2#32 ≠ 0#32) := by
  revert m; decide +kernel

/-- The four words of a field that a group of lanes holds, joined. -/
def four {w : Nat} (f : Fin 4 → BitVec w) : BitVec w := f 0 ||| f 1 ||| f 2 ||| f 3
theorem four_a {w : Nat} (a b c d : BitVec w) : (b ||| a) ||| (d ||| c) = a ||| b ||| c ||| d := by
  rw [BitVec.or_comm b a, BitVec.or_comm d c]; exact (BitVec.or_assoc (a ||| b) c d).symm
theorem four_b {w : Nat} (a b c d : BitVec w) : (a ||| b) ||| (c ||| d) = a ||| b ||| c ||| d := (BitVec.or_assoc (a ||| b) c d).symm
theorem four_c {w : Nat} (a b c d : BitVec w) : (c ||| d) ||| (a ||| b) = a ||| b ||| c ||| d := by
  rw [BitVec.or_comm (c ||| d)]; exact four_b a b c d
theorem four_d {w : Nat} (a b c d : BitVec w) : (d ||| c) ||| (b ||| a) = a ||| b ||| c ||| d := by
  rw [BitVec.or_comm (d ||| c)]; exact four_a a b c d

/-- Both steps: lane `u` of a group holds the group's four words of field `u`. -/
theorem merges_apply (f : Fin 4 → IVec S8x128 32) (r : Fin 8) (m : Fin 32) (u : Fin 4) :
    merge 2#32 (merge 1#32 (f 0) (f 1)) (merge 1#32 (f 2) (f 3)) (ix2 r (ln m u)) = four fun q => f u (ix2 r (ln m q)) := by
  obtain ⟨⟨x01, x10⟩, ⟨x23, x32⟩, ⟨z0, n1⟩, z2, n3⟩ := bit1 m
  obtain ⟨⟨y02, y20⟩, ⟨y13, y31⟩, ⟨w0, v2⟩, w1, v3⟩ := bit2 m
  match u with
  | ⟨0, _⟩ =>
    refine (merge_apply 2#32 _ _ r (ln m 0) (ln m 2) y02 w0 v2).trans ?_
    rw [merge_apply 1#32 _ _ r (ln m 0) (ln m 1) x01 z0 n1, merge_apply 1#32 _ _ r (ln m 2) (ln m 3) x23 z2 n3]
    exact four_b _ _ _ _
  | ⟨1, _⟩ =>
    refine (merge_apply 2#32 _ _ r (ln m 1) (ln m 3) y13 w1 v3).trans ?_
    rw [merge_apply' 1#32 _ _ r (ln m 1) (ln m 0) x10 n1 z0, merge_apply' 1#32 _ _ r (ln m 3) (ln m 2) x32 n3 z2]
    exact four_a _ _ _ _
  | ⟨2, _⟩ =>
    refine (merge_apply' 2#32 _ _ r (ln m 2) (ln m 0) y20 v2 w0).trans ?_
    rw [merge_apply 1#32 _ _ r (ln m 2) (ln m 3) x23 z2 n3, merge_apply 1#32 _ _ r (ln m 0) (ln m 1) x01 z0 n1]
    exact four_c _ _ _ _
  | ⟨3, _⟩ =>
    refine (merge_apply' 2#32 _ _ r (ln m 3) (ln m 1) y31 v3 w1).trans ?_
    rw [merge_apply' 1#32 _ _ r (ln m 3) (ln m 2) x32 n3 z2, merge_apply' 1#32 _ _ r (ln m 1) (ln m 0) x10 n1 z0]
    exact four_d _ _ _ _

/-- The group and the field a packed lane comes from. -/
def grp (l : Fin 128) : Fin 32 := ⟨l.val % 32, by omega⟩
def fld (l : Fin 128) : Fin 4 := ⟨l.val / 32, by omega⟩
theorem last_lane (l : Fin 128) : IntOp.shli .vector (BitVec.ofNat 32 l.val &&& 31#32) 2#32 ||| IntOp.shrsi .vector (BitVec.ofNat 32 l.val) 5#32 = BitVec.ofNat 32 (ln (grp l) (fld l)).val := by
  revert l; decide +kernel

/-- A word read as four bytes: bit `q` of the byte at row `p` is bit `8 (p % 4) + q` of the word at row `p / 4`. -/
theorem bytes_getLsbD (x : IVec S8x128 32) (p : Fin 32) (l : Fin 128) (q : Nat) (hq : q < 8) :
    (bitcast S32x128 8 x bitcasts_S8x128_w32_S32x128_w8 (ix2 p l)).getLsbD q
      = (x (ix2 (⟨p.val / 4, by omega⟩ : Fin 8) l)).getLsbD (8 * (p.val % 4) + q) := by
  have hrow : S32x128.row (ix2 p l) = p.val := rfl
  rw [bitcast_getLsbD x bitcasts_S8x128_w32_S32x128_w8 (ix2 p l) q hq (by decide)]
  have em : (S32x128.row (ix2 p l) * 8 + q) % 32 = 8 * (p.val % 4) + q := by rw [hrow]; omega
  have ed : (S32x128.row (ix2 p l) * 8 + q) / 32 = p.val / 4 := by rw [hrow]; omega
  rw [em]
  congr 2
  funext c
  match c with
  | ⟨0, _⟩ => exact Fin.ext ((bitcasts_S8x128_w32_S32x128_w8.srcIdx_row _ _ _ ⟨0, Nat.zero_lt_two⟩ rfl).trans ed)
  | ⟨1, _⟩ => exact Fin.ext (bitcasts_S8x128_w32_S32x128_w8.srcIdx_other _ _ _ ⟨1, Nat.one_lt_two⟩ (by show ¬ 1 + 2 = 2; omega))

theorem four_getLsbD {w : Nat} (f : Fin 4 → BitVec w) (i : Nat) : (four f).getLsbD i = (((f 0).getLsbD i || (f 1).getLsbD i) || (f 2).getLsbD i || (f 3).getLsbD i) := by
  unfold four; simp only [BitVec.getLsbD_or]

/-- The packed byte: the four bytes of its group and field, joined. -/
theorem packOf_apply (x : Fin 4 → IVec S32x128 8) (p : Fin 32) (l : Fin 128) :
    packOf (bitcast S8x128 32 (x 0) bitcasts_S32x128_w8_S8x128_w32) (bitcast S8x128 32 (x 1) bitcasts_S32x128_w8_S8x128_w32)
      (bitcast S8x128 32 (x 2) bitcasts_S32x128_w8_S8x128_w32) (bitcast S8x128 32 (x 3) bitcasts_S32x128_w8_S8x128_w32) (ix2 p l)
      = four fun q => x (fld l) (ix2 p (ln (grp l) q)) := by
  apply BitVec.eq_of_getLsbD_eq
  intro i hi
  refine (bytes_getLsbD _ p l i hi).trans ?_
  have e := (gatherBy_apply (merge 2#32 (merge 1#32 (bitcast S8x128 32 (x 0) bitcasts_S32x128_w8_S8x128_w32) (bitcast S8x128 32 (x 1) bitcasts_S32x128_w8_S8x128_w32))
      (merge 1#32 (bitcast S8x128 32 (x 2) bitcasts_S32x128_w8_S8x128_w32) (bitcast S8x128 32 (x 3) bitcasts_S32x128_w8_S8x128_w32)))
      (ori (shli (andi laneI (broadcast S8x128 31#32)) (broadcast S8x128 2#32)) (shrsi laneI (broadcast S8x128 5#32)))
      (⟨p.val / 4, by omega⟩ : Fin 8) l (ln (grp l) (fld l)) (by
        show IntOp.shli .vector (laneI (ix2 _ l) &&& 31#32) 2#32 ||| IntOp.shrsi .vector (laneI (ix2 _ l)) 5#32 = _
        rw [laneI_apply]; exact last_lane l)).trans
    (merges_apply (fun c => bitcast S8x128 32 (x c) bitcasts_S32x128_w8_S8x128_w32) (⟨p.val / 4, by omega⟩ : Fin 8) (grp l) (fld l))
  rw [e, four_getLsbD, four_getLsbD]
  have hb : ∀ q : Fin 4, (bitcast S8x128 32 (x (fld l)) bitcasts_S32x128_w8_S8x128_w32 (ix2 (⟨p.val / 4, by omega⟩ : Fin 8) (ln (grp l) q))).getLsbD (8 * (p.val % 4) + i)
      = (x (fld l) (ix2 p (ln (grp l) q))).getLsbD i := by
    intro q
    refine (bitcast_8_32_getLsbD_ix2 (x (fld l)) bitcasts_S32x128_w8_S8x128_w32 (⟨p.val / 4, by omega⟩ : Fin 8) (ln (grp l) q) (8 * (p.val % 4) + i) (by omega) p
      (by show p.val = 4 * (p.val / 4) + (8 * (p.val % 4) + i) / 8; omega)).trans ?_
    rw [show (8 * (p.val % 4) + i) % 8 = i by omega]
  rw [hb, hb, hb, hb]

/-! ## The digits -/

/-- The ternary digit plus one. -/
def digE (g w : EReal) : BitVec 8 := if ((1 / 2 : ℝ) : EReal) * g < w then 2#8 else if w < 0 - ((1 / 2 : ℝ) : EReal) * g then 0#8 else 1#8

theorem digE_eq (g w : EReal) : Ideal.fptosi 8 (ternE g w) + 1#8 = digE g w := by
  have f1 : Ideal.fptosi 8 (1 : EReal) = 1#8 := by simpa using fptosi_int 1 (by norm_num) (by norm_num)
  have f2 : Ideal.fptosi 8 (-1 : EReal) = 255#8 := by
    have := fptosi_int (-1) (by norm_num) (by norm_num)
    simpa using this
  have f3 : Ideal.fptosi 8 (0 : EReal) = 0#8 := by simpa using fptosi_int 0 (by norm_num) (by norm_num)
  unfold ternE digE
  split
  · rw [f1]; rfl
  · split
    · rw [f2]; rfl
    · rw [f3]; rfl

theorem one_lane (m : Fin 32) (q : Fin 4) :
    (IntOp.shli .vector (1#32) (2#32 * (BitVec.ofNat 32 (0 * 128 + (ln m q).val) &&& 3#32))).setWidth 16 = 1#16 <<< (2 * q.val) := by
  revert m q; decide +kernel
theorem oneBit_apply (p : Fin 32) (m : Fin 32) (q : Fin 4) : oneBit (ix2 p (ln m q)) = 1#16 <<< (2 * q.val) := one_lane m q

theorem trunc2 (q : Fin 4) : (1#16 <<< (2 * q.val) + 1#16 <<< (2 * q.val)).setWidth 8 = 2#8 <<< (2 * q.val) := by revert q; decide +kernel
theorem trunc1 (q : Fin 4) : (1#16 <<< (2 * q.val)).setWidth 8 = 1#8 <<< (2 * q.val) := by revert q; decide +kernel
theorem trunc0 (q : Fin 4) : (0#16).setWidth 8 = 0#8 <<< (2 * q.val) := by revert q; decide +kernel

/-- The kernel's byte of one weight: its digit in its lane's two bits. -/
def bytesOf (g : EReal) (w : FVec Ideal S32x128 .bf16) : IVec S32x128 8 :=
  trunci 8 (select (isPos (thetaOf (F := Ideal) g) w) (addi oneBit oneBit) (select (isNeg (thetaOf (F := Ideal) g) w) (broadcast S32x128 0#16) oneBit)) natLt_8_16

theorem bytesOf_apply (g : EReal) (w : FVec Ideal S32x128 .bf16) (p m : Fin 32) (q : Fin 4) :
    bytesOf g w (ix2 p (ln m q)) = digE g (w (ix2 p (ln m q))) <<< (2 * q.val) := by
  show (Scalar.select (BitVec.ofBool (decide (thetaOf (F := Ideal) g (ix2 p (ln m q)) < w (ix2 p (ln m q))))) (oneBit (ix2 p (ln m q)) + oneBit (ix2 p (ln m q)))
    (Scalar.select (BitVec.ofBool (decide (w (ix2 p (ln m q)) < Ideal.ofBits .bf16 0x0000#16 - thetaOf (F := Ideal) g (ix2 p (ln m q))))) 0#16 (oneBit (ix2 p (ln m q))))).setWidth 8 = _
  rw [select_bool, select_bool, theta_apply, ofBits_zero', oneBit_apply]
  unfold digE
  split
  · exact trunc2 q
  · split
    · exact trunc0 q
    · exact trunc1 q

/-! ## Both sides -/

/-- The column of digit `q` of the packed column `n`. -/
def col (n : Fin 1408) (q : Fin 4) : Fin 5632 := ⟨4 * n.val + q.val, by omega⟩

theorem pF_apply (W : WE) (k : Fin 2048) (n : Fin 1408) :
    pF W (ix2 k n) = four fun q => digE (gF W) (W (ix2 k (col n q))) <<< (2 * q.val) := by
  have e := packOf_apply (fun c => bytesOf (gF W) (wChunk W ⟨n.val / 128, by omega⟩ ⟨k.val / 32, by omega⟩ c)) ⟨k.val % 32, by omega⟩ ⟨n.val % 128, by omega⟩
  refine Eq.trans e (congrArg four (funext fun q => ?_))
  refine (bytesOf_apply _ _ _ _ q).trans ?_
  refine congrArg (fun z : EReal => digE (gF W) z <<< (2 * q.val)) (congrArg W (ix2_ext ?_ ?_))
  · show 32 * (k.val / 32) + k.val % 32 = k.val; omega
  · show 512 * (n.val / 128) + 128 * (n.val % 128 / 32) + (4 * (n.val % 128 % 32) + q.val) = 4 * n.val + q.val; omega

/-- One digit of the reference: a plane of the weights reshaped to four digits in a row. -/
theorem plane_apply (v : (⟨2, ![2048, 5632]⟩ : Shape).Idx → BitVec 8) (q : Fin 4) (h1 : (⟨2, ![2048, 5632]⟩ : Shape).ShapeCasts ⟨3, ![2048, 1408, 4]⟩)
    (h2 : (⟨3, ![2048, 1408, 4]⟩ : Shape).Slices ![0, 0, q.val] ⟨3, ![2048, 1408, 1]⟩) (h3 : (⟨3, ![2048, 1408, 1]⟩ : Shape).ShapeCasts ⟨2, ![2048, 1408]⟩)
    (k : Fin 2048) (n : Fin 1408) :
    shapeCast ⟨2, ![2048, 1408]⟩ (extractStridedSlice ⟨3, ![2048, 1408, 1]⟩ ![0, 0, q.val] (shapeCast ⟨3, ![2048, 1408, 4]⟩ v h1) h2) h3 (ix2 k n) = v (ix2 k (col n q)) := by
  refine (shapeCast_apply _ h3 (ix2 k n) (ix3 k n (0 : Fin 1)) ?_).trans ?_
  · rw [Shape.rowMajor_val_two, Shape.rowMajor_val_three]; show (k.val * 1408 + n.val) * 1 + 0 = k.val * 1408 + n.val; omega
  refine (extractStridedSlice_apply ![0, 0, q.val] _ h2 (ix3 k n (0 : Fin 1)) (ix3 k n q) fun a => ?_).trans ?_
  · match a with
    | ⟨0, _⟩ => show k.val = 0 + k.val; omega
    | ⟨1, _⟩ => show n.val = 0 + n.val; omega
    | ⟨2, _⟩ => show q.val = q.val + 0; omega
  refine shapeCast_apply v h1 (ix3 k n q) (ix2 k (col n q)) ?_
  rw [Shape.rowMajor_val_two, Shape.rowMajor_val_three]; show k.val * 5632 + (4 * n.val + q.val) = (k.val * 1408 + n.val) * 4 + q.val; omega

theorem shl_lit (x : BitVec 8) : (IntOp.shli .vector x 2#8 = x <<< 2 ∧ IntOp.shli .vector x 4#8 = x <<< 4) ∧ IntOp.shli .vector x 6#8 = x <<< 6 := by
  refine ⟨⟨?_, ?_⟩, ?_⟩ <;> (unfold IntOp.shli; rw [if_pos (by decide)]; rfl)

theorem pay5_apply (t : (⟨2, ![2048, 5632]⟩ : Shape).Idx → EReal) (k : Fin 2048) (n : Fin 1408) :
    Cert.ReferenceIdeal.Gen.k0_pay5 (F := Ideal) t (ix2 k n) = four fun q => (Ideal.fptosi 8 (t (ix2 k (col n q))) + 1#8) <<< (2 * q.val) := by
  have e := fun (q : Fin 4) h1 h2 h3 => plane_apply (addi (Cert.ReferenceIdeal.Gen.k0_pay2 (F := Ideal) t) (broadcast ⟨2, ![2048, 5632]⟩ 1#8)) q h1 h2 h3 k n
  have d : ∀ q : Fin 4, addi (Cert.ReferenceIdeal.Gen.k0_pay2 (F := Ideal) t) (broadcast ⟨2, ![2048, 5632]⟩ 1#8) (ix2 k (col n q)) = Ideal.fptosi 8 (t (ix2 k (col n q))) + 1#8 := by
    intro q
    have ec : shapeCast ⟨2, ![2048, 5632]⟩ t rfl (ix2 k (col n q)) = t (ix2 k (col n q)) := cast_self t rfl _
    exact congrArg (fun a : EReal => Ideal.fptosi 8 a + 1#8) ec
  have g0 := (e 0 Cert.ReferenceIdeal.Gen.shapeCasts_S2048x5632_S2048x1408x4 Cert.ReferenceIdeal.Gen.slices_S2048x1408x4_o0_0_0_S2048x1408x1 Cert.ReferenceIdeal.Gen.shapeCasts_S2048x1408x1_S2048x1408).trans (d 0)
  have g1 := (congrArg (fun z : BitVec 8 => IntOp.shli .vector z 2#8) ((e 1 Cert.ReferenceIdeal.Gen.shapeCasts_S2048x5632_S2048x1408x4 Cert.ReferenceIdeal.Gen.slices_S2048x1408x4_o0_0_1_S2048x1408x1 Cert.ReferenceIdeal.Gen.shapeCasts_S2048x1408x1_S2048x1408).trans (d 1))).trans (shl_lit _).1.1
  have g2 := (congrArg (fun z : BitVec 8 => IntOp.shli .vector z 4#8) ((e 2 Cert.ReferenceIdeal.Gen.shapeCasts_S2048x5632_S2048x1408x4 Cert.ReferenceIdeal.Gen.slices_S2048x1408x4_o0_0_2_S2048x1408x1 Cert.ReferenceIdeal.Gen.shapeCasts_S2048x1408x1_S2048x1408).trans (d 2))).trans (shl_lit _).1.2
  have g3 := (congrArg (fun z : BitVec 8 => IntOp.shli .vector z 6#8) ((e 3 Cert.ReferenceIdeal.Gen.shapeCasts_S2048x5632_S2048x1408x4 Cert.ReferenceIdeal.Gen.slices_S2048x1408x4_o0_0_3_S2048x1408x1 Cert.ReferenceIdeal.Gen.shapeCasts_S2048x1408x1_S2048x1408).trans (d 3))).trans (shl_lit _).2
  refine (congrArg₂ (fun a b : BitVec 8 => a ||| b) (congrArg₂ (fun a b : BitVec 8 => a ||| b) (congrArg₂ (fun a b : BitVec 8 => a ||| b) g0 g1) g2) g3).trans ?_
  exact congrArg (fun a : BitVec 8 => ((a ||| _) ||| _) ||| _) (BitVec.shiftLeft_zero (Ideal.fptosi 8 (t (ix2 k (col n 0))) + 1#8)).symm

theorem packed_eq (W : WE) (h : 0 < total W) (k : Fin 2048) (n : Fin 1408) :
    pF W (ix2 k n) = Cert.ReferenceIdeal.Gen.k0_pay5 (F := Ideal) (Cert.ReferenceIdeal.Value.ternR (F := Ideal) W) (ix2 k n) := by
  refine (pF_apply W k n).trans (Eq.trans (congrArg four (funext fun q => ?_)) (pay5_apply _ k n).symm)
  rw [ternR_eq W h, digE_eq]

end Cert.Value

end
-- ==== Proof.Value.Algebraic.lean ====
/- The two programs leave the same five results: the packed weights where some weight is not zero, the others everywhere. -/
module

public import proofs.«01_k».proof.Defs
public import proofs.«01_k».proof.Proof.Value.Packed

@[expose] public section

noncomputable section

namespace Cert.Value

open Idealize.ShloMosaic Idealize.ShloMosaic.TcCoe Idealize.ShloMosaic.ValueIdx Idealize.SL.Sem Cert.KernelIdeal Cert.KernelIdeal.Gen Cert.KernelIdeal.Body

/-- The shape relations the mask's operations take. -/
theorem packsFacts : Cert.On_packs.Facts where
  bitsLt_bf16_f32 := Cert.ReferenceIdeal.Gen.facts.bitsLt_bf16_f32
  reducesTo_S2048x5632_S_d0_1 := Cert.ReferenceIdeal.Gen.facts.reducesTo_S2048x5632_S_d0_1
  h_S_ := Cert.ReferenceIdeal.Gen.facts.h_S_
  bcast_S_S2x256x5632 := Cert.ReferenceIdeal.Gen.facts.bcast_S_S2x256x5632
  bcast_S_S2048x1408 := by decide
  bcast_S_S2x256x2048 := Cert.ReferenceIdeal.Gen.facts.bcast_S_S2x256x2048
  bcast_S_S2x256 := Cert.ReferenceIdeal.Gen.facts.bcast_S_S2x256

/-- The activations of the three axes. -/
abbrev X3 := (⟨3, ![2, 256, 2048]⟩ : Shape).Idx → EReal

/-- The product the reference leaves. -/
def yR (x : X3) (W : WE) : (⟨3, ![2, 256, 5632]⟩ : Shape).Idx → EReal :=
  truncf .bf16 (mulf (mulf (Host.dotGeneral Cert.ReferenceIdeal.dot_S2x256x2048_S2048x5632_S2x256x5632_2_0_01_1_n_n none
      (Cert.ReferenceIdeal.Gen.k0_pay3 (F := Ideal) (Cert.ReferenceIdeal.Value.codeR (F := Ideal) x)) (Cert.ReferenceIdeal.Gen.k0_pay4 (F := Ideal) (Cert.ReferenceIdeal.Value.ternR (F := Ideal) W)) : FVec Ideal ⟨3, ![2, 256, 5632]⟩ .f32)
    (broadcastInDim ⟨3, ![2, 256, 5632]⟩ ![0, 1, 2] Cert.ReferenceIdeal.Gen.facts.bcast_S2x256x1_S2x256x5632_0_1_2
      (broadcastInDim ⟨3, ![2, 256, 1]⟩ ![0, 1] Cert.ReferenceIdeal.Gen.facts.bcast_S2x256_S2x256x1_0_1 (Cert.ReferenceIdeal.Value.scaleR (F := Ideal) x))))
    (broadcastInDim ⟨3, ![2, 256, 5632]⟩ ![] Cert.ReferenceIdeal.Gen.facts.bcast_S_S2x256x5632 (Cert.ReferenceIdeal.Value.gammaR (F := Ideal) W)) : FVec Ideal ⟨3, ![2, 256, 5632]⟩ .f32)
    Cert.ReferenceIdeal.Gen.facts.bitsLt_bf16_f32

theorem yR_apply (x : X3) (W : WE) (b : Fin 2) (s : Fin 256) (n : Fin 5632) :
    yR x W (ix3 b s n) = (∑ k : Fin 2048, Cert.ReferenceIdeal.Gen.k0_pay3 (F := Ideal) (Cert.ReferenceIdeal.Value.codeR (F := Ideal) x) (ix3 b s k)
        * Cert.ReferenceIdeal.Gen.k0_pay4 (F := Ideal) (Cert.ReferenceIdeal.Value.ternR (F := Ideal) W) (ix2 k n))
      * Cert.ReferenceIdeal.Value.scaleR (F := Ideal) x (ix2 b s) * gF W := by
  have e1 := dot_apply (Cert.ReferenceIdeal.Gen.k0_pay3 (F := Ideal) (Cert.ReferenceIdeal.Value.codeR (F := Ideal) x))
    (Cert.ReferenceIdeal.Gen.k0_pay4 (F := Ideal) (Cert.ReferenceIdeal.Value.ternR (F := Ideal) W)) b s n
  have e2 := bcastR (Cert.ReferenceIdeal.Value.scaleR (F := Ideal) x) Cert.ReferenceIdeal.Gen.facts.bcast_S2x256_S2x256x1_0_1
    Cert.ReferenceIdeal.Gen.facts.bcast_S2x256x1_S2x256x5632_0_1_2 b s n
  have e3 : broadcastInDim ⟨3, ![2, 256, 5632]⟩ ![] Cert.ReferenceIdeal.Gen.facts.bcast_S_S2x256x5632 (Cert.ReferenceIdeal.Value.gammaR (F := Ideal) W) (ix3 b s n) = gF W :=
    (broadcastInDim_scalar_apply _ _ _).trans (gamma_eq W ix0).symm
  unfold yR
  exact congrArg₂ (fun p q : EReal => p * q) (congrArg₂ (fun p q : EReal => p * q) e1 e2) e3

/-- Two arrays equal at every index given by its coordinates. -/
theorem ext3 {n0 n1 n2 : Nat} {α : Type} {f g : (⟨3, ![n0, n1, n2]⟩ : Shape).Idx → α} (h : ∀ a b c, f (ix3 a b c) = g (ix3 a b c)) : f = g := by
  funext i
  have hi : i = ix3 (i 0) (i 1) (i 2) := ix3_ext rfl rfl rfl
  exact (congrArg f hi).trans ((h _ _ _).trans (congrArg g hi.symm))
theorem ext2 {n0 n1 : Nat} {α : Type} {f g : (⟨2, ![n0, n1]⟩ : Shape).Idx → α} (h : ∀ a b, f (ix2 a b) = g (ix2 a b)) : f = g := by
  funext i
  have hi : i = ix2 (i 0) (i 1) := ix2_ext rfl rfl
  exact (congrArg f hi).trans ((h _ _).trans (congrArg g hi.symm))

/-- The products agree: term by term where some weight is not zero, and as zero where none is. -/
theorem y_at (x : X3) (W : WE) (h : (⟨3, ![2, 256, 2048]⟩ : Shape).ShapeCasts ⟨2, ![512, 2048]⟩) (b : Fin 2) (s : Fin 256) (n : Fin 5632) :
    yF (F := Ideal) (shapeCast S512x2048 x h) W (ix2 (rowOf b s) n) = yR x W (ix3 b s n) := by
  rw [yF_apply, yR_apply]
  by_cases hS : 0 < total W
  · rw [sOf_rows]
    refine congrArg (fun e : EReal => e * Cert.ReferenceIdeal.Value.scaleR (F := Ideal) x (ix2 b s) * gF W) (Finset.sum_congr rfl fun k _ => ?_)
    have e1 := (pay3_apply _ _ _ (codeR_apply x b s k)).trans (codeR_apply x b s k).symm
    have e2 := (pay4_apply _ _ _ (ternR_apply W (ix2 k n))).trans ((ternR_apply W (ix2 k n)).symm.trans (ternR_eq W hS (ix2 k n)))
    rw [e1, e2, ← code_rows x h b s k, sOf_rows]
  · rw [gF_zero W hS, mul_zero, mul_zero]
theorem y_eq (x : X3) (W : WE) (h : (⟨3, ![2, 256, 2048]⟩ : Shape).ShapeCasts ⟨2, ![512, 2048]⟩) (h' : (⟨2, ![512, 5632]⟩ : Shape).ShapeCasts ⟨3, ![2, 256, 5632]⟩) :
    (shapeCast S2x256x5632 (yF (F := Ideal) (shapeCast S512x2048 x h) W) h' : S2x256x5632.Idx → EReal) = yR x W :=
  ext3 fun b s n => (unrows_apply _ h' b s n).trans (y_at x W h b s n)

theorem codes_at (x : X3) (h : (⟨3, ![2, 256, 2048]⟩ : Shape).ShapeCasts ⟨2, ![512, 2048]⟩) (b : Fin 2) (s : Fin 256) (k : Fin 2048) :
    ciF (F := Ideal) (shapeCast S512x2048 x h) (ix2 (rowOf b s) k) = Cert.ReferenceIdeal.Gen.k0_pay1 (F := Ideal) (Cert.ReferenceIdeal.Value.codeR (F := Ideal) x) (ix3 b s k) := by
  rw [ciF_apply, code_rows]
  exact (congrArg (Ideal.fptosi 8) (cast_self (Cert.ReferenceIdeal.Value.codeR (F := Ideal) x) rfl (ix3 b s k))).symm
theorem codes_eq (x : X3) (h : (⟨3, ![2, 256, 2048]⟩ : Shape).ShapeCasts ⟨2, ![512, 2048]⟩) (h' : (⟨2, ![512, 2048]⟩ : Shape).ShapeCasts ⟨3, ![2, 256, 2048]⟩) :
    shapeCast S2x256x2048 (ciF (F := Ideal) (shapeCast S512x2048 x h)) h' = Cert.ReferenceIdeal.Gen.k0_pay1 (F := Ideal) (Cert.ReferenceIdeal.Value.codeR (F := Ideal) x) :=
  ext3 fun b s k => (unrows_apply _ h' b s k).trans (codes_at x h b s k)

theorem scales_eq (x : X3) (h : (⟨3, ![2, 256, 2048]⟩ : Shape).ShapeCasts ⟨2, ![512, 2048]⟩) :
    (scF (F := Ideal) (shapeCast S512x2048 x h) : S2x256.Idx → EReal) = Cert.ReferenceIdeal.Value.scaleR (F := Ideal) x :=
  ext2 fun b s => (scF_apply _ b s).trans (sOf_rows x h b s)

theorem packedW_eq (W : WE) (h : 0 < total W) :
    pF (F := Ideal) W = Cert.ReferenceIdeal.Gen.k0_pay5 (F := Ideal) (Cert.ReferenceIdeal.Value.ternR (F := Ideal) W) :=
  ext2 fun k n => packed_eq W h k n

/-- Where the mask of the packed weights is set, some weight is not zero. -/
theorem mask_gen (r : FVec Ideal Cert.On_packs.S_ .f32) (h : Cert.On_packs.S_.BroadcastsInDim ⟨2, ![2048, 1408]⟩ (![] : Fin 0 → Fin 2)) (i : (⟨2, ![2048, 1408]⟩ : Shape).Idx) :
    broadcastInDim ⟨2, ![2048, 1408]⟩ ![] h (cmpf .ogt r (constant Cert.On_packs.S_ .f32 0x00000000#32)) i = BitVec.ofBool (decide (Ideal.ofBits .f32 0x00000000#32 < r ix0)) :=
  broadcastInDim_scalar_apply h (cmpf .ogt r (constant Cert.On_packs.S_ .f32 0x00000000#32)) i
theorem mask_sum (W : WE) (h : Cert.On_packs.S2048x5632.ReducesTo [0, 1] Cert.On_packs.S_) (hu : 0 < Cert.On_packs.S_.numel) (hb : FTy.bits .bf16 < FTy.bits .f32) :
    (Host.reduceAdd (Host.absf (extf .f32 W hb) : FVec Ideal Cert.On_packs.S2048x5632 .f32) (constant Cert.On_packs.S_ .f32 0x00000000#32) h hu : FVec Ideal Cert.On_packs.S_ .f32) ix0 = total W := by
  rw [hostReduceAdd_apply, Ideal.hostReduceAdd_total _ (fun b => b.elim0)]
  show Ideal.ofBits .f32 0x00000000#32 + total W = _
  rw [Ideal.ofBits_zero_f32, zero_add]
theorem mask_pos (x : X3) (W : WE) (i : (⟨2, ![2048, 1408]⟩ : Shape).Idx)
    (h : (@Cert.On_packs.fn packsFacts Ideal _ x W).2.1 i = 1#1) : 0 < total W := by
  have e := (mask_gen (Host.reduceAdd (Host.absf (extf .f32 W packsFacts.bitsLt_bf16_f32) : FVec Ideal Cert.On_packs.S2048x5632 .f32)
    (constant Cert.On_packs.S_ .f32 0x00000000#32) packsFacts.reducesTo_S2048x5632_S_d0_1 packsFacts.h_S_) packsFacts.bcast_S_S2048x1408 i).symm.trans h
  rw [mask_sum, Ideal.ofBits_zero_f32] at e
  by_contra hn
  rw [decide_eq_false hn] at e
  exact absurd e (by decide)

theorem algebraic : @Cert.algebraic_KernelIdeal_ReferenceIdeal_on_packs Cert.KernelIdeal.Gen.facts Cert.ReferenceIdeal.Gen.facts packsFacts := by
  intro m ρ m' ρ' _ hag
  refine ⟨fun c => yR (m ((c.tc : Thread nD τ).loc main_arg0)) (m ((c.tc : Thread nD τ).loc main_arg1)),
    fun c => Cert.ReferenceIdeal.Gen.k0_pay5 (F := Ideal) (Cert.ReferenceIdeal.Value.ternR (F := Ideal) (m ((c.tc : Thread nD τ).loc main_arg1))),
    fun c => Cert.ReferenceIdeal.Value.gammaR (F := Ideal) (m ((c.tc : Thread nD τ).loc main_arg1)),
    fun c => Cert.ReferenceIdeal.Gen.k0_pay1 (F := Ideal) (Cert.ReferenceIdeal.Value.codeR (F := Ideal) (m ((c.tc : Thread nD τ).loc main_arg0))),
    fun c => Cert.ReferenceIdeal.Value.scaleR (F := Ideal) (m ((c.tc : Thread nD τ).loc main_arg0)), ?_, ?_⟩
  · refine (θ_run _ _ _).mono (fun r h c => ?_) (Cert.KernelIdeal.Body.run_values (F := Ideal) m ρ)
    obtain ⟨h0, h1, h2, h3, h4, h5, h6⟩ := h c
    rw [xIn_eq, wIn_eq] at h0
    rw [wIn_eq] at h1 h2
    rw [xIn_eq] at h3 h4
    refine ⟨fun i _ => congrFun (h0.trans (y_eq _ _ _ _)) i, fun i hm => ?_, fun i _ => ?_, fun i _ => congrFun (h3.trans (codes_eq _ _ _)) i,
      fun i _ => congrFun (h4.trans (scales_eq _ _)) i, h5, h6⟩
    · exact (congrFun h1 i).trans (congrFun (packedW_eq _ (mask_pos _ _ i hm)) i)
    · exact (congrFun h2 i).trans (gamma_eq _ i)
  · refine (θ_run _ _ _).mono (fun r h c => ?_) (Cert.ReferenceIdeal.Value.run_values (F := Ideal) m' ρ')
    obtain ⟨h0, h1, h2, h3, h4, h5, h6⟩ := h c
    obtain ⟨a0, a1⟩ := hag c
    rw [a0, a1] at h0
    rw [a1] at h1 h2
    rw [a0] at h3 h4
    exact ⟨fun i _ => congrFun h0 i, fun i _ => congrFun h1 i, fun i _ => congrFun h2 i, fun i _ => congrFun h3 i, fun i _ => congrFun h4 i, h5, h6⟩

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Gen.ReferenceIdeal.Frame
public import proofs.«01_k».proof.Proof.Value.Algebraic
public import Idealize.ShloMosaic.Adequacy
public import Idealize.ShloMosaic.Init
public import Idealize.ShloMosaic.Lib.Quiescent

@[expose] public section

noncomputable section

namespace Cert.Proof

open Idealize.ShloMosaic Idealize.SL.Sem Cert.Kernel

theorem frame_r : Cert.quiescent_ReferenceIdeal := fun m ρ _ => Cert.ReferenceIdeal.Gen.frame m ρ

theorem claim : Cert.Claim := ⟨Cert.Kernel.Gen.facts, Cert.KernelIdeal.Gen.facts, Cert.ReferenceIdeal.Gen.facts, Cert.Value.packsFacts,
  fun m ρ _ => Cert.Kernel.Body.quiet m ρ, fun m ρ _ => Cert.KernelIdeal.Body.quiet m ρ, frame_r, IdealRules.bf16_pack.statement _, Cert.Value.algebraic⟩

end Cert.Proof

end
